-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Reference (m : (ℓ : Loc Cert.Reference.nD Cert.Reference.τ Cert.Reference.sig) → Buf (Elt Bits) ℓ) : Prop :=
  True

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelPle (m : (ℓ : Loc Cert.KernelPle.nD Cert.KernelPle.τ Cert.KernelPle.sig) → Buf (Elt Bits) ℓ) : Prop :=
  True

def Pre_KernelPleIdeal (m : (ℓ : Loc Cert.KernelPleIdeal.nD Cert.KernelPleIdeal.τ Cert.KernelPleIdeal.sig) → Buf (Elt Ideal) ℓ) : Prop :=
  True

def Pre_ReferencePleIdeal (m : (ℓ : Loc Cert.ReferencePleIdeal.nD Cert.ReferencePleIdeal.τ Cert.ReferencePleIdeal.sig) → Buf (Elt Ideal) ℓ) : Prop :=
  True

def Pre_KernelTail (m : (ℓ : Loc Cert.KernelTail.nD Cert.KernelTail.τ Cert.KernelTail.sig) → Buf (Elt Bits) ℓ) : Prop :=
  True

def Pre_KernelTailIdeal (m : (ℓ : Loc Cert.KernelTailIdeal.nD Cert.KernelTailIdeal.τ Cert.KernelTailIdeal.sig) → Buf (Elt Ideal) ℓ) : Prop :=
  True

def Pre_ReferenceTailIdeal (m : (ℓ : Loc Cert.ReferenceTailIdeal.nD Cert.ReferenceTailIdeal.τ Cert.ReferenceTailIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6)
      ∧ r.2.mem ((c.tc : Thread Cert.KernelMerge.nD Cert.KernelMerge.τ).loc Cert.KernelMerge.main_arg7) = m ((c.tc : Thread Cert.KernelMerge.nD Cert.KernelMerge.τ).loc Cert.KernelMerge.main_arg7)
      ∧ r.2.mem ((c.tc : Thread Cert.KernelMerge.nD Cert.KernelMerge.τ).loc Cert.KernelMerge.main_arg8) = m ((c.tc : Thread Cert.KernelMerge.nD Cert.KernelMerge.τ).loc Cert.KernelMerge.main_arg8))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
      ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
      ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6)
      ∧ r.2.mem ((c.tc : Thread Cert.ReferenceMergeIdeal.nD Cert.ReferenceMergeIdeal.τ).loc Cert.ReferenceMergeIdeal.main_arg7) = m ((c.tc : Thread Cert.ReferenceMergeIdeal.nD Cert.ReferenceMergeIdeal.τ).loc Cert.ReferenceMergeIdeal.main_arg7)
      ∧ r.2.mem ((c.tc : Thread Cert.ReferenceMergeIdeal.nD Cert.ReferenceMergeIdeal.τ).loc Cert.ReferenceMergeIdeal.main_arg8) = m ((c.tc : Thread Cert.ReferenceMergeIdeal.nD Cert.ReferenceMergeIdeal.τ).loc Cert.ReferenceMergeIdeal.main_arg8))
      ∧ r.2.sem = fun _ => 0)

def quiescent_KernelPle [hKernelPle : Cert.KernelPle.Facts] : Prop :=
  ∀ (m : (ℓ : Loc Cert.KernelPle.nD Cert.KernelPle.τ Cert.KernelPle.sig) → Buf (Elt Bits) ℓ) (g : Dev Cert.KernelPle.nD → PrngReg), Pre_KernelPle m →
    θ_run (Cert.KernelPle.defs (F := Bits)) (onTc (τ := Cert.KernelPle.τ) (Cert.KernelPle.main (F := Bits))) ⟨m, fun _ => 0, g⟩ (fun r => (∀ c : Dev Cert.KernelPle.nD,
      r.2.mem ((c.tc : Thread Cert.KernelPle.nD Cert.KernelPle.τ).loc Cert.KernelPle.main_arg0) = m ((c.tc : Thread Cert.KernelPle.nD Cert.KernelPle.τ).loc Cert.KernelPle.main_arg0)
      ∧ r.2.mem ((c.tc : Thread Cert.KernelPle.nD Cert.KernelPle.τ).loc Cert.KernelPle.main_arg1) = m ((c.tc : Thread Cert.KernelPle.nD Cert.KernelPle.τ).loc Cert.KernelPle.main_arg1)
      ∧ r.2.mem ((c.tc : Thread Cert.KernelPle.nD Cert.KernelPle.τ).loc Cert.KernelPle.main_arg2) = m ((c.tc : Thread Cert.KernelPle.nD Cert.KernelPle.τ).loc Cert.KernelPle.main_arg2)
      ∧ r.2.mem ((c.tc : Thread Cert.KernelPle.nD Cert.KernelPle.τ).loc Cert.KernelPle.main_arg3) = m ((c.tc : Thread Cert.KernelPle.nD Cert.KernelPle.τ).loc Cert.KernelPle.main_arg3)
      ∧ r.2.mem ((c.tc : Thread Cert.KernelPle.nD Cert.KernelPle.τ).loc Cert.KernelPle.main_arg4) = m ((c.tc : Thread Cert.KernelPle.nD Cert.KernelPle.τ).loc Cert.KernelPle.main_arg4)
      ∧ r.2.mem ((c.tc : Thread Cert.KernelPle.nD Cert.KernelPle.τ).loc Cert.KernelPle.main_arg5) = m ((c.tc : Thread Cert.KernelPle.nD Cert.KernelPle.τ).loc Cert.KernelPle.main_arg5)
      ∧ r.2.mem ((c.tc : Thread Cert.KernelPle.nD Cert.KernelPle.τ).loc Cert.KernelPle.main_arg6) = m ((c.tc : Thread Cert.KernelPle.nD Cert.KernelPle.τ).loc Cert.KernelPle.main_arg6))
      ∧ r.2.sem = fun _ => 0)

def quiescent_KernelPleIdeal [hKernelPleIdeal : Cert.KernelPleIdeal.Facts] : Prop :=
  ∀ (m : (ℓ : Loc Cert.KernelPleIdeal.nD Cert.KernelPleIdeal.τ Cert.KernelPleIdeal.sig) → Buf (Elt Ideal) ℓ) (g : Dev Cert.KernelPleIdeal.nD → PrngReg), Pre_KernelPleIdeal m →
    θ_run (Cert.KernelPleIdeal.defs (F := Ideal)) (onTc (τ := Cert.KernelPleIdeal.τ) (Cert.KernelPleIdeal.main (F := Ideal))) ⟨m, fun _ => 0, g⟩ (fun r => (∀ c : Dev Cert.KernelPleIdeal.nD,
      r.2.mem ((c.tc : Thread Cert.KernelPleIdeal.nD Cert.KernelPleIdeal.τ).loc Cert.KernelPleIdeal.main_arg0) = m ((c.tc : Thread Cert.KernelPleIdeal.nD Cert.KernelPleIdeal.τ).loc Cert.KernelPleIdeal.main_arg0)
      ∧ r.2.mem ((c.tc : Thread Cert.KernelPleIdeal.nD Cert.KernelPleIdeal.τ).loc Cert.KernelPleIdeal.main_arg1) = m ((c.tc : Thread Cert.KernelPleIdeal.nD Cert.KernelPleIdeal.τ).loc Cert.KernelPleIdeal.main_arg1)
      ∧ r.2.mem ((c.tc : Thread Cert.KernelPleIdeal.nD Cert.KernelPleIdeal.τ).loc Cert.KernelPleIdeal.main_arg2) = m ((c.tc : Thread Cert.KernelPleIdeal.nD Cert.KernelPleIdeal.τ).loc Cert.KernelPleIdeal.main_arg2)
      ∧ r.2.mem ((c.tc : Thread Cert.KernelPleIdeal.nD Cert.KernelPleIdeal.τ).loc Cert.KernelPleIdeal.main_arg3) = m ((c.tc : Thread Cert.KernelPleIdeal.nD Cert.KernelPleIdeal.τ).loc Cert.KernelPleIdeal.main_arg3)
      ∧ r.2.mem ((c.tc : Thread Cert.KernelPleIdeal.nD Cert.KernelPleIdeal.τ).loc Cert.KernelPleIdeal.main_arg4) = m ((c.tc : Thread Cert.KernelPleIdeal.nD Cert.KernelPleIdeal.τ).loc Cert.KernelPleIdeal.main_arg4)
      ∧ r.2.mem ((c.tc : Thread Cert.KernelPleIdeal.nD Cert.KernelPleIdeal.τ).loc Cert.KernelPleIdeal.main_arg5) = m ((c.tc : Thread Cert.KernelPleIdeal.nD Cert.KernelPleIdeal.τ).loc Cert.KernelPleIdeal.main_arg5)
      ∧ r.2.mem ((c.tc : Thread Cert.KernelPleIdeal.nD Cert.KernelPleIdeal.τ).loc Cert.KernelPleIdeal.main_arg6) = m ((c.tc : Thread Cert.KernelPleIdeal.nD Cert.KernelPleIdeal.τ).loc Cert.KernelPleIdeal.main_arg6))
      ∧ r.2.sem = fun _ => 0)

def quiescent_ReferencePleIdeal [hReferencePleIdeal : Cert.ReferencePleIdeal.Facts] : Prop :=
  ∀ (m : (ℓ : Loc Cert.ReferencePleIdeal.nD Cert.ReferencePleIdeal.τ Cert.ReferencePleIdeal.sig) → Buf (Elt Ideal) ℓ) (g : Dev Cert.ReferencePleIdeal.nD → PrngReg), Pre_ReferencePleIdeal m →
    θ_run (Cert.ReferencePleIdeal.defs (F := Ideal)) (onTc (τ := Cert.ReferencePleIdeal.τ) (Cert.ReferencePleIdeal.main (F := Ideal))) ⟨m, fun _ => 0, g⟩ (fun r => (∀ c : Dev Cert.ReferencePleIdeal.nD,
      r.2.mem ((c.tc : Thread Cert.ReferencePleIdeal.nD Cert.ReferencePleIdeal.τ).loc Cert.ReferencePleIdeal.main_arg0) = m ((c.tc : Thread Cert.ReferencePleIdeal.nD Cert.ReferencePleIdeal.τ).loc Cert.ReferencePleIdeal.main_arg0)
      ∧ r.2.mem ((c.tc : Thread Cert.ReferencePleIdeal.nD Cert.ReferencePleIdeal.τ).loc Cert.ReferencePleIdeal.main_arg1) = m ((c.tc : Thread Cert.ReferencePleIdeal.nD Cert.ReferencePleIdeal.τ).loc Cert.ReferencePleIdeal.main_arg1)
      ∧ r.2.mem ((c.tc : Thread Cert.ReferencePleIdeal.nD Cert.ReferencePleIdeal.τ).loc Cert.ReferencePleIdeal.main_arg2) = m ((c.tc : Thread Cert.ReferencePleIdeal.nD Cert.ReferencePleIdeal.τ).loc Cert.ReferencePleIdeal.main_arg2)
      ∧ r.2.mem ((c.tc : Thread Cert.ReferencePleIdeal.nD Cert.ReferencePleIdeal.τ).loc Cert.ReferencePleIdeal.main_arg3) = m ((c.tc : Thread Cert.ReferencePleIdeal.nD Cert.ReferencePleIdeal.τ).loc Cert.ReferencePleIdeal.main_arg3)
      ∧ r.2.mem ((c.tc : Thread Cert.ReferencePleIdeal.nD Cert.ReferencePleIdeal.τ).loc Cert.ReferencePleIdeal.main_arg4) = m ((c.tc : Thread Cert.ReferencePleIdeal.nD Cert.ReferencePleIdeal.τ).loc Cert.ReferencePleIdeal.main_arg4)
      ∧ r.2.mem ((c.tc : Thread Cert.ReferencePleIdeal.nD Cert.ReferencePleIdeal.τ).loc Cert.ReferencePleIdeal.main_arg5) = m ((c.tc : Thread Cert.ReferencePleIdeal.nD Cert.ReferencePleIdeal.τ).loc Cert.ReferencePleIdeal.main_arg5)
      ∧ r.2.mem ((c.tc : Thread Cert.ReferencePleIdeal.nD Cert.ReferencePleIdeal.τ).loc Cert.ReferencePleIdeal.main_arg6) = m ((c.tc : Thread Cert.ReferencePleIdeal.nD Cert.ReferencePleIdeal.τ).loc Cert.ReferencePleIdeal.main_arg6))
      ∧ r.2.sem = fun _ => 0)

def quiescent_KernelTail [hKernelTail : Cert.KernelTail.Facts] : Prop :=
  ∀ (m : (ℓ : Loc Cert.KernelTail.nD Cert.KernelTail.τ Cert.KernelTail.sig) → Buf (Elt Bits) ℓ) (g : Dev Cert.KernelTail.nD → PrngReg), Pre_KernelTail m →
    θ_run (Cert.KernelTail.defs (F := Bits)) (onTc (τ := Cert.KernelTail.τ) (Cert.KernelTail.main (F := Bits))) ⟨m, fun _ => 0, g⟩ (fun r => (∀ c : Dev Cert.KernelTail.nD,
      r.2.mem ((c.tc : Thread Cert.KernelTail.nD Cert.KernelTail.τ).loc Cert.KernelTail.main_arg0) = m ((c.tc : Thread Cert.KernelTail.nD Cert.KernelTail.τ).loc Cert.KernelTail.main_arg0)
      ∧ r.2.mem ((c.tc : Thread Cert.KernelTail.nD Cert.KernelTail.τ).loc Cert.KernelTail.main_arg1) = m ((c.tc : Thread Cert.KernelTail.nD Cert.KernelTail.τ).loc Cert.KernelTail.main_arg1)
      ∧ r.2.mem ((c.tc : Thread Cert.KernelTail.nD Cert.KernelTail.τ).loc Cert.KernelTail.main_arg2) = m ((c.tc : Thread Cert.KernelTail.nD Cert.KernelTail.τ).loc Cert.KernelTail.main_arg2)
      ∧ r.2.mem ((c.tc : Thread Cert.KernelTail.nD Cert.KernelTail.τ).loc Cert.KernelTail.main_arg3) = m ((c.tc : Thread Cert.KernelTail.nD Cert.KernelTail.τ).loc Cert.KernelTail.main_arg3)
      ∧ r.2.mem ((c.tc : Thread Cert.KernelTail.nD Cert.KernelTail.τ).loc Cert.KernelTail.main_arg4) = m ((c.tc : Thread Cert.KernelTail.nD Cert.KernelTail.τ).loc Cert.KernelTail.main_arg4)
      ∧ r.2.mem ((c.tc : Thread Cert.KernelTail.nD Cert.KernelTail.τ).loc Cert.KernelTail.main_arg5) = m ((c.tc : Thread Cert.KernelTail.nD Cert.KernelTail.τ).loc Cert.KernelTail.main_arg5)
      ∧ r.2.mem ((c.tc : Thread Cert.KernelTail.nD Cert.KernelTail.τ).loc Cert.KernelTail.main_arg6) = m ((c.tc : Thread Cert.KernelTail.nD Cert.KernelTail.τ).loc Cert.KernelTail.main_arg6)
      ∧ r.2.mem ((c.tc : Thread Cert.KernelTail.nD Cert.KernelTail.τ).loc Cert.KernelTail.main_arg7) = m ((c.tc : Thread Cert.KernelTail.nD Cert.KernelTail.τ).loc Cert.KernelTail.main_arg7)
      ∧ r.2.mem ((c.tc : Thread Cert.KernelTail.nD Cert.KernelTail.τ).loc Cert.KernelTail.main_arg8) = m ((c.tc : Thread Cert.KernelTail.nD Cert.KernelTail.τ).loc Cert.KernelTail.main_arg8)
      ∧ r.2.mem ((c.tc : Thread Cert.KernelTail.nD Cert.KernelTail.τ).loc Cert.KernelTail.main_arg9) = m ((c.tc : Thread Cert.KernelTail.nD Cert.KernelTail.τ).loc Cert.KernelTail.main_arg9)
      ∧ r.2.mem ((c.tc : Thread Cert.KernelTail.nD Cert.KernelTail.τ).loc Cert.KernelTail.main_arg10) = m ((c.tc : Thread Cert.KernelTail.nD Cert.KernelTail.τ).loc Cert.KernelTail.main_arg10)
      ∧ r.2.mem ((c.tc : Thread Cert.KernelTail.nD Cert.KernelTail.τ).loc Cert.KernelTail.main_arg11) = m ((c.tc : Thread Cert.KernelTail.nD Cert.KernelTail.τ).loc Cert.KernelTail.main_arg11)
      ∧ r.2.mem ((c.tc : Thread Cert.KernelTail.nD Cert.KernelTail.τ).loc Cert.KernelTail.main_arg12) = m ((c.tc : Thread Cert.KernelTail.nD Cert.KernelTail.τ).loc Cert.KernelTail.main_arg12)
      ∧ r.2.mem ((c.tc : Thread Cert.KernelTail.nD Cert.KernelTail.τ).loc Cert.KernelTail.main_arg13) = m ((c.tc : Thread Cert.KernelTail.nD Cert.KernelTail.τ).loc Cert.KernelTail.main_arg13)
      ∧ r.2.mem ((c.tc : Thread Cert.KernelTail.nD Cert.KernelTail.τ).loc Cert.KernelTail.main_arg14) = m ((c.tc : Thread Cert.KernelTail.nD Cert.KernelTail.τ).loc Cert.KernelTail.main_arg14)
      ∧ r.2.mem ((c.tc : Thread Cert.KernelTail.nD Cert.KernelTail.τ).loc Cert.KernelTail.main_arg15) = m ((c.tc : Thread Cert.KernelTail.nD Cert.KernelTail.τ).loc Cert.KernelTail.main_arg15)
      ∧ r.2.mem ((c.tc : Thread Cert.KernelTail.nD Cert.KernelTail.τ).loc Cert.KernelTail.main_arg16) = m ((c.tc : Thread Cert.KernelTail.nD Cert.KernelTail.τ).loc Cert.KernelTail.main_arg16))
      ∧ r.2.sem = fun _ => 0)

def quiescent_KernelTailIdeal [hKernelTailIdeal : Cert.KernelTailIdeal.Facts] : Prop :=
  ∀ (m : (ℓ : Loc Cert.KernelTailIdeal.nD Cert.KernelTailIdeal.τ Cert.KernelTailIdeal.sig) → Buf (Elt Ideal) ℓ) (g : Dev Cert.KernelTailIdeal.nD → PrngReg), Pre_KernelTailIdeal m →
    θ_run (Cert.KernelTailIdeal.defs (F := Ideal)) (onTc (τ := Cert.KernelTailIdeal.τ) (Cert.KernelTailIdeal.main (F := Ideal))) ⟨m, fun _ => 0, g⟩ (fun r => (∀ c : Dev Cert.KernelTailIdeal.nD,
      r.2.mem ((c.tc : Thread Cert.KernelTailIdeal.nD Cert.KernelTailIdeal.τ).loc Cert.KernelTailIdeal.main_arg0) = m ((c.tc : Thread Cert.KernelTailIdeal.nD Cert.KernelTailIdeal.τ).loc Cert.KernelTailIdeal.main_arg0)
      ∧ r.2.mem ((c.tc : Thread Cert.KernelTailIdeal.nD Cert.KernelTailIdeal.τ).loc Cert.KernelTailIdeal.main_arg1) = m ((c.tc : Thread Cert.KernelTailIdeal.nD Cert.KernelTailIdeal.τ).loc Cert.KernelTailIdeal.main_arg1)
      ∧ r.2.mem ((c.tc : Thread Cert.KernelTailIdeal.nD Cert.KernelTailIdeal.τ).loc Cert.KernelTailIdeal.main_arg2) = m ((c.tc : Thread Cert.KernelTailIdeal.nD Cert.KernelTailIdeal.τ).loc Cert.KernelTailIdeal.main_arg2)
      ∧ r.2.mem ((c.tc : Thread Cert.KernelTailIdeal.nD Cert.KernelTailIdeal.τ).loc Cert.KernelTailIdeal.main_arg3) = m ((c.tc : Thread Cert.KernelTailIdeal.nD Cert.KernelTailIdeal.τ).loc Cert.KernelTailIdeal.main_arg3)
      ∧ r.2.mem ((c.tc : Thread Cert.KernelTailIdeal.nD Cert.KernelTailIdeal.τ).loc Cert.KernelTailIdeal.main_arg4) = m ((c.tc : Thread Cert.KernelTailIdeal.nD Cert.KernelTailIdeal.τ).loc Cert.KernelTailIdeal.main_arg4)
      ∧ r.2.mem ((c.tc : Thread Cert.KernelTailIdeal.nD Cert.KernelTailIdeal.τ).loc Cert.KernelTailIdeal.main_arg5) = m ((c.tc : Thread Cert.KernelTailIdeal.nD Cert.KernelTailIdeal.τ).loc Cert.KernelTailIdeal.main_arg5)
      ∧ r.2.mem ((c.tc : Thread Cert.KernelTailIdeal.nD Cert.KernelTailIdeal.τ).loc Cert.KernelTailIdeal.main_arg6) = m ((c.tc : Thread Cert.KernelTailIdeal.nD Cert.KernelTailIdeal.τ).loc Cert.KernelTailIdeal.main_arg6)
      ∧ r.2.mem ((c.tc : Thread Cert.KernelTailIdeal.nD Cert.KernelTailIdeal.τ).loc Cert.KernelTailIdeal.main_arg7) = m ((c.tc : Thread Cert.KernelTailIdeal.nD Cert.KernelTailIdeal.τ).loc Cert.KernelTailIdeal.main_arg7)
      ∧ r.2.mem ((c.tc : Thread Cert.KernelTailIdeal.nD Cert.KernelTailIdeal.τ).loc Cert.KernelTailIdeal.main_arg8) = m ((c.tc : Thread Cert.KernelTailIdeal.nD Cert.KernelTailIdeal.τ).loc Cert.KernelTailIdeal.main_arg8)
      ∧ r.2.mem ((c.tc : Thread Cert.KernelTailIdeal.nD Cert.KernelTailIdeal.τ).loc Cert.KernelTailIdeal.main_arg9) = m ((c.tc : Thread Cert.KernelTailIdeal.nD Cert.KernelTailIdeal.τ).loc Cert.KernelTailIdeal.main_arg9)
      ∧ r.2.mem ((c.tc : Thread Cert.KernelTailIdeal.nD Cert.KernelTailIdeal.τ).loc Cert.KernelTailIdeal.main_arg10) = m ((c.tc : Thread Cert.KernelTailIdeal.nD Cert.KernelTailIdeal.τ).loc Cert.KernelTailIdeal.main_arg10)
      ∧ r.2.mem ((c.tc : Thread Cert.KernelTailIdeal.nD Cert.KernelTailIdeal.τ).loc Cert.KernelTailIdeal.main_arg11) = m ((c.tc : Thread Cert.KernelTailIdeal.nD Cert.KernelTailIdeal.τ).loc Cert.KernelTailIdeal.main_arg11)
      ∧ r.2.mem ((c.tc : Thread Cert.KernelTailIdeal.nD Cert.KernelTailIdeal.τ).loc Cert.KernelTailIdeal.main_arg12) = m ((c.tc : Thread Cert.KernelTailIdeal.nD Cert.KernelTailIdeal.τ).loc Cert.KernelTailIdeal.main_arg12)
      ∧ r.2.mem ((c.tc : Thread Cert.KernelTailIdeal.nD Cert.KernelTailIdeal.τ).loc Cert.KernelTailIdeal.main_arg13) = m ((c.tc : Thread Cert.KernelTailIdeal.nD Cert.KernelTailIdeal.τ).loc Cert.KernelTailIdeal.main_arg13)
      ∧ r.2.mem ((c.tc : Thread Cert.KernelTailIdeal.nD Cert.KernelTailIdeal.τ).loc Cert.KernelTailIdeal.main_arg14) = m ((c.tc : Thread Cert.KernelTailIdeal.nD Cert.KernelTailIdeal.τ).loc Cert.KernelTailIdeal.main_arg14)
      ∧ r.2.mem ((c.tc : Thread Cert.KernelTailIdeal.nD Cert.KernelTailIdeal.τ).loc Cert.KernelTailIdeal.main_arg15) = m ((c.tc : Thread Cert.KernelTailIdeal.nD Cert.KernelTailIdeal.τ).loc Cert.KernelTailIdeal.main_arg15)
      ∧ r.2.mem ((c.tc : Thread Cert.KernelTailIdeal.nD Cert.KernelTailIdeal.τ).loc Cert.KernelTailIdeal.main_arg16) = m ((c.tc : Thread Cert.KernelTailIdeal.nD Cert.KernelTailIdeal.τ).loc Cert.KernelTailIdeal.main_arg16))
      ∧ r.2.sem = fun _ => 0)

def quiescent_ReferenceTailIdeal [hReferenceTailIdeal : Cert.ReferenceTailIdeal.Facts] : Prop :=
  ∀ (m : (ℓ : Loc Cert.ReferenceTailIdeal.nD Cert.ReferenceTailIdeal.τ Cert.ReferenceTailIdeal.sig) → Buf (Elt Ideal) ℓ) (g : Dev Cert.ReferenceTailIdeal.nD → PrngReg), Pre_ReferenceTailIdeal m →
    θ_run (Cert.ReferenceTailIdeal.defs (F := Ideal)) (onTc (τ := Cert.ReferenceTailIdeal.τ) (Cert.ReferenceTailIdeal.main (F := Ideal))) ⟨m, fun _ => 0, g⟩ (fun r => (∀ c : Dev Cert.ReferenceTailIdeal.nD,
      r.2.mem ((c.tc : Thread Cert.ReferenceTailIdeal.nD Cert.ReferenceTailIdeal.τ).loc Cert.ReferenceTailIdeal.main_arg0) = m ((c.tc : Thread Cert.ReferenceTailIdeal.nD Cert.ReferenceTailIdeal.τ).loc Cert.ReferenceTailIdeal.main_arg0)
      ∧ r.2.mem ((c.tc : Thread Cert.ReferenceTailIdeal.nD Cert.ReferenceTailIdeal.τ).loc Cert.ReferenceTailIdeal.main_arg1) = m ((c.tc : Thread Cert.ReferenceTailIdeal.nD Cert.ReferenceTailIdeal.τ).loc Cert.ReferenceTailIdeal.main_arg1)
      ∧ r.2.mem ((c.tc : Thread Cert.ReferenceTailIdeal.nD Cert.ReferenceTailIdeal.τ).loc Cert.ReferenceTailIdeal.main_arg2) = m ((c.tc : Thread Cert.ReferenceTailIdeal.nD Cert.ReferenceTailIdeal.τ).loc Cert.ReferenceTailIdeal.main_arg2)
      ∧ r.2.mem ((c.tc : Thread Cert.ReferenceTailIdeal.nD Cert.ReferenceTailIdeal.τ).loc Cert.ReferenceTailIdeal.main_arg3) = m ((c.tc : Thread Cert.ReferenceTailIdeal.nD Cert.ReferenceTailIdeal.τ).loc Cert.ReferenceTailIdeal.main_arg3)
      ∧ r.2.mem ((c.tc : Thread Cert.ReferenceTailIdeal.nD Cert.ReferenceTailIdeal.τ).loc Cert.ReferenceTailIdeal.main_arg4) = m ((c.tc : Thread Cert.ReferenceTailIdeal.nD Cert.ReferenceTailIdeal.τ).loc Cert.ReferenceTailIdeal.main_arg4)
      ∧ r.2.mem ((c.tc : Thread Cert.ReferenceTailIdeal.nD Cert.ReferenceTailIdeal.τ).loc Cert.ReferenceTailIdeal.main_arg5) = m ((c.tc : Thread Cert.ReferenceTailIdeal.nD Cert.ReferenceTailIdeal.τ).loc Cert.ReferenceTailIdeal.main_arg5)
      ∧ r.2.mem ((c.tc : Thread Cert.ReferenceTailIdeal.nD Cert.ReferenceTailIdeal.τ).loc Cert.ReferenceTailIdeal.main_arg6) = m ((c.tc : Thread Cert.ReferenceTailIdeal.nD Cert.ReferenceTailIdeal.τ).loc Cert.ReferenceTailIdeal.main_arg6)
      ∧ r.2.mem ((c.tc : Thread Cert.ReferenceTailIdeal.nD Cert.ReferenceTailIdeal.τ).loc Cert.ReferenceTailIdeal.main_arg7) = m ((c.tc : Thread Cert.ReferenceTailIdeal.nD Cert.ReferenceTailIdeal.τ).loc Cert.ReferenceTailIdeal.main_arg7)
      ∧ r.2.mem ((c.tc : Thread Cert.ReferenceTailIdeal.nD Cert.ReferenceTailIdeal.τ).loc Cert.ReferenceTailIdeal.main_arg8) = m ((c.tc : Thread Cert.ReferenceTailIdeal.nD Cert.ReferenceTailIdeal.τ).loc Cert.ReferenceTailIdeal.main_arg8)
      ∧ r.2.mem ((c.tc : Thread Cert.ReferenceTailIdeal.nD Cert.ReferenceTailIdeal.τ).loc Cert.ReferenceTailIdeal.main_arg9) = m ((c.tc : Thread Cert.ReferenceTailIdeal.nD Cert.ReferenceTailIdeal.τ).loc Cert.ReferenceTailIdeal.main_arg9)
      ∧ r.2.mem ((c.tc : Thread Cert.ReferenceTailIdeal.nD Cert.ReferenceTailIdeal.τ).loc Cert.ReferenceTailIdeal.main_arg10) = m ((c.tc : Thread Cert.ReferenceTailIdeal.nD Cert.ReferenceTailIdeal.τ).loc Cert.ReferenceTailIdeal.main_arg10)
      ∧ r.2.mem ((c.tc : Thread Cert.ReferenceTailIdeal.nD Cert.ReferenceTailIdeal.τ).loc Cert.ReferenceTailIdeal.main_arg11) = m ((c.tc : Thread Cert.ReferenceTailIdeal.nD Cert.ReferenceTailIdeal.τ).loc Cert.ReferenceTailIdeal.main_arg11)
      ∧ r.2.mem ((c.tc : Thread Cert.ReferenceTailIdeal.nD Cert.ReferenceTailIdeal.τ).loc Cert.ReferenceTailIdeal.main_arg12) = m ((c.tc : Thread Cert.ReferenceTailIdeal.nD Cert.ReferenceTailIdeal.τ).loc Cert.ReferenceTailIdeal.main_arg12)
      ∧ r.2.mem ((c.tc : Thread Cert.ReferenceTailIdeal.nD Cert.ReferenceTailIdeal.τ).loc Cert.ReferenceTailIdeal.main_arg13) = m ((c.tc : Thread Cert.ReferenceTailIdeal.nD Cert.ReferenceTailIdeal.τ).loc Cert.ReferenceTailIdeal.main_arg13)
      ∧ r.2.mem ((c.tc : Thread Cert.ReferenceTailIdeal.nD Cert.ReferenceTailIdeal.τ).loc Cert.ReferenceTailIdeal.main_arg14) = m ((c.tc : Thread Cert.ReferenceTailIdeal.nD Cert.ReferenceTailIdeal.τ).loc Cert.ReferenceTailIdeal.main_arg14)
      ∧ r.2.mem ((c.tc : Thread Cert.ReferenceTailIdeal.nD Cert.ReferenceTailIdeal.τ).loc Cert.ReferenceTailIdeal.main_arg15) = m ((c.tc : Thread Cert.ReferenceTailIdeal.nD Cert.ReferenceTailIdeal.τ).loc Cert.ReferenceTailIdeal.main_arg15)
      ∧ r.2.mem ((c.tc : Thread Cert.ReferenceTailIdeal.nD Cert.ReferenceTailIdeal.τ).loc Cert.ReferenceTailIdeal.main_arg16) = m ((c.tc : Thread Cert.ReferenceTailIdeal.nD Cert.ReferenceTailIdeal.τ).loc Cert.ReferenceTailIdeal.main_arg16))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def preserves_Reference_ReferenceIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)) →
    ∃ (v0 : (c : Dev Cert.KernelFfnIdeal.nD) → Buf (Elt Ideal) ((c.tc : Thread Cert.KernelFfnIdeal.nD Cert.KernelFfnIdeal.τ).loc Cert.KernelFfnIdeal.main_v0)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v0) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v5) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)
      ∧ m' ((c.tc : Thread Cert.ReferenceMergeIdeal.nD Cert.ReferenceMergeIdeal.τ).loc Cert.ReferenceMergeIdeal.main_arg7) = m ((c.tc : Thread Cert.KernelMergeIdeal.nD Cert.KernelMergeIdeal.τ).loc Cert.KernelMergeIdeal.main_arg7)
      ∧ m' ((c.tc : Thread Cert.ReferenceMergeIdeal.nD Cert.ReferenceMergeIdeal.τ).loc Cert.ReferenceMergeIdeal.main_arg8) = m ((c.tc : Thread Cert.KernelMergeIdeal.nD Cert.KernelMergeIdeal.τ).loc Cert.KernelMergeIdeal.main_arg8)) →
    ∃ (v0 : (c : Dev Cert.KernelMergeIdeal.nD) → Buf (Elt Ideal) ((c.tc : Thread Cert.KernelMergeIdeal.nD Cert.KernelMergeIdeal.τ).loc Cert.KernelMergeIdeal.main_v20_0)) (v1 : (c : Dev Cert.KernelMergeIdeal.nD) → Buf (Elt Ideal) ((c.tc : Thread Cert.KernelMergeIdeal.nD Cert.KernelMergeIdeal.τ).loc Cert.KernelMergeIdeal.main_v20_1)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v20_0) = v0 c
          ∧ r.2.mem ((c.tc : Thread Cert.KernelMergeIdeal.nD Cert.KernelMergeIdeal.τ).loc Cert.KernelMergeIdeal.main_v20_1) = v1 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
          ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
          ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v20) = v0 c
          ∧ r.2.mem ((c.tc : Thread Cert.ReferenceMergeIdeal.nD Cert.ReferenceMergeIdeal.τ).loc Cert.ReferenceMergeIdeal.main_v34) = v1 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6)
          ∧ r.2.mem ((c.tc : Thread Cert.ReferenceMergeIdeal.nD Cert.ReferenceMergeIdeal.τ).loc Cert.ReferenceMergeIdeal.main_arg7) = m' ((c.tc : Thread Cert.ReferenceMergeIdeal.nD Cert.ReferenceMergeIdeal.τ).loc Cert.ReferenceMergeIdeal.main_arg7)
          ∧ r.2.mem ((c.tc : Thread Cert.ReferenceMergeIdeal.nD Cert.ReferenceMergeIdeal.τ).loc Cert.ReferenceMergeIdeal.main_arg8) = m' ((c.tc : Thread Cert.ReferenceMergeIdeal.nD Cert.ReferenceMergeIdeal.τ).loc Cert.ReferenceMergeIdeal.main_arg8))

def preserves_KernelPle_KernelPleIdeal : Prop :=
  True

def algebraic_KernelPleIdeal_ReferencePleIdeal [hKernelPleIdeal : Cert.KernelPleIdeal.Facts] [hReferencePleIdeal : Cert.ReferencePleIdeal.Facts] : Prop :=
  ∀ (m : (ℓ : Loc Cert.KernelPleIdeal.nD Cert.KernelPleIdeal.τ Cert.KernelPleIdeal.sig) → Buf (Elt Ideal) ℓ) (g : Dev Cert.KernelPleIdeal.nD → PrngReg)
    (m' : (ℓ : Loc Cert.ReferencePleIdeal.nD Cert.ReferencePleIdeal.τ Cert.ReferencePleIdeal.sig) → Buf (Elt Ideal) ℓ) (g' : Dev Cert.ReferencePleIdeal.nD → PrngReg), Pre_KernelPleIdeal m →
    (∀ c : Dev Cert.KernelPleIdeal.nD,
      m' ((c.tc : Thread Cert.ReferencePleIdeal.nD Cert.ReferencePleIdeal.τ).loc Cert.ReferencePleIdeal.main_arg0) = m ((c.tc : Thread Cert.KernelPleIdeal.nD Cert.KernelPleIdeal.τ).loc Cert.KernelPleIdeal.main_arg0)
      ∧ m' ((c.tc : Thread Cert.ReferencePleIdeal.nD Cert.ReferencePleIdeal.τ).loc Cert.ReferencePleIdeal.main_arg1) = m ((c.tc : Thread Cert.KernelPleIdeal.nD Cert.KernelPleIdeal.τ).loc Cert.KernelPleIdeal.main_arg1)
      ∧ m' ((c.tc : Thread Cert.ReferencePleIdeal.nD Cert.ReferencePleIdeal.τ).loc Cert.ReferencePleIdeal.main_arg2) = m ((c.tc : Thread Cert.KernelPleIdeal.nD Cert.KernelPleIdeal.τ).loc Cert.KernelPleIdeal.main_arg2)
      ∧ m' ((c.tc : Thread Cert.ReferencePleIdeal.nD Cert.ReferencePleIdeal.τ).loc Cert.ReferencePleIdeal.main_arg3) = m ((c.tc : Thread Cert.KernelPleIdeal.nD Cert.KernelPleIdeal.τ).loc Cert.KernelPleIdeal.main_arg3)
      ∧ m' ((c.tc : Thread Cert.ReferencePleIdeal.nD Cert.ReferencePleIdeal.τ).loc Cert.ReferencePleIdeal.main_arg4) = m ((c.tc : Thread Cert.KernelPleIdeal.nD Cert.KernelPleIdeal.τ).loc Cert.KernelPleIdeal.main_arg4)
      ∧ m' ((c.tc : Thread Cert.ReferencePleIdeal.nD Cert.ReferencePleIdeal.τ).loc Cert.ReferencePleIdeal.main_arg5) = m ((c.tc : Thread Cert.KernelPleIdeal.nD Cert.KernelPleIdeal.τ).loc Cert.KernelPleIdeal.main_arg5)
      ∧ m' ((c.tc : Thread Cert.ReferencePleIdeal.nD Cert.ReferencePleIdeal.τ).loc Cert.ReferencePleIdeal.main_arg6) = m ((c.tc : Thread Cert.KernelPleIdeal.nD Cert.KernelPleIdeal.τ).loc Cert.KernelPleIdeal.main_arg6)) →
    ∃ (v0 : (c : Dev Cert.KernelPleIdeal.nD) → Buf (Elt Ideal) ((c.tc : Thread Cert.KernelPleIdeal.nD Cert.KernelPleIdeal.τ).loc Cert.KernelPleIdeal.main_v4)),
      θ_run (Cert.KernelPleIdeal.defs (F := Ideal)) (onTc (τ := Cert.KernelPleIdeal.τ) (Cert.KernelPleIdeal.main (F := Ideal))) ⟨m, fun _ => 0, g⟩ (fun r => ∀ c : Dev Cert.KernelPleIdeal.nD,
          r.2.mem ((c.tc : Thread Cert.KernelPleIdeal.nD Cert.KernelPleIdeal.τ).loc Cert.KernelPleIdeal.main_v4) = v0 c
          ∧ r.2.mem ((c.tc : Thread Cert.KernelPleIdeal.nD Cert.KernelPleIdeal.τ).loc Cert.KernelPleIdeal.main_arg0) = m ((c.tc : Thread Cert.KernelPleIdeal.nD Cert.KernelPleIdeal.τ).loc Cert.KernelPleIdeal.main_arg0)
          ∧ r.2.mem ((c.tc : Thread Cert.KernelPleIdeal.nD Cert.KernelPleIdeal.τ).loc Cert.KernelPleIdeal.main_arg1) = m ((c.tc : Thread Cert.KernelPleIdeal.nD Cert.KernelPleIdeal.τ).loc Cert.KernelPleIdeal.main_arg1)
          ∧ r.2.mem ((c.tc : Thread Cert.KernelPleIdeal.nD Cert.KernelPleIdeal.τ).loc Cert.KernelPleIdeal.main_arg2) = m ((c.tc : Thread Cert.KernelPleIdeal.nD Cert.KernelPleIdeal.τ).loc Cert.KernelPleIdeal.main_arg2)
          ∧ r.2.mem ((c.tc : Thread Cert.KernelPleIdeal.nD Cert.KernelPleIdeal.τ).loc Cert.KernelPleIdeal.main_arg3) = m ((c.tc : Thread Cert.KernelPleIdeal.nD Cert.KernelPleIdeal.τ).loc Cert.KernelPleIdeal.main_arg3)
          ∧ r.2.mem ((c.tc : Thread Cert.KernelPleIdeal.nD Cert.KernelPleIdeal.τ).loc Cert.KernelPleIdeal.main_arg4) = m ((c.tc : Thread Cert.KernelPleIdeal.nD Cert.KernelPleIdeal.τ).loc Cert.KernelPleIdeal.main_arg4)
          ∧ r.2.mem ((c.tc : Thread Cert.KernelPleIdeal.nD Cert.KernelPleIdeal.τ).loc Cert.KernelPleIdeal.main_arg5) = m ((c.tc : Thread Cert.KernelPleIdeal.nD Cert.KernelPleIdeal.τ).loc Cert.KernelPleIdeal.main_arg5)
          ∧ r.2.mem ((c.tc : Thread Cert.KernelPleIdeal.nD Cert.KernelPleIdeal.τ).loc Cert.KernelPleIdeal.main_arg6) = m ((c.tc : Thread Cert.KernelPleIdeal.nD Cert.KernelPleIdeal.τ).loc Cert.KernelPleIdeal.main_arg6))
      ∧ θ_run (Cert.ReferencePleIdeal.defs (F := Ideal)) (onTc (τ := Cert.ReferencePleIdeal.τ) (Cert.ReferencePleIdeal.main (F := Ideal))) ⟨m', fun _ => 0, g'⟩ (fun r => ∀ c : Dev Cert.ReferencePleIdeal.nD,
          r.2.mem ((c.tc : Thread Cert.ReferencePleIdeal.nD Cert.ReferencePleIdeal.τ).loc Cert.ReferencePleIdeal.main_v36) = v0 c
          ∧ r.2.mem ((c.tc : Thread Cert.ReferencePleIdeal.nD Cert.ReferencePleIdeal.τ).loc Cert.ReferencePleIdeal.main_arg0) = m' ((c.tc : Thread Cert.ReferencePleIdeal.nD Cert.ReferencePleIdeal.τ).loc Cert.ReferencePleIdeal.main_arg0)
          ∧ r.2.mem ((c.tc : Thread Cert.ReferencePleIdeal.nD Cert.ReferencePleIdeal.τ).loc Cert.ReferencePleIdeal.main_arg1) = m' ((c.tc : Thread Cert.ReferencePleIdeal.nD Cert.ReferencePleIdeal.τ).loc Cert.ReferencePleIdeal.main_arg1)
          ∧ r.2.mem ((c.tc : Thread Cert.ReferencePleIdeal.nD Cert.ReferencePleIdeal.τ).loc Cert.ReferencePleIdeal.main_arg2) = m' ((c.tc : Thread Cert.ReferencePleIdeal.nD Cert.ReferencePleIdeal.τ).loc Cert.ReferencePleIdeal.main_arg2)
          ∧ r.2.mem ((c.tc : Thread Cert.ReferencePleIdeal.nD Cert.ReferencePleIdeal.τ).loc Cert.ReferencePleIdeal.main_arg3) = m' ((c.tc : Thread Cert.ReferencePleIdeal.nD Cert.ReferencePleIdeal.τ).loc Cert.ReferencePleIdeal.main_arg3)
          ∧ r.2.mem ((c.tc : Thread Cert.ReferencePleIdeal.nD Cert.ReferencePleIdeal.τ).loc Cert.ReferencePleIdeal.main_arg4) = m' ((c.tc : Thread Cert.ReferencePleIdeal.nD Cert.ReferencePleIdeal.τ).loc Cert.ReferencePleIdeal.main_arg4)
          ∧ r.2.mem ((c.tc : Thread Cert.ReferencePleIdeal.nD Cert.ReferencePleIdeal.τ).loc Cert.ReferencePleIdeal.main_arg5) = m' ((c.tc : Thread Cert.ReferencePleIdeal.nD Cert.ReferencePleIdeal.τ).loc Cert.ReferencePleIdeal.main_arg5)
          ∧ r.2.mem ((c.tc : Thread Cert.ReferencePleIdeal.nD Cert.ReferencePleIdeal.τ).loc Cert.ReferencePleIdeal.main_arg6) = m' ((c.tc : Thread Cert.ReferencePleIdeal.nD Cert.ReferencePleIdeal.τ).loc Cert.ReferencePleIdeal.main_arg6))

def preserves_KernelTail_KernelTailIdeal : Prop :=
  True

def algebraic_KernelTailIdeal_ReferenceTailIdeal [hKernelTailIdeal : Cert.KernelTailIdeal.Facts] [hReferenceTailIdeal : Cert.ReferenceTailIdeal.Facts] : Prop :=
  ∀ (m : (ℓ : Loc Cert.KernelTailIdeal.nD Cert.KernelTailIdeal.τ Cert.KernelTailIdeal.sig) → Buf (Elt Ideal) ℓ) (g : Dev Cert.KernelTailIdeal.nD → PrngReg)
    (m' : (ℓ : Loc Cert.ReferenceTailIdeal.nD Cert.ReferenceTailIdeal.τ Cert.ReferenceTailIdeal.sig) → Buf (Elt Ideal) ℓ) (g' : Dev Cert.ReferenceTailIdeal.nD → PrngReg), Pre_KernelTailIdeal m →
    (∀ c : Dev Cert.KernelTailIdeal.nD,
      m' ((c.tc : Thread Cert.ReferenceTailIdeal.nD Cert.ReferenceTailIdeal.τ).loc Cert.ReferenceTailIdeal.main_arg0) = m ((c.tc : Thread Cert.KernelTailIdeal.nD Cert.KernelTailIdeal.τ).loc Cert.KernelTailIdeal.main_arg0)
      ∧ m' ((c.tc : Thread Cert.ReferenceTailIdeal.nD Cert.ReferenceTailIdeal.τ).loc Cert.ReferenceTailIdeal.main_arg1) = m ((c.tc : Thread Cert.KernelTailIdeal.nD Cert.KernelTailIdeal.τ).loc Cert.KernelTailIdeal.main_arg1)
      ∧ m' ((c.tc : Thread Cert.ReferenceTailIdeal.nD Cert.ReferenceTailIdeal.τ).loc Cert.ReferenceTailIdeal.main_arg2) = m ((c.tc : Thread Cert.KernelTailIdeal.nD Cert.KernelTailIdeal.τ).loc Cert.KernelTailIdeal.main_arg2)
      ∧ m' ((c.tc : Thread Cert.ReferenceTailIdeal.nD Cert.ReferenceTailIdeal.τ).loc Cert.ReferenceTailIdeal.main_arg3) = m ((c.tc : Thread Cert.KernelTailIdeal.nD Cert.KernelTailIdeal.τ).loc Cert.KernelTailIdeal.main_arg3)
      ∧ m' ((c.tc : Thread Cert.ReferenceTailIdeal.nD Cert.ReferenceTailIdeal.τ).loc Cert.ReferenceTailIdeal.main_arg4) = m ((c.tc : Thread Cert.KernelTailIdeal.nD Cert.KernelTailIdeal.τ).loc Cert.KernelTailIdeal.main_arg4)
      ∧ m' ((c.tc : Thread Cert.ReferenceTailIdeal.nD Cert.ReferenceTailIdeal.τ).loc Cert.ReferenceTailIdeal.main_arg5) = m ((c.tc : Thread Cert.KernelTailIdeal.nD Cert.KernelTailIdeal.τ).loc Cert.KernelTailIdeal.main_arg5)
      ∧ m' ((c.tc : Thread Cert.ReferenceTailIdeal.nD Cert.ReferenceTailIdeal.τ).loc Cert.ReferenceTailIdeal.main_arg6) = m ((c.tc : Thread Cert.KernelTailIdeal.nD Cert.KernelTailIdeal.τ).loc Cert.KernelTailIdeal.main_arg6)
      ∧ m' ((c.tc : Thread Cert.ReferenceTailIdeal.nD Cert.ReferenceTailIdeal.τ).loc Cert.ReferenceTailIdeal.main_arg7) = m ((c.tc : Thread Cert.KernelTailIdeal.nD Cert.KernelTailIdeal.τ).loc Cert.KernelTailIdeal.main_arg7)
      ∧ m' ((c.tc : Thread Cert.ReferenceTailIdeal.nD Cert.ReferenceTailIdeal.τ).loc Cert.ReferenceTailIdeal.main_arg8) = m ((c.tc : Thread Cert.KernelTailIdeal.nD Cert.KernelTailIdeal.τ).loc Cert.KernelTailIdeal.main_arg8)
      ∧ m' ((c.tc : Thread Cert.ReferenceTailIdeal.nD Cert.ReferenceTailIdeal.τ).loc Cert.ReferenceTailIdeal.main_arg9) = m ((c.tc : Thread Cert.KernelTailIdeal.nD Cert.KernelTailIdeal.τ).loc Cert.KernelTailIdeal.main_arg9)
      ∧ m' ((c.tc : Thread Cert.ReferenceTailIdeal.nD Cert.ReferenceTailIdeal.τ).loc Cert.ReferenceTailIdeal.main_arg10) = m ((c.tc : Thread Cert.KernelTailIdeal.nD Cert.KernelTailIdeal.τ).loc Cert.KernelTailIdeal.main_arg10)
      ∧ m' ((c.tc : Thread Cert.ReferenceTailIdeal.nD Cert.ReferenceTailIdeal.τ).loc Cert.ReferenceTailIdeal.main_arg11) = m ((c.tc : Thread Cert.KernelTailIdeal.nD Cert.KernelTailIdeal.τ).loc Cert.KernelTailIdeal.main_arg11)
      ∧ m' ((c.tc : Thread Cert.ReferenceTailIdeal.nD Cert.ReferenceTailIdeal.τ).loc Cert.ReferenceTailIdeal.main_arg12) = m ((c.tc : Thread Cert.KernelTailIdeal.nD Cert.KernelTailIdeal.τ).loc Cert.KernelTailIdeal.main_arg12)
      ∧ m' ((c.tc : Thread Cert.ReferenceTailIdeal.nD Cert.ReferenceTailIdeal.τ).loc Cert.ReferenceTailIdeal.main_arg13) = m ((c.tc : Thread Cert.KernelTailIdeal.nD Cert.KernelTailIdeal.τ).loc Cert.KernelTailIdeal.main_arg13)
      ∧ m' ((c.tc : Thread Cert.ReferenceTailIdeal.nD Cert.ReferenceTailIdeal.τ).loc Cert.ReferenceTailIdeal.main_arg14) = m ((c.tc : Thread Cert.KernelTailIdeal.nD Cert.KernelTailIdeal.τ).loc Cert.KernelTailIdeal.main_arg14)
      ∧ m' ((c.tc : Thread Cert.ReferenceTailIdeal.nD Cert.ReferenceTailIdeal.τ).loc Cert.ReferenceTailIdeal.main_arg15) = m ((c.tc : Thread Cert.KernelTailIdeal.nD Cert.KernelTailIdeal.τ).loc Cert.KernelTailIdeal.main_arg15)
      ∧ m' ((c.tc : Thread Cert.ReferenceTailIdeal.nD Cert.ReferenceTailIdeal.τ).loc Cert.ReferenceTailIdeal.main_arg16) = m ((c.tc : Thread Cert.KernelTailIdeal.nD Cert.KernelTailIdeal.τ).loc Cert.KernelTailIdeal.main_arg16)) →
    ∃ (v0 : (c : Dev Cert.KernelTailIdeal.nD) → Buf (Elt Ideal) ((c.tc : Thread Cert.KernelTailIdeal.nD Cert.KernelTailIdeal.τ).loc Cert.KernelTailIdeal.main_v26)),
      θ_run (Cert.KernelTailIdeal.defs (F := Ideal)) (onTc (τ := Cert.KernelTailIdeal.τ) (Cert.KernelTailIdeal.main (F := Ideal))) ⟨m, fun _ => 0, g⟩ (fun r => ∀ c : Dev Cert.KernelTailIdeal.nD,
          r.2.mem ((c.tc : Thread Cert.KernelTailIdeal.nD Cert.KernelTailIdeal.τ).loc Cert.KernelTailIdeal.main_v26) = v0 c
          ∧ r.2.mem ((c.tc : Thread Cert.KernelTailIdeal.nD Cert.KernelTailIdeal.τ).loc Cert.KernelTailIdeal.main_arg0) = m ((c.tc : Thread Cert.KernelTailIdeal.nD Cert.KernelTailIdeal.τ).loc Cert.KernelTailIdeal.main_arg0)
          ∧ r.2.mem ((c.tc : Thread Cert.KernelTailIdeal.nD Cert.KernelTailIdeal.τ).loc Cert.KernelTailIdeal.main_arg1) = m ((c.tc : Thread Cert.KernelTailIdeal.nD Cert.KernelTailIdeal.τ).loc Cert.KernelTailIdeal.main_arg1)
          ∧ r.2.mem ((c.tc : Thread Cert.KernelTailIdeal.nD Cert.KernelTailIdeal.τ).loc Cert.KernelTailIdeal.main_arg2) = m ((c.tc : Thread Cert.KernelTailIdeal.nD Cert.KernelTailIdeal.τ).loc Cert.KernelTailIdeal.main_arg2)
          ∧ r.2.mem ((c.tc : Thread Cert.KernelTailIdeal.nD Cert.KernelTailIdeal.τ).loc Cert.KernelTailIdeal.main_arg3) = m ((c.tc : Thread Cert.KernelTailIdeal.nD Cert.KernelTailIdeal.τ).loc Cert.KernelTailIdeal.main_arg3)
          ∧ r.2.mem ((c.tc : Thread Cert.KernelTailIdeal.nD Cert.KernelTailIdeal.τ).loc Cert.KernelTailIdeal.main_arg4) = m ((c.tc : Thread Cert.KernelTailIdeal.nD Cert.KernelTailIdeal.τ).loc Cert.KernelTailIdeal.main_arg4)
          ∧ r.2.mem ((c.tc : Thread Cert.KernelTailIdeal.nD Cert.KernelTailIdeal.τ).loc Cert.KernelTailIdeal.main_arg5) = m ((c.tc : Thread Cert.KernelTailIdeal.nD Cert.KernelTailIdeal.τ).loc Cert.KernelTailIdeal.main_arg5)
          ∧ r.2.mem ((c.tc : Thread Cert.KernelTailIdeal.nD Cert.KernelTailIdeal.τ).loc Cert.KernelTailIdeal.main_arg6) = m ((c.tc : Thread Cert.KernelTailIdeal.nD Cert.KernelTailIdeal.τ).loc Cert.KernelTailIdeal.main_arg6)
          ∧ r.2.mem ((c.tc : Thread Cert.KernelTailIdeal.nD Cert.KernelTailIdeal.τ).loc Cert.KernelTailIdeal.main_arg7) = m ((c.tc : Thread Cert.KernelTailIdeal.nD Cert.KernelTailIdeal.τ).loc Cert.KernelTailIdeal.main_arg7)
          ∧ r.2.mem ((c.tc : Thread Cert.KernelTailIdeal.nD Cert.KernelTailIdeal.τ).loc Cert.KernelTailIdeal.main_arg8) = m ((c.tc : Thread Cert.KernelTailIdeal.nD Cert.KernelTailIdeal.τ).loc Cert.KernelTailIdeal.main_arg8)
          ∧ r.2.mem ((c.tc : Thread Cert.KernelTailIdeal.nD Cert.KernelTailIdeal.τ).loc Cert.KernelTailIdeal.main_arg9) = m ((c.tc : Thread Cert.KernelTailIdeal.nD Cert.KernelTailIdeal.τ).loc Cert.KernelTailIdeal.main_arg9)
          ∧ r.2.mem ((c.tc : Thread Cert.KernelTailIdeal.nD Cert.KernelTailIdeal.τ).loc Cert.KernelTailIdeal.main_arg10) = m ((c.tc : Thread Cert.KernelTailIdeal.nD Cert.KernelTailIdeal.τ).loc Cert.KernelTailIdeal.main_arg10)
          ∧ r.2.mem ((c.tc : Thread Cert.KernelTailIdeal.nD Cert.KernelTailIdeal.τ).loc Cert.KernelTailIdeal.main_arg11) = m ((c.tc : Thread Cert.KernelTailIdeal.nD Cert.KernelTailIdeal.τ).loc Cert.KernelTailIdeal.main_arg11)
          ∧ r.2.mem ((c.tc : Thread Cert.KernelTailIdeal.nD Cert.KernelTailIdeal.τ).loc Cert.KernelTailIdeal.main_arg12) = m ((c.tc : Thread Cert.KernelTailIdeal.nD Cert.KernelTailIdeal.τ).loc Cert.KernelTailIdeal.main_arg12)
          ∧ r.2.mem ((c.tc : Thread Cert.KernelTailIdeal.nD Cert.KernelTailIdeal.τ).loc Cert.KernelTailIdeal.main_arg13) = m ((c.tc : Thread Cert.KernelTailIdeal.nD Cert.KernelTailIdeal.τ).loc Cert.KernelTailIdeal.main_arg13)
          ∧ r.2.mem ((c.tc : Thread Cert.KernelTailIdeal.nD Cert.KernelTailIdeal.τ).loc Cert.KernelTailIdeal.main_arg14) = m ((c.tc : Thread Cert.KernelTailIdeal.nD Cert.KernelTailIdeal.τ).loc Cert.KernelTailIdeal.main_arg14)
          ∧ r.2.mem ((c.tc : Thread Cert.KernelTailIdeal.nD Cert.KernelTailIdeal.τ).loc Cert.KernelTailIdeal.main_arg15) = m ((c.tc : Thread Cert.KernelTailIdeal.nD Cert.KernelTailIdeal.τ).loc Cert.KernelTailIdeal.main_arg15)
          ∧ r.2.mem ((c.tc : Thread Cert.KernelTailIdeal.nD Cert.KernelTailIdeal.τ).loc Cert.KernelTailIdeal.main_arg16) = m ((c.tc : Thread Cert.KernelTailIdeal.nD Cert.KernelTailIdeal.τ).loc Cert.KernelTailIdeal.main_arg16))
      ∧ θ_run (Cert.ReferenceTailIdeal.defs (F := Ideal)) (onTc (τ := Cert.ReferenceTailIdeal.τ) (Cert.ReferenceTailIdeal.main (F := Ideal))) ⟨m', fun _ => 0, g'⟩ (fun r => ∀ c : Dev Cert.ReferenceTailIdeal.nD,
          r.2.mem ((c.tc : Thread Cert.ReferenceTailIdeal.nD Cert.ReferenceTailIdeal.τ).loc Cert.ReferenceTailIdeal.main_v75) = v0 c
          ∧ r.2.mem ((c.tc : Thread Cert.ReferenceTailIdeal.nD Cert.ReferenceTailIdeal.τ).loc Cert.ReferenceTailIdeal.main_arg0) = m' ((c.tc : Thread Cert.ReferenceTailIdeal.nD Cert.ReferenceTailIdeal.τ).loc Cert.ReferenceTailIdeal.main_arg0)
          ∧ r.2.mem ((c.tc : Thread Cert.ReferenceTailIdeal.nD Cert.ReferenceTailIdeal.τ).loc Cert.ReferenceTailIdeal.main_arg1) = m' ((c.tc : Thread Cert.ReferenceTailIdeal.nD Cert.ReferenceTailIdeal.τ).loc Cert.ReferenceTailIdeal.main_arg1)
          ∧ r.2.mem ((c.tc : Thread Cert.ReferenceTailIdeal.nD Cert.ReferenceTailIdeal.τ).loc Cert.ReferenceTailIdeal.main_arg2) = m' ((c.tc : Thread Cert.ReferenceTailIdeal.nD Cert.ReferenceTailIdeal.τ).loc Cert.ReferenceTailIdeal.main_arg2)
          ∧ r.2.mem ((c.tc : Thread Cert.ReferenceTailIdeal.nD Cert.ReferenceTailIdeal.τ).loc Cert.ReferenceTailIdeal.main_arg3) = m' ((c.tc : Thread Cert.ReferenceTailIdeal.nD Cert.ReferenceTailIdeal.τ).loc Cert.ReferenceTailIdeal.main_arg3)
          ∧ r.2.mem ((c.tc : Thread Cert.ReferenceTailIdeal.nD Cert.ReferenceTailIdeal.τ).loc Cert.ReferenceTailIdeal.main_arg4) = m' ((c.tc : Thread Cert.ReferenceTailIdeal.nD Cert.ReferenceTailIdeal.τ).loc Cert.ReferenceTailIdeal.main_arg4)
          ∧ r.2.mem ((c.tc : Thread Cert.ReferenceTailIdeal.nD Cert.ReferenceTailIdeal.τ).loc Cert.ReferenceTailIdeal.main_arg5) = m' ((c.tc : Thread Cert.ReferenceTailIdeal.nD Cert.ReferenceTailIdeal.τ).loc Cert.ReferenceTailIdeal.main_arg5)
          ∧ r.2.mem ((c.tc : Thread Cert.ReferenceTailIdeal.nD Cert.ReferenceTailIdeal.τ).loc Cert.ReferenceTailIdeal.main_arg6) = m' ((c.tc : Thread Cert.ReferenceTailIdeal.nD Cert.ReferenceTailIdeal.τ).loc Cert.ReferenceTailIdeal.main_arg6)
          ∧ r.2.mem ((c.tc : Thread Cert.ReferenceTailIdeal.nD Cert.ReferenceTailIdeal.τ).loc Cert.ReferenceTailIdeal.main_arg7) = m' ((c.tc : Thread Cert.ReferenceTailIdeal.nD Cert.ReferenceTailIdeal.τ).loc Cert.ReferenceTailIdeal.main_arg7)
          ∧ r.2.mem ((c.tc : Thread Cert.ReferenceTailIdeal.nD Cert.ReferenceTailIdeal.τ).loc Cert.ReferenceTailIdeal.main_arg8) = m' ((c.tc : Thread Cert.ReferenceTailIdeal.nD Cert.ReferenceTailIdeal.τ).loc Cert.ReferenceTailIdeal.main_arg8)
          ∧ r.2.mem ((c.tc : Thread Cert.ReferenceTailIdeal.nD Cert.ReferenceTailIdeal.τ).loc Cert.ReferenceTailIdeal.main_arg9) = m' ((c.tc : Thread Cert.ReferenceTailIdeal.nD Cert.ReferenceTailIdeal.τ).loc Cert.ReferenceTailIdeal.main_arg9)
          ∧ r.2.mem ((c.tc : Thread Cert.ReferenceTailIdeal.nD Cert.ReferenceTailIdeal.τ).loc Cert.ReferenceTailIdeal.main_arg10) = m' ((c.tc : Thread Cert.ReferenceTailIdeal.nD Cert.ReferenceTailIdeal.τ).loc Cert.ReferenceTailIdeal.main_arg10)
          ∧ r.2.mem ((c.tc : Thread Cert.ReferenceTailIdeal.nD Cert.ReferenceTailIdeal.τ).loc Cert.ReferenceTailIdeal.main_arg11) = m' ((c.tc : Thread Cert.ReferenceTailIdeal.nD Cert.ReferenceTailIdeal.τ).loc Cert.ReferenceTailIdeal.main_arg11)
          ∧ r.2.mem ((c.tc : Thread Cert.ReferenceTailIdeal.nD Cert.ReferenceTailIdeal.τ).loc Cert.ReferenceTailIdeal.main_arg12) = m' ((c.tc : Thread Cert.ReferenceTailIdeal.nD Cert.ReferenceTailIdeal.τ).loc Cert.ReferenceTailIdeal.main_arg12)
          ∧ r.2.mem ((c.tc : Thread Cert.ReferenceTailIdeal.nD Cert.ReferenceTailIdeal.τ).loc Cert.ReferenceTailIdeal.main_arg13) = m' ((c.tc : Thread Cert.ReferenceTailIdeal.nD Cert.ReferenceTailIdeal.τ).loc Cert.ReferenceTailIdeal.main_arg13)
          ∧ r.2.mem ((c.tc : Thread Cert.ReferenceTailIdeal.nD Cert.ReferenceTailIdeal.τ).loc Cert.ReferenceTailIdeal.main_arg14) = m' ((c.tc : Thread Cert.ReferenceTailIdeal.nD Cert.ReferenceTailIdeal.τ).loc Cert.ReferenceTailIdeal.main_arg14)
          ∧ r.2.mem ((c.tc : Thread Cert.ReferenceTailIdeal.nD Cert.ReferenceTailIdeal.τ).loc Cert.ReferenceTailIdeal.main_arg15) = m' ((c.tc : Thread Cert.ReferenceTailIdeal.nD Cert.ReferenceTailIdeal.τ).loc Cert.ReferenceTailIdeal.main_arg15)
          ∧ r.2.mem ((c.tc : Thread Cert.ReferenceTailIdeal.nD Cert.ReferenceTailIdeal.τ).loc Cert.ReferenceTailIdeal.main_arg16) = m' ((c.tc : Thread Cert.ReferenceTailIdeal.nD Cert.ReferenceTailIdeal.τ).loc Cert.ReferenceTailIdeal.main_arg16))

def Claim : Prop :=
  ∃ (hKernel : Cert.Kernel.Facts) (hKernelIdeal : Cert.KernelIdeal.Facts) (hReferenceIdeal : Cert.ReferenceIdeal.Facts) (hReference : Cert.Reference.Facts) (hKernelFfn : Cert.KernelFfn.Facts) (hKernelFfnIdeal : Cert.KernelFfnIdeal.Facts) (hReferenceFfnIdeal : Cert.ReferenceFfnIdeal.Facts) (hKernelMerge : Cert.KernelMerge.Facts) (hKernelMergeIdeal : Cert.KernelMergeIdeal.Facts) (hReferenceMergeIdeal : Cert.ReferenceMergeIdeal.Facts) (hKernelPle : Cert.KernelPle.Facts) (hKernelPleIdeal : Cert.KernelPleIdeal.Facts) (hReferencePleIdeal : Cert.ReferencePleIdeal.Facts) (hKernelTail : Cert.KernelTail.Facts) (hKernelTailIdeal : Cert.KernelTailIdeal.Facts) (hReferenceTailIdeal : Cert.ReferenceTailIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Reference (hReference := hReference)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelPle (hKernelPle := hKernelPle)
    ∧ quiescent_KernelPleIdeal (hKernelPleIdeal := hKernelPleIdeal)
    ∧ quiescent_ReferencePleIdeal (hReferencePleIdeal := hReferencePleIdeal)
    ∧ quiescent_KernelTail (hKernelTail := hKernelTail)
    ∧ quiescent_KernelTailIdeal (hKernelTailIdeal := hKernelTailIdeal)
    ∧ quiescent_ReferenceTailIdeal (hReferenceTailIdeal := hReferenceTailIdeal)
    ∧ preserves_Kernel_KernelIdeal
    ∧ preserves_Reference_ReferenceIdeal
    ∧ algebraic_KernelIdeal_ReferenceIdeal_pre_finite (hKernelIdeal := hKernelIdeal) (hReferenceIdeal := hReferenceIdeal) (hPre_finite := hPre_finite)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelPle_KernelPleIdeal
    ∧ algebraic_KernelPleIdeal_ReferencePleIdeal (hKernelPleIdeal := hKernelPleIdeal) (hReferencePleIdeal := hReferencePleIdeal)
    ∧ preserves_KernelTail_KernelTailIdeal
    ∧ algebraic_KernelTailIdeal_ReferenceTailIdeal (hKernelTailIdeal := hKernelTailIdeal) (hReferenceTailIdeal := hReferenceTailIdeal)
-- ==== Pre_finite.lean ====
abbrev S8192x1024 : Shape := ⟨2, ![8192, 1024]⟩
abbrev S8192x8 : Shape := ⟨2, ![8192, 8]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x8 : S_.BroadcastsInDim S8192x8 (![] : Fin 0 → Fin S8192x8.rank)
  reducesTo_S8192x8_S_d0_1 : S8192x8.ReducesTo [0, 1] S_

variable [Facts]

def fn_part1 {F : FTy → Type} [FloatOps F] (main_v13 : IVec S_ 1) (main_v16 : IVec S8192x8 1) : IVec S_ 1 :=
  let main_c_5 : IVec S_ 1 := constantI S_ 1 1#1
  let main_v17 : IVec S_ 1 := (fun x v => Host.reduce IntOp.andi x v reducesTo_S8192x8_S_d0_1 h_S_) main_v16 main_c_5
  let main_v18 : IVec S_ 1 := andi main_v13 main_v17
  main_v18

def fn {F : FTy → Type} [FloatOps F] (main_arg0 : FVec F S8192x1024 .f32) (main_arg1 : FVec F S8192x1024 .f32) (main_arg2 : FVec F S8192x1024 .f32) (main_arg3 : FVec F S8192x8 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x8 .f32 := Host.absf main_arg3
  let main_cst_4 : FVec F S_ .f32 := constant S_ .f32 0x7F800000#32
  let main_v15 : FVec F S8192x8 .f32 := broadcastInDim S8192x8 ![] bcast_S_S8192x8 main_cst_4
  let main_v16 : IVec S8192x8 1 := cmpf .olt main_v14 main_v15
  fn_part1 (F := F) main_v13 main_v16
-- ==== Kernel.lean ====
abbrev S8192x1024 : Shape := ⟨2, ![8192, 1024]⟩
abbrev S8192x8 : Shape := ⟨2, ![8192, 8]⟩
abbrev S_ : Shape := ⟨0, ![]⟩
abbrev S8192x7168 : Shape := ⟨2, ![8192, 7168]⟩
abbrev S8192x10240 : Shape := ⟨2, ![8192, 10240]⟩
abbrev S2x4096x8x128 : Shape := ⟨4, ![2, 4096, 8, 128]⟩
abbrev S2x8x128x4096 : Shape := ⟨4, ![2, 8, 128, 4096]⟩
abbrev S2x8x16x4096 : Shape := ⟨4, ![2, 8, 16, 4096]⟩
abbrev S2x8x144x4096 : Shape := ⟨4, ![2, 8, 144, 4096]⟩
abbrev S8192x80 : Shape := ⟨2, ![8192, 80]⟩
abbrev S8192x40 : Shape := ⟨2, ![8192, 40]⟩
abbrev S8192x128 : Shape := ⟨2, ![8192, 128]⟩
abbrev S512x512 : Shape := ⟨2, ![512, 512]⟩
abbrev S4096x512 : Shape := ⟨2, ![4096, 512]⟩
abbrev S1x4x144x4096 : Shape := ⟨4, ![1, 4, 144, 4096]⟩
abbrev S4096x128 : Shape := ⟨2, ![4096, 128]⟩
abbrev S4x2x256x512 : Shape := ⟨4, ![4, 2, 256, 512]⟩
abbrev S4x144x512 : Shape := ⟨3, ![4, 144, 512]⟩
abbrev S2x4096x128 : Shape := ⟨3, ![2, 4096, 128]⟩
abbrev S256x256 : Shape := ⟨2, ![256, 256]⟩
abbrev S1x128 : Shape := ⟨2, ![1, 128]⟩
abbrev S256x128 : Shape := ⟨2, ![256, 128]⟩
abbrev S1x256x128 : Shape := ⟨3, ![1, 256, 128]⟩
abbrev S1x512 : Shape := ⟨2, ![1, 512]⟩
abbrev S1x1x128 : Shape := ⟨3, ![1, 1, 128]⟩
abbrev S256x1 : Shape := ⟨2, ![256, 1]⟩
abbrev S512x128 : Shape := ⟨2, ![512, 128]⟩
abbrev S256x512 : Shape := ⟨2, ![256, 512]⟩
abbrev S1x1x256x512 : Shape := ⟨4, ![1, 1, 256, 512]⟩
abbrev S512 : Shape := ⟨1, ![512]⟩
abbrev S1x144x512 : Shape := ⟨3, ![1, 144, 512]⟩
abbrev S144x512 : Shape := ⟨2, ![144, 512]⟩
abbrev S1x1x144x256 : Shape := ⟨4, ![1, 1, 144, 256]⟩
abbrev S144x256 : Shape := ⟨2, ![144, 256]⟩
abbrev S1x128x512 : Shape := ⟨3, ![1, 128, 512]⟩
abbrev S128x512 : Shape := ⟨2, ![128, 512]⟩
abbrev S1x1x512 : Shape := ⟨3, ![1, 1, 512]⟩
abbrev S128x128 : Shape := ⟨2, ![128, 128]⟩

abbrev nBuf : Space → Nat
  | .hbm => 31
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x8, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .bf16⟩
  | .hbm, ⟨12, _⟩ => ⟨S8192x7168, .bf16⟩
  | .hbm, ⟨13, _⟩ => ⟨S8192x1024, .f32⟩
  | .hbm, ⟨14, _⟩ => ⟨S8192x1024, .f32⟩
  | .hbm, ⟨15, _⟩ => ⟨S8192x1024, .bf16⟩
  | .hbm, ⟨16, _⟩ => ⟨S8192x1024, .bf16⟩
  | .hbm, ⟨17, _⟩ => ⟨S8192x1024, .bf16⟩
  | .hbm, ⟨18, _⟩ => ⟨S8192x10240, .bf16⟩
  | .hbm, ⟨19, _⟩ => ⟨S2x4096x8x128, .f32⟩
  | .hbm, ⟨20, _⟩ => ⟨S2x8x128x4096, .f32⟩
  | .hbm, ⟨21, _⟩ => ⟨S2x8x128x4096, .bf16⟩
  | .hbm, ⟨22, _⟩ => ⟨S_, .bf16⟩
  | .hbm, ⟨23, _⟩ => ⟨S2x8x16x4096, .bf16⟩
  | .hbm, ⟨24, _⟩ => ⟨S2x8x144x4096, .bf16⟩
  | .hbm, ⟨25, _⟩ => ⟨S_, .f32⟩
  | .hbm, ⟨26, _⟩ => ⟨S8192x80, .f32⟩
  | .hbm, ⟨27, _⟩ => ⟨S_, .f32⟩
  | .hbm, ⟨28, _⟩ => ⟨S8192x40, .f32⟩
  | .hbm, ⟨29, _⟩ => ⟨S8192x128, .f32⟩
  | .hbm, ⟨30, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S4096x512, .bf16⟩
  | .local _ .vmem, ⟨3, _⟩ => ⟨S4096x512, .bf16⟩
  | .local _ .vmem, ⟨4, _⟩ => ⟨S1x4x144x4096, .bf16⟩
  | .local _ .vmem, ⟨5, _⟩ => ⟨S1x4x144x4096, .bf16⟩
  | .local _ .vmem, ⟨6, _⟩ => ⟨S4096x128, .f32⟩
  | .local _ .vmem, ⟨7, _⟩ => ⟨S4096x128, .f32⟩
  | .local _ .vmem, ⟨8, _⟩ => ⟨S512x512, .bf16⟩
  | .local _ .vmem, ⟨9, _⟩ => ⟨S512x512, .bf16⟩
  | .local _ .vmem, ⟨10, _⟩ => ⟨S4x2x256x512, .f32⟩
  | .local _ .vmem, ⟨11, _⟩ => ⟨S4x144x512, .f32⟩
  | .local _ .vmem, ⟨12, _⟩ => ⟨S2x4096x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 8], ![false, false, false]⟩

def k0_mult1 (i : grid0.Coords) : BitVec 32 :=
  let arg2 : BitVec 32 := BitVec.ofNat 32 (i 2).val
  let c512_i32 : BitVec 32 := 512#32
  let v0 : BitVec 32 := Scalar.muli arg2 c512_i32
  v0
def k0_cond1 (i : grid0.Coords) : BitVec 1 :=
  let arg2 : BitVec 32 := BitVec.ofNat 32 (i 2).val
  let c0_i32 : BitVec 32 := 0#32
  let v6 : BitVec 1 := Scalar.cmpi .eq arg2 c0_i32
  let arg1 : BitVec 32 := BitVec.ofNat 32 (i 1).val
  let c0_i32_2 : BitVec 32 := 0#32
  let v7 : BitVec 1 := Scalar.cmpi .eq arg1 c0_i32_2
  let v8 : BitVec 1 := Scalar.andi v6 v7
  let v9 : BitVec 32 := Scalar.extui v8
  let c0_i32_3 : BitVec 32 := 0#32
  let v10 : BitVec 1 := Scalar.cmpi .ne v9 c0_i32_3
  v10

@[reducible] def k0_t1_loop : Scf.Loop 32 :=
  let c0_i32_332 : BitVec 32 := 0#32
  let c16_i32 : BitVec 32 := 16#32
  let v640 : BitVec 32 := Scalar.addi c0_i32_332 c16_i32
  let c1_i32_333 : BitVec 32 := 1#32
  ⟨c0_i32_332, v640, c1_i32_333⟩
def k0_mult2 (k0_t1 : Fin k0_t1_loop.trips) : BitVec 32 :=
  let c0_i32_332 : BitVec 32 := 0#32
  let c1_i32_333 : BitVec 32 := 1#32
  let arg11 : BitVec 32 := Scf.iv c0_i32_332 c1_i32_333 k0_t1
  let c256_i32_335 : BitVec 32 := 256#32
  let v642 : BitVec 32 := Scalar.muli arg11 c256_i32_335
  v642
def k0_off1 (k0_t1 : Fin k0_t1_loop.trips) : Fin 2 → Nat :=
  let c0_i32_332 : BitVec 32 := 0#32
  let c1_i32_333 : BitVec 32 := 1#32
  let arg11 : BitVec 32 := Scf.iv c0_i32_332 c1_i32_333 k0_t1
  let c256_i32_335 : BitVec 32 := 256#32
  let v642 : BitVec 32 := Scalar.muli arg11 c256_i32_335
  let v643 : BitVec 32 := v642
  let v644 : Index := Scalar.indexCast v643
  let c0_336 : Index := 0#32
  ![v644.toNat, 0]
def k0_off2 (k0_t1 : Fin k0_t1_loop.trips) : Fin 3 → Nat :=
  let c0_341 : Index := 0#32
  let c0_i32_332 : BitVec 32 := 0#32
  let c1_i32_333 : BitVec 32 := 1#32
  let arg11 : BitVec 32 := Scf.iv c0_i32_332 c1_i32_333 k0_t1
  let c256_i32_335 : BitVec 32 := 256#32
  let v642 : BitVec 32 := Scalar.muli arg11 c256_i32_335
  let v643 : BitVec 32 := v642
  let v664 : Index := Scalar.indexCast v643
  let c0_342 : Index := 0#32
  ![0, v664.toNat, 0]
def k0_off3 (k0_t1 : Fin k0_t1_loop.trips) : Fin 3 → Nat :=
  let c1_343 : Index := 1#32
  let c0_i32_332 : BitVec 32 := 0#32
  let c1_i32_333 : BitVec 32 := 1#32
  let arg11 : BitVec 32 := Scf.iv c0_i32_332 c1_i32_333 k0_t1
  let c256_i32_335 : BitVec 32 := 256#32
  let v642 : BitVec 32 := Scalar.muli arg11 c256_i32_335
  let v643 : BitVec 32 := v642
  let v669 : Index := Scalar.indexCast v643
  let c0_344 : Index := 0#32
  ![1, v669.toNat, 0]
def k0_mult3 (i : grid0.Coords) : BitVec 32 :=
  let arg2 : BitVec 32 := BitVec.ofNat 32 (i 2).val
  let c512_i32 : BitVec 32 := 512#32
  let v0 : BitVec 32 := Scalar.muli arg2 c512_i32
  let v1 : BitVec 32 := v0
  let c256_i32 : BitVec 32 := 256#32
  let v11 : BitVec 32 := Scalar.addi v1 c256_i32
  v11
def k0_off4 (i : grid0.Coords) : Fin 3 → Nat :=
  let arg1 : BitVec 32 := BitVec.ofNat 32 (i 1).val
  let v14 : Index := Scalar.indexCast arg1
  let arg2 : BitVec 32 := BitVec.ofNat 32 (i 2).val
  let c512_i32 : BitVec 32 := 512#32
  let v0 : BitVec 32 := Scalar.muli arg2 c512_i32
  let v1 : BitVec 32 := v0
  let v15 : Index := Scalar.indexCast v1
  let c0_5 : Index := 0#32
  ![v14.toNat, v15.toNat, 0]
def k0_off5 (i : grid0.Coords) : Fin 3 → Nat :=
  let arg1 : BitVec 32 := BitVec.ofNat 32 (i 1).val
  let v18 : Index := Scalar.indexCast arg1
  let arg2 : BitVec 32 := BitVec.ofNat 32 (i 2).val
  let c512_i32 : BitVec 32 := 512#32
  let v0 : BitVec 32 := Scalar.muli arg2 c512_i32
  let v1 : BitVec 32 := v0
  let v19 : Index := Scalar.indexCast v1
  let c0_6 : Index := 0#32
  ![v18.toNat, v19.toNat, 0]
def k0_off6 (i : grid0.Coords) : Fin 2 → Nat :=
  let arg2 : BitVec 32 := BitVec.ofNat 32 (i 2).val
  let c512_i32 : BitVec 32 := 512#32
  let v0 : BitVec 32 := Scalar.muli arg2 c512_i32
  let v1 : BitVec 32 := v0
  let v25 : Index := Scalar.indexCast v1
  let c0_7 : Index := 0#32
  ![v25.toNat, 0]
def k0_off7 (i : grid0.Coords) : Fin 2 → Nat :=
  let arg2 : BitVec 32 := BitVec.ofNat 32 (i 2).val
  let c512_i32 : BitVec 32 := 512#32
  let v0 : BitVec 32 := Scalar.muli arg2 c512_i32
  let v1 : BitVec 32 := v0
  let v58 : Index := Scalar.indexCast v1
  let c128 : Index := 128#32
  ![v58.toNat, 128]
def k0_off8 (i : grid0.Coords) : Fin 2 → Nat :=
  let arg2 : BitVec 32 := BitVec.ofNat 32 (i 2).val
  let c512_i32 : BitVec 32 := 512#32
  let v0 : BitVec 32 := Scalar.muli arg2 c512_i32
  let v1 : BitVec 32 := v0
  let v91 : Index := Scalar.indexCast v1
  let c256 : Index := 256#32
  ![v91.toNat, 256]
def k0_off9 (i : grid0.Coords) : Fin 2 → Nat :=
  let arg2 : BitVec 32 := BitVec.ofNat 32 (i 2).val
  let c512_i32 : BitVec 32 := 512#32
  let v0 : BitVec 32 := Scalar.muli arg2 c512_i32
  let v1 : BitVec 32 := v0
  let v124 : Index := Scalar.indexCast v1
  let c384 : Index := 384#32
  ![v124.toNat, 384]
def k0_off10 (i : grid0.Coords) : Fin 3 → Nat :=
  let arg1 : BitVec 32 := BitVec.ofNat 32 (i 1).val
  let v150 : Index := Scalar.indexCast arg1
  let arg2 : BitVec 32 := BitVec.ofNat 32 (i 2).val
  let c512_i32 : BitVec 32 := 512#32
  let v0 : BitVec 32 := Scalar.muli arg2 c512_i32
  let v1 : BitVec 32 := v0
  let c256_i32 : BitVec 32 := 256#32
  let v11 : BitVec 32 := Scalar.addi v1 c256_i32
  let v12 : BitVec 32 := v11
  let v151 : Index := Scalar.indexCast v12
  let c0_52 : Index := 0#32
  ![v150.toNat, v151.toNat, 0]
def k0_off11 (i : grid0.Coords) : Fin 2 → Nat :=
  let arg2 : BitVec 32 := BitVec.ofNat 32 (i 2).val
  let c512_i32 : BitVec 32 := 512#32
  let v0 : BitVec 32 := Scalar.muli arg2 c512_i32
  let v1 : BitVec 32 := v0
  let c256_i32 : BitVec 32 := 256#32
  let v11 : BitVec 32 := Scalar.addi v1 c256_i32
  let v12 : BitVec 32 := v11
  let v157 : Index := Scalar.indexCast v12
  let c0_53 : Index := 0#32
  ![v157.toNat, 0]
def k0_off12 (i : grid0.Coords) : Fin 2 → Nat :=
  let arg2 : BitVec 32 := BitVec.ofNat 32 (i 2).val
  let c512_i32 : BitVec 32 := 512#32
  let v0 : BitVec 32 := Scalar.muli arg2 c512_i32
  let v1 : BitVec 32 := v0
  let c256_i32 : BitVec 32 := 256#32
  let v11 : BitVec 32 := Scalar.addi v1 c256_i32
  let v12 : BitVec 32 := v11
  let v190 : Index := Scalar.indexCast v12
  let c128_66 : Index := 128#32
  ![v190.toNat, 128]
def k0_off13 (i : grid0.Coords) : Fin 2 → Nat :=
  let arg2 : BitVec 32 := BitVec.ofNat 32 (i 2).val
  let c512_i32 : BitVec 32 := 512#32
  let v0 : BitVec 32 := Scalar.muli arg2 c512_i32
  let v1 : BitVec 32 := v0
  let c256_i32 : BitVec 32 := 256#32
  let v11 : BitVec 32 := Scalar.addi v1 c256_i32
  let v12 : BitVec 32 := v11
  let v223 : Index := Scalar.indexCast v12
  let c256_79 : Index := 256#32
  ![v223.toNat, 256]
def k0_off14 (i : grid0.Coords) : Fin 2 → Nat :=
  let arg2 : BitVec 32 := BitVec.ofNat 32 (i 2).val
  let c512_i32 : BitVec 32 := 512#32
  let v0 : BitVec 32 := Scalar.muli arg2 c512_i32
  let v1 : BitVec 32 := v0
  let c256_i32 : BitVec 32 := 256#32
  let v11 : BitVec 32 := Scalar.addi v1 c256_i32
  let v12 : BitVec 32 := v11
  let v256 : Index := Scalar.indexCast v12
  let c384_92 : Index := 384#32
  ![v256.toNat, 384]
def k0_off15 (i : grid0.Coords) : Fin 4 → Nat :=
  let c0_110 : Index := 0#32
  let c0_111 : Index := 0#32
  let c0_112 : Index := 0#32
  let arg2 : BitVec 32 := BitVec.ofNat 32 (i 2).val
  let c512_i32 : BitVec 32 := 512#32
  let v0 : BitVec 32 := Scalar.muli arg2 c512_i32
  let v1 : BitVec 32 := v0
  let v291 : Index := Scalar.indexCast v1
  ![0, 0, 0, v291.toNat]
def k0_off16 (i : grid0.Coords) : Fin 4 → Nat :=
  let c0_124 : Index := 0#32
  let c1_125 : Index := 1#32
  let c0_126 : Index := 0#32
  let arg2 : BitVec 32 := BitVec.ofNat 32 (i 2).val
  let c512_i32 : BitVec 32 := 512#32
  let v0 : BitVec 32 := Scalar.muli arg2 c512_i32
  let v1 : BitVec 32 := v0
  let v312 : Index := Scalar.indexCast v1
  ![0, 1, 0, v312.toNat]
def k0_off17 (i : grid0.Coords) : Fin 4 → Nat :=
  let c0_138 : Index := 0#32
  let c2_139 : Index := 2#32
  let c0_140 : Index := 0#32
  let arg2 : BitVec 32 := BitVec.ofNat 32 (i 2).val
  let c512_i32 : BitVec 32 := 512#32
  let v0 : BitVec 32 := Scalar.muli arg2 c512_i32
  let v1 : BitVec 32 := v0
  let v333 : Index := Scalar.indexCast v1
  ![0, 2, 0, v333.toNat]
def k0_off18 (i : grid0.Coords) : Fin 4 → Nat :=
  let c0_152 : Index := 0#32
  let c3_153 : Index := 3#32
  let c0_154 : Index := 0#32
  let arg2 : BitVec 32 := BitVec.ofNat 32 (i 2).val
  let c512_i32 : BitVec 32 := 512#32
  let v0 : BitVec 32 := Scalar.muli arg2 c512_i32
  let v1 : BitVec 32 := v0
  let v354 : Index := Scalar.indexCast v1
  ![0, 3, 0, v354.toNat]
def k0_off19 (i : grid0.Coords) : Fin 3 → Nat :=
  let arg1 : BitVec 32 := BitVec.ofNat 32 (i 1).val
  let v366 : Index := Scalar.indexCast arg1
  let c0_160 : Index := 0#32
  let c0_161 : Index := 0#32
  ![v366.toNat, 0, 0]
def k0_off20 (i : grid0.Coords) : Fin 4 → Nat :=
  let c0_218 : Index := 0#32
  let c0_219 : Index := 0#32
  let c0_220 : Index := 0#32
  let arg2 : BitVec 32 := BitVec.ofNat 32 (i 2).val
  let c512_i32 : BitVec 32 := 512#32
  let v0 : BitVec 32 := Scalar.muli arg2 c512_i32
  let v1 : BitVec 32 := v0
  let c256_i32 : BitVec 32 := 256#32
  let v11 : BitVec 32 := Scalar.addi v1 c256_i32
  let v12 : BitVec 32 := v11
  let v463 : Index := Scalar.indexCast v12
  ![0, 0, 0, v463.toNat]
def k0_off21 (i : grid0.Coords) : Fin 4 → Nat :=
  let c0_232 : Index := 0#32
  let c1_233 : Index := 1#32
  let c0_234 : Index := 0#32
  let arg2 : BitVec 32 := BitVec.ofNat 32 (i 2).val
  let c512_i32 : BitVec 32 := 512#32
  let v0 : BitVec 32 := Scalar.muli arg2 c512_i32
  let v1 : BitVec 32 := v0
  let c256_i32 : BitVec 32 := 256#32
  let v11 : BitVec 32 := Scalar.addi v1 c256_i32
  let v12 : BitVec 32 := v11
  let v484 : Index := Scalar.indexCast v12
  ![0, 1, 0, v484.toNat]
def k0_off22 (i : grid0.Coords) : Fin 4 → Nat :=
  let c0_246 : Index := 0#32
  let c2_247 : Index := 2#32
  let c0_248 : Index := 0#32
  let arg2 : BitVec 32 := BitVec.ofNat 32 (i 2).val
  let c512_i32 : BitVec 32 := 512#32
  let v0 : BitVec 32 := Scalar.muli arg2 c512_i32
  let v1 : BitVec 32 := v0
  let c256_i32 : BitVec 32 := 256#32
  let v11 : BitVec 32 := Scalar.addi v1 c256_i32
  let v12 : BitVec 32 := v11
  let v505 : Index := Scalar.indexCast v12
  ![0, 2, 0, v505.toNat]
def k0_off23 (i : grid0.Coords) : Fin 4 → Nat :=
  let c0_260 : Index := 0#32
  let c3_261 : Index := 3#32
  let c0_262 : Index := 0#32
  let arg2 : BitVec 32 := BitVec.ofNat 32 (i 2).val
  let c512_i32 : BitVec 32 := 512#32
  let v0 : BitVec 32 := Scalar.muli arg2 c512_i32
  let v1 : BitVec 32 := v0
  let c256_i32 : BitVec 32 := 256#32
  let v11 : BitVec 32 := Scalar.addi v1 c256_i32
  let v12 : BitVec 32 := v11
  let v526 : Index := Scalar.indexCast v12
  ![0, 3, 0, v526.toNat]
@[reducible] def k0_t2_loop (i : grid0.Coords) : Scf.Loop 32 :=
  let c0_i32_269 : BitVec 32 := 0#32
  let arg2 : BitVec 32 := BitVec.ofNat 32 (i 2).val
  let v537 : BitVec 32 := Scalar.subi arg2 c0_i32_269
  let c1_i32_270 : BitVec 32 := 1#32
  let v539 : BitVec 32 := Scalar.divsi v537 c1_i32_270
  let v540 : BitVec 32 := Scalar.muli v539 c1_i32_270
  let v541 : BitVec 32 := Scalar.addi c0_i32_269 v540
  let c1_i32_271 : BitVec 32 := 1#32
  ⟨c0_i32_269, v541, c1_i32_271⟩
def k0_mult4 (i : grid0.Coords) (k0_t2 : Fin (k0_t2_loop i).trips) : BitVec 32 :=
  let c0_i32_269 : BitVec 32 := 0#32
  let c1_i32_271 : BitVec 32 := 1#32
  let arg11 : BitVec 32 := Scf.iv c0_i32_269 c1_i32_271 k0_t2
  let c512_i32_329 : BitVec 32 := 512#32
  let v632 : BitVec 32 := Scalar.muli arg11 c512_i32_329
  v632
def k0_mult5 (i : grid0.Coords) (k0_t2 : Fin (k0_t2_loop i).trips) : BitVec 32 :=
  let c0_i32_269 : BitVec 32 := 0#32
  let c1_i32_271 : BitVec 32 := 1#32
  let arg11 : BitVec 32 := Scf.iv c0_i32_269 c1_i32_271 k0_t2
  let c512_i32_329 : BitVec 32 := 512#32
  let v632 : BitVec 32 := Scalar.muli arg11 c512_i32_329
  let v633 : BitVec 32 := v632
  let c256_i32_330 : BitVec 32 := 256#32
  let v634 : BitVec 32 := Scalar.addi v633 c256_i32_330
  v634
def k0_mult6 (i : grid0.Coords) (k0_t2 : Fin (k0_t2_loop i).trips) : BitVec 32 :=
  let c0_i32_269 : BitVec 32 := 0#32
  let c1_i32_271 : BitVec 32 := 1#32
  let arg11 : BitVec 32 := Scf.iv c0_i32_269 c1_i32_271 k0_t2
  let c512_i32_329 : BitVec 32 := 512#32
  let v632 : BitVec 32 := Scalar.muli arg11 c512_i32_329
  let v633 : BitVec 32 := v632
  let c512_i32_331 : BitVec 32 := 512#32
  let v636 : BitVec 32 := Scalar.addi v633 c512_i32_331
  let arg2 : BitVec 32 := BitVec.ofNat 32 (i 2).val
  let c1_i32 : BitVec 32 := 1#32
  let v534 : BitVec 32 := Scalar.subi arg2 c1_i32
  let c0_i32_267 : BitVec 32 := 0#32
  let v535 : BitVec 32 := Scalar.maxsi v534 c0_i32_267
  let c512_i32_268 : BitVec 32 := 512#32
  let v536 : BitVec 32 := Scalar.muli v535 c512_i32_268
  let v637 : BitVec 32 := Scalar.minsi v636 v536
  v637
def k0_off24 (i : grid0.Coords) : Fin 3 → Nat :=
  let arg1 : BitVec 32 := BitVec.ofNat 32 (i 1).val
  let v639 : Index := Scalar.indexCast arg1
  let arg2 : BitVec 32 := BitVec.ofNat 32 (i 2).val
  let c512_i32 : BitVec 32 := 512#32
  let v0 : BitVec 32 := Scalar.muli arg2 c512_i32
  let v1 : BitVec 32 := v0
  let v640 : Index := Scalar.indexCast v1
  let c0_332 : Index := 0#32
  ![v639.toNat, v640.toNat, 0]
def k0_off25 (i : grid0.Coords) (k0_t2 : Fin (k0_t2_loop i).trips) : Fin 3 → Nat :=
  let arg1 : BitVec 32 := BitVec.ofNat 32 (i 1).val
  let v643 : Index := Scalar.indexCast arg1
  let c0_i32_269 : BitVec 32 := 0#32
  let c1_i32_271 : BitVec 32 := 1#32
  let arg11 : BitVec 32 := Scf.iv c0_i32_269 c1_i32_271 k0_t2
  let c512_i32_329 : BitVec 32 := 512#32
  let v632 : BitVec 32 := Scalar.muli arg11 c512_i32_329
  let v633 : BitVec 32 := v632
  let c256_i32_330 : BitVec 32 := 256#32
  let v634 : BitVec 32 := Scalar.addi v633 c256_i32_330
  let v635 : BitVec 32 := v634
  let v644 : Index := Scalar.indexCast v635
  let c0_333 : Index := 0#32
  ![v643.toNat, v644.toNat, 0]
def k0_off26 (i : grid0.Coords) (k0_t2 : Fin (k0_t2_loop i).trips) : Fin 2 → Nat :=
  let c0_i32_269 : BitVec 32 := 0#32
  let c1_i32_271 : BitVec 32 := 1#32
  let arg11 : BitVec 32 := Scf.iv c0_i32_269 c1_i32_271 k0_t2
  let c512_i32_329 : BitVec 32 := 512#32
  let v632 : BitVec 32 := Scalar.muli arg11 c512_i32_329
  let v633 : BitVec 32 := v632
  let c256_i32_330 : BitVec 32 := 256#32
  let v634 : BitVec 32 := Scalar.addi v633 c256_i32_330
  let v635 : BitVec 32 := v634
  let v650 : Index := Scalar.indexCast v635
  let c0_334 : Index := 0#32
  ![v650.toNat, 0]
def k0_off27 (i : grid0.Coords) (k0_t2 : Fin (k0_t2_loop i).trips) : Fin 2 → Nat :=
  let c0_i32_269 : BitVec 32 := 0#32
  let c1_i32_271 : BitVec 32 := 1#32
  let arg11 : BitVec 32 := Scf.iv c0_i32_269 c1_i32_271 k0_t2
  let c512_i32_329 : BitVec 32 := 512#32
  let v632 : BitVec 32 := Scalar.muli arg11 c512_i32_329
  let v633 : BitVec 32 := v632
  let c256_i32_330 : BitVec 32 := 256#32
  let v634 : BitVec 32 := Scalar.addi v633 c256_i32_330
  let v635 : BitVec 32 := v634
  let v674 : Index := Scalar.indexCast v635
  let c128_345 : Index := 128#32
  ![v674.toNat, 128]
def k0_off28 (i : grid0.Coords) (k0_t2 : Fin (k0_t2_loop i).trips) : Fin 2 → Nat :=
  let c0_i32_269 : BitVec 32 := 0#32
  let c1_i32_271 : BitVec 32 := 1#32
  let arg11 : BitVec 32 := Scf.iv c0_i32_269 c1_i32_271 k0_t2
  let c512_i32_329 : BitVec 32 := 512#32
  let v632 : BitVec 32 := Scalar.muli arg11 c512_i32_329
  let v633 : BitVec 32 := v632
  let c256_i32_330 : BitVec 32 := 256#32
  let v634 : BitVec 32 := Scalar.addi v633 c256_i32_330
  let v635 : BitVec 32 := v634
  let v698 : Index := Scalar.indexCast v635
  let c256_356 : Index := 256#32
  ![v698.toNat, 256]
def k0_off29 (i : grid0.Coords) (k0_t2 : Fin (k0_t2_loop i).trips) : Fin 2 → Nat :=
  let c0_i32_269 : BitVec 32 := 0#32
  let c1_i32_271 : BitVec 32 := 1#32
  let arg11 : BitVec 32 := Scf.iv c0_i32_269 c1_i32_271 k0_t2
  let c512_i32_329 : BitVec 32 := 512#32
  let v632 : BitVec 32 := Scalar.muli arg11 c512_i32_329
  let v633 : BitVec 32 := v632
  let c256_i32_330 : BitVec 32 := 256#32
  let v634 : BitVec 32 := Scalar.addi v633 c256_i32_330
  let v635 : BitVec 32 := v634
  let v722 : Index := Scalar.indexCast v635
  let c384_367 : Index := 384#32
  ![v722.toNat, 384]
def k0_off30 (i : grid0.Coords) (k0_t2 : Fin (k0_t2_loop i).trips) : Fin 4 → Nat :=
  let c0_383 : Index := 0#32
  let c0_384 : Index := 0#32
  let c0_385 : Index := 0#32
  let c0_i32_269 : BitVec 32 := 0#32
  let c1_i32_271 : BitVec 32 := 1#32
  let arg11 : BitVec 32 := Scf.iv c0_i32_269 c1_i32_271 k0_t2
  let c512_i32_329 : BitVec 32 := 512#32
  let v632 : BitVec 32 := Scalar.muli arg11 c512_i32_329
  let v633 : BitVec 32 := v632
  let v748 : Index := Scalar.indexCast v633
  ![0, 0, 0, v748.toNat]
def k0_off31 (i : grid0.Coords) (k0_t2 : Fin (k0_t2_loop i).trips) : Fin 4 → Nat :=
  let c0_397 : Index := 0#32
  let c1_398 : Index := 1#32
  let c0_399 : Index := 0#32
  let c0_i32_269 : BitVec 32 := 0#32
  let c1_i32_271 : BitVec 32 := 1#32
  let arg11 : BitVec 32 := Scf.iv c0_i32_269 c1_i32_271 k0_t2
  let c512_i32_329 : BitVec 32 := 512#32
  let v632 : BitVec 32 := Scalar.muli arg11 c512_i32_329
  let v633 : BitVec 32 := v632
  let v769 : Index := Scalar.indexCast v633
  ![0, 1, 0, v769.toNat]
def k0_off32 (i : grid0.Coords) (k0_t2 : Fin (k0_t2_loop i).trips) : Fin 4 → Nat :=
  let c0_411 : Index := 0#32
  let c2_412 : Index := 2#32
  let c0_413 : Index := 0#32
  let c0_i32_269 : BitVec 32 := 0#32
  let c1_i32_271 : BitVec 32 := 1#32
  let arg11 : BitVec 32 := Scf.iv c0_i32_269 c1_i32_271 k0_t2
  let c512_i32_329 : BitVec 32 := 512#32
  let v632 : BitVec 32 := Scalar.muli arg11 c512_i32_329
  let v633 : BitVec 32 := v632
  let v790 : Index := Scalar.indexCast v633
  ![0, 2, 0, v790.toNat]
def k0_off33 (i : grid0.Coords) (k0_t2 : Fin (k0_t2_loop i).trips) : Fin 4 → Nat :=
  let c0_425 : Index := 0#32
  let c3_426 : Index := 3#32
  let c0_427 : Index := 0#32
  let c0_i32_269 : BitVec 32 := 0#32
  let c1_i32_271 : BitVec 32 := 1#32
  let arg11 : BitVec 32 := Scf.iv c0_i32_269 c1_i32_271 k0_t2
  let c512_i32_329 : BitVec 32 := 512#32
  let v632 : BitVec 32 := Scalar.muli arg11 c512_i32_329
  let v633 : BitVec 32 := v632
  let v811 : Index := Scalar.indexCast v633
  ![0, 3, 0, v811.toNat]
def k0_off34 (i : grid0.Coords) (k0_t2 : Fin (k0_t2_loop i).trips) : Fin 3 → Nat :=
  let arg1 : BitVec 32 := BitVec.ofNat 32 (i 1).val
  let v823 : Index := Scalar.indexCast arg1
  let c0_i32_269 : BitVec 32 := 0#32
  let c1_i32_271 : BitVec 32 := 1#32
  let arg11 : BitVec 32 := Scf.iv c0_i32_269 c1_i32_271 k0_t2
  let c512_i32_329 : BitVec 32 := 512#32
  let v632 : BitVec 32 := Scalar.muli arg11 c512_i32_329
  let v633 : BitVec 32 := v632
  let c512_i32_331 : BitVec 32 := 512#32
  let v636 : BitVec 32 := Scalar.addi v633 c512_i32_331
  let arg2 : BitVec 32 := BitVec.ofNat 32 (i 2).val
  let c1_i32 : BitVec 32 := 1#32
  let v534 : BitVec 32 := Scalar.subi arg2 c1_i32
  let c0_i32_267 : BitVec 32 := 0#32
  let v535 : BitVec 32 := Scalar.maxsi v534 c0_i32_267
  let c512_i32_268 : BitVec 32 := 512#32
  let v536 : BitVec 32 := Scalar.muli v535 c512_i32_268
  let v637 : BitVec 32 := Scalar.minsi v636 v536
  let v638 : BitVec 32 := v637
  let v824 : Index := Scalar.indexCast v638
  let c0_433 : Index := 0#32
  ![v823.toNat, v824.toNat, 0]
def k0_off35 (i : grid0.Coords) (k0_t2 : Fin (k0_t2_loop i).trips) : Fin 2 → Nat :=
  let c0_i32_269 : BitVec 32 := 0#32
  let c1_i32_271 : BitVec 32 := 1#32
  let arg11 : BitVec 32 := Scf.iv c0_i32_269 c1_i32_271 k0_t2
  let c512_i32_329 : BitVec 32 := 512#32
  let v632 : BitVec 32 := Scalar.muli arg11 c512_i32_329
  let v633 : BitVec 32 := v632
  let c512_i32_331 : BitVec 32 := 512#32
  let v636 : BitVec 32 := Scalar.addi v633 c512_i32_331
  let arg2 : BitVec 32 := BitVec.ofNat 32 (i 2).val
  let c1_i32 : BitVec 32 := 1#32
  let v534 : BitVec 32 := Scalar.subi arg2 c1_i32
  let c0_i32_267 : BitVec 32 := 0#32
  let v535 : BitVec 32 := Scalar.maxsi v534 c0_i32_267
  let c512_i32_268 : BitVec 32 := 512#32
  let v536 : BitVec 32 := Scalar.muli v535 c512_i32_268
  let v637 : BitVec 32 := Scalar.minsi v636 v536
  let v638 : BitVec 32 := v637
  let v830 : Index := Scalar.indexCast v638
  let c0_434 : Index := 0#32
  ![v830.toNat, 0]
def k0_off36 (i : grid0.Coords) (k0_t2 : Fin (k0_t2_loop i).trips) : Fin 2 → Nat :=
  let c0_i32_269 : BitVec 32 := 0#32
  let c1_i32_271 : BitVec 32 := 1#32
  let arg11 : BitVec 32 := Scf.iv c0_i32_269 c1_i32_271 k0_t2
  let c512_i32_329 : BitVec 32 := 512#32
  let v632 : BitVec 32 := Scalar.muli arg11 c512_i32_329
  let v633 : BitVec 32 := v632
  let c512_i32_331 : BitVec 32 := 512#32
  let v636 : BitVec 32 := Scalar.addi v633 c512_i32_331
  let arg2 : BitVec 32 := BitVec.ofNat 32 (i 2).val
  let c1_i32 : BitVec 32 := 1#32
  let v534 : BitVec 32 := Scalar.subi arg2 c1_i32
  let c0_i32_267 : BitVec 32 := 0#32
  let v535 : BitVec 32 := Scalar.maxsi v534 c0_i32_267
  let c512_i32_268 : BitVec 32 := 512#32
  let v536 : BitVec 32 := Scalar.muli v535 c512_i32_268
  let v637 : BitVec 32 := Scalar.minsi v636 v536
  let v638 : BitVec 32 := v637
  let v854 : Index := Scalar.indexCast v638
  let c128_445 : Index := 128#32
  ![v854.toNat, 128]
def k0_off37 (i : grid0.Coords) (k0_t2 : Fin (k0_t2_loop i).trips) : Fin 2 → Nat :=
  let c0_i32_269 : BitVec 32 := 0#32
  let c1_i32_271 : BitVec 32 := 1#32
  let arg11 : BitVec 32 := Scf.iv c0_i32_269 c1_i32_271 k0_t2
  let c512_i32_329 : BitVec 32 := 512#32
  let v632 : BitVec 32 := Scalar.muli arg11 c512_i32_329
  let v633 : BitVec 32 := v632
  let c512_i32_331 : BitVec 32 := 512#32
  let v636 : BitVec 32 := Scalar.addi v633 c512_i32_331
  let arg2 : BitVec 32 := BitVec.ofNat 32 (i 2).val
  let c1_i32 : BitVec 32 := 1#32
  let v534 : BitVec 32 := Scalar.subi arg2 c1_i32
  let c0_i32_267 : BitVec 32 := 0#32
  let v535 : BitVec 32 := Scalar.maxsi v534 c0_i32_267
  let c512_i32_268 : BitVec 32 := 512#32
  let v536 : BitVec 32 := Scalar.muli v535 c512_i32_268
  let v637 : BitVec 32 := Scalar.minsi v636 v536
  let v638 : BitVec 32 := v637
  let v878 : Index := Scalar.indexCast v638
  let c256_456 : Index := 256#32
  ![v878.toNat, 256]
def k0_off38 (i : grid0.Coords) (k0_t2 : Fin (k0_t2_loop i).trips) : Fin 2 → Nat :=
  let c0_i32_269 : BitVec 32 := 0#32
  let c1_i32_271 : BitVec 32 := 1#32
  let arg11 : BitVec 32 := Scf.iv c0_i32_269 c1_i32_271 k0_t2
  let c512_i32_329 : BitVec 32 := 512#32
  let v632 : BitVec 32 := Scalar.muli arg11 c512_i32_329
  let v633 : BitVec 32 := v632
  let c512_i32_331 : BitVec 32 := 512#32
  let v636 : BitVec 32 := Scalar.addi v633 c512_i32_331
  let arg2 : BitVec 32 := BitVec.ofNat 32 (i 2).val
  let c1_i32 : BitVec 32 := 1#32
  let v534 : BitVec 32 := Scalar.subi arg2 c1_i32
  let c0_i32_267 : BitVec 32 := 0#32
  let v535 : BitVec 32 := Scalar.maxsi v534 c0_i32_267
  let c512_i32_268 : BitVec 32 := 512#32
  let v536 : BitVec 32 := Scalar.muli v535 c512_i32_268
  let v637 : BitVec 32 := Scalar.minsi v636 v536
  let v638 : BitVec 32 := v637
  let v902 : Index := Scalar.indexCast v638
  let c384_467 : Index := 384#32
  ![v902.toNat, 384]
def k0_off39 (i : grid0.Coords) (k0_t2 : Fin (k0_t2_loop i).trips) : Fin 4 → Nat :=
  let c0_483 : Index := 0#32
  let c0_484 : Index := 0#32
  let c0_485 : Index := 0#32
  let c0_i32_269 : BitVec 32 := 0#32
  let c1_i32_271 : BitVec 32 := 1#32
  let arg11 : BitVec 32 := Scf.iv c0_i32_269 c1_i32_271 k0_t2
  let c512_i32_329 : BitVec 32 := 512#32
  let v632 : BitVec 32 := Scalar.muli arg11 c512_i32_329
  let v633 : BitVec 32 := v632
  let c256_i32_330 : BitVec 32 := 256#32
  let v634 : BitVec 32 := Scalar.addi v633 c256_i32_330
  let v635 : BitVec 32 := v634
  let v928 : Index := Scalar.indexCast v635
  ![0, 0, 0, v928.toNat]
def k0_off40 (i : grid0.Coords) (k0_t2 : Fin (k0_t2_loop i).trips) : Fin 4 → Nat :=
  let c0_497 : Index := 0#32
  let c1_498 : Index := 1#32
  let c0_499 : Index := 0#32
  let c0_i32_269 : BitVec 32 := 0#32
  let c1_i32_271 : BitVec 32 := 1#32
  let arg11 : BitVec 32 := Scf.iv c0_i32_269 c1_i32_271 k0_t2
  let c512_i32_329 : BitVec 32 := 512#32
  let v632 : BitVec 32 := Scalar.muli arg11 c512_i32_329
  let v633 : BitVec 32 := v632
  let c256_i32_330 : BitVec 32 := 256#32
  let v634 : BitVec 32 := Scalar.addi v633 c256_i32_330
  let v635 : BitVec 32 := v634
  let v949 : Index := Scalar.indexCast v635
  ![0, 1, 0, v949.toNat]
def k0_off41 (i : grid0.Coords) (k0_t2 : Fin (k0_t2_loop i).trips) : Fin 4 → Nat :=
  let c0_511 : Index := 0#32
  let c2_512 : Index := 2#32
  let c0_513 : Index := 0#32
  let c0_i32_269 : BitVec 32 := 0#32
  let c1_i32_271 : BitVec 32 := 1#32
  let arg11 : BitVec 32 := Scf.iv c0_i32_269 c1_i32_271 k0_t2
  let c512_i32_329 : BitVec 32 := 512#32
  let v632 : BitVec 32 := Scalar.muli arg11 c512_i32_329
  let v633 : BitVec 32 := v632
  let c256_i32_330 : BitVec 32 := 256#32
  let v634 : BitVec 32 := Scalar.addi v633 c256_i32_330
  let v635 : BitVec 32 := v634
  let v970 : Index := Scalar.indexCast v635
  ![0, 2, 0, v970.toNat]
def k0_off42 (i : grid0.Coords) (k0_t2 : Fin (k0_t2_loop i).trips) : Fin 4 → Nat :=
  let c0_525 : Index := 0#32
  let c3_526 : Index := 3#32
  let c0_527 : Index := 0#32
  let c0_i32_269 : BitVec 32 := 0#32
  let c1_i32_271 : BitVec 32 := 1#32
  let arg11 : BitVec 32 := Scf.iv c0_i32_269 c1_i32_271 k0_t2
  let c512_i32_329 : BitVec 32 := 512#32
  let v632 : BitVec 32 := Scalar.muli arg11 c512_i32_329
  let v633 : BitVec 32 := v632
  let c256_i32_330 : BitVec 32 := 256#32
  let v634 : BitVec 32 := Scalar.addi v633 c256_i32_330
  let v635 : BitVec 32 := v634
  let v991 : Index := Scalar.indexCast v635
  ![0, 3, 0, v991.toNat]
@[reducible] def k0_t3_loop (i : grid0.Coords) : Scf.Loop 32 :=
  let c0_i32_269 : BitVec 32 := 0#32
  let arg2 : BitVec 32 := BitVec.ofNat 32 (i 2).val
  let v537 : BitVec 32 := Scalar.subi arg2 c0_i32_269
  let c1_i32_270 : BitVec 32 := 1#32
  let v539 : BitVec 32 := Scalar.divsi v537 c1_i32_270
  let v540 : BitVec 32 := Scalar.muli v539 c1_i32_270
  let v541 : BitVec 32 := Scalar.addi c0_i32_269 v540
  let v538 : BitVec 32 := Scalar.addi c0_i32_269 v537
  let c1_i32_272 : BitVec 32 := 1#32
  ⟨v541, v538, c1_i32_272⟩
def k0_mult7 (i : grid0.Coords) (k0_t3 : Fin (k0_t3_loop i).trips) : BitVec 32 :=
  let c0_i32_269 : BitVec 32 := 0#32
  let arg2 : BitVec 32 := BitVec.ofNat 32 (i 2).val
  let v537 : BitVec 32 := Scalar.subi arg2 c0_i32_269
  let c1_i32_270 : BitVec 32 := 1#32
  let v539 : BitVec 32 := Scalar.divsi v537 c1_i32_270
  let v540 : BitVec 32 := Scalar.muli v539 c1_i32_270
  let v541 : BitVec 32 := Scalar.addi c0_i32_269 v540
  let c1_i32_272 : BitVec 32 := 1#32
  let arg11 : BitVec 32 := Scf.iv v541 c1_i32_272 k0_t3
  let c512_i32_329 : BitVec 32 := 512#32
  let v632 : BitVec 32 := Scalar.muli arg11 c512_i32_329
  v632
def k0_mult8 (i : grid0.Coords) (k0_t3 : Fin (k0_t3_loop i).trips) : BitVec 32 :=
  let c0_i32_269 : BitVec 32 := 0#32
  let arg2 : BitVec 32 := BitVec.ofNat 32 (i 2).val
  let v537 : BitVec 32 := Scalar.subi arg2 c0_i32_269
  let c1_i32_270 : BitVec 32 := 1#32
  let v539 : BitVec 32 := Scalar.divsi v537 c1_i32_270
  let v540 : BitVec 32 := Scalar.muli v539 c1_i32_270
  let v541 : BitVec 32 := Scalar.addi c0_i32_269 v540
  let c1_i32_272 : BitVec 32 := 1#32
  let arg11 : BitVec 32 := Scf.iv v541 c1_i32_272 k0_t3
  let c512_i32_329 : BitVec 32 := 512#32
  let v632 : BitVec 32 := Scalar.muli arg11 c512_i32_329
  let v633 : BitVec 32 := v632
  let c256_i32_330 : BitVec 32 := 256#32
  let v634 : BitVec 32 := Scalar.addi v633 c256_i32_330
  v634
def k0_mult9 (i : grid0.Coords) (k0_t3 : Fin (k0_t3_loop i).trips) : BitVec 32 :=
  let c0_i32_269 : BitVec 32 := 0#32
  let arg2 : BitVec 32 := BitVec.ofNat 32 (i 2).val
  let v537 : BitVec 32 := Scalar.subi arg2 c0_i32_269
  let c1_i32_270 : BitVec 32 := 1#32
  let v539 : BitVec 32 := Scalar.divsi v537 c1_i32_270
  let v540 : BitVec 32 := Scalar.muli v539 c1_i32_270
  let v541 : BitVec 32 := Scalar.addi c0_i32_269 v540
  let c1_i32_272 : BitVec 32 := 1#32
  let arg11 : BitVec 32 := Scf.iv v541 c1_i32_272 k0_t3
  let c512_i32_329 : BitVec 32 := 512#32
  let v632 : BitVec 32 := Scalar.muli arg11 c512_i32_329
  let v633 : BitVec 32 := v632
  let c512_i32_331 : BitVec 32 := 512#32
  let v636 : BitVec 32 := Scalar.addi v633 c512_i32_331
  let c1_i32 : BitVec 32 := 1#32
  let v534 : BitVec 32 := Scalar.subi arg2 c1_i32
  let c0_i32_267 : BitVec 32 := 0#32
  let v535 : BitVec 32 := Scalar.maxsi v534 c0_i32_267
  let c512_i32_268 : BitVec 32 := 512#32
  let v536 : BitVec 32 := Scalar.muli v535 c512_i32_268
  let v637 : BitVec 32 := Scalar.minsi v636 v536
  v637
def k0_off43 (i : grid0.Coords) : Fin 3 → Nat :=
  let arg1 : BitVec 32 := BitVec.ofNat 32 (i 1).val
  let v639 : Index := Scalar.indexCast arg1
  let arg2 : BitVec 32 := BitVec.ofNat 32 (i 2).val
  let c512_i32 : BitVec 32 := 512#32
  let v0 : BitVec 32 := Scalar.muli arg2 c512_i32
  let v1 : BitVec 32 := v0
  let v640 : Index := Scalar.indexCast v1
  let c0_332 : Index := 0#32
  ![v639.toNat, v640.toNat, 0]
def k0_off44 (i : grid0.Coords) (k0_t3 : Fin (k0_t3_loop i).trips) : Fin 3 → Nat :=
  let arg1 : BitVec 32 := BitVec.ofNat 32 (i 1).val
  let v643 : Index := Scalar.indexCast arg1
  let c0_i32_269 : BitVec 32 := 0#32
  let arg2 : BitVec 32 := BitVec.ofNat 32 (i 2).val
  let v537 : BitVec 32 := Scalar.subi arg2 c0_i32_269
  let c1_i32_270 : BitVec 32 := 1#32
  let v539 : BitVec 32 := Scalar.divsi v537 c1_i32_270
  let v540 : BitVec 32 := Scalar.muli v539 c1_i32_270
  let v541 : BitVec 32 := Scalar.addi c0_i32_269 v540
  let c1_i32_272 : BitVec 32 := 1#32
  let arg11 : BitVec 32 := Scf.iv v541 c1_i32_272 k0_t3
  let c512_i32_329 : BitVec 32 := 512#32
  let v632 : BitVec 32 := Scalar.muli arg11 c512_i32_329
  let v633 : BitVec 32 := v632
  let c256_i32_330 : BitVec 32 := 256#32
  let v634 : BitVec 32 := Scalar.addi v633 c256_i32_330
  let v635 : BitVec 32 := v634
  let v644 : Index := Scalar.indexCast v635
  let c0_333 : Index := 0#32
  ![v643.toNat, v644.toNat, 0]
def k0_off45 (i : grid0.Coords) (k0_t3 : Fin (k0_t3_loop i).trips) : Fin 2 → Nat :=
  let c0_i32_269 : BitVec 32 := 0#32
  let arg2 : BitVec 32 := BitVec.ofNat 32 (i 2).val
  let v537 : BitVec 32 := Scalar.subi arg2 c0_i32_269
  let c1_i32_270 : BitVec 32 := 1#32
  let v539 : BitVec 32 := Scalar.divsi v537 c1_i32_270
  let v540 : BitVec 32 := Scalar.muli v539 c1_i32_270
  let v541 : BitVec 32 := Scalar.addi c0_i32_269 v540
  let c1_i32_272 : BitVec 32 := 1#32
  let arg11 : BitVec 32 := Scf.iv v541 c1_i32_272 k0_t3
  let c512_i32_329 : BitVec 32 := 512#32
  let v632 : BitVec 32 := Scalar.muli arg11 c512_i32_329
  let v633 : BitVec 32 := v632
  let c256_i32_330 : BitVec 32 := 256#32
  let v634 : BitVec 32 := Scalar.addi v633 c256_i32_330
  let v635 : BitVec 32 := v634
  let v650 : Index := Scalar.indexCast v635
  let c0_334 : Index := 0#32
  ![v650.toNat, 0]
def k0_off46 (i : grid0.Coords) (k0_t3 : Fin (k0_t3_loop i).trips) : Fin 2 → Nat :=
  let c0_i32_269 : BitVec 32 := 0#32
  let arg2 : BitVec 32 := BitVec.ofNat 32 (i 2).val
  let v537 : BitVec 32 := Scalar.subi arg2 c0_i32_269
  let c1_i32_270 : BitVec 32 := 1#32
  let v539 : BitVec 32 := Scalar.divsi v537 c1_i32_270
  let v540 : BitVec 32 := Scalar.muli v539 c1_i32_270
  let v541 : BitVec 32 := Scalar.addi c0_i32_269 v540
  let c1_i32_272 : BitVec 32 := 1#32
  let arg11 : BitVec 32 := Scf.iv v541 c1_i32_272 k0_t3
  let c512_i32_329 : BitVec 32 := 512#32
  let v632 : BitVec 32 := Scalar.muli arg11 c512_i32_329
  let v633 : BitVec 32 := v632
  let c256_i32_330 : BitVec 32 := 256#32
  let v634 : BitVec 32 := Scalar.addi v633 c256_i32_330
  let v635 : BitVec 32 := v634
  let v674 : Index := Scalar.indexCast v635
  let c128_345 : Index := 128#32
  ![v674.toNat, 128]
def k0_off47 (i : grid0.Coords) (k0_t3 : Fin (k0_t3_loop i).trips) : Fin 2 → Nat :=
  let c0_i32_269 : BitVec 32 := 0#32
  let arg2 : BitVec 32 := BitVec.ofNat 32 (i 2).val
  let v537 : BitVec 32 := Scalar.subi arg2 c0_i32_269
  let c1_i32_270 : BitVec 32 := 1#32
  let v539 : BitVec 32 := Scalar.divsi v537 c1_i32_270
  let v540 : BitVec 32 := Scalar.muli v539 c1_i32_270
  let v541 : BitVec 32 := Scalar.addi c0_i32_269 v540
  let c1_i32_272 : BitVec 32 := 1#32
  let arg11 : BitVec 32 := Scf.iv v541 c1_i32_272 k0_t3
  let c512_i32_329 : BitVec 32 := 512#32
  let v632 : BitVec 32 := Scalar.muli arg11 c512_i32_329
  let v633 : BitVec 32 := v632
  let c256_i32_330 : BitVec 32 := 256#32
  let v634 : BitVec 32 := Scalar.addi v633 c256_i32_330
  let v635 : BitVec 32 := v634
  let v698 : Index := Scalar.indexCast v635
  let c256_356 : Index := 256#32
  ![v698.toNat, 256]
def k0_off48 (i : grid0.Coords) (k0_t3 : Fin (k0_t3_loop i).trips) : Fin 2 → Nat :=
  let c0_i32_269 : BitVec 32 := 0#32
  let arg2 : BitVec 32 := BitVec.ofNat 32 (i 2).val
  let v537 : BitVec 32 := Scalar.subi arg2 c0_i32_269
  let c1_i32_270 : BitVec 32 := 1#32
  let v539 : BitVec 32 := Scalar.divsi v537 c1_i32_270
  let v540 : BitVec 32 := Scalar.muli v539 c1_i32_270
  let v541 : BitVec 32 := Scalar.addi c0_i32_269 v540
  let c1_i32_272 : BitVec 32 := 1#32
  let arg11 : BitVec 32 := Scf.iv v541 c1_i32_272 k0_t3
  let c512_i32_329 : BitVec 32 := 512#32
  let v632 : BitVec 32 := Scalar.muli arg11 c512_i32_329
  let v633 : BitVec 32 := v632
  let c256_i32_330 : BitVec 32 := 256#32
  let v634 : BitVec 32 := Scalar.addi v633 c256_i32_330
  let v635 : BitVec 32 := v634
  let v722 : Index := Scalar.indexCast v635
  let c384_367 : Index := 384#32
  ![v722.toNat, 384]
def k0_off49 (i : grid0.Coords) (k0_t3 : Fin (k0_t3_loop i).trips) : Fin 4 → Nat :=
  let c0_383 : Index := 0#32
  let c0_384 : Index := 0#32
  let c0_385 : Index := 0#32
  let c0_i32_269 : BitVec 32 := 0#32
  let arg2 : BitVec 32 := BitVec.ofNat 32 (i 2).val
  let v537 : BitVec 32 := Scalar.subi arg2 c0_i32_269
  let c1_i32_270 : BitVec 32 := 1#32
  let v539 : BitVec 32 := Scalar.divsi v537 c1_i32_270
  let v540 : BitVec 32 := Scalar.muli v539 c1_i32_270
  let v541 : BitVec 32 := Scalar.addi c0_i32_269 v540
  let c1_i32_272 : BitVec 32 := 1#32
  let arg11 : BitVec 32 := Scf.iv v541 c1_i32_272 k0_t3
  let c512_i32_329 : BitVec 32 := 512#32
  let v632 : BitVec 32 := Scalar.muli arg11 c512_i32_329
  let v633 : BitVec 32 := v632
  let v748 : Index := Scalar.indexCast v633
  ![0, 0, 0, v748.toNat]
def k0_off50 (i : grid0.Coords) (k0_t3 : Fin (k0_t3_loop i).trips) : Fin 4 → Nat :=
  let c0_397 : Index := 0#32
  let c1_398 : Index := 1#32
  let c0_399 : Index := 0#32
  let c0_i32_269 : BitVec 32 := 0#32
  let arg2 : BitVec 32 := BitVec.ofNat 32 (i 2).val
  let v537 : BitVec 32 := Scalar.subi arg2 c0_i32_269
  let c1_i32_270 : BitVec 32 := 1#32
  let v539 : BitVec 32 := Scalar.divsi v537 c1_i32_270
  let v540 : BitVec 32 := Scalar.muli v539 c1_i32_270
  let v541 : BitVec 32 := Scalar.addi c0_i32_269 v540
  let c1_i32_272 : BitVec 32 := 1#32
  let arg11 : BitVec 32 := Scf.iv v541 c1_i32_272 k0_t3
  let c512_i32_329 : BitVec 32 := 512#32
  let v632 : BitVec 32 := Scalar.muli arg11 c512_i32_329
  let v633 : BitVec 32 := v632
  let v769 : Index := Scalar.indexCast v633
  ![0, 1, 0, v769.toNat]
def k0_off51 (i : grid0.Coords) (k0_t3 : Fin (k0_t3_loop i).trips) : Fin 4 → Nat :=
  let c0_411 : Index := 0#32
  let c2_412 : Index := 2#32
  let c0_413 : Index := 0#32
  let c0_i32_269 : BitVec 32 := 0#32
  let arg2 : BitVec 32 := BitVec.ofNat 32 (i 2).val
  let v537 : BitVec 32 := Scalar.subi arg2 c0_i32_269
  let c1_i32_270 : BitVec 32 := 1#32
  let v539 : BitVec 32 := Scalar.divsi v537 c1_i32_270
  let v540 : BitVec 32 := Scalar.muli v539 c1_i32_270
  let v541 : BitVec 32 := Scalar.addi c0_i32_269 v540
  let c1_i32_272 : BitVec 32 := 1#32
  let arg11 : BitVec 32 := Scf.iv v541 c1_i32_272 k0_t3
  let c512_i32_329 : BitVec 32 := 512#32
  let v632 : BitVec 32 := Scalar.muli arg11 c512_i32_329
  let v633 : BitVec 32 := v632
  let v790 : Index := Scalar.indexCast v633
  ![0, 2, 0, v790.toNat]
def k0_off52 (i : grid0.Coords) (k0_t3 : Fin (k0_t3_loop i).trips) : Fin 4 → Nat :=
  let c0_425 : Index := 0#32
  let c3_426 : Index := 3#32
  let c0_427 : Index := 0#32
  let c0_i32_269 : BitVec 32 := 0#32
  let arg2 : BitVec 32 := BitVec.ofNat 32 (i 2).val
  let v537 : BitVec 32 := Scalar.subi arg2 c0_i32_269
  let c1_i32_270 : BitVec 32 := 1#32
  let v539 : BitVec 32 := Scalar.divsi v537 c1_i32_270
  let v540 : BitVec 32 := Scalar.muli v539 c1_i32_270
  let v541 : BitVec 32 := Scalar.addi c0_i32_269 v540
  let c1_i32_272 : BitVec 32 := 1#32
  let arg11 : BitVec 32 := Scf.iv v541 c1_i32_272 k0_t3
  let c512_i32_329 : BitVec 32 := 512#32
  let v632 : BitVec 32 := Scalar.muli arg11 c512_i32_329
  let v633 : BitVec 32 := v632
  let v811 : Index := Scalar.indexCast v633
  ![0, 3, 0, v811.toNat]
def k0_off53 (i : grid0.Coords) (k0_t3 : Fin (k0_t3_loop i).trips) : Fin 3 → Nat :=
  let arg1 : BitVec 32 := BitVec.ofNat 32 (i 1).val
  let v823 : Index := Scalar.indexCast arg1
  let c0_i32_269 : BitVec 32 := 0#32
  let arg2 : BitVec 32 := BitVec.ofNat 32 (i 2).val
  let v537 : BitVec 32 := Scalar.subi arg2 c0_i32_269
  let c1_i32_270 : BitVec 32 := 1#32
  let v539 : BitVec 32 := Scalar.divsi v537 c1_i32_270
  let v540 : BitVec 32 := Scalar.muli v539 c1_i32_270
  let v541 : BitVec 32 := Scalar.addi c0_i32_269 v540
  let c1_i32_272 : BitVec 32 := 1#32
  let arg11 : BitVec 32 := Scf.iv v541 c1_i32_272 k0_t3
  let c512_i32_329 : BitVec 32 := 512#32
  let v632 : BitVec 32 := Scalar.muli arg11 c512_i32_329
  let v633 : BitVec 32 := v632
  let c512_i32_331 : BitVec 32 := 512#32
  let v636 : BitVec 32 := Scalar.addi v633 c512_i32_331
  let c1_i32 : BitVec 32 := 1#32
  let v534 : BitVec 32 := Scalar.subi arg2 c1_i32
  let c0_i32_267 : BitVec 32 := 0#32
  let v535 : BitVec 32 := Scalar.maxsi v534 c0_i32_267
  let c512_i32_268 : BitVec 32 := 512#32
  let v536 : BitVec 32 := Scalar.muli v535 c512_i32_268
  let v637 : BitVec 32 := Scalar.minsi v636 v536
  let v638 : BitVec 32 := v637
  let v824 : Index := Scalar.indexCast v638
  let c0_433 : Index := 0#32
  ![v823.toNat, v824.toNat, 0]
def k0_off54 (i : grid0.Coords) (k0_t3 : Fin (k0_t3_loop i).trips) : Fin 2 → Nat :=
  let c0_i32_269 : BitVec 32 := 0#32
  let arg2 : BitVec 32 := BitVec.ofNat 32 (i 2).val
  let v537 : BitVec 32 := Scalar.subi arg2 c0_i32_269
  let c1_i32_270 : BitVec 32 := 1#32
  let v539 : BitVec 32 := Scalar.divsi v537 c1_i32_270
  let v540 : BitVec 32 := Scalar.muli v539 c1_i32_270
  let v541 : BitVec 32 := Scalar.addi c0_i32_269 v540
  let c1_i32_272 : BitVec 32 := 1#32
  let arg11 : BitVec 32 := Scf.iv v541 c1_i32_272 k0_t3
  let c512_i32_329 : BitVec 32 := 512#32
  let v632 : BitVec 32 := Scalar.muli arg11 c512_i32_329
  let v633 : BitVec 32 := v632
  let c512_i32_331 : BitVec 32 := 512#32
  let v636 : BitVec 32 := Scalar.addi v633 c512_i32_331
  let c1_i32 : BitVec 32 := 1#32
  let v534 : BitVec 32 := Scalar.subi arg2 c1_i32
  let c0_i32_267 : BitVec 32 := 0#32
  let v535 : BitVec 32 := Scalar.maxsi v534 c0_i32_267
  let c512_i32_268 : BitVec 32 := 512#32
  let v536 : BitVec 32 := Scalar.muli v535 c512_i32_268
  let v637 : BitVec 32 := Scalar.minsi v636 v536
  let v638 : BitVec 32 := v637
  let v830 : Index := Scalar.indexCast v638
  let c0_434 : Index := 0#32
  ![v830.toNat, 0]
def k0_off55 (i : grid0.Coords) (k0_t3 : Fin (k0_t3_loop i).trips) : Fin 2 → Nat :=
  let c0_i32_269 : BitVec 32 := 0#32
  let arg2 : BitVec 32 := BitVec.ofNat 32 (i 2).val
  let v537 : BitVec 32 := Scalar.subi arg2 c0_i32_269
  let c1_i32_270 : BitVec 32 := 1#32
  let v539 : BitVec 32 := Scalar.divsi v537 c1_i32_270
  let v540 : BitVec 32 := Scalar.muli v539 c1_i32_270
  let v541 : BitVec 32 := Scalar.addi c0_i32_269 v540
  let c1_i32_272 : BitVec 32 := 1#32
  let arg11 : BitVec 32 := Scf.iv v541 c1_i32_272 k0_t3
  let c512_i32_329 : BitVec 32 := 512#32
  let v632 : BitVec 32 := Scalar.muli arg11 c512_i32_329
  let v633 : BitVec 32 := v632
  let c512_i32_331 : BitVec 32 := 512#32
  let v636 : BitVec 32 := Scalar.addi v633 c512_i32_331
  let c1_i32 : BitVec 32 := 1#32
  let v534 : BitVec 32 := Scalar.subi arg2 c1_i32
  let c0_i32_267 : BitVec 32 := 0#32
  let v535 : BitVec 32 := Scalar.maxsi v534 c0_i32_267
  let c512_i32_268 : BitVec 32 := 512#32
  let v536 : BitVec 32 := Scalar.muli v535 c512_i32_268
  let v637 : BitVec 32 := Scalar.minsi v636 v536
  let v638 : BitVec 32 := v637
  let v854 : Index := Scalar.indexCast v638
  let c128_445 : Index := 128#32
  ![v854.toNat, 128]
def k0_off56 (i : grid0.Coords) (k0_t3 : Fin (k0_t3_loop i).trips) : Fin 2 → Nat :=
  let c0_i32_269 : BitVec 32 := 0#32
  let arg2 : BitVec 32 := BitVec.ofNat 32 (i 2).val
  let v537 : BitVec 32 := Scalar.subi arg2 c0_i32_269
  let c1_i32_270 : BitVec 32 := 1#32
  let v539 : BitVec 32 := Scalar.divsi v537 c1_i32_270
  let v540 : BitVec 32 := Scalar.muli v539 c1_i32_270
  let v541 : BitVec 32 := Scalar.addi c0_i32_269 v540
  let c1_i32_272 : BitVec 32 := 1#32
  let arg11 : BitVec 32 := Scf.iv v541 c1_i32_272 k0_t3
  let c512_i32_329 : BitVec 32 := 512#32
  let v632 : BitVec 32 := Scalar.muli arg11 c512_i32_329
  let v633 : BitVec 32 := v632
  let c512_i32_331 : BitVec 32 := 512#32
  let v636 : BitVec 32 := Scalar.addi v633 c512_i32_331
  let c1_i32 : BitVec 32 := 1#32
  let v534 : BitVec 32 := Scalar.subi arg2 c1_i32
  let c0_i32_267 : BitVec 32 := 0#32
  let v535 : BitVec 32 := Scalar.maxsi v534 c0_i32_267
  let c512_i32_268 : BitVec 32 := 512#32
  let v536 : BitVec 32 := Scalar.muli v535 c512_i32_268
  let v637 : BitVec 32 := Scalar.minsi v636 v536
  let v638 : BitVec 32 := v637
  let v878 : Index := Scalar.indexCast v638
  let c256_456 : Index := 256#32
  ![v878.toNat, 256]
def k0_off57 (i : grid0.Coords) (k0_t3 : Fin (k0_t3_loop i).trips) : Fin 2 → Nat :=
  let c0_i32_269 : BitVec 32 := 0#32
  let arg2 : BitVec 32 := BitVec.ofNat 32 (i 2).val
  let v537 : BitVec 32 := Scalar.subi arg2 c0_i32_269
  let c1_i32_270 : BitVec 32 := 1#32
  let v539 : BitVec 32 := Scalar.divsi v537 c1_i32_270
  let v540 : BitVec 32 := Scalar.muli v539 c1_i32_270
  let v541 : BitVec 32 := Scalar.addi c0_i32_269 v540
  let c1_i32_272 : BitVec 32 := 1#32
  let arg11 : BitVec 32 := Scf.iv v541 c1_i32_272 k0_t3
  let c512_i32_329 : BitVec 32 := 512#32
  let v632 : BitVec 32 := Scalar.muli arg11 c512_i32_329
  let v633 : BitVec 32 := v632
  let c512_i32_331 : BitVec 32 := 512#32
  let v636 : BitVec 32 := Scalar.addi v633 c512_i32_331
  let c1_i32 : BitVec 32 := 1#32
  let v534 : BitVec 32 := Scalar.subi arg2 c1_i32
  let c0_i32_267 : BitVec 32 := 0#32
  let v535 : BitVec 32 := Scalar.maxsi v534 c0_i32_267
  let c512_i32_268 : BitVec 32 := 512#32
  let v536 : BitVec 32 := Scalar.muli v535 c512_i32_268
  let v637 : BitVec 32 := Scalar.minsi v636 v536
  let v638 : BitVec 32 := v637
  let v902 : Index := Scalar.indexCast v638
  let c384_467 : Index := 384#32
  ![v902.toNat, 384]
def k0_off58 (i : grid0.Coords) (k0_t3 : Fin (k0_t3_loop i).trips) : Fin 4 → Nat :=
  let c0_483 : Index := 0#32
  let c0_484 : Index := 0#32
  let c0_485 : Index := 0#32
  let c0_i32_269 : BitVec 32 := 0#32
  let arg2 : BitVec 32 := BitVec.ofNat 32 (i 2).val
  let v537 : BitVec 32 := Scalar.subi arg2 c0_i32_269
  let c1_i32_270 : BitVec 32 := 1#32
  let v539 : BitVec 32 := Scalar.divsi v537 c1_i32_270
  let v540 : BitVec 32 := Scalar.muli v539 c1_i32_270
  let v541 : BitVec 32 := Scalar.addi c0_i32_269 v540
  let c1_i32_272 : BitVec 32 := 1#32
  let arg11 : BitVec 32 := Scf.iv v541 c1_i32_272 k0_t3
  let c512_i32_329 : BitVec 32 := 512#32
  let v632 : BitVec 32 := Scalar.muli arg11 c512_i32_329
  let v633 : BitVec 32 := v632
  let c256_i32_330 : BitVec 32 := 256#32
  let v634 : BitVec 32 := Scalar.addi v633 c256_i32_330
  let v635 : BitVec 32 := v634
  let v928 : Index := Scalar.indexCast v635
  ![0, 0, 0, v928.toNat]
def k0_off59 (i : grid0.Coords) (k0_t3 : Fin (k0_t3_loop i).trips) : Fin 4 → Nat :=
  let c0_497 : Index := 0#32
  let c1_498 : Index := 1#32
  let c0_499 : Index := 0#32
  let c0_i32_269 : BitVec 32 := 0#32
  let arg2 : BitVec 32 := BitVec.ofNat 32 (i 2).val
  let v537 : BitVec 32 := Scalar.subi arg2 c0_i32_269
  let c1_i32_270 : BitVec 32 := 1#32
  let v539 : BitVec 32 := Scalar.divsi v537 c1_i32_270
  let v540 : BitVec 32 := Scalar.muli v539 c1_i32_270
  let v541 : BitVec 32 := Scalar.addi c0_i32_269 v540
  let c1_i32_272 : BitVec 32 := 1#32
  let arg11 : BitVec 32 := Scf.iv v541 c1_i32_272 k0_t3
  let c512_i32_329 : BitVec 32 := 512#32
  let v632 : BitVec 32 := Scalar.muli arg11 c512_i32_329
  let v633 : BitVec 32 := v632
  let c256_i32_330 : BitVec 32 := 256#32
  let v634 : BitVec 32 := Scalar.addi v633 c256_i32_330
  let v635 : BitVec 32 := v634
  let v949 : Index := Scalar.indexCast v635
  ![0, 1, 0, v949.toNat]
def k0_off60 (i : grid0.Coords) (k0_t3 : Fin (k0_t3_loop i).trips) : Fin 4 → Nat :=
  let c0_511 : Index := 0#32
  let c2_512 : Index := 2#32
  let c0_513 : Index := 0#32
  let c0_i32_269 : BitVec 32 := 0#32
  let arg2 : BitVec 32 := BitVec.ofNat 32 (i 2).val
  let v537 : BitVec 32 := Scalar.subi arg2 c0_i32_269
  let c1_i32_270 : BitVec 32 := 1#32
  let v539 : BitVec 32 := Scalar.divsi v537 c1_i32_270
  let v540 : BitVec 32 := Scalar.muli v539 c1_i32_270
  let v541 : BitVec 32 := Scalar.addi c0_i32_269 v540
  let c1_i32_272 : BitVec 32 := 1#32
  let arg11 : BitVec 32 := Scf.iv v541 c1_i32_272 k0_t3
  let c512_i32_329 : BitVec 32 := 512#32
  let v632 : BitVec 32 := Scalar.muli arg11 c512_i32_329
  let v633 : BitVec 32 := v632
  let c256_i32_330 : BitVec 32 := 256#32
  let v634 : BitVec 32 := Scalar.addi v633 c256_i32_330
  let v635 : BitVec 32 := v634
  let v970 : Index := Scalar.indexCast v635
  ![0, 2, 0, v970.toNat]
def k0_off61 (i : grid0.Coords) (k0_t3 : Fin (k0_t3_loop i).trips) : Fin 4 → Nat :=
  let c0_525 : Index := 0#32
  let c3_526 : Index := 3#32
  let c0_527 : Index := 0#32
  let c0_i32_269 : BitVec 32 := 0#32
  let arg2 : BitVec 32 := BitVec.ofNat 32 (i 2).val
  let v537 : BitVec 32 := Scalar.subi arg2 c0_i32_269
  let c1_i32_270 : BitVec 32 := 1#32
  let v539 : BitVec 32 := Scalar.divsi v537 c1_i32_270
  let v540 : BitVec 32 := Scalar.muli v539 c1_i32_270
  let v541 : BitVec 32 := Scalar.addi c0_i32_269 v540
  let c1_i32_272 : BitVec 32 := 1#32
  let arg11 : BitVec 32 := Scf.iv v541 c1_i32_272 k0_t3
  let c512_i32_329 : BitVec 32 := 512#32
  let v632 : BitVec 32 := Scalar.muli arg11 c512_i32_329
  let v633 : BitVec 32 := v632
  let c256_i32_330 : BitVec 32 := 256#32
  let v634 : BitVec 32 := Scalar.addi v633 c256_i32_330
  let v635 : BitVec 32 := v634
  let v991 : Index := Scalar.indexCast v635
  ![0, 3, 0, v991.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c14_i32 : BitVec 32 := 14#32
  let v2 : BitVec 32 := Scalar.addi c14_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4x144x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== Reference.lean ====
abbrev S8192x1024 : Shape := ⟨2, ![8192, 1024]⟩
abbrev S8192x8 : Shape := ⟨2, ![8192, 8]⟩
abbrev S2x4096x8x128 : Shape := ⟨4, ![2, 4096, 8, 128]⟩
abbrev S2x4096x8 : Shape := ⟨3, ![2, 4096, 8]⟩
abbrev S_ : Shape := ⟨0, ![]⟩
abbrev S2x8x4096x4096 : Shape := ⟨4, ![2, 8, 4096, 4096]⟩
abbrev S2x8x4096 : Shape := ⟨3, ![2, 8, 4096]⟩
abbrev S2x8x4096x1 : Shape := ⟨4, ![2, 8, 4096, 1]⟩
abbrev S2x8x1x4096 : Shape := ⟨4, ![2, 8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x8x128x4096 : Shape := ⟨4, ![2, 8, 128, 4096]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x8, .f32⟩
  | .hbm, ⟨4, _⟩ => ⟨S2x4096x8x128, .f32⟩
  | .hbm, ⟨5, _⟩ => ⟨S2x4096x8x128, .f32⟩
  | .hbm, ⟨6, _⟩ => ⟨S2x4096x8x128, .f32⟩
  | .hbm, ⟨7, _⟩ => ⟨S2x4096x8, .f32⟩
  | .hbm, ⟨8, _⟩ => ⟨S_, .f32⟩
  | .hbm, ⟨9, _⟩ => ⟨S_, .f32⟩
  | .hbm, ⟨10, _⟩ => ⟨S2x4096x8, .f32⟩
  | .hbm, ⟨11, _⟩ => ⟨S2x8x4096x4096, .f32⟩
  | .hbm, ⟨12, _⟩ => ⟨S_, .f32⟩
  | .hbm, ⟨13, _⟩ => ⟨S_, .f32⟩
  | .hbm, ⟨14, _⟩ => ⟨S2x8x4096x4096, .f32⟩
  | .hbm, ⟨15, _⟩ => ⟨S2x8x4096x4096, .f32⟩
  | .hbm, ⟨16, _⟩ => ⟨S2x8x4096, .f32⟩
  | .hbm, ⟨17, _⟩ => ⟨S2x8x4096x1, .f32⟩
  | .hbm, ⟨18, _⟩ => ⟨S2x8x4096x4096, .f32⟩
  | .hbm, ⟨19, _⟩ => ⟨S2x8x4096x4096, .f32⟩
  | .hbm, ⟨20, _⟩ => ⟨S2x8x1x4096, .f32⟩
  | .hbm, ⟨21, _⟩ => ⟨S2x8x4096x4096, .f32⟩
  | .hbm, ⟨22, _⟩ => ⟨S2x8x4096x4096, .f32⟩
  | .hbm, ⟨23, _⟩ => ⟨S4096, .i32⟩
  | .hbm, ⟨24, _⟩ => ⟨S1x4096, .i32⟩
  | .hbm, ⟨25, _⟩ => ⟨S4096x1, .i32⟩
  | .hbm, ⟨26, _⟩ => ⟨S4096x4096, .i32⟩
  | .hbm, ⟨27, _⟩ => ⟨S4096x4096, .i32⟩
  | .hbm, ⟨28, _⟩ => ⟨S4096x4096, .i1⟩
  | .hbm, ⟨29, _⟩ => ⟨S_, .f32⟩
  | .hbm, ⟨30, _⟩ => ⟨S_, .f32⟩
  | .hbm, ⟨31, _⟩ => ⟨S2x8x4096x4096, .i1⟩
  | .hbm, ⟨32, _⟩ => ⟨S2x8x4096x4096, .f32⟩
  | .hbm, ⟨33, _⟩ => ⟨S2x8x4096x4096, .f32⟩
  | .hbm, ⟨34, _⟩ => ⟨S_, .f32⟩
  | .hbm, ⟨35, _⟩ => ⟨S2x8x4096, .f32⟩
  | .hbm, ⟨36, _⟩ => ⟨S_, .f32⟩
  | .hbm, ⟨37, _⟩ => ⟨S2x8x4096, .f32⟩
  | .hbm, ⟨38, _⟩ => ⟨S2x8x4096, .f32⟩
  | .hbm, ⟨39, _⟩ => ⟨S2x8x4096x1, .f32⟩
  | .hbm, ⟨40, _⟩ => ⟨S2x8x4096x4096, .f32⟩
  | .hbm, ⟨41, _⟩ => ⟨S2x8x4096x4096, .f32⟩
  | .hbm, ⟨42, _⟩ => ⟨S2x8x4096x4096, .f32⟩
  | .hbm, ⟨43, _⟩ => ⟨S_, .f32⟩
  | .hbm, ⟨44, _⟩ => ⟨S2x8x4096, .f32⟩
  | .hbm, ⟨45, _⟩ => ⟨S2x8x4096x1, .f32⟩
  | .hbm, ⟨46, _⟩ => ⟨S2x8x4096x4096, .f32⟩
  | .hbm, ⟨47, _⟩ => ⟨S2x8x4096x4096, .f32⟩
  | .hbm, ⟨48, _⟩ => ⟨S2x8x128x4096, .f32⟩
  | .hbm, ⟨49, _⟩ => ⟨S2x4096x8x128, .f32⟩
  | .hbm, ⟨50, _⟩ => ⟨S8192x1024, .f32⟩
  | .hbm, ⟨51, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_call0_cst : Ref sig .tc := ⟨.hbm, 8, rfl⟩
abbrev main_call0_call0_v0 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== KernelFfn.lean ====
abbrev S8192x2048 : Shape := ⟨2, ![8192, 2048]⟩
abbrev S2048x5632 : Shape := ⟨2, ![2048, 5632]⟩
abbrev S5632x2048 : Shape := ⟨2, ![5632, 2048]⟩
abbrev S1024x2048 : Shape := ⟨2, ![1024, 2048]⟩
abbrev S2048x512 : Shape := ⟨2, ![2048, 512]⟩
abbrev S512x2048 : Shape := ⟨2, ![512, 2048]⟩
abbrev S1024x512 : Shape := ⟨2, ![1024, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S512x2048, .f32⟩
  | .local _ .vmem, ⟨7, _⟩ => ⟨S512x2048, .f32⟩
  | .local _ .vmem, ⟨8, _⟩ => ⟨S1024x2048, .f32⟩
  | .local _ .vmem, ⟨9, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceFfnIdeal.lean ====
abbrev S8192x2048 : Shape := ⟨2, ![8192, 2048]⟩
abbrev S2048x5632 : Shape := ⟨2, ![2048, 5632]⟩
abbrev S5632x2048 : Shape := ⟨2, ![5632, 2048]⟩
abbrev S8192x5632 : Shape := ⟨2, ![8192, 5632]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S8192x2048, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩

abbrev nD : Nat := 1
abbrev τ : Topo := Topo.v7x

variable {F : FTy → Type} [FloatOps F]
-- ==== KernelMerge.lean ====
abbrev S8192x2048 : Shape := ⟨2, ![8192, 2048]⟩
abbrev S8192x1024 : Shape := ⟨2, ![8192, 1024]⟩
abbrev S1024x2048 : Shape := ⟨2, ![1024, 2048]⟩
abbrev S2048x2048 : Shape := ⟨2, ![2048, 2048]⟩
abbrev S2048 : Shape := ⟨1, ![2048]⟩
abbrev S_ : Shape := ⟨0, ![]⟩
abbrev S8192x6144 : Shape := ⟨2, ![8192, 6144]⟩
abbrev S8192x10240 : Shape := ⟨2, ![8192, 10240]⟩
abbrev S1x2048 : Shape := ⟨2, ![1, 2048]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 36
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .bf16⟩
  | .hbm, ⟨3, _⟩ => ⟨S8192x2048, .f32⟩
  | .hbm, ⟨4, _⟩ => ⟨S8192x2048, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S8192x2048, .bf16⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S8192x2048, .bf16⟩
  | .hbm, ⟨27, _⟩ => ⟨S_, .bf16⟩
  | .hbm, ⟨28, _⟩ => ⟨S8192x6144, .bf16⟩
  | .hbm, ⟨29, _⟩ => ⟨S8192x10240, .bf16⟩
  | .hbm, ⟨30, _⟩ => ⟨S1024x2048, .bf16⟩
  | .hbm, ⟨31, _⟩ => ⟨S1024x2048, .bf16⟩
  | .hbm, ⟨32, _⟩ => ⟨S2048x2048, .bf16⟩
  | .hbm, ⟨33, _⟩ => ⟨S1x2048, .f32⟩
  | .hbm, ⟨34, _⟩ => ⟨S8192x2048, .f32⟩
  | .hbm, ⟨35, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .vmem, ⟨17, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20_0 : Ref sig .tc := ⟨.hbm, 34, rfl⟩
abbrev main_v20_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceMergeIdeal.lean ====
abbrev S8192x2048 : Shape := ⟨2, ![8192, 2048]⟩
abbrev S8192x1024 : Shape := ⟨2, ![8192, 1024]⟩
abbrev S1024x2048 : Shape := ⟨2, ![1024, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .bf16⟩
  | .hbm, ⟨3, _⟩ => ⟨S8192x2048, .f32⟩
  | .hbm, ⟨4, _⟩ => ⟨S8192x2048, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S2048, .f32⟩
  | .hbm, ⟨9, _⟩ => ⟨S8192x1024, .f32⟩
  | .hbm, ⟨10, _⟩ => ⟨S8192x2048, .f32⟩
  | .hbm, ⟨11, _⟩ => ⟨S8192x1024, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S8192x2048, .f32⟩
  | .hbm, ⟨46, _⟩ => ⟨S8192x2048, .f32⟩
  | .hbm, ⟨47, _⟩ => ⟨S1x2048, .f32⟩
  | .hbm, ⟨48, _⟩ => ⟨S8192x2048, .f32⟩
  | .hbm, ⟨49, _⟩ => ⟨S8192x2048, .f32⟩
  | .hbm, ⟨50, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]
-- ==== KernelPle.lean ====
abbrev S8192x2048 : Shape := ⟨2, ![8192, 2048]⟩
abbrev S8192x256 : Shape := ⟨2, ![8192, 256]⟩
abbrev S2048 : Shape := ⟨1, ![2048]⟩
abbrev S2048x2048 : Shape := ⟨2, ![2048, 2048]⟩
abbrev S256x2048 : Shape := ⟨2, ![256, 2048]⟩
abbrev S1x2048 : Shape := ⟨2, ![1, 2048]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x256, .f32⟩
  | .hbm, ⟨3, _⟩ => ⟨S2048, .f32⟩
  | .hbm, ⟨4, _⟩ => ⟨S2048, .f32⟩
  | .hbm, ⟨5, _⟩ => ⟨S2048x2048, .f32⟩
  | .hbm, ⟨6, _⟩ => ⟨S256x2048, .f32⟩
  | .hbm, ⟨7, _⟩ => ⟨S1x2048, .f32⟩
  | .hbm, ⟨8, _⟩ => ⟨S1x2048, .f32⟩
  | .hbm, ⟨9, _⟩ => ⟨S2048x2048, .bf16⟩
  | .hbm, ⟨10, _⟩ => ⟨S256x2048, .bf16⟩
  | .hbm, ⟨11, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x256, .f32⟩
  | .local _ .vmem, ⟨5, _⟩ => ⟨S512x256, .f32⟩
  | .local _ .vmem, ⟨6, _⟩ => ⟨S1x2048, .f32⟩
  | .local _ .vmem, ⟨7, _⟩ => ⟨S1x2048, .f32⟩
  | .local _ .vmem, ⟨8, _⟩ => ⟨S2048x2048, .bf16⟩
  | .local _ .vmem, ⟨9, _⟩ => ⟨S256x2048, .bf16⟩
  | .local _ .vmem, ⟨10, _⟩ => ⟨S512x2048, .f32⟩
  | .local _ .vmem, ⟨11, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferencePleIdeal.lean ====
abbrev S8192x2048 : Shape := ⟨2, ![8192, 2048]⟩
abbrev S8192x256 : Shape := ⟨2, ![8192, 256]⟩
abbrev S2048 : Shape := ⟨1, ![2048]⟩
abbrev S2048x2048 : Shape := ⟨2, ![2048, 2048]⟩
abbrev S256x2048 : Shape := ⟨2, ![256, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x256, .f32⟩
  | .hbm, ⟨3, _⟩ => ⟨S2048, .f32⟩
  | .hbm, ⟨4, _⟩ => ⟨S2048, .f32⟩
  | .hbm, ⟨5, _⟩ => ⟨S2048x2048, .f32⟩
  | .hbm, ⟨6, _⟩ => ⟨S256x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x2048, .f32⟩
  | .hbm, ⟨48, _⟩ => ⟨S8192x2048, .f32⟩
  | .hbm, ⟨49, _⟩ => ⟨S1x2048, .f32⟩
  | .hbm, ⟨50, _⟩ => ⟨S8192x2048, .f32⟩
  | .hbm, ⟨51, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== KernelTail.lean ====
abbrev S8192x2048 : Shape := ⟨2, ![8192, 2048]⟩
abbrev S8192x1024 : Shape := ⟨2, ![8192, 1024]⟩
abbrev S8192x256 : Shape := ⟨2, ![8192, 256]⟩
abbrev S1024x2048 : Shape := ⟨2, ![1024, 2048]⟩
abbrev S2048x2048 : Shape := ⟨2, ![2048, 2048]⟩
abbrev S2048 : Shape := ⟨1, ![2048]⟩
abbrev S2048x5632 : Shape := ⟨2, ![2048, 5632]⟩
abbrev S5632x2048 : Shape := ⟨2, ![5632, 2048]⟩
abbrev S256x2048 : Shape := ⟨2, ![256, 2048]⟩
abbrev S_ : Shape := ⟨0, ![]⟩
abbrev S8192x6144 : Shape := ⟨2, ![8192, 6144]⟩
abbrev S8192x10240 : Shape := ⟨2, ![8192, 10240]⟩
abbrev S1x2048 : Shape := ⟨2, ![1, 2048]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S2048x512 : Shape := ⟨2, ![2048, 512]⟩
abbrev S1024x512 : Shape := ⟨2, ![1024, 512]⟩
abbrev S512x256 : Shape := ⟨2, ![512, 256]⟩

abbrev nBuf : Space → Nat
  | .hbm => 50
  | .vmem => 40
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .bf16⟩
  | .hbm, ⟨3, _⟩ => ⟨S8192x2048, .f32⟩
  | .hbm, ⟨4, _⟩ => ⟨S8192x2048, .f32⟩
  | .hbm, ⟨5, _⟩ => ⟨S8192x256, .f32⟩
  | .hbm, ⟨6, _⟩ => ⟨S1024x2048, .f32⟩
  | .hbm, ⟨7, _⟩ => ⟨S1024x2048, .f32⟩
  | .hbm, ⟨8, _⟩ => ⟨S2048x2048, .f32⟩
  | .hbm, ⟨9, _⟩ => ⟨S2048, .f32⟩
  | .hbm, ⟨10, _⟩ => ⟨S2048x5632, .f32⟩
  | .hbm, ⟨11, _⟩ => ⟨S2048x5632, .f32⟩
  | .hbm, ⟨12, _⟩ => ⟨S5632x2048, .f32⟩
  | .hbm, ⟨13, _⟩ => ⟨S2048, .f32⟩
  | .hbm, ⟨14, _⟩ => ⟨S2048x2048, .f32⟩
  | .hbm, ⟨15, _⟩ => ⟨S256x2048, .f32⟩
  | .hbm, ⟨16, _⟩ => ⟨S2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x2048, .bf16⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S8192x2048, .bf16⟩
  | .hbm, ⟨35, _⟩ => ⟨S_, .bf16⟩
  | .hbm, ⟨36, _⟩ => ⟨S8192x6144, .bf16⟩
  | .hbm, ⟨37, _⟩ => ⟨S8192x10240, .bf16⟩
  | .hbm, ⟨38, _⟩ => ⟨S1024x2048, .bf16⟩
  | .hbm, ⟨39, _⟩ => ⟨S1024x2048, .bf16⟩
  | .hbm, ⟨40, _⟩ => ⟨S2048x2048, .bf16⟩
  | .hbm, ⟨41, _⟩ => ⟨S1x2048, .f32⟩
  | .hbm, ⟨42, _⟩ => ⟨S8192x2048, .f32⟩
  | .hbm, ⟨43, _⟩ => ⟨S8192x2048, .bf16⟩
  | .hbm, ⟨44, _⟩ => ⟨S8192x2048, .f32⟩
  | .hbm, ⟨45, _⟩ => ⟨S1x2048, .f32⟩
  | .hbm, ⟨46, _⟩ => ⟨S1x2048, .f32⟩
  | .hbm, ⟨47, _⟩ => ⟨S2048x2048, .bf16⟩
  | .hbm, ⟨48, _⟩ => ⟨S256x2048, .bf16⟩
  | .hbm, ⟨49, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .vmem, ⟨17, _⟩ => ⟨S512x2048, .bf16⟩
  | .local _ .vmem, ⟨18, _⟩ => ⟨S1024x2048, .bf16⟩
  | .local _ .vmem, ⟨19, _⟩ => ⟨S1024x2048, .bf16⟩
  | .local _ .vmem, ⟨20, _⟩ => ⟨S2048x512, .f32⟩
  | .local _ .vmem, ⟨21, _⟩ => ⟨S2048x512, .f32⟩
  | .local _ .vmem, ⟨22, _⟩ => ⟨S2048x512, .f32⟩
  | .local _ .vmem, ⟨23, _⟩ => ⟨S2048x512, .f32⟩
  | .local _ .vmem, ⟨24, _⟩ => ⟨S512x2048, .f32⟩
  | .local _ .vmem, ⟨25, _⟩ => ⟨S512x2048, .f32⟩
  | .local _ .vmem, ⟨26, _⟩ => ⟨S1024x2048, .f32⟩
  | .local _ .vmem, ⟨27, _⟩ => ⟨S1024x2048, .f32⟩
  | .local _ .vmem, ⟨28, _⟩ => ⟨S512x2048, .f32⟩
  | .local _ .vmem, ⟨29, _⟩ => ⟨S512x2048, .f32⟩
  | .local _ .vmem, ⟨30, _⟩ => ⟨S512x2048, .f32⟩
  | .local _ .vmem, ⟨31, _⟩ => ⟨S512x2048, .f32⟩
  | .local _ .vmem, ⟨32, _⟩ => ⟨S512x256, .f32⟩
  | .local _ .vmem, ⟨33, _⟩ => ⟨S512x256, .f32⟩
  | .local _ .vmem, ⟨34, _⟩ => ⟨S1x2048, .f32⟩
  | .local _ .vmem, ⟨35, _⟩ => ⟨S1x2048, .f32⟩
  | .local _ .vmem, ⟨36, _⟩ => ⟨S2048x2048, .bf16⟩
  | .local _ .vmem, ⟨37, _⟩ => ⟨S256x2048, .bf16⟩
  | .local _ .vmem, ⟨38, _⟩ => ⟨S512x2048, .f32⟩
  | .local _ .vmem, ⟨39, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_cst_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_1 : Ref sig .tc := ⟨.hbm, 28, rfl⟩
abbrev main_v9 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20_0 : Ref sig .tc := ⟨.hbm, 42, rfl⟩
abbrev main_v20_1 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg7_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem4_0 : DmaSem sig := 35
abbrev cc2_sem5_0 : DmaSem sig := 36
abbrev cc2_sem6_0 : DmaSem sig := 37
abbrev cc2_sem7_0 : DmaSem sig := 38
abbrev cc2_sem7_1 : DmaSem sig := 39

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨2, ![8, 11], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S2048x2048 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x2048 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S512x2048 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]
-- ==== ReferenceTailIdeal.lean ====
abbrev S8192x2048 : Shape := ⟨2, ![8192, 2048]⟩
abbrev S8192x1024 : Shape := ⟨2, ![8192, 1024]⟩
abbrev S8192x256 : Shape := ⟨2, ![8192, 256]⟩
abbrev S1024x2048 : Shape := ⟨2, ![1024, 2048]⟩
abbrev S2048x2048 : Shape := ⟨2, ![2048, 2048]⟩
abbrev S2048 : Shape := ⟨1, ![2048]⟩
abbrev S2048x5632 : Shape := ⟨2, ![2048, 5632]⟩
abbrev S5632x2048 : Shape := ⟨2, ![5632, 2048]⟩
abbrev S256x2048 : Shape := ⟨2, ![256, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x5632 : Shape := ⟨2, ![8192, 5632]⟩

abbrev nBuf : Space → Nat
  | .hbm => 116
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .bf16⟩
  | .hbm, ⟨3, _⟩ => ⟨S8192x2048, .f32⟩
  | .hbm, ⟨4, _⟩ => ⟨S8192x2048, .f32⟩
  | .hbm, ⟨5, _⟩ => ⟨S8192x256, .f32⟩
  | .hbm, ⟨6, _⟩ => ⟨S1024x2048, .f32⟩
  | .hbm, ⟨7, _⟩ => ⟨S1024x2048, .f32⟩
  | .hbm, ⟨8, _⟩ => ⟨S2048x2048, .f32⟩
  | .hbm, ⟨9, _⟩ => ⟨S2048, .f32⟩
  | .hbm, ⟨10, _⟩ => ⟨S2048x5632, .f32⟩
  | .hbm, ⟨11, _⟩ => ⟨S2048x5632, .f32⟩
  | .hbm, ⟨12, _⟩ => ⟨S5632x2048, .f32⟩
  | .hbm, ⟨13, _⟩ => ⟨S2048, .f32⟩
  | .hbm, ⟨14, _⟩ => ⟨S2048x2048, .f32⟩
  | .hbm, ⟨15, _⟩ => ⟨S256x2048, .f32⟩
  | .hbm, ⟨16, _⟩ => ⟨S2048, .f32⟩
  | .hbm, ⟨17, _⟩ => ⟨S8192x1024, .f32⟩
  | .hbm, ⟨18, _⟩ => ⟨S8192x2048, .f32⟩
  | .hbm, ⟨19, _⟩ => ⟨S8192x1024, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x1, .f32⟩
  | .hbm, ⟨53, _⟩ => ⟨S8192x2048, .f32⟩
  | .hbm, ⟨54, _⟩ => ⟨S8192x2048, .f32⟩
  | .hbm, ⟨55, _⟩ => ⟨S1x2048, .f32⟩
  | .hbm, ⟨56, _⟩ => ⟨S8192x2048, .f32⟩
  | .hbm, ⟨57, _⟩ => ⟨S8192x2048, .f32⟩
  | .hbm, ⟨58, _⟩ => ⟨S8192x5632, .f32⟩
  | .hbm, ⟨59, _⟩ => ⟨S8192x5632, .f32⟩
  | .hbm, ⟨60, _⟩ => ⟨S8192x5632, .f32⟩
  | .hbm, ⟨61, _⟩ => ⟨S_, .f32⟩
  | .hbm, ⟨62, _⟩ => ⟨S8192x5632, .f32⟩
  | .hbm, ⟨63, _⟩ => ⟨S8192x5632, .f32⟩
  | .hbm, ⟨64, _⟩ => ⟨S_, .f32⟩
  | .hbm, ⟨65, _⟩ => ⟨S8192x5632, .f32⟩
  | .hbm, ⟨66, _⟩ => ⟨S8192x5632, .f32⟩
  | .hbm, ⟨67, _⟩ => ⟨S8192x5632, .f32⟩
  | .hbm, ⟨68, _⟩ => ⟨S8192x5632, .f32⟩
  | .hbm, ⟨69, _⟩ => ⟨S8192x5632, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S8192x1, .f32⟩
  | .hbm, ⟨83, _⟩ => ⟨S8192x2048, .f32⟩
  | .hbm, ⟨84, _⟩ => ⟨S8192x2048, .f32⟩
  | .hbm, ⟨85, _⟩ => ⟨S1x2048, .f32⟩
  | .hbm, ⟨86, _⟩ => ⟨S8192x2048, .f32⟩
  | .hbm, ⟨87, _⟩ => ⟨S8192x2048, .f32⟩
  | .hbm, ⟨88, _⟩ => ⟨S8192x2048, .f32⟩
  | .hbm, ⟨89, _⟩ => ⟨S8192x2048, .f32⟩
  | .hbm, ⟨90, _⟩ => ⟨S8192x2048, .f32⟩
  | .hbm, ⟨91, _⟩ => ⟨S_, .f32⟩
  | .hbm, ⟨92, _⟩ => ⟨S8192x2048, .f32⟩
  | .hbm, ⟨93, _⟩ => ⟨S8192x2048, .f32⟩
  | .hbm, ⟨94, _⟩ => ⟨S_, .f32⟩
  | .hbm, ⟨95, _⟩ => ⟨S8192x2048, .f32⟩
  | .hbm, ⟨96, _⟩ => ⟨S8192x2048, .f32⟩
  | .hbm, ⟨97, _⟩ => ⟨S8192x2048, .f32⟩
  | .hbm, ⟨98, _⟩ => ⟨S8192x2048, .f32⟩
  | .hbm, ⟨99, _⟩ => ⟨S8192x2048, .f32⟩
  | .hbm, ⟨100, _⟩ => ⟨S8192x2048, .f32⟩
  | .hbm, ⟨101, _⟩ => ⟨S_, .f32⟩
  | .hbm, ⟨102, _⟩ => ⟨S8192, .f32⟩
  | .hbm, ⟨103, _⟩ => ⟨S8192x1, .f32⟩
  | .hbm, ⟨104, _⟩ => ⟨S_, .f32⟩
  | .hbm, ⟨105, _⟩ => ⟨S8192x1, .f32⟩
  | .hbm, ⟨106, _⟩ => ⟨S8192x1, .f32⟩
  | .hbm, ⟨107, _⟩ => ⟨S_, .f32⟩
  | .hbm, ⟨108, _⟩ => ⟨S8192x1, .f32⟩
  | .hbm, ⟨109, _⟩ => ⟨S8192x1, .f32⟩
  | .hbm, ⟨110, _⟩ => ⟨S8192x1, .f32⟩
  | .hbm, ⟨111, _⟩ => ⟨S8192x2048, .f32⟩
  | .hbm, ⟨112, _⟩ => ⟨S8192x2048, .f32⟩
  | .hbm, ⟨113, _⟩ => ⟨S1x2048, .f32⟩
  | .hbm, ⟨114, _⟩ => ⟨S8192x2048, .f32⟩
  | .hbm, ⟨115, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_cst_5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_call0_v5 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_6 : Ref sig .tc := ⟨.hbm, 73, rfl⟩
abbrev main_v41 : Ref sig .tc := ⟨.hbm, 74, rfl⟩
abbrev main_v42 : Ref sig .tc := ⟨.hbm, 75, rfl⟩
abbrev main_cst_7 : Ref sig .tc := ⟨.hbm, 76, rfl⟩
abbrev main_v43 : Ref sig .tc := ⟨.hbm, 77, rfl⟩
abbrev main_v44 : Ref sig .tc := ⟨.hbm, 78, rfl⟩
abbrev main_cst_8 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_9 : Ref sig .tc := ⟨.hbm, 91, rfl⟩
abbrev main_v56 : Ref sig .tc := ⟨.hbm, 92, rfl⟩
abbrev main_v57 : Ref sig .tc := ⟨.hbm, 93, rfl⟩
abbrev main_cst_10 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_11 : Ref sig .tc := ⟨.hbm, 101, rfl⟩
abbrev main_v64 : Ref sig .tc := ⟨.hbm, 102, rfl⟩
abbrev main_v65 : Ref sig .tc := ⟨.hbm, 103, rfl⟩
abbrev main_cst_12 : Ref sig .tc := ⟨.hbm, 104, rfl⟩
abbrev main_v66 : Ref sig .tc := ⟨.hbm, 105, rfl⟩
abbrev main_v67 : Ref sig .tc := ⟨.hbm, 106, rfl⟩
abbrev main_cst_13 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩

abbrev nD : Nat := 1
abbrev τ : Topo := Topo.v7x

variable {F : FTy → Type} [FloatOps F]
-- ==== Proof.KernelIdealRun.lean ====
/-
  The body of the attention call, run once on arbitrary operands: what it writes into its output block as a function of
  what it reads, with the cumulative sums (the third scratch buffer) either renewed (at the first point of a batch row)
  or kept.
-/
module

public import proofs.«01_k».proof.Proof.Gen.KernelIdeal.Loops
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

variable (𝒱 : Variants) (c : Dev nD) (bd : Option 𝒱.V) (i : grid0.Coords) (arg3 : Memref sig .tc .vmem S512x512 .bf16) (harg3 : arg3.IsWhole) (arg4 : Memref sig .tc .vmem S4096x512 .bf16) (harg4 : arg4.IsWhole) (arg5 : Memref sig .tc .vmem S1x4x144x4096 .bf16) (harg5 : arg5.IsWhole) (arg6 : Memref sig .tc .vmem S4096x128 .f32) (harg6 : arg6.IsWhole) (arg7 : Memref sig .tc .vmem S512x512 .bf16) (harg7 : arg7.IsWhole) (arg8 : Memref sig .tc .vmem S4x2x256x512 .f32) (harg8 : arg8.IsWhole) (arg9 : Memref sig .tc .vmem S4x144x512 .f32) (harg9 : arg9.IsWhole) (arg10 : Memref sig .tc .vmem S2x4096x128 .f32) (harg10 : arg10.IsWhole)

/-- What the body holds: the four input blocks, the output block and the three scratch buffers. -/
abbrev Held (X3 : BufTy.Contents (Elt F) arg3.view.ty) (X4 : BufTy.Contents (Elt F) arg4.view.ty) (X5 : BufTy.Contents (Elt F) arg5.view.ty)
    (X6 : BufTy.Contents (Elt F) arg6.view.ty) (f7 : BufTy.Contents (Elt F) arg7.view.ty) (f8 : BufTy.Contents (Elt F) arg8.view.ty)
    (f9 : BufTy.Contents (Elt F) arg9.view.ty) (f10 : BufTy.Contents (Elt F) arg10.view.ty) : sProp 𝕄G :=
  iprop((arg3.view.loc (c : Thread nD τ) ↦[arg3.view.set]{fullShare} X3) ∗ (arg4.view.loc (c : Thread nD τ) ↦[arg4.view.set]{fullShare} X4)
    ∗ (arg5.view.loc (c : Thread nD τ) ↦[arg5.view.set]{fullShare} X5) ∗ (arg6.view.loc (c : Thread nD τ) ↦[arg6.view.set]{fullShare} X6)
    ∗ (arg7.view.loc (c : Thread nD τ) ↦[arg7.view.set]{fullShare} f7) ∗ (arg8.view.loc (c : Thread nD τ) ↦[arg8.view.set]{fullShare} f8)
    ∗ (arg9.view.loc (c : Thread nD τ) ↦[arg9.view.set]{fullShare} f9) ∗ (arg10.view.loc (c : Thread nD τ) ↦[arg10.view.set]{fullShare} f10))

/-- The cumulative sums after the conditional: renewed by the sixteen blocks where the condition holds, kept where not. -/
def sums (X6 : BufTy.Contents (Elt F) arg6.view.ty) (f10 : BufTy.Contents (Elt F) arg10.view.ty) : BufTy.Contents (Elt F) arg10.view.ty :=
  if h : k0_cond1 i = 1#1 then
    arg10.view.writes (Elt F) f10 (st_k0_t1 (F := F) 𝒱 c bd i arg3 harg3 arg4 harg4 arg5 harg5 arg6 harg6 arg7 harg7 arg8 harg8 arg9 harg9 arg10 harg10 h X6 (k0_pay93 (F := F)) k0_t1_loop.trips).2
  else f10

/-- A conditional whose branches meet again: run the branch to what both leave, then what follows. -/
theorem wp_join {α β : Type} {C : Prop} [Decidable C] (E : Set ℕ) (A : C → Prog (TpuEff nD τ sig (Elt F) Λ₀ .tc) α)
    (J : Prog (TpuEff nD τ sig (Elt F) Λ₀ .tc) β) (Q : β → sProp 𝕄G) (R S : sProp 𝕄G)
    (h1 : ∀ h, R ⊢ wp frame (wpE (defs₀ (F := F)) 𝒱 (c : Thread nD τ) bd) E (A h) (fun _ => S)) (h2 : ¬ C → R ⊢ S) :
    iprop(R ∗ (S -∗ wp frame (wpE (defs₀ (F := F)) 𝒱 (c : Thread nD τ) bd) E J Q))
      ⊢ wp frame (wpE (defs₀ (F := F)) 𝒱 (c : Thread nD τ) bd) E (dite C (fun h => A h >>= fun _ => J) (fun _ => J)) Q := by
  by_cases h : C
  · rw [dif_pos h]
    iintro ⟨HR, HK⟩
    rw [wp_bind]
    iapply (wp_wand_r frame (wpE (defs₀ (F := F)) 𝒱 (c : Thread nD τ) bd) E)
    isplitl [HR]
    · iapply (h1 h); iexact HR
    · iintro %_ HS
      iapply HK; iexact HS
  · rw [dif_neg h]
    iintro ⟨HR, HK⟩
    iapply HK; iapply (h2 h); iexact HR

/-- The conditional leaves the sums at `sums`. -/
theorem sums_run (X6 : BufTy.Contents (Elt F) arg6.view.ty) (f10 : BufTy.Contents (Elt F) arg10.view.ty) (E : Set ℕ) (h : k0_cond1 i = 1#1) :
    iprop((arg6.view.loc (c : Thread nD τ) ↦[arg6.view.set]{fullShare} X6) ∗ (arg10.view.loc (c : Thread nD τ) ↦[arg10.view.set]{fullShare} f10))
      ⊢ wp (M := 𝕄G) frame (wpE (defs₀ (F := F)) 𝒱 (c : Thread nD τ) bd) E
          (Scf.Loop.for k0_t1_loop (k0_t1_ok i h) (k0_pay93 (F := F)) (k0_t1_body i arg3 harg3 arg4 harg4 arg5 harg5 arg6 harg6 arg7 harg7 arg8 harg8 arg9 harg9 arg10 harg10 h))
          (fun _ => iprop((arg6.view.loc (c : Thread nD τ) ↦[arg6.view.set]{fullShare} X6)
            ∗ (arg10.view.loc (c : Thread nD τ) ↦[arg10.view.set]{fullShare} sums 𝒱 c bd i arg3 harg3 arg4 harg4 arg5 harg5 arg6 harg6 arg7 harg7 arg8 harg8 arg9 harg9 arg10 harg10 X6 f10))) := by
  unfold sums
  rw [dif_pos h]
  iintro ⟨H6, H10⟩
  sl_exec
  isplitl [H6]; · iexact H6
  iexact H10

/-- The body run: the pieces it writes into the output block are functions of the inputs, the sums and what it found in
    its first two scratch buffers. -/
@[irreducible] def run (X3 : BufTy.Contents (Elt F) arg3.view.ty) (X4 : BufTy.Contents (Elt F) arg4.view.ty) (X5 : BufTy.Contents (Elt F) arg5.view.ty)
    (X6 : BufTy.Contents (Elt F) arg6.view.ty) :
    { L7 : BufTy.Contents (Elt F) arg8.view.ty → BufTy.Contents (Elt F) arg9.view.ty → BufTy.Contents (Elt F) arg10.view.ty
        → List (View.Piece (Elt F) S512x512 .bf16) //
      ∀ (E : Set ℕ) (f7 : BufTy.Contents (Elt F) arg7.view.ty) (f8 : BufTy.Contents (Elt F) arg8.view.ty)
        (f9 : BufTy.Contents (Elt F) arg9.view.ty) (f10 : BufTy.Contents (Elt F) arg10.view.ty),
        Held (F := F) c arg3 arg4 arg5 arg6 arg7 arg8 arg9 arg10 X3 X4 X5 X6 f7 f8 f9 f10
        ⊢ wp frame (wpE (defs₀ (F := F)) 𝒱 (c : Thread nD τ) bd) E (cc0_attn_b (F := F) i arg3 harg3 arg4 harg4 arg5 harg5 arg6 harg6 arg7 harg7 arg8 harg8 arg9 harg9 arg10 harg10)
            (fun _ => iprop(∃ f8' f9', Held (F := F) c arg3 arg4 arg5 arg6 arg7 arg8 arg9 arg10 X3 X4 X5 X6
              (arg7.view.writes (Elt F) f7 (L7 f8 f9 (sums 𝒱 c bd i arg3 harg3 arg4 harg4 arg5 harg5 arg6 harg6 arg7 harg7 arg8 harg8 arg9 harg9 arg10 harg10 X6 f10))) f8' f9'
              (sums 𝒱 c bd i arg3 harg3 arg4 harg4 arg5 harg5 arg6 harg6 arg7 harg7 arg8 harg8 arg9 harg9 arg10 harg10 X6 f10))) } := by
  refine ⟨?_, fun E f7 f8 f9 f10 => ?run⟩
  case run =>
    simp only [cc0_attn_b_eq_skeleton]; unfold cc0_attn_b_skel
    iintro ⟨H3, H4, H5, H6, H7, H8, H9, H10⟩
    set_option sl_exec.stopBefore "k0_cond1" in sl_exec
    iapply (wp_join 𝒱 c bd E _ _ _
      iprop((arg6.view.loc (c : Thread nD τ) ↦[arg6.view.set]{fullShare} X6) ∗ (arg10.view.loc (c : Thread nD τ) ↦[arg10.view.set]{fullShare} f10))
      iprop((arg6.view.loc (c : Thread nD τ) ↦[arg6.view.set]{fullShare} X6)
        ∗ (arg10.view.loc (c : Thread nD τ) ↦[arg10.view.set]{fullShare} sums 𝒱 c bd i arg3 harg3 arg4 harg4 arg5 harg5 arg6 harg6 arg7 harg7 arg8 harg8 arg9 harg9 arg10 harg10 X6 f10))
      (fun h => sums_run 𝒱 c bd i arg3 harg3 arg4 harg4 arg5 harg5 arg6 harg6 arg7 harg7 arg8 harg8 arg9 harg9 arg10 harg10 X6 f10 E h)
      (fun h => by rw [show sums 𝒱 c bd i arg3 harg3 arg4 harg4 arg5 harg5 arg6 harg6 arg7 harg7 arg8 harg8 arg9 harg9 arg10 harg10 X6 f10 = f10 from dif_neg h]))
    isplitl [H6 H10]
    · isplitl [H6]; · iexact H6
      iexact H10
    generalize sums 𝒱 c bd i arg3 harg3 arg4 harg4 arg5 harg5 arg6 harg6 arg7 harg7 arg8 harg8 arg9 harg9 arg10 harg10 X6 f10 = X10
    iintro ⟨H6, H10⟩
    set_option sl_exec.stopBefore "k0_part33" in sl_exec
    simp only [k0_part33_eq_skeleton]; unfold k0_part33_skel
    rw [bind_assoc]
    sl_exec
    rw [bind_assoc]
    have htr : Scf.trips (k0_t3_loop i).lb (k0_t3_loop i).ub (k0_t3_loop i).st = 0 := Nat.le_zero.1 (k0_t3_abs i).2.1
    sl_exec
    sl_step
    iexists _, _
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

end Cert.KernelIdeal.Attn

end
-- ==== Proof.KernelIdealFrame.lean ====
/-
  The attention call's launch: the body's run at each grid point, and what every run of the program leaves. The third
  scratch buffer (the cumulative sums) is carried from point to point, so the launch is stated at ANY property `Inv` of it
  that the points preserve and ANY property `Rl` of the output blocks that follows; the frame takes the trivial ones.
-/
module

public import proofs.«01_k».proof.Proof.KernelIdealRun
public import proofs.«01_k».proof.Proof.Gen.KernelIdeal.Frame
public import Idealize.ShloMosaic.Lib.Pipeline.DatRel

@[expose] public section

set_option maxRecDepth 8192

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationRel)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The scratch buffers, whole. -/
abbrev sc8 : Memref sig .tc .vmem S4x2x256x512 .f32 := Memref.whole cc0_scratch0
abbrev sc9 : Memref sig .tc .vmem S4x144x512 .f32 := Memref.whole cc0_scratch1
abbrev sc10 : Memref sig .tc .vmem S2x4096x128 .f32 := Memref.whole cc0_scratch2

/-- The staging buffers the pipeline hands the body at point `t`. -/
abbrev p0 (t : Fin cfg0.N) : Memref sig .tc .vmem S512x512 .bf16 := win0_0.stage (cfg0.slots t 0)
abbrev p1 (t : Fin cfg0.N) : Memref sig .tc .vmem S4096x512 .bf16 := win0_1.stage (cfg0.slots t 1)
abbrev p2 (t : Fin cfg0.N) : Memref sig .tc .vmem S1x4x144x4096 .bf16 := win0_2.stage (cfg0.slots t 2)
abbrev p3 (t : Fin cfg0.N) : Memref sig .tc .vmem S4096x128 .f32 := win0_3.stage (cfg0.slots t 3)
abbrev p4 (t : Fin cfg0.N) : Memref sig .tc .vmem S512x512 .bf16 := win0_4.stage (cfg0.slots t 4)

/-- The sums after point `t`'s conditional. -/
abbrev sumsAt (c : Dev nD) (t : Fin cfg0.N) (X6 : BufTy.Contents (Elt F) (p3 t).view.ty) (f10 : BufTy.Contents (Elt F) sc10.view.ty) :
    BufTy.Contents (Elt F) sc10.view.ty :=
  sums Variants.none c none (grid0.coords t) (p0 t) (hstage0_0 ((cfg0.slots t 0).cast nbuf0_0)) (p1 t) (hstage0_1 ((cfg0.slots t 1).cast nbuf0_1))
    (p2 t) (hstage0_2 ((cfg0.slots t 2).cast nbuf0_2)) (p3 t) (hstage0_3 ((cfg0.slots t 3).cast nbuf0_3)) (p4 t) (hstage0_4 ((cfg0.slots t 4).cast nbuf0_4))
    sc8 (Memref.isWhole_whole _) sc9 (Memref.isWhole_whole _) sc10 (Memref.isWhole_whole _) X6 f10

/-- The body's run at point `t`. -/
abbrev runAt (c : Dev nD) (t : Fin cfg0.N) (X3 : BufTy.Contents (Elt F) (p0 t).view.ty) (X4 : BufTy.Contents (Elt F) (p1 t).view.ty)
    (X5 : BufTy.Contents (Elt F) (p2 t).view.ty) (X6 : BufTy.Contents (Elt F) (p3 t).view.ty) :=
  run (F := F) Variants.none c none (grid0.coords t) (p0 t) (hstage0_0 ((cfg0.slots t 0).cast nbuf0_0)) (p1 t) (hstage0_1 ((cfg0.slots t 1).cast nbuf0_1))
    (p2 t) (hstage0_2 ((cfg0.slots t 2).cast nbuf0_2)) (p3 t) (hstage0_3 ((cfg0.slots t 3).cast nbuf0_3)) (p4 t) (hstage0_4 ((cfg0.slots t 4).cast nbuf0_4))
    sc8 (Memref.isWhole_whole _) sc9 (Memref.isWhole_whole _) sc10 (Memref.isWhole_whole _) X3 X4 X5 X6

/-- The output window is the one held to a property. -/
def marks : Fin 5 → Bool := fun | 4 => true | _ => false

variable (Inv : Dev nD → ℕ → (S2x4096x128.Idx → Elt F .f32) → Prop)
variable (Rl : Dev nD → (w : Fin cfg0.W) → Fin cfg0.N → ((cfg0.win w).block.Idx → Elt F (cfg0.win w).elt) → Prop)

/-- The invariant between points: two scratch buffers at anything, the sums meeting `Inv`, the generator register. -/
def Phi (c : Dev nD) (t : ℕ) : sProp 𝕄 :=
  iprop((∃ d, owns (c : Thread nD τ) sc8 fullShare d) ∗ (∃ d, owns (c : Thread nD τ) sc9 fullShare d)
    ∗ (∃ d, ⌜Inv c t d⌝ ∗ owns (c : Thread nD τ) sc10 fullShare d) ∗ (∃ r, prngReg c r))

/-- The proof data: the arrays as the region finds them, the input blocks left in place, the output unnamed. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => Pipeline.Dat.unnamed (cfg := cfg0) 4 t
  Φ t := Phi Inv c t.val
  q w := Pipeline.shareOf spec0 w
  owed _ := 0

theorem dats_A (c : Dev nD) (w : Fin cfg0.W) : (dats m Inv 0 c).A w = V m c (Pipeline.arrRef spec0 w) := by dsimp only [dats]

theorem before0 (c : Dev nD) (t : Fin cfg0.N) (d) : (dats m Inv 0 c).before 0 t d = iblk m c 0 t :=
  before0_0_of m (dats m Inv 0 c) (dats_A m Inv c 0) (fun _ => rfl) t d
theorem before1 (c : Dev nD) (t : Fin cfg0.N) (d) : (dats m Inv 0 c).before 1 t d = iblk m c 1 t :=
  before0_1_of m (dats m Inv 0 c) (dats_A m Inv c 1) (fun _ => rfl) t d
theorem before2 (c : Dev nD) (t : Fin cfg0.N) (d) : (dats m Inv 0 c).before 2 t d = iblk m c 2 t :=
  before0_2_of m (dats m Inv 0 c) (dats_A m Inv c 2) (fun _ => rfl) t d
theorem before3 (c : Dev nD) (t : Fin cfg0.N) (d) : (dats m Inv 0 c).before 3 t d = iblk m c 3 t :=
  before0_3_of m (dats m Inv 0 c) (dats_A m Inv c 3) (fun _ => rfl) t d

/-- What a certificate states of the sums: nothing at first, and each point keeps it. -/
structure Keeps : Prop where
  start : ∀ c X, Inv c 0 X
  step : ∀ (c : Dev nD) (t : Fin cfg0.N) (X6 : BufTy.Contents (Elt F) (p3 t).view.ty) (f10 : BufTy.Contents (Elt F) sc10.view.ty),
    (p3 t).view.read (Elt F) X6 = iblk m c 3 t → Inv c t.val (sc10.view.read (Elt F) f10) →
      Inv c (t.val + 1) (sc10.view.read (Elt F) (sumsAt c t X6 f10))
  out : ∀ (c : Dev nD) (t : Fin cfg0.N) (X3 : BufTy.Contents (Elt F) (p0 t).view.ty) (X4 : BufTy.Contents (Elt F) (p1 t).view.ty)
    (X5 : BufTy.Contents (Elt F) (p2 t).view.ty) (X6 : BufTy.Contents (Elt F) (p3 t).view.ty)
    (f7 : BufTy.Contents (Elt F) (p4 t).view.ty) (f8 : BufTy.Contents (Elt F) sc8.view.ty)
    (f9 : BufTy.Contents (Elt F) sc9.view.ty) (f10 : BufTy.Contents (Elt F) sc10.view.ty),
    (p0 t).view.read (Elt F) X3 = iblk m c 0 t → (p1 t).view.read (Elt F) X4 = iblk m c 1 t → (p2 t).view.read (Elt F) X5 = iblk m c 2 t →
    (p3 t).view.read (Elt F) X6 = iblk m c 3 t → Inv c t.val (sc10.view.read (Elt F) f10) →
      Rl c 4 t ((p4 t).view.read (Elt F) ((p4 t).view.writes (Elt F) f7 ((runAt c t X3 X4 X5 X6).1 f8 f9 (sumsAt c t X6 f10))))

def bodyPre (c : Dev nD) (t : Fin cfg0.N) : sProp 𝕄 :=
  iprop(Phi Inv c t.val ∗ (dats m Inv 0 c).owesAt () t.castSucc
    ∗ owns (c : Thread nD τ) (p0 t) fullShare (iblk m c 0 t) ∗ owns (c : Thread nD τ) (p1 t) fullShare (iblk m c 1 t)
    ∗ owns (c : Thread nD τ) (p2 t) fullShare (iblk m c 2 t) ∗ owns (c : Thread nD τ) (p3 t) fullShare (iblk m c 3 t)
    ∗ (∃ d, owns (c : Thread nD τ) (p4 t) fullShare d))
def bodyPost (c : Dev nD) (t : Fin cfg0.N) : sProp 𝕄 :=
  iprop(Phi Inv c (t.val + 1) ∗ (dats m Inv 0 c).owesAt () t.castSucc
    ∗ owns (c : Thread nD τ) (p0 t) fullShare (iblk m c 0 t) ∗ owns (c : Thread nD τ) (p1 t) fullShare (iblk m c 1 t)
    ∗ owns (c : Thread nD τ) (p2 t) fullShare (iblk m c 2 t) ∗ owns (c : Thread nD τ) (p3 t) fullShare (iblk m c 3 t)
    ∗ (∃ d, ⌜Rl c 4 t d⌝ ∗ owns (c : Thread nD τ) (p4 t) fullShare d))

/-- The body at a point: the run, with what it leaves in the sums and in the output block. -/
theorem sound_body (hK : Keeps m Inv Rl) (c : Dev nD) (t : Fin cfg0.N) :
    bodyPre m Inv c t ⊢ wp frame (wpE (defs₀ (F := F)) Variants.none c none) Set.univ (bodyAt0 t) (fun _ => bodyPost m Inv Rl c t) := by
  unfold bodyPre bodyPost bodyAt0 Phi
  unfold owns
  iintro ⟨⟨⟨%d8, %f8, -, H8⟩, ⟨%d9, %f9, -, H9⟩, ⟨%d10, %h10, %f10, %e10, H10⟩, HP⟩, HO, ⟨%X3, %e3, H3⟩, ⟨%X4, %e4, H4⟩, ⟨%X5, %e5, H5⟩, ⟨%X6, %e6, H6⟩, ⟨%d7, %f7, -, H7⟩⟩
  subst e10
  have hs := hK.step c t X6 f10 e6 h10
  have ho := hK.out c t X3 X4 X5 X6 f7 f8 f9 f10 e3 e4 e5 e6 h10
  iapply (wp_wand_r frame (wpE (defs₀ (F := F)) Variants.none (c : Thread nD τ) none) Set.univ)
  isplitl [H3 H4 H5 H6 H7 H8 H9 H10]
  · iapply ((runAt c t X3 X4 X5 X6).2 Set.univ f7 f8 f9 f10)
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iintro %_ ⟨%f8', %f9', H3, H4, H5, H6, H7, H8, H9, H10⟩
    isplitl [H8 H9 H10 HP]
    · isplitl [H8]
      · iexists _, _; isplitr; swap; · iexact H8
        ipureintro; rfl
      isplitl [H9]
      · iexists _, _; isplitr; swap; · iexact H9
        ipureintro; rfl
      isplitl [H10]
      · iexists _; isplitr; · ipureintro; exact hs
        iexists _; isplitr; swap; · iexact H10
        ipureintro; rfl
      iexact HP
    isplitl [HO]; · iexact HO
    isplitl [H3]
    · iexists _; isplitr; swap; · iexact H3
      ipureintro; exact e3
    isplitl [H4]
    · iexists _; isplitr; swap; · iexact H4
      ipureintro; exact e4
    isplitl [H5]
    · iexists _; isplitr; swap; · iexact H5
      ipureintro; exact e5
    isplitl [H6]
    · iexists _; isplitr; swap; · iexact H6
      ipureintro; exact e6
    iexists _; isplitr; · ipureintro; exact ho
    iexists _; isplitr; swap; · iexact H7
    ipureintro; rfl

/-- The body table's row at the point is the body as the pipeline calls it. -/
theorem defs₀_row (t : Fin cfg0.N) : defs₀ (F := F) .tc cfg0.body (cfg0.bodyArgs t (cfg0.slots t)) = bodyAt0 t := by
  unfold defs₀; rw [Defs.onTc_tc]

theorem body_obligation (hK : Keeps m Inv Rl) (c : Dev nD) :
    BodyObligationRel (dats m Inv 0 c) (defs₀ (F := F)) Variants.none () Set.univ marks (Rl c) := fun t => by
  rw [bigSep_W0, bigSep_W0, defs₀_row]
  have hpre : iprop(Phi Inv c t.val ∗ (dats m Inv 0 c).owesAt () t.castSucc
      ∗ (∃ d, owns (c : Thread nD τ) (p0 t) fullShare ((dats m Inv 0 c).before 0 t d))
      ∗ (∃ d, owns (c : Thread nD τ) (p1 t) fullShare ((dats m Inv 0 c).before 1 t d))
      ∗ (∃ d, owns (c : Thread nD τ) (p2 t) fullShare ((dats m Inv 0 c).before 2 t d))
      ∗ (∃ d, owns (c : Thread nD τ) (p3 t) fullShare ((dats m Inv 0 c).before 3 t d))
      ∗ (∃ Y, ⌜((dats m Inv 0 c).toRRel marks (Rl c)).Finds 4 t Y⌝ ∗ owns (c : Thread nD τ) (p4 t) fullShare Y)) ⊢ bodyPre m Inv c t := by
    unfold bodyPre
    iintro ⟨HΦ, HO, ⟨%d0, H0⟩, ⟨%d1, H1⟩, ⟨%d2, H2⟩, ⟨%d3, H3⟩, ⟨%Y, -, H4⟩⟩
    rw [before0, before1, before2, before3]
    isplitl [HΦ]; · iexact HΦ
    isplitl [HO]; · iexact HO
    isplitl [H0]; · iexact H0
    isplitl [H1]; · iexact H1
    isplitl [H2]; · iexact H2
    isplitl [H3]; · iexact H3
    iexists _; iexact H4
  exact hpre.trans (sound_body m Inv Rl hK c t)

/-- The relational proof data of the launch. -/
abbrev rdat (c : Dev nD) := (dats m Inv 0 c).toRRel marks (Rl c)

set_option backward.isDefEq.respectTransparency.types false in
/-- Every run of the program ends with every argument as launched, and each output block meeting `Rl`. -/
theorem run_main (hK : Keeps m Inv Rl) :
    θ_run defs (onTc (τ := τ) (main (F := F))) (s₀ m ρ)
      (fun r => Pipeline.RDat.FramePost (cfgs 0) (rdat m Inv Rl) (V m) r ∧ r.2.sem = fun _ => 0) :=
  Pipeline.RDat.θ_run_frame_track_shared (Q' := _) cfgs (0 : Fin 1) launch₀0 defs₀ Variants.none (rdat m Inv Rl) m ρ main
    (hbody := fun c => (body_obligation m Inv Rl hK c).toRRel) (hq := fun _ _ _ => rfl)
    (howed := fun _ _ => rfl) (V := V m) (hmain := hmain m Variants.none) (hA := dats_A m Inv)
    (hin := fun c => by
      rw [show (rdat m Inv Rl c).Φ 0 = Phi Inv c 0 from rfl]
      unfold Pipeline.ΦA Phi
      rw [scopedRest0_eq]
      simp only [owns_whole]
      iintro ⟨⟨H8, H9, ⟨%f, H10⟩⟩, HP⟩
      isplitl [H8]; · iexact H8
      isplitl [H9]; · iexact H9
      isplitl [H10]
      · iexists f; isplitr; · ipureintro; exact hK.start c f
        iexact H10
      iexact HP)
    (hout := fun c => by
      rw [show (rdat m Inv Rl c).Φ (Fin.last cfg0.N) = Phi Inv c cfg0.N from rfl]
      unfold Pipeline.ΦA Phi
      rw [scopedRest0_eq]
      simp only [owns_whole]
      iintro ⟨H8, H9, ⟨%f, -, H10⟩, HP⟩
      isplitl [H8 H9 H10]
      · isplitl [H8]; · iexact H8
        isplitl [H9]; · iexact H9
        iexists f; iexact H10
      iexact HP)

variable {m ρ Inv Rl}

/-- The arguments after a run, from the launch's post. -/
theorem args_kept {r : PUnit × MemSt nD τ sig (Elt F)} (h : Pipeline.RDat.FramePost (cfgs 0) (rdat m Inv Rl) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩

/-- The frame: with nothing asked of the sums or of the output. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => args_kept h.1 c, h.2⟩)
    (run_main m ρ (fun _ _ _ => True) (fun _ _ _ _ => True)
      ⟨fun _ _ => trivial, fun _ _ _ _ _ _ => trivial, fun _ _ _ _ _ _ _ _ _ _ _ _ _ _ _ => trivial⟩)

end Cert.KernelIdeal.Attn

end
-- ==== Proof.AttnMath.lean ====
/-
  The running softmax in numbers: one query's state while chunks of 256 keys are added, powers of two taken off a moving
  reference point, and the quotient at the end.
-/
module

public import Idealize.ShloMosaic.PureOps.Ideal
public import Idealize.ShloMosaic.PureOps.Ideal.Laws

@[expose] public section

noncomputable section

namespace Cert.KernelIdeal.Attn

open Idealize.ShloMosaic

/-- A sum of real numbers read as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of a chunk: never the top, and a number as soon as one of its entries is. -/
theorem fold_max {n : ℕ} (L : Fin n → EReal) (hL : ∀ s, L s ≠ ⊤) :
    (Finset.univ : Finset (Fin n)).fold max ⊥ L ≠ ⊤ ∧ ∀ s, L s ≠ ⊥ → (Finset.univ : Finset (Fin n)).fold max ⊥ L ≠ ⊥ := by
  classical
  constructor
  · have h : (Finset.univ : Finset (Fin n)).fold max ⊥ L < ⊤ := by
      rw [Finset.fold_max_lt]
      exact ⟨bot_lt_top, fun s _ => lt_top_iff_ne_top.mpr (hL s)⟩
    exact h.ne
  · intro s hs
    have h : ⊥ < (Finset.univ : Finset (Fin n)).fold max ⊥ L := by
      rw [Finset.lt_fold_max]
      exact Or.inr ⟨s, Finset.mem_univ _, bot_lt_iff_ne_bot.mpr hs⟩
    exact h.ne'

/-- One query's state after the keys of `S`: nothing yet, or a reference point and, for each row of values, the sum of the
    values weighted by powers of two off that point. -/
def St (S : Finset ℕ) (l : ℕ → ℝ) (v : Fin 144 → ℕ → ℝ) (m : EReal) (a : Fin 144 → EReal) : Prop :=
  (S = ∅ ∧ m = ⊥ ∧ ∀ r, a r = 0) ∨
    ∃ m' : ℝ, m = m' ∧ ∀ r, a r = ((∑ s ∈ S, v r s * (2 : ℝ) ^ (l s - m') : ℝ) : EReal)

/-- A sum over a chunk's 256 entries is the sum over its keys. -/
theorem sum_chunk (o : ℕ) (f : ℕ → ℝ) : ∑ s : Fin 256, f (o + s.val) = ∑ s ∈ Finset.Ico o (o + 256), f s := by
  rw [Finset.sum_Ico_eq_sum_range, Finset.sum_range]
  exact Finset.sum_equiv (finCongr (by omega)) (by simp) (fun s _ => rfl)

/-- The keys of a chunk that the mask lets through. -/
def keys (o : ℕ) (p : ℕ → Prop) [DecidablePred p] : Finset ℕ := (Finset.Ico o (o + 256)).filter p

/-- Adding a chunk of 256 keys. -/
theorem St.step {S : Finset ℕ} {l : ℕ → ℝ} {v : Fin 144 → ℕ → ℝ} {m : EReal} {a : Fin 144 → EReal} (h : St S l v m a)
    (o : ℕ) (p : ℕ → Prop) [DecidablePred p] (hd : ∀ s ∈ S, ¬ (o ≤ s ∧ s < o + 256))
    (L : Fin 256 → EReal) (hL : ∀ s, L s = if p (o + s.val) then (l (o + s.val) : EReal) else ⊥)
    (V : Fin 144 → Fin 256 → EReal) (hV : ∀ r s, V r s = (v r (o + s.val) : EReal))
    (c : EReal) (hc : c ≠ ⊤) (hne : S = ∅ → c ≠ ⊥) :
    St (S ∪ keys o p) l v (max m c)
      (fun r => Ideal.exp2 (m - max m c) * a r + ∑ s : Fin 256, V r s * Ideal.exp2 (L s - max m c)) := by
  have hreal : ∃ m' : ℝ, max m c = (m' : EReal) := by
    have h1 : max m c ≠ ⊤ := by
      rcases h with ⟨_, hm, _⟩ | ⟨m', hm, _⟩
      · rw [hm]; simpa using hc
      · rw [hm]; intro h; rcases max_eq_iff.mp h with ⟨h, _⟩ | ⟨h, _⟩
        · exact EReal.coe_ne_top _ h
        · exact hc h
    have h2 : max m c ≠ ⊥ := by
      rcases h with ⟨hS, hm, _⟩ | ⟨m', hm, _⟩
      · rw [hm]; simpa using hne hS
      · rw [hm]; intro h
        have := le_max_left (m' : EReal) c
        rw [h] at this
        exact EReal.coe_ne_bot _ (le_bot_iff.mp this)
    exact ⟨(max m c).toReal, (EReal.coe_toReal h1 h2).symm⟩
  obtain ⟨n, hn⟩ := hreal
  rw [hn]
  refine Or.inr ⟨n, rfl, fun r => ?_⟩
  have hchunk : ∑ s : Fin 256, V r s * Ideal.exp2 (L s - (n : EReal))
      = ((∑ s ∈ keys o p, v r s * (2 : ℝ) ^ (l s - n) : ℝ) : EReal) := by
    unfold keys
    rw [Finset.sum_filter, ← sum_chunk o (fun s => if p s then v r s * (2 : ℝ) ^ (l s - n) else 0), coe_sum]
    refine Finset.sum_congr rfl fun s _ => ?_
    rw [hV, hL]
    by_cases hp : p (o + s.val)
    · rw [if_pos hp, if_pos hp, ← EReal.coe_sub, Ideal.exp2_coe, ← EReal.coe_mul]; rfl
    · rw [if_neg hp, if_neg hp, EReal.bot_sub, Ideal.exp2_bot, mul_zero, EReal.coe_zero]
  have hdis : Disjoint S (keys o p) := by
    rw [Finset.disjoint_left]
    intro s hs hk
    have := (Finset.mem_filter.mp hk).1
    rw [Finset.mem_Ico] at this
    exact hd s hs this
  show Ideal.exp2 (m - (n : EReal)) * a r + ∑ s : Fin 256, V r s * Ideal.exp2 (L s - (n : EReal)) = _
  rw [hchunk, Finset.sum_union hdis, EReal.coe_add]
  congr 1
  rcases h with ⟨hS, hm, ha⟩ | ⟨m', hm, ha⟩
  · rw [ha, mul_zero, hS, Finset.sum_empty, EReal.coe_zero]
  · rw [ha, hm, ← EReal.coe_sub, Ideal.exp2_coe, ← EReal.coe_mul, Finset.mul_sum]
    congr 1
    refine Finset.sum_congr rfl fun s _ => ?_
    rw [show l s - n = (m' - n) + (l s - m') by ring, Real.rpow_add (by norm_num)]
    change (2 : ℝ) ^ (m' - n) * _ = _
    ring

/-- The quotient at the end does not depend on the reference point. -/
theorem St.quot {S : Finset ℕ} {l : ℕ → ℝ} {v : Fin 144 → ℕ → ℝ} {m : EReal} {a : Fin 144 → EReal} (h : St S l v m a)
    (hS : S.Nonempty) (r z : Fin 144) (hz : ∀ s, v z s = 1) :
    Ideal.div (a r) (a z) = (((∑ s ∈ S, v r s * (2 : ℝ) ^ (l s)) / (∑ s ∈ S, (2 : ℝ) ^ (l s)) : ℝ) : EReal) := by
  rcases h with ⟨h, _, _⟩ | ⟨m', _, ha⟩
  · exact absurd h hS.ne_empty
  · have e : ∀ r', ∑ s ∈ S, v r' s * (2 : ℝ) ^ (l s - m') = (2 : ℝ) ^ (-m') * ∑ s ∈ S, v r' s * (2 : ℝ) ^ (l s) := by
      intro r'
      rw [Finset.mul_sum]
      refine Finset.sum_congr rfl fun s _ => ?_
      rw [show l s - m' = -m' + l s by ring, Real.rpow_add (by norm_num)]
      ring
    have hp : (0 : ℝ) < (2 : ℝ) ^ (-m') := Real.rpow_pos_of_pos (by norm_num) _
    have hq : (0 : ℝ) < ∑ s ∈ S, (2 : ℝ) ^ (l s) :=
      Finset.sum_pos (fun s _ => Real.rpow_pos_of_pos (by norm_num) _) hS
    rw [ha, ha, e r, e z]
    simp only [hz, one_mul]
    have hne : (2 : ℝ) ^ (-m') * ∑ s ∈ S, (2 : ℝ) ^ (l s) ≠ 0 := (mul_pos hp hq).ne'
    rw [Ideal.div_coe hne, ← EReal.coe_mul, mul_one_div, mul_div_mul_left _ _ hp.ne']

end Cert.KernelIdeal.Attn
-- ==== Proof.AttnOps.lean ====
/-
  The vector operations of one chunk step, read at one index: a chunk's logits, its mask, its maximum over the keys, and
  the step of the running sums.
-/
module

public import proofs.«01_k».proof.Proof.AttnMath
public import proofs.«01_k».proof.Proof.Gen.KernelIdeal
public import Idealize.ShloMosaic.Lib.ValueIdx
public import Idealize.ShloMosaic.Lib.ValueLayout
public import Idealize.ShloMosaic.Lib.MatmulPlain
public import Idealize.ShloMosaic.Lib.VecWindow

@[expose] public section

set_option maxRecDepth 8192

noncomputable section

namespace Cert.KernelIdeal.Attn

open Cert.KernelIdeal Cert.KernelIdeal.Gen
open Idealize.ShloMosaic Idealize.ShloMosaic.ValueIdx

/-- A chunk's logits: keys times queries, and the difference of the two cumulative sums in lane `n`. -/
def lg (n : ℕ) (h : S256x128.Slices ![0, n] S256x1) (xq : FVec Ideal S1x1x128 .f32) (xk : FVec Ideal S1x256x128 .f32)
    (kb : FVec Ideal S256x128 .bf16) (qb : FVec Ideal S512x128 .bf16) : FVec Ideal S256x512 .f32 :=
  addf (matmul dot_S256x128_S512x128_S256x512_1_1_0_0_n_n none (shapeCast S256x128 kb shapeCasts_S256x128_S256x128)
      (shapeCast S512x128 qb shapeCasts_S512x128_S512x128) (constant S256x512 .f32 0x00000000#32))
    (broadcastTo S256x512 (extractStridedSlice S256x1 ![0, n]
      (subf (broadcastTo S256x128 (shapeCast S1x128 xq shapeCasts_S1x1x128_S1x128) broadcasts_S1x128_S256x128)
        (shapeCast S256x128 xk shapeCasts_S1x256x128_S256x128)) h) broadcasts_S256x1_S256x512)

/-- A chunk's logits with the keys past the query put out. -/
def msk (o : BitVec 32) (L : FVec Ideal S256x512 .f32) : FVec Ideal S256x512 .f32 :=
  select (cmpi .sle (broadcastTo S256x512 (addi (broadcast S256x1 o) (iota .tc S256x1 32 [0] iota_S256x1_d0_w32)) broadcasts_S256x1_S256x512)
    (broadcastTo S256x512 (iota .tc S1x512 32 [1] iota_S1x512_d1_w32) broadcasts_S1x512_S256x512)) L
    (broadcast S256x512 (Named.named κ "mask" 0xF149F2CA#32))

/-- A chunk's maximum over its keys. -/
def cmx (L : FVec Ideal S256x512 .f32) : FVec Ideal S1x512 .f32 :=
  shapeCast S1x512 (multiReduction .maximumf [0] S512 L 0xFF800000#32 reduces_S256x512_S512 (.inl rfl) rfl) shapeCasts_S512_S1x512

/-- The step of the running sums. -/
def accN (m mn : FVec Ideal S1x512 .f32) (L : FVec Ideal S1x1x256x512 .f32) (a : FVec Ideal S1x144x512 .f32)
    (v : FVec Ideal S1x1x144x256 .bf16) : FVec Ideal S144x512 .f32 :=
  addf (mulf (broadcastTo S144x512 (exp2 (subf m mn)) broadcasts_S1x512_S144x512) (shapeCast S144x512 a shapeCasts_S1x144x512_S144x512))
    (matmul dot_S144x256_S256x512_S144x512_1_0_0_1_n_n none (shapeCast S144x256 v shapeCasts_S1x1x144x256_S144x256)
      (truncf .bf16 (exp2 (subf (shapeCast S256x512 L shapeCasts_S1x1x256x512_S256x512) (broadcastTo S256x512 mn broadcasts_S1x512_S256x512))) bitsLt_bf16_f32)
      (constant S144x512 .f32 0x00000000#32))

theorem shapeCast_self {s : Shape} {α : Type} (x : s.Idx → α) (h : s.ShapeCasts s) : shapeCast s x h = x := by
  funext j; exact shapeCast_apply x h j j rfl

theorem cast_11ab {a b : ℕ} {α : Type} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

theorem cast_ab_11ab {a b : ℕ} {α : Type} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    rw [Shape.rowMajor_val_four, Shape.rowMajor_val_two]
    show i.val * b + j.val = ((u.val * 1 + w.val) * a + i.val) * b + j.val
    have : u.val = 0 := by omega
    have : w.val = 0 := by omega
    simp [*])

theorem bcast_col (x : FVec Ideal S256x1 .f32) (h : S256x1.Broadcasts S256x512) (s : Fin 256) (q : Fin 512) :
    broadcastTo S256x512 x h (ix2 s q) = x (ix2 s (0 : Fin 1)) :=
  broadcastTo_apply x h _ _ fun a => match a with | ⟨0, _⟩ => rfl | ⟨1, _⟩ => rfl

theorem bcast_colI (x : IVec S256x1 32) (h : S256x1.Broadcasts S256x512) (s : Fin 256) (q : Fin 512) :
    broadcastTo S256x512 x h (ix2 s q) = x (ix2 s (0 : Fin 1)) :=
  broadcastTo_apply x h _ _ fun a => match a with | ⟨0, _⟩ => rfl | ⟨1, _⟩ => rfl

theorem lg_apply (n : ℕ) (h : S256x128.Slices ![0, n] S256x1) (hn : n < 128) (xq : FVec Ideal S1x1x128 .f32) (xk : FVec Ideal S1x256x128 .f32)
    (kb : FVec Ideal S256x128 .bf16) (qb : FVec Ideal S512x128 .bf16) (s : Fin 256) (q : Fin 512) :
    lg n h xq xk kb qb (ix2 s q) = ∑ d : Fin 128, kb (ix2 s d) * qb (ix2 q d)
      + (xq (ix3 (0 : Fin 1) (0 : Fin 1) (⟨n, hn⟩ : Fin 128)) - xk (ix3 (0 : Fin 1) s (⟨n, hn⟩ : Fin 128))) := by
  unfold lg
  rw [addf_apply, bcast_col, slice2_axis1_apply n _ h s (0 : Fin 1) ⟨n, hn⟩ rfl, subf_apply, broadcastTo_1b_ab_apply,
    shapeCast_1ab_ab_apply, shapeCast_1ab_ab_apply, shapeCast_self, shapeCast_self]
  congr 1
  exact (Ideal.matmul_transposedRhs_apply none kb qb _ s q).trans (by
    rw [constant_apply]; simp)

theorem msk_apply (o : BitVec 32) (ho : o.toNat ≤ 256) (L : FVec Ideal S256x512 .f32) (s : Fin 256) (q : Fin 512) :
    msk o L (ix2 s q) = if o.toNat + s.val ≤ q.val then L (ix2 s q) else ⊥ := by
  have e : msk o L (ix2 s q) = Scalar.select (BitVec.ofBool ((o + BitVec.ofNat 32 s.val).sle (BitVec.ofNat 32 q.val))) (L (ix2 s q)) ⊥ := by
    unfold msk
    show Scalar.select (BitVec.ofBool (BitVec.sle (broadcastTo _ _ _ _) (broadcastTo _ _ _ _))) _ _ = _
    rw [bcast_colI, broadcastTo_1b_ab_apply]
    show Scalar.select (BitVec.ofBool (BitVec.sle (o + iota .tc S256x1 32 [0] _ _) (iota .tc S1x512 32 [1] _ _))) _ _ = _
    rw [iota_single_apply, iota_single_apply]
    rfl
  have hs := s.isLt
  have hq := q.isLt
  have e2 : (o + BitVec.ofNat 32 s.val).sle (BitVec.ofNat 32 q.val) = decide (o.toNat + s.val ≤ q.val) := by
    have h1 : (o + BitVec.ofNat 32 s.val).toNat = o.toNat + s.val := by
      rw [BitVec.toNat_add, BitVec.toNat_ofNat]; omega
    have h2 : (BitVec.ofNat 32 q.val).toNat = q.val := by
      rw [BitVec.toNat_ofNat]; omega
    rw [BitVec.sle_eq_decide, BitVec.toInt_eq_toNat_of_lt (by omega), BitVec.toInt_eq_toNat_of_lt (by omega), h1, h2]
    simp only [decide_eq_decide]
    omega
  rw [e, e2]
  by_cases h : o.toNat + s.val ≤ q.val
  · simp [h, Scalar.select]
  · simp [h, Scalar.select]

theorem cmx_apply (L : FVec Ideal S256x512 .f32) (q : Fin 512) :
    cmx L (ix2 (0 : Fin 1) q) = (Finset.univ : Finset (Fin 256)).fold max ⊥ (fun s => L (ix2 s q)) := by
  unfold cmx
  rw [shapeCast_a_1a_apply]
  refine (Ideal.multiReduction_maximumf_single _ _ _ _ _ _).trans ?_
  have hb : (FloatOps.ofBits .f32 0xFF800000#32 : Ideal .f32) = (⊥ : EReal) := by
    rw [Ideal.ofBits_def]; simp [Ideal.ofBits, Ideal.ieee]
  rw [hb]
  refine congrArg (fun f => (Finset.univ : Finset (Fin 256)).fold max (⊥ : EReal) f) ?_
  funext s
  refine congrArg L ?_
  funext a
  match a with
  | ⟨0, _⟩ => rfl
  | ⟨1, _⟩ => rfl

theorem accN_apply (m mn : FVec Ideal S1x512 .f32) (L : FVec Ideal S1x1x256x512 .f32) (a : FVec Ideal S1x144x512 .f32)
    (v : FVec Ideal S1x1x144x256 .bf16) (r : Fin 144) (q : Fin 512) :
    accN m mn L a v (ix2 r q) = Ideal.exp2 (m (ix2 (0 : Fin 1) q) - mn (ix2 (0 : Fin 1) q)) * a (ix3 (0 : Fin 1) r q)
      + ∑ s : Fin 256, v (ix4 (0 : Fin 1) (0 : Fin 1) r s) * Ideal.exp2 (L (ix4 (0 : Fin 1) (0 : Fin 1) s q) - mn (ix2 (0 : Fin 1) q)) := by
  unfold accN
  rw [addf_apply, mulf_apply, broadcastTo_1b_ab_apply, shapeCast_1ab_ab_apply]
  congr 1
  refine (Ideal.matmul_plain_apply none _ _ _ r q).trans ?_
  rw [constant_apply]
  simp only [Ideal.ofBits_zero_f32, zero_add]
  refine Finset.sum_congr rfl fun s _ => ?_
  rw [cast_11ab, truncf_apply]
  show _ * Ideal.exp2 (_ - _) = _
  rw [cast_11ab, broadcastTo_1b_ab_apply]

end Cert.KernelIdeal.Attn
-- ==== Proof.AttnStep.lean ====
/-
  One trip of the chunk loop, in numbers: what the operands hold, the logits of a query and a key, and the state of one
  head before each trip.
-/
module

public import proofs.«01_k».proof.Proof.AttnOps

@[expose] public section

set_option maxRecDepth 8192

noncomputable section

namespace Cert.KernelIdeal.Attn

open Cert.KernelIdeal Cert.KernelIdeal.Gen
open Idealize.ShloMosaic Idealize.ShloMosaic.ValueIdx

/-- The numbers the operands hold: query rows of the block, key rows, value rows by head, cumulative sums by key and head. -/
structure Nums where
  qr : ℕ → ℕ → ℝ
  kr : ℕ → ℕ → ℝ
  vr : ℕ → Fin 144 → ℕ → ℝ
  cr : ℕ → ℕ → ℝ

/-- The logit, in powers of two, of query `q` of the block starting at row `q0` and key `s`, in head `n`. -/
def Nums.l (D : Nums) (q0 n s q : ℕ) : ℝ :=
  ∑ d : Fin 128, D.kr s (128 * n + d.val) * D.qr q (128 * n + d.val) + (D.cr q0 n - D.cr s n)

/-- A load at a unit rectangle reads the view's contents at the shifted index. -/
theorem readAt_at {s : Shape} {e : EltTy} (a : Memref sig .tc .vmem s e) (f : BufTy.Contents (Elt Ideal) a.view.ty)
    {off : Fin s.rank → ℕ} {size : Fin s.rank → ℕ} (inb : ∀ x, off x + size x ≤ s.size x) (y : (Rect.unit (s := s) off size inb).shape.Idx)
    (z : s.Idx) (hz : ∀ x, (z x).val = off x + (y x).val) :
    a.view.readAt (Elt Ideal) (Rect.unit (s := s) off size inb).toLoadRect f y = a.view.read (Elt Ideal) f z := by
  rw [View.readAt_unit a.view f inb rfl inb]
  show a.view.read (Elt Ideal) f ((Rect.unit off size inb).emb y) = _
  refine congrArg _ (funext fun x => Fin.ext ?_)
  show off x + 1 * (y x).val = (z x).val
  rw [hz x, Nat.one_mul]

variable {arg3 : Memref sig .tc .vmem S512x512 .bf16} {arg4 : Memref sig .tc .vmem S4096x512 .bf16} {arg5 : Memref sig .tc .vmem S1x4x144x4096 .bf16}
  {arg8 : Memref sig .tc .vmem S4x2x256x512 .f32} {arg9 : Memref sig .tc .vmem S4x144x512 .f32} {arg10 : Memref sig .tc .vmem S2x4096x128 .f32}

/-- The operands hold the numbers: the group `g` of the cumulative sums. -/
structure Holds (D : Nums) (g : ℕ) (X3 : BufTy.Contents (Elt Ideal) arg3.view.ty) (X4 : BufTy.Contents (Elt Ideal) arg4.view.ty)
    (X5 : BufTy.Contents (Elt Ideal) arg5.view.ty) (X10 : BufTy.Contents (Elt Ideal) arg10.view.ty) : Prop where
  hg : g < 2
  q : ∀ (s : Fin 512) (j : Fin 512), arg3.view.read (Elt Ideal) X3 (ix2 s j) = (D.qr s.val j.val : EReal)
  k : ∀ (s : Fin 4096) (j : Fin 512), arg4.view.read (Elt Ideal) X4 (ix2 s j) = (D.kr s.val j.val : EReal)
  v : ∀ (n : Fin 4) (r : Fin 144) (s : Fin 4096), arg5.view.read (Elt Ideal) X5 (ix4 (0 : Fin 1) n r s) = (D.vr n.val r s.val : EReal)
  c : ∀ (s : Fin 4096) (n : Fin 128), n.val < 4 → arg10.view.read (Elt Ideal) X10 (ix3 (⟨g, hg⟩ : Fin 2) s n) = (D.cr s.val n.val : EReal)

variable {D : Nums} {g : ℕ} {X3 : BufTy.Contents (Elt Ideal) arg3.view.ty} {X4 : BufTy.Contents (Elt Ideal) arg4.view.ty}
    {X5 : BufTy.Contents (Elt Ideal) arg5.view.ty} {X10 : BufTy.Contents (Elt Ideal) arg10.view.ty}

/-- The logits of the chunk at key `o`. -/
theorem Holds.lg_val (H : Holds (arg3 := arg3) (arg4 := arg4) (arg5 := arg5) (arg10 := arg10) D g X3 X4 X5 X10)
    (n : ℕ) (hn : n < 4) (h : S256x128.Slices ![0, n] S256x1) (q0 o : ℕ) (ho : o + 256 ≤ 4096)
    {oq ok : Fin 3 → ℕ} {oK oQ : Fin 2 → ℕ} (inq) (ink) (inK) (inQ)
    (eq : oq = ![g, q0, 0]) (ek : ok = ![g, o, 0]) (eK : oK = ![o, 128 * n]) (eQ : oQ = ![0, 128 * n]) (s : Fin 256) (q : Fin 512) :
    lg n h (arg10.view.readAt (Elt Ideal) (Rect.unit (s := S2x4096x128) oq S1x1x128.size inq).toLoadRect X10)
        (arg10.view.readAt (Elt Ideal) (Rect.unit (s := S2x4096x128) ok S1x256x128.size ink).toLoadRect X10)
        (arg4.view.readAt (Elt Ideal) (Rect.unit (s := S4096x512) oK S256x128.size inK).toLoadRect X4)
        (arg3.view.readAt (Elt Ideal) (Rect.unit (s := S512x512) oQ S512x128.size inQ).toLoadRect X3) (ix2 s q)
      = (D.l q0 n (o + s.val) q.val : EReal) := by
  subst eq ek eK eQ
  have hq0 : q0 + 1 ≤ 4096 := inq 1
  rw [lg_apply n h (by omega)]
  unfold Nums.l
  rw [EReal.coe_add, EReal.coe_sub, coe_sum]
  have hs := s.isLt
  congr 1
  · refine Finset.sum_congr rfl fun d _ => ?_
    have hd := d.isLt
    rw [EReal.coe_mul]
    congr 1
    · refine (readAt_at arg4 X4 inK (ix2 s d) (ix2 (⟨o + s.val, by omega⟩ : Fin 4096) (⟨128 * n + d.val, by omega⟩ : Fin 512)) ?_).trans (H.k _ _)
      intro x
      match x with
      | ⟨0, _⟩ => rfl
      | ⟨1, _⟩ => rfl
    · refine (readAt_at arg3 X3 inQ (ix2 q d) (ix2 (⟨q.val, by omega⟩ : Fin 512) (⟨128 * n + d.val, by omega⟩ : Fin 512)) ?_).trans (H.q _ _)
      intro x
      match x with
      | ⟨0, _⟩ => exact (Nat.zero_add _).symm
      | ⟨1, _⟩ => rfl
  · congr 1
    · refine (readAt_at arg10 X10 inq (ix3 (0 : Fin 1) (0 : Fin 1) (⟨n, by omega⟩ : Fin 128)) (ix3 (⟨g, H.hg⟩ : Fin 2) (⟨q0, by omega⟩ : Fin 4096) (⟨n, by omega⟩ : Fin 128)) ?_).trans (H.c _ _ hn)
      intro x
      match x with
      | ⟨0, _⟩ => rfl
      | ⟨1, _⟩ => rfl
      | ⟨2, _⟩ => exact (Nat.zero_add _).symm
    · refine (readAt_at arg10 X10 ink (ix3 (0 : Fin 1) s (⟨n, by omega⟩ : Fin 128)) (ix3 (⟨g, H.hg⟩ : Fin 2) (⟨o + s.val, by omega⟩ : Fin 4096) (⟨n, by omega⟩ : Fin 128)) ?_).trans (H.c _ _ hn)
      intro x
      match x with
      | ⟨0, _⟩ => rfl
      | ⟨1, _⟩ => rfl
      | ⟨2, _⟩ => exact (Nat.zero_add _).symm

/-- The values of the chunk at key `o`. -/
theorem Holds.v_val (H : Holds (arg3 := arg3) (arg4 := arg4) (arg5 := arg5) (arg10 := arg10) D g X3 X4 X5 X10)
    (n : ℕ) (hn : n < 4) (o : ℕ) (ho : o + 256 ≤ 4096) {oV : Fin 4 → ℕ} (inV) (eV : oV = ![0, n, 0, o]) (r : Fin 144) (s : Fin 256) :
    arg5.view.readAt (Elt Ideal) (Rect.unit (s := S1x4x144x4096) oV S1x1x144x256.size inV).toLoadRect X5 (ix4 (0 : Fin 1) (0 : Fin 1) r s)
      = (D.vr n r (o + s.val) : EReal) := by
  subst eV
  have hs := s.isLt
  refine (readAt_at arg5 X5 inV (ix4 (0 : Fin 1) (0 : Fin 1) r s) (ix4 (0 : Fin 1) (⟨n, hn⟩ : Fin 4) r (⟨o + s.val, by omega⟩ : Fin 4096)) ?_).trans (H.v _ _ _)
  intro x
  match x with
  | ⟨0, _⟩ => rfl
  | ⟨1, _⟩ => rfl
  | ⟨2, _⟩ => exact (Nat.zero_add _).symm
  | ⟨3, _⟩ => rfl

/-- The keys taken before trip `k` by query `q` of the block starting at `q0`. -/
def taken (q0 k q : ℕ) : Finset ℕ := (Finset.range 4096).filter fun s => (q0 ≤ s ∧ s ≤ q0 + q) ∨ s < 512 * k

/-- One head's state: every query's. -/
def HSt (D : Nums) (q0 n : ℕ) (S : ℕ → Finset ℕ) (m : FVec Ideal S1x512 .f32) (a : Fin 144 → Fin 512 → EReal) : Prop :=
  ∀ q : Fin 512, St (S q.val) (fun s => D.l q0 n s q.val) (D.vr n) (m (ix2 (0 : Fin 1) q)) (fun r => a r q)

/-- A chunk of 256 keys added to one head's state, the chunk's logits masked by `p`. -/
theorem HSt.step {q0 n : ℕ} {S : ℕ → Finset ℕ} {m : FVec Ideal S1x512 .f32} {a : FVec Ideal S1x144x512 .f32}
    (h : HSt D q0 n S m (fun r q => a (ix3 (0 : Fin 1) r q))) (o : ℕ) (p : ℕ → ℕ → Prop) [∀ q, DecidablePred (p q)]
    (hd : ∀ q < 512, ∀ s ∈ S q, ¬ (o ≤ s ∧ s < o + 256))
    (L : FVec Ideal S1x1x256x512 .f32) (hL : ∀ (s : Fin 256) (q : Fin 512), L (ix4 (0 : Fin 1) (0 : Fin 1) s q)
      = if p q.val (o + s.val) then (D.l q0 n (o + s.val) q.val : EReal) else ⊥)
    (V : FVec Ideal S1x1x144x256 .bf16) (hV : ∀ r (s : Fin 256), V (ix4 (0 : Fin 1) (0 : Fin 1) r s) = (D.vr n r (o + s.val) : EReal))
    (c : FVec Ideal S1x512 .f32) (hc : ∀ q : Fin 512, c (ix2 (0 : Fin 1) q) ≠ ⊤)
    (hne : ∀ q : Fin 512, S q.val = ∅ → c (ix2 (0 : Fin 1) q) ≠ ⊥) :
    HSt D q0 n (fun q => S q ∪ keys o (p q)) (maximumf m c) (fun r q => accN m (maximumf m c) L a V (ix2 r q)) := by
  intro q
  have := (h q).step o (p q.val) (hd q.val q.isLt) (fun s => L (ix4 (0 : Fin 1) (0 : Fin 1) s q)) (fun s => hL s q)
    (fun r s => V (ix4 (0 : Fin 1) (0 : Fin 1) r s)) hV (c (ix2 (0 : Fin 1) q)) (hc q) (hne q)
  simp only [accN_apply, maximumf_apply]
  exact this

theorem HSt.congr {q0 n : ℕ} {S S' : ℕ → Finset ℕ} {m : FVec Ideal S1x512 .f32} {a : Fin 144 → Fin 512 → EReal}
    (h : HSt D q0 n S m a) (hS : ∀ q < 512, S q = S' q) : HSt D q0 n S' m a := by
  intro q; rw [← hS q.val q.isLt]; exact h q

theorem cmx_fin {L : FVec Ideal S256x512 .f32} (f : ℕ → ℕ → ℝ) (p : ℕ → ℕ → Prop) [∀ q, DecidablePred (p q)]
    (h : ∀ (s : Fin 256) (q : Fin 512), L (ix2 s q) = if p q.val s.val then (f s.val q.val : EReal) else ⊥) (q : Fin 512) :
    cmx L (ix2 (0 : Fin 1) q) ≠ ⊤ ∧ (p q.val 0 → cmx L (ix2 (0 : Fin 1) q) ≠ ⊥) := by
  rw [cmx_apply]
  have := fold_max (fun s : Fin 256 => L (ix2 s q)) (fun s => by
    show L (ix2 s q) ≠ ⊤
    rw [h]; split
    · exact EReal.coe_ne_top _
    · exact bot_ne_top)
  refine ⟨this.1, fun hp => this.2 0 ?_⟩
  show L (ix2 0 q) ≠ ⊥
  rw [h 0 q, if_pos (show p q.val (0 : Fin 256).val from hp)]
  exact EReal.coe_ne_bot _

/-- One head before trip `k`: its state, the maximum and (while trips remain) the logits of the next chunk. -/
structure HInv (D : Nums) (qi n : ℕ) (hn : n < 4) (k : ℕ) (m c : FVec Ideal S1x512 .f32) (f8 : BufTy.Contents (Elt Ideal) arg8.view.ty)
    (f9 : BufTy.Contents (Elt Ideal) arg9.view.ty) : Prop where
  st : HSt D (512 * qi) n (taken (512 * qi) k) m (fun r q => arg9.view.read (Elt Ideal) f9 (ix3 (⟨n, hn⟩ : Fin 4) r q))
  c : ∀ q : Fin 512, c (ix2 (0 : Fin 1) q) ≠ ⊤
  lg : k < qi → ∀ (s : Fin 256) (q : Fin 512), arg8.view.read (Elt Ideal) f8 (ix4 (⟨n, hn⟩ : Fin 4) (0 : Fin 2) s q)
    = (D.l (512 * qi) n (512 * k + s.val) q.val : EReal)

theorem HInv.next {qi n : ℕ} {hn : n < 4} {k : ℕ} {m c : FVec Ideal S1x512 .f32} {f8 f8' : BufTy.Contents (Elt Ideal) arg8.view.ty}
    {f9 f9' : BufTy.Contents (Elt Ideal) arg9.view.ty} (hqi : qi < 8) (h : HInv (arg8 := arg8) (arg9 := arg9) D qi n hn k m c f8 f9) (hk : k < qi)
    (in8) (in9)
    (Lb : FVec Ideal S256x512 .f32) (hLb : ∀ (s : Fin 256) (q : Fin 512), Lb (ix2 s q) = (D.l (512 * qi) n (512 * k + 256 + s.val) q.val : EReal))
    (V0 V1 : FVec Ideal S1x1x144x256 .bf16) (hV0 : ∀ r (s : Fin 256), V0 (ix4 (0 : Fin 1) (0 : Fin 1) r s) = (D.vr n r (512 * k + s.val) : EReal))
    (hV1 : ∀ r (s : Fin 256), V1 (ix4 (0 : Fin 1) (0 : Fin 1) r s) = (D.vr n r (512 * k + 256 + s.val) : EReal))
    (Lc : FVec Ideal S256x512 .f32) (hLc : ∀ (s : Fin 256) (q : Fin 512), Lc (ix2 s q)
      = (D.l (512 * qi) n (min (512 * k + 512) (512 * (qi - 1)) + s.val) q.val : EReal))
    (h8 : ∀ (s : Fin 256) (q : Fin 512), arg8.view.read (Elt Ideal) f8' (ix4 (⟨n, hn⟩ : Fin 4) (0 : Fin 2) s q) = Lc (ix2 s q))
    (h9 : ∀ r q, arg9.view.read (Elt Ideal) f9' (ix3 (⟨n, hn⟩ : Fin 4) r q) = accN (maximumf m c) (maximumf (maximumf m c) (cmx Lb))
      (shapeCast S1x1x256x512 Lb shapeCasts_S256x512_S1x1x256x512)
      (shapeCast S1x144x512 (accN m (maximumf m c)
        (arg8.view.readAt (Elt Ideal) (Rect.unit (s := S4x2x256x512) ![n, 0, 0, 0] S1x1x256x512.size in8).toLoadRect f8)
        (arg9.view.readAt (Elt Ideal) (Rect.unit (s := S4x144x512) ![n, 0, 0] S1x144x512.size in9).toLoadRect f9) V0) shapeCasts_S144x512_S1x144x512)
      V1 (ix2 r q)) :
    HInv (arg8 := arg8) (arg9 := arg9) D qi n hn (k + 1) (maximumf (maximumf m c) (cmx Lb)) (cmx Lc) f8' f9' := by
  have e9 : ∀ r q, arg9.view.readAt (Elt Ideal) (Rect.unit (s := S4x144x512) ![n, 0, 0] S1x144x512.size in9).toLoadRect f9 (ix3 (0 : Fin 1) r q)
      = arg9.view.read (Elt Ideal) f9 (ix3 (⟨n, hn⟩ : Fin 4) r q) := fun r q =>
    readAt_at arg9 f9 in9 (ix3 (0 : Fin 1) r q) (ix3 (⟨n, hn⟩ : Fin 4) r q) (fun x => by
      match x with
      | ⟨0, _⟩ => rfl
      | ⟨1, _⟩ => exact (Nat.zero_add _).symm
      | ⟨2, _⟩ => exact (Nat.zero_add _).symm)
  have e8 : ∀ (s : Fin 256) (q : Fin 512), arg8.view.readAt (Elt Ideal) (Rect.unit (s := S4x2x256x512) ![n, 0, 0, 0] S1x1x256x512.size in8).toLoadRect f8 (ix4 (0 : Fin 1) (0 : Fin 1) s q)
      = arg8.view.read (Elt Ideal) f8 (ix4 (⟨n, hn⟩ : Fin 4) (0 : Fin 2) s q) := fun s q =>
    readAt_at arg8 f8 in8 (ix4 (0 : Fin 1) (0 : Fin 1) s q) (ix4 (⟨n, hn⟩ : Fin 4) (0 : Fin 2) s q) (fun x => by
      match x with
      | ⟨0, _⟩ => rfl
      | ⟨1, _⟩ => rfl
      | ⟨2, _⟩ => exact (Nat.zero_add _).symm
      | ⟨3, _⟩ => exact (Nat.zero_add _).symm)
  have hne : ∀ q < 512, (taken (512 * qi) k q).Nonempty := fun q hq =>
    ⟨512 * qi, by simp only [taken, Finset.mem_filter, Finset.mem_range]; omega⟩
  have s0 : HSt D (512 * qi) n (taken (512 * qi) k) m (fun r q =>
      (arg9.view.readAt (Elt Ideal) (Rect.unit (s := S4x144x512) ![n, 0, 0] S1x144x512.size in9).toLoadRect f9 : FVec Ideal S1x144x512 .f32) (ix3 (0 : Fin 1) r q)) := by
    intro q
    simp only [e9]
    exact h.st q
  have s1 := s0.step (512 * k) (fun _ _ => True) (by
      intro q hq s hs
      simp only [taken, Finset.mem_filter, Finset.mem_range] at hs
      omega)
    (arg8.view.readAt (Elt Ideal) (Rect.unit (s := S4x2x256x512) ![n, 0, 0, 0] S1x1x256x512.size in8).toLoadRect f8)
    (fun s q => by rw [if_pos trivial, e8]; exact h.lg hk s q) V0 hV0 c h.c
    (fun q he => absurd he (hne q.val q.isLt).ne_empty)
  have s1' : HSt D (512 * qi) n (fun q => taken (512 * qi) k q ∪ keys (512 * k) (fun _ => True)) (maximumf m c) (fun r q =>
      shapeCast S1x144x512 (accN m (maximumf m c)
        (arg8.view.readAt (Elt Ideal) (Rect.unit (s := S4x2x256x512) ![n, 0, 0, 0] S1x1x256x512.size in8).toLoadRect f8)
        (arg9.view.readAt (Elt Ideal) (Rect.unit (s := S4x144x512) ![n, 0, 0] S1x144x512.size in9).toLoadRect f9) V0) shapeCasts_S144x512_S1x144x512 (ix3 (0 : Fin 1) r q)) := by
    intro q
    simp only [shapeCast_ab_1ab_apply]
    exact s1 q
  have hcb := cmx_fin (L := Lb) (fun s q => D.l (512 * qi) n (512 * k + 256 + s) q) (fun _ _ => True) (fun s q => by rw [if_pos trivial]; exact hLb s q)
  have s2 := s1'.step (512 * k + 256) (fun _ _ => True) (by
      intro q hq s hs
      simp only [taken, keys, Finset.mem_union, Finset.mem_filter, Finset.mem_range, Finset.mem_Ico] at hs
      omega)
    (shapeCast S1x1x256x512 Lb shapeCasts_S256x512_S1x1x256x512)
    (fun s q => by rw [if_pos trivial, cast_ab_11ab]; exact hLb s q) V1 hV1 (cmx Lb) (fun q => (hcb q).1)
    (fun q he => absurd he (((hne q.val q.isLt).mono Finset.subset_union_left).ne_empty))
  refine ⟨?_, fun q => ((cmx_fin (L := Lc) (fun s q => D.l (512 * qi) n (min (512 * k + 512) (512 * (qi - 1)) + s) q) (fun _ _ => True)
    (fun s q => by rw [if_pos trivial]; exact hLc s q)) q).1, fun hk' s q => ?_⟩
  · have s3 := s2.congr (S' := taken (512 * qi) (k + 1)) (by
      intro q hq
      ext s
      simp only [taken, keys, Finset.mem_union, Finset.mem_filter, Finset.mem_range, Finset.mem_Ico, and_true]
      omega)
    intro q
    simp only [h9]
    exact s3 q
  · rw [h8, hLc, show min (512 * k + 512) (512 * (qi - 1)) = 512 * (k + 1) by omega]

end Cert.KernelIdeal.Attn
-- ==== Proof.AttnOffs.lean ====
/-
  Where the body reads: the offsets of the named loads, in closed form.
-/
module

public import proofs.«01_k».proof.Proof.Gen.KernelIdeal

@[expose] public section

set_option maxRecDepth 8192

namespace Cert.KernelIdeal.Attn

open Cert.KernelIdeal Cert.KernelIdeal.Gen
open Idealize.ShloMosaic

theorem trips2 : ∀ i : grid0.Coords, (k0_t2_loop i).trips = (i 2).val := by decide +kernel
theorem trips1 : k0_t1_loop.trips = 16 := by decide +kernel
theorem cond1_iff : ∀ i : grid0.Coords, k0_cond1 i = 1#1 ↔ ((i 1).val = 0 ∧ (i 2).val = 0) := by decide +kernel
theorem off4_eq : ∀ (i : grid0.Coords), k0_off4 i = ![(i 1).val, 512*(i 2).val, 0] := by decide +kernel
theorem off5_eq : ∀ (i : grid0.Coords), k0_off5 i = ![(i 1).val, 512*(i 2).val, 0] := by decide +kernel
theorem off6_eq : ∀ (i : grid0.Coords), k0_off6 i = ![512*(i 2).val, 0] := by decide +kernel
theorem off7_eq : ∀ (i : grid0.Coords), k0_off7 i = ![512*(i 2).val, 128] := by decide +kernel
theorem off8_eq : ∀ (i : grid0.Coords), k0_off8 i = ![512*(i 2).val, 256] := by decide +kernel
theorem off9_eq : ∀ (i : grid0.Coords), k0_off9 i = ![512*(i 2).val, 384] := by decide +kernel
theorem off10_eq : ∀ (i : grid0.Coords), k0_off10 i = ![(i 1).val, 512*(i 2).val+256, 0] := by decide +kernel
theorem off11_eq : ∀ (i : grid0.Coords), k0_off11 i = ![512*(i 2).val+256, 0] := by decide +kernel
theorem off12_eq : ∀ (i : grid0.Coords), k0_off12 i = ![512*(i 2).val+256, 128] := by decide +kernel
theorem off13_eq : ∀ (i : grid0.Coords), k0_off13 i = ![512*(i 2).val+256, 256] := by decide +kernel
theorem off14_eq : ∀ (i : grid0.Coords), k0_off14 i = ![512*(i 2).val+256, 384] := by decide +kernel
theorem off15_eq : ∀ (i : grid0.Coords), k0_off15 i = ![0, 0, 0, 512*(i 2).val] := by decide +kernel
theorem off16_eq : ∀ (i : grid0.Coords), k0_off16 i = ![0, 1, 0, 512*(i 2).val] := by decide +kernel
theorem off17_eq : ∀ (i : grid0.Coords), k0_off17 i = ![0, 2, 0, 512*(i 2).val] := by decide +kernel
theorem off18_eq : ∀ (i : grid0.Coords), k0_off18 i = ![0, 3, 0, 512*(i 2).val] := by decide +kernel
theorem off19_eq : ∀ (i : grid0.Coords), k0_off19 i = ![(i 1).val, 0, 0] := by decide +kernel
theorem off20_eq : ∀ (i : grid0.Coords), k0_off20 i = ![0, 0, 0, 512*(i 2).val+256] := by decide +kernel
theorem off21_eq : ∀ (i : grid0.Coords), k0_off21 i = ![0, 1, 0, 512*(i 2).val+256] := by decide +kernel
theorem off22_eq : ∀ (i : grid0.Coords), k0_off22 i = ![0, 2, 0, 512*(i 2).val+256] := by decide +kernel
theorem off23_eq : ∀ (i : grid0.Coords), k0_off23 i = ![0, 3, 0, 512*(i 2).val+256] := by decide +kernel
theorem off24_eq : ∀ (i : grid0.Coords), k0_off24 i = ![(i 1).val, 512*(i 2).val, 0] := by decide +kernel
theorem off25_eq : ∀ (i : grid0.Coords) (k : Fin (k0_t2_loop i).trips), k0_off25 i k = ![(i 1).val, 512*k.val+256, 0] := by decide +kernel
theorem off26_eq : ∀ (i : grid0.Coords) (k : Fin (k0_t2_loop i).trips), k0_off26 i k = ![512*k.val+256, 0] := by decide +kernel
theorem off27_eq : ∀ (i : grid0.Coords) (k : Fin (k0_t2_loop i).trips), k0_off27 i k = ![512*k.val+256, 128] := by decide +kernel
theorem off28_eq : ∀ (i : grid0.Coords) (k : Fin (k0_t2_loop i).trips), k0_off28 i k = ![512*k.val+256, 256] := by decide +kernel
theorem off29_eq : ∀ (i : grid0.Coords) (k : Fin (k0_t2_loop i).trips), k0_off29 i k = ![512*k.val+256, 384] := by decide +kernel
theorem off30_eq : ∀ (i : grid0.Coords) (k : Fin (k0_t2_loop i).trips), k0_off30 i k = ![0, 0, 0, 512*k.val] := by decide +kernel
theorem off31_eq : ∀ (i : grid0.Coords) (k : Fin (k0_t2_loop i).trips), k0_off31 i k = ![0, 1, 0, 512*k.val] := by decide +kernel
theorem off32_eq : ∀ (i : grid0.Coords) (k : Fin (k0_t2_loop i).trips), k0_off32 i k = ![0, 2, 0, 512*k.val] := by decide +kernel
theorem off33_eq : ∀ (i : grid0.Coords) (k : Fin (k0_t2_loop i).trips), k0_off33 i k = ![0, 3, 0, 512*k.val] := by decide +kernel
theorem off34_eq : ∀ (i : grid0.Coords) (k : Fin (k0_t2_loop i).trips), k0_off34 i k = ![(i 1).val, min (512*k.val+512) (512*((i 2).val-1)), 0] := by decide +kernel
theorem off35_eq : ∀ (i : grid0.Coords) (k : Fin (k0_t2_loop i).trips), k0_off35 i k = ![min (512*k.val+512) (512*((i 2).val-1)), 0] := by decide +kernel
theorem off36_eq : ∀ (i : grid0.Coords) (k : Fin (k0_t2_loop i).trips), k0_off36 i k = ![min (512*k.val+512) (512*((i 2).val-1)), 128] := by decide +kernel
theorem off37_eq : ∀ (i : grid0.Coords) (k : Fin (k0_t2_loop i).trips), k0_off37 i k = ![min (512*k.val+512) (512*((i 2).val-1)), 256] := by decide +kernel
theorem off38_eq : ∀ (i : grid0.Coords) (k : Fin (k0_t2_loop i).trips), k0_off38 i k = ![min (512*k.val+512) (512*((i 2).val-1)), 384] := by decide +kernel
theorem off39_eq : ∀ (i : grid0.Coords) (k : Fin (k0_t2_loop i).trips), k0_off39 i k = ![0, 0, 0, 512*k.val+256] := by decide +kernel
theorem off40_eq : ∀ (i : grid0.Coords) (k : Fin (k0_t2_loop i).trips), k0_off40 i k = ![0, 1, 0, 512*k.val+256] := by decide +kernel
theorem off41_eq : ∀ (i : grid0.Coords) (k : Fin (k0_t2_loop i).trips), k0_off41 i k = ![0, 2, 0, 512*k.val+256] := by decide +kernel
theorem off42_eq : ∀ (i : grid0.Coords) (k : Fin (k0_t2_loop i).trips), k0_off42 i k = ![0, 3, 0, 512*k.val+256] := by decide +kernel
theorem off1_eq : ∀ (k : Fin k0_t1_loop.trips), k0_off1 k = ![256*k.val, 0] := by decide +kernel
theorem off2_eq : ∀ (k : Fin k0_t1_loop.trips), k0_off2 k = ![0, 256*k.val, 0] := by decide +kernel
theorem off3_eq : ∀ (k : Fin k0_t1_loop.trips), k0_off3 k = ![1, 256*k.val, 0] := by decide +kernel

end Cert.KernelIdeal.Attn
-- ==== Proof.AttnTrip.lean ====
/-
  One trip of the chunk loop as the generic step: what it carries on and what it stores, head by head, are the chunk
  logits, maxima and running sums of AttnOps.
-/
module

public import proofs.«01_k».proof.Proof.AttnStep
public import proofs.«01_k».proof.Proof.AttnOffs
public import proofs.«01_k».proof.Proof.Gen.KernelIdeal.Loops
public import Idealize.ShloMosaic.Lib.WritesUnit
public import Idealize.ShloMosaic.Lib.Pipeline.ReadBack

@[expose] public section

set_option maxRecDepth 8192
set_option maxHeartbeats 1000000

noncomputable section

namespace Cert.KernelIdeal.Attn

open Cert.KernelIdeal Cert.KernelIdeal.Gen
open Idealize.ShloMosaic Idealize.ShloMosaic.ValueIdx

section Trip

variable (i : grid0.Coords) (arg3 : Memref sig .tc .vmem S512x512 .bf16) (arg4 : Memref sig .tc .vmem S4096x512 .bf16) (arg5 : Memref sig .tc .vmem S1x4x144x4096 .bf16)
  (arg8 : Memref sig .tc .vmem S4x2x256x512 .f32) (arg9 : Memref sig .tc .vmem S4x144x512 .f32) (arg10 : Memref sig .tc .vmem S2x4096x128 .f32)
  (X3 : BufTy.Contents (Elt Ideal) arg3.view.ty) (X4 : BufTy.Contents (Elt Ideal) arg4.view.ty)
  (X5 : BufTy.Contents (Elt Ideal) arg5.view.ty) (X10 : BufTy.Contents (Elt Ideal) arg10.view.ty)
  (k : Fin (k0_t2_loop i).trips)

/-- Head 0: the logits of the trip's second chunk, of the next trip's first, and the values of both chunks. -/
def Lb0 : FVec Ideal S256x512 .f32 :=
  lg 0 slices_S256x128_o0_0_S256x1 (arg10.view.readAt (Elt Ideal) (Rect.unit (s := S2x4096x128) (k0_off24 i) S1x1x128.size (k0_off24_inb i)).toLoadRect X10)
    (arg10.view.readAt (Elt Ideal) (Rect.unit (s := S2x4096x128) (k0_off25 i k) S1x256x128.size (k0_off25_inb i k)).toLoadRect X10)
    (arg4.view.readAt (Elt Ideal) (Rect.unit (s := S4096x512) (k0_off26 i k) S256x128.size (k0_off26_inb i k)).toLoadRect X4)
    (arg3.view.readAt (Elt Ideal) (Rect.unit (s := S512x512) ![0, 0] S512x128.size inb_S512x512_S512x128_0_0).toLoadRect X3)
def Lc0 : FVec Ideal S256x512 .f32 :=
  lg 0 slices_S256x128_o0_0_S256x1 (arg10.view.readAt (Elt Ideal) (Rect.unit (s := S2x4096x128) (k0_off24 i) S1x1x128.size (k0_off24_inb i)).toLoadRect X10)
    (arg10.view.readAt (Elt Ideal) (Rect.unit (s := S2x4096x128) (k0_off34 i k) S1x256x128.size (k0_off34_inb i k)).toLoadRect X10)
    (arg4.view.readAt (Elt Ideal) (Rect.unit (s := S4096x512) (k0_off35 i k) S256x128.size (k0_off35_inb i k)).toLoadRect X4)
    (arg3.view.readAt (Elt Ideal) (Rect.unit (s := S512x512) ![0, 0] S512x128.size inb_S512x512_S512x128_0_0).toLoadRect X3)
def Va0 : FVec Ideal S1x1x144x256 .bf16 :=
  arg5.view.readAt (Elt Ideal) (Rect.unit (s := S1x4x144x4096) (k0_off30 i k) S1x1x144x256.size (k0_off30_inb i k)).toLoadRect X5
def Vb0 : FVec Ideal S1x1x144x256 .bf16 :=
  arg5.view.readAt (Elt Ideal) (Rect.unit (s := S1x4x144x4096) (k0_off39 i k) S1x1x144x256.size (k0_off39_inb i k)).toLoadRect X5
/-- Head 0: the sums after the first chunk and after the second. -/
def A0 (m c : FVec Ideal S1x512 .f32) (f8 : BufTy.Contents (Elt Ideal) arg8.view.ty) (f9 : BufTy.Contents (Elt Ideal) arg9.view.ty) : FVec Ideal S144x512 .f32 :=
  accN m (maximumf m c) (arg8.view.readAt (Elt Ideal) (Rect.unit (s := S4x2x256x512) ![0, 0, 0, 0] S1x1x256x512.size inb_S4x2x256x512_S1x1x256x512_0_0_0_0).toLoadRect f8)
    (arg9.view.readAt (Elt Ideal) (Rect.unit (s := S4x144x512) ![0, 0, 0] S1x144x512.size inb_S4x144x512_S1x144x512_0_0_0).toLoadRect f9) (Va0 i arg5 X5 k)
def B0 (m c : FVec Ideal S1x512 .f32) (f8 : BufTy.Contents (Elt Ideal) arg8.view.ty) (f9 : BufTy.Contents (Elt Ideal) arg9.view.ty) : FVec Ideal S144x512 .f32 :=
  accN (maximumf m c) (maximumf (maximumf m c) (cmx (Lb0 i arg3 arg4 arg10 X3 X4 X10 k)))
    (shapeCast S1x1x256x512 (Lb0 i arg3 arg4 arg10 X3 X4 X10 k) shapeCasts_S256x512_S1x1x256x512)
    (shapeCast S1x144x512 (A0 i arg5 arg8 arg9 X5 k m c f8 f9) shapeCasts_S144x512_S1x144x512) (Vb0 i arg5 X5 k)

/-- Head 1: the logits of the trip's second chunk, of the next trip's first, and the values of both chunks. -/
def Lb1 : FVec Ideal S256x512 .f32 :=
  lg 1 slices_S256x128_o0_1_S256x1 (arg10.view.readAt (Elt Ideal) (Rect.unit (s := S2x4096x128) (k0_off24 i) S1x1x128.size (k0_off24_inb i)).toLoadRect X10)
    (arg10.view.readAt (Elt Ideal) (Rect.unit (s := S2x4096x128) (k0_off25 i k) S1x256x128.size (k0_off25_inb i k)).toLoadRect X10)
    (arg4.view.readAt (Elt Ideal) (Rect.unit (s := S4096x512) (k0_off27 i k) S256x128.size (k0_off27_inb i k)).toLoadRect X4)
    (arg3.view.readAt (Elt Ideal) (Rect.unit (s := S512x512) ![0, 128] S512x128.size inb_S512x512_S512x128_0_128).toLoadRect X3)
def Lc1 : FVec Ideal S256x512 .f32 :=
  lg 1 slices_S256x128_o0_1_S256x1 (arg10.view.readAt (Elt Ideal) (Rect.unit (s := S2x4096x128) (k0_off24 i) S1x1x128.size (k0_off24_inb i)).toLoadRect X10)
    (arg10.view.readAt (Elt Ideal) (Rect.unit (s := S2x4096x128) (k0_off34 i k) S1x256x128.size (k0_off34_inb i k)).toLoadRect X10)
    (arg4.view.readAt (Elt Ideal) (Rect.unit (s := S4096x512) (k0_off36 i k) S256x128.size (k0_off36_inb i k)).toLoadRect X4)
    (arg3.view.readAt (Elt Ideal) (Rect.unit (s := S512x512) ![0, 128] S512x128.size inb_S512x512_S512x128_0_128).toLoadRect X3)
def Va1 : FVec Ideal S1x1x144x256 .bf16 :=
  arg5.view.readAt (Elt Ideal) (Rect.unit (s := S1x4x144x4096) (k0_off31 i k) S1x1x144x256.size (k0_off31_inb i k)).toLoadRect X5
def Vb1 : FVec Ideal S1x1x144x256 .bf16 :=
  arg5.view.readAt (Elt Ideal) (Rect.unit (s := S1x4x144x4096) (k0_off40 i k) S1x1x144x256.size (k0_off40_inb i k)).toLoadRect X5
/-- Head 1: the sums after the first chunk and after the second. -/
def A1 (m c : FVec Ideal S1x512 .f32) (f8 : BufTy.Contents (Elt Ideal) arg8.view.ty) (f9 : BufTy.Contents (Elt Ideal) arg9.view.ty) : FVec Ideal S144x512 .f32 :=
  accN m (maximumf m c) (arg8.view.readAt (Elt Ideal) (Rect.unit (s := S4x2x256x512) ![1, 0, 0, 0] S1x1x256x512.size inb_S4x2x256x512_S1x1x256x512_1_0_0_0).toLoadRect f8)
    (arg9.view.readAt (Elt Ideal) (Rect.unit (s := S4x144x512) ![1, 0, 0] S1x144x512.size inb_S4x144x512_S1x144x512_1_0_0).toLoadRect f9) (Va1 i arg5 X5 k)
def B1 (m c : FVec Ideal S1x512 .f32) (f8 : BufTy.Contents (Elt Ideal) arg8.view.ty) (f9 : BufTy.Contents (Elt Ideal) arg9.view.ty) : FVec Ideal S144x512 .f32 :=
  accN (maximumf m c) (maximumf (maximumf m c) (cmx (Lb1 i arg3 arg4 arg10 X3 X4 X10 k)))
    (shapeCast S1x1x256x512 (Lb1 i arg3 arg4 arg10 X3 X4 X10 k) shapeCasts_S256x512_S1x1x256x512)
    (shapeCast S1x144x512 (A1 i arg5 arg8 arg9 X5 k m c f8 f9) shapeCasts_S144x512_S1x144x512) (Vb1 i arg5 X5 k)

/-- Head 2: the logits of the trip's second chunk, of the next trip's first, and the values of both chunks. -/
def Lb2 : FVec Ideal S256x512 .f32 :=
  lg 2 slices_S256x128_o0_2_S256x1 (arg10.view.readAt (Elt Ideal) (Rect.unit (s := S2x4096x128) (k0_off24 i) S1x1x128.size (k0_off24_inb i)).toLoadRect X10)
    (arg10.view.readAt (Elt Ideal) (Rect.unit (s := S2x4096x128) (k0_off25 i k) S1x256x128.size (k0_off25_inb i k)).toLoadRect X10)
    (arg4.view.readAt (Elt Ideal) (Rect.unit (s := S4096x512) (k0_off28 i k) S256x128.size (k0_off28_inb i k)).toLoadRect X4)
    (arg3.view.readAt (Elt Ideal) (Rect.unit (s := S512x512) ![0, 256] S512x128.size inb_S512x512_S512x128_0_256).toLoadRect X3)
def Lc2 : FVec Ideal S256x512 .f32 :=
  lg 2 slices_S256x128_o0_2_S256x1 (arg10.view.readAt (Elt Ideal) (Rect.unit (s := S2x4096x128) (k0_off24 i) S1x1x128.size (k0_off24_inb i)).toLoadRect X10)
    (arg10.view.readAt (Elt Ideal) (Rect.unit (s := S2x4096x128) (k0_off34 i k) S1x256x128.size (k0_off34_inb i k)).toLoadRect X10)
    (arg4.view.readAt (Elt Ideal) (Rect.unit (s := S4096x512) (k0_off37 i k) S256x128.size (k0_off37_inb i k)).toLoadRect X4)
    (arg3.view.readAt (Elt Ideal) (Rect.unit (s := S512x512) ![0, 256] S512x128.size inb_S512x512_S512x128_0_256).toLoadRect X3)
def Va2 : FVec Ideal S1x1x144x256 .bf16 :=
  arg5.view.readAt (Elt Ideal) (Rect.unit (s := S1x4x144x4096) (k0_off32 i k) S1x1x144x256.size (k0_off32_inb i k)).toLoadRect X5
def Vb2 : FVec Ideal S1x1x144x256 .bf16 :=
  arg5.view.readAt (Elt Ideal) (Rect.unit (s := S1x4x144x4096) (k0_off41 i k) S1x1x144x256.size (k0_off41_inb i k)).toLoadRect X5
/-- Head 2: the sums after the first chunk and after the second. -/
def A2 (m c : FVec Ideal S1x512 .f32) (f8 : BufTy.Contents (Elt Ideal) arg8.view.ty) (f9 : BufTy.Contents (Elt Ideal) arg9.view.ty) : FVec Ideal S144x512 .f32 :=
  accN m (maximumf m c) (arg8.view.readAt (Elt Ideal) (Rect.unit (s := S4x2x256x512) ![2, 0, 0, 0] S1x1x256x512.size inb_S4x2x256x512_S1x1x256x512_2_0_0_0).toLoadRect f8)
    (arg9.view.readAt (Elt Ideal) (Rect.unit (s := S4x144x512) ![2, 0, 0] S1x144x512.size inb_S4x144x512_S1x144x512_2_0_0).toLoadRect f9) (Va2 i arg5 X5 k)
def B2 (m c : FVec Ideal S1x512 .f32) (f8 : BufTy.Contents (Elt Ideal) arg8.view.ty) (f9 : BufTy.Contents (Elt Ideal) arg9.view.ty) : FVec Ideal S144x512 .f32 :=
  accN (maximumf m c) (maximumf (maximumf m c) (cmx (Lb2 i arg3 arg4 arg10 X3 X4 X10 k)))
    (shapeCast S1x1x256x512 (Lb2 i arg3 arg4 arg10 X3 X4 X10 k) shapeCasts_S256x512_S1x1x256x512)
    (shapeCast S1x144x512 (A2 i arg5 arg8 arg9 X5 k m c f8 f9) shapeCasts_S144x512_S1x144x512) (Vb2 i arg5 X5 k)

/-- Head 3: the logits of the trip's second chunk, of the next trip's first, and the values of both chunks. -/
def Lb3 : FVec Ideal S256x512 .f32 :=
  lg 3 slices_S256x128_o0_3_S256x1 (arg10.view.readAt (Elt Ideal) (Rect.unit (s := S2x4096x128) (k0_off24 i) S1x1x128.size (k0_off24_inb i)).toLoadRect X10)
    (arg10.view.readAt (Elt Ideal) (Rect.unit (s := S2x4096x128) (k0_off25 i k) S1x256x128.size (k0_off25_inb i k)).toLoadRect X10)
    (arg4.view.readAt (Elt Ideal) (Rect.unit (s := S4096x512) (k0_off29 i k) S256x128.size (k0_off29_inb i k)).toLoadRect X4)
    (arg3.view.readAt (Elt Ideal) (Rect.unit (s := S512x512) ![0, 384] S512x128.size inb_S512x512_S512x128_0_384).toLoadRect X3)
def Lc3 : FVec Ideal S256x512 .f32 :=
  lg 3 slices_S256x128_o0_3_S256x1 (arg10.view.readAt (Elt Ideal) (Rect.unit (s := S2x4096x128) (k0_off24 i) S1x1x128.size (k0_off24_inb i)).toLoadRect X10)
    (arg10.view.readAt (Elt Ideal) (Rect.unit (s := S2x4096x128) (k0_off34 i k) S1x256x128.size (k0_off34_inb i k)).toLoadRect X10)
    (arg4.view.readAt (Elt Ideal) (Rect.unit (s := S4096x512) (k0_off38 i k) S256x128.size (k0_off38_inb i k)).toLoadRect X4)
    (arg3.view.readAt (Elt Ideal) (Rect.unit (s := S512x512) ![0, 384] S512x128.size inb_S512x512_S512x128_0_384).toLoadRect X3)
def Va3 : FVec Ideal S1x1x144x256 .bf16 :=
  arg5.view.readAt (Elt Ideal) (Rect.unit (s := S1x4x144x4096) (k0_off33 i k) S1x1x144x256.size (k0_off33_inb i k)).toLoadRect X5
def Vb3 : FVec Ideal S1x1x144x256 .bf16 :=
  arg5.view.readAt (Elt Ideal) (Rect.unit (s := S1x4x144x4096) (k0_off42 i k) S1x1x144x256.size (k0_off42_inb i k)).toLoadRect X5
/-- Head 3: the sums after the first chunk and after the second. -/
def A3 (m c : FVec Ideal S1x512 .f32) (f8 : BufTy.Contents (Elt Ideal) arg8.view.ty) (f9 : BufTy.Contents (Elt Ideal) arg9.view.ty) : FVec Ideal S144x512 .f32 :=
  accN m (maximumf m c) (arg8.view.readAt (Elt Ideal) (Rect.unit (s := S4x2x256x512) ![3, 0, 0, 0] S1x1x256x512.size inb_S4x2x256x512_S1x1x256x512_3_0_0_0).toLoadRect f8)
    (arg9.view.readAt (Elt Ideal) (Rect.unit (s := S4x144x512) ![3, 0, 0] S1x144x512.size inb_S4x144x512_S1x144x512_3_0_0).toLoadRect f9) (Va3 i arg5 X5 k)
def B3 (m c : FVec Ideal S1x512 .f32) (f8 : BufTy.Contents (Elt Ideal) arg8.view.ty) (f9 : BufTy.Contents (Elt Ideal) arg9.view.ty) : FVec Ideal S144x512 .f32 :=
  accN (maximumf m c) (maximumf (maximumf m c) (cmx (Lb3 i arg3 arg4 arg10 X3 X4 X10 k)))
    (shapeCast S1x1x256x512 (Lb3 i arg3 arg4 arg10 X3 X4 X10 k) shapeCasts_S256x512_S1x1x256x512)
    (shapeCast S1x144x512 (A3 i arg5 arg8 arg9 X5 k m c f8 f9) shapeCasts_S144x512_S1x144x512) (Vb3 i arg5 X5 k)

/-- What a trip stores in the logits' buffer. -/
def P8 : List (View.Piece (Elt Ideal) S4x2x256x512 .f32) :=
  [⟨Rect.unit (s := S4x2x256x512) ![3, 0, 0, 0] S1x1x256x512.size inb_S4x2x256x512_S1x1x256x512_3_0_0_0, shapeCast S1x1x256x512 (Lc3 i arg3 arg4 arg10 X3 X4 X10 k) shapeCasts_S256x512_S1x1x256x512⟩,
   ⟨Rect.unit (s := S4x2x256x512) ![2, 0, 0, 0] S1x1x256x512.size inb_S4x2x256x512_S1x1x256x512_2_0_0_0, shapeCast S1x1x256x512 (Lc2 i arg3 arg4 arg10 X3 X4 X10 k) shapeCasts_S256x512_S1x1x256x512⟩,
   ⟨Rect.unit (s := S4x2x256x512) ![1, 0, 0, 0] S1x1x256x512.size inb_S4x2x256x512_S1x1x256x512_1_0_0_0, shapeCast S1x1x256x512 (Lc1 i arg3 arg4 arg10 X3 X4 X10 k) shapeCasts_S256x512_S1x1x256x512⟩,
   ⟨Rect.unit (s := S4x2x256x512) ![0, 0, 0, 0] S1x1x256x512.size inb_S4x2x256x512_S1x1x256x512_0_0_0_0, shapeCast S1x1x256x512 (Lc0 i arg3 arg4 arg10 X3 X4 X10 k) shapeCasts_S256x512_S1x1x256x512⟩,
   ⟨Rect.unit (s := S4x2x256x512) ![3, 1, 0, 0] S1x1x256x512.size inb_S4x2x256x512_S1x1x256x512_3_1_0_0, shapeCast S1x1x256x512 (Lb3 i arg3 arg4 arg10 X3 X4 X10 k) shapeCasts_S256x512_S1x1x256x512⟩,
   ⟨Rect.unit (s := S4x2x256x512) ![2, 1, 0, 0] S1x1x256x512.size inb_S4x2x256x512_S1x1x256x512_2_1_0_0, shapeCast S1x1x256x512 (Lb2 i arg3 arg4 arg10 X3 X4 X10 k) shapeCasts_S256x512_S1x1x256x512⟩,
   ⟨Rect.unit (s := S4x2x256x512) ![1, 1, 0, 0] S1x1x256x512.size inb_S4x2x256x512_S1x1x256x512_1_1_0_0, shapeCast S1x1x256x512 (Lb1 i arg3 arg4 arg10 X3 X4 X10 k) shapeCasts_S256x512_S1x1x256x512⟩,
   ⟨Rect.unit (s := S4x2x256x512) ![0, 1, 0, 0] S1x1x256x512.size inb_S4x2x256x512_S1x1x256x512_0_1_0_0, shapeCast S1x1x256x512 (Lb0 i arg3 arg4 arg10 X3 X4 X10 k) shapeCasts_S256x512_S1x1x256x512⟩]

/-- What a trip stores in the sums' buffer: after the first chunk, then after both. -/
def P9a (acc : FVec Ideal S1x512 .f32 × FVec Ideal S1x512 .f32 × FVec Ideal S1x512 .f32 × FVec Ideal S1x512 .f32 × FVec Ideal S1x512 .f32 × FVec Ideal S1x512 .f32 × FVec Ideal S1x512 .f32 × FVec Ideal S1x512 .f32) (f8 : BufTy.Contents (Elt Ideal) arg8.view.ty) (f9 : BufTy.Contents (Elt Ideal) arg9.view.ty) : List (View.Piece (Elt Ideal) S4x144x512 .f32) :=
  [⟨Rect.unit (s := S4x144x512) ![3, 0, 0] S1x144x512.size inb_S4x144x512_S1x144x512_3_0_0, shapeCast S1x144x512 (A3 i arg5 arg8 arg9 X5 k acc.2.2.2.1 acc.2.2.2.2.2.2.2 f8 f9) shapeCasts_S144x512_S1x144x512⟩,
   ⟨Rect.unit (s := S4x144x512) ![2, 0, 0] S1x144x512.size inb_S4x144x512_S1x144x512_2_0_0, shapeCast S1x144x512 (A2 i arg5 arg8 arg9 X5 k acc.2.2.1 acc.2.2.2.2.2.2.1 f8 f9) shapeCasts_S144x512_S1x144x512⟩,
   ⟨Rect.unit (s := S4x144x512) ![1, 0, 0] S1x144x512.size inb_S4x144x512_S1x144x512_1_0_0, shapeCast S1x144x512 (A1 i arg5 arg8 arg9 X5 k acc.2.1 acc.2.2.2.2.2.1 f8 f9) shapeCasts_S144x512_S1x144x512⟩,
   ⟨Rect.unit (s := S4x144x512) ![0, 0, 0] S1x144x512.size inb_S4x144x512_S1x144x512_0_0_0, shapeCast S1x144x512 (A0 i arg5 arg8 arg9 X5 k acc.1 acc.2.2.2.2.1 f8 f9) shapeCasts_S144x512_S1x144x512⟩]
def P9 (acc : FVec Ideal S1x512 .f32 × FVec Ideal S1x512 .f32 × FVec Ideal S1x512 .f32 × FVec Ideal S1x512 .f32 × FVec Ideal S1x512 .f32 × FVec Ideal S1x512 .f32 × FVec Ideal S1x512 .f32 × FVec Ideal S1x512 .f32) (f8 : BufTy.Contents (Elt Ideal) arg8.view.ty) (f9 : BufTy.Contents (Elt Ideal) arg9.view.ty) : List (View.Piece (Elt Ideal) S4x144x512 .f32) :=
  ⟨Rect.unit (s := S4x144x512) ![3, 0, 0] S1x144x512.size inb_S4x144x512_S1x144x512_3_0_0, shapeCast S1x144x512 (B3 i arg3 arg4 arg5 arg8 arg9 arg10 X3 X4 X5 X10 k acc.2.2.2.1 acc.2.2.2.2.2.2.2 f8 f9) shapeCasts_S144x512_S1x144x512⟩ ::
   ⟨Rect.unit (s := S4x144x512) ![2, 0, 0] S1x144x512.size inb_S4x144x512_S1x144x512_2_0_0, shapeCast S1x144x512 (B2 i arg3 arg4 arg5 arg8 arg9 arg10 X3 X4 X5 X10 k acc.2.2.1 acc.2.2.2.2.2.2.1 f8 f9) shapeCasts_S144x512_S1x144x512⟩ ::
   ⟨Rect.unit (s := S4x144x512) ![1, 0, 0] S1x144x512.size inb_S4x144x512_S1x144x512_1_0_0, shapeCast S1x144x512 (B1 i arg3 arg4 arg5 arg8 arg9 arg10 X3 X4 X5 X10 k acc.2.1 acc.2.2.2.2.2.1 f8 f9) shapeCasts_S144x512_S1x144x512⟩ ::
   ⟨Rect.unit (s := S4x144x512) ![0, 0, 0] S1x144x512.size inb_S4x144x512_S1x144x512_0_0_0, shapeCast S1x144x512 (B0 i arg3 arg4 arg5 arg8 arg9 arg10 X3 X4 X5 X10 k acc.1 acc.2.2.2.2.1 f8 f9) shapeCasts_S144x512_S1x144x512⟩ ::
   P9a i arg5 arg8 arg9 X5 k acc f8 f9

theorem hw8 : trip_k0_t2.sl.HW_arg8_8 i arg3 arg4 arg10 X3 X4 X10 k = P8 i arg3 arg4 arg10 X3 X4 X10 k := rfl

theorem rc8_0 : arg8.view.readCov (P8 i arg3 arg4 arg10 X3 X4 X10 k) (Rect.unit (s := S4x2x256x512) ![0, 1, 0, 0] S1x1x256x512.size inb_S4x2x256x512_S1x1x256x512_0_1_0_0).toLoadRect = shapeCast S1x1x256x512 (Lb0 i arg3 arg4 arg10 X3 X4 X10 k) shapeCasts_S256x512_S1x1x256x512 := by
  unfold P8
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _
theorem rc8_1 : arg8.view.readCov (P8 i arg3 arg4 arg10 X3 X4 X10 k) (Rect.unit (s := S4x2x256x512) ![1, 1, 0, 0] S1x1x256x512.size inb_S4x2x256x512_S1x1x256x512_1_1_0_0).toLoadRect = shapeCast S1x1x256x512 (Lb1 i arg3 arg4 arg10 X3 X4 X10 k) shapeCasts_S256x512_S1x1x256x512 := by
  unfold P8
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _
theorem rc8_2 : arg8.view.readCov (P8 i arg3 arg4 arg10 X3 X4 X10 k) (Rect.unit (s := S4x2x256x512) ![2, 1, 0, 0] S1x1x256x512.size inb_S4x2x256x512_S1x1x256x512_2_1_0_0).toLoadRect = shapeCast S1x1x256x512 (Lb2 i arg3 arg4 arg10 X3 X4 X10 k) shapeCasts_S256x512_S1x1x256x512 := by
  unfold P8
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _
theorem rc8_3 : arg8.view.readCov (P8 i arg3 arg4 arg10 X3 X4 X10 k) (Rect.unit (s := S4x2x256x512) ![3, 1, 0, 0] S1x1x256x512.size inb_S4x2x256x512_S1x1x256x512_3_1_0_0).toLoadRect = shapeCast S1x1x256x512 (Lb3 i arg3 arg4 arg10 X3 X4 X10 k) shapeCasts_S256x512_S1x1x256x512 := by
  unfold P8
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _
theorem hw9_4 (acc : FVec Ideal S1x512 .f32 × FVec Ideal S1x512 .f32 × FVec Ideal S1x512 .f32 × FVec Ideal S1x512 .f32 × FVec Ideal S1x512 .f32 × FVec Ideal S1x512 .f32 × FVec Ideal S1x512 .f32 × FVec Ideal S1x512 .f32) (f8 : BufTy.Contents (Elt Ideal) arg8.view.ty) (f9 : BufTy.Contents (Elt Ideal) arg9.view.ty) : trip_k0_t2.sl.HW_arg9_4 i arg5 arg8 arg9 X5 k acc f8 f9 = P9a i arg5 arg8 arg9 X5 k acc f8 f9 := rfl

theorem rc9_0 (acc : FVec Ideal S1x512 .f32 × FVec Ideal S1x512 .f32 × FVec Ideal S1x512 .f32 × FVec Ideal S1x512 .f32 × FVec Ideal S1x512 .f32 × FVec Ideal S1x512 .f32 × FVec Ideal S1x512 .f32 × FVec Ideal S1x512 .f32) (f8 : BufTy.Contents (Elt Ideal) arg8.view.ty) (f9 : BufTy.Contents (Elt Ideal) arg9.view.ty) : arg9.view.readCov (P9a i arg5 arg8 arg9 X5 k acc f8 f9) (Rect.unit (s := S4x144x512) ![0, 0, 0] S1x144x512.size inb_S4x144x512_S1x144x512_0_0_0).toLoadRect = shapeCast S1x144x512 (A0 i arg5 arg8 arg9 X5 k acc.1 acc.2.2.2.2.1 f8 f9) shapeCasts_S144x512_S1x144x512 := by
  unfold P9a
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _
theorem rc9_1 (acc : FVec Ideal S1x512 .f32 × FVec Ideal S1x512 .f32 × FVec Ideal S1x512 .f32 × FVec Ideal S1x512 .f32 × FVec Ideal S1x512 .f32 × FVec Ideal S1x512 .f32 × FVec Ideal S1x512 .f32 × FVec Ideal S1x512 .f32) (f8 : BufTy.Contents (Elt Ideal) arg8.view.ty) (f9 : BufTy.Contents (Elt Ideal) arg9.view.ty) : arg9.view.readCov (⟨Rect.unit (s := S4x144x512) ![0, 0, 0] S1x144x512.size inb_S4x144x512_S1x144x512_0_0_0, shapeCast S1x144x512 (B0 i arg3 arg4 arg5 arg8 arg9 arg10 X3 X4 X5 X10 k acc.1 acc.2.2.2.2.1 f8 f9) shapeCasts_S144x512_S1x144x512⟩ ::
   P9a i arg5 arg8 arg9 X5 k acc f8 f9) (Rect.unit (s := S4x144x512) ![1, 0, 0] S1x144x512.size inb_S4x144x512_S1x144x512_1_0_0).toLoadRect = shapeCast S1x144x512 (A1 i arg5 arg8 arg9 X5 k acc.2.1 acc.2.2.2.2.2.1 f8 f9) shapeCasts_S144x512_S1x144x512 := by
  unfold P9a
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _
theorem rc9_2 (acc : FVec Ideal S1x512 .f32 × FVec Ideal S1x512 .f32 × FVec Ideal S1x512 .f32 × FVec Ideal S1x512 .f32 × FVec Ideal S1x512 .f32 × FVec Ideal S1x512 .f32 × FVec Ideal S1x512 .f32 × FVec Ideal S1x512 .f32) (f8 : BufTy.Contents (Elt Ideal) arg8.view.ty) (f9 : BufTy.Contents (Elt Ideal) arg9.view.ty) : arg9.view.readCov (⟨Rect.unit (s := S4x144x512) ![1, 0, 0] S1x144x512.size inb_S4x144x512_S1x144x512_1_0_0, shapeCast S1x144x512 (B1 i arg3 arg4 arg5 arg8 arg9 arg10 X3 X4 X5 X10 k acc.2.1 acc.2.2.2.2.2.1 f8 f9) shapeCasts_S144x512_S1x144x512⟩ ::
   ⟨Rect.unit (s := S4x144x512) ![0, 0, 0] S1x144x512.size inb_S4x144x512_S1x144x512_0_0_0, shapeCast S1x144x512 (B0 i arg3 arg4 arg5 arg8 arg9 arg10 X3 X4 X5 X10 k acc.1 acc.2.2.2.2.1 f8 f9) shapeCasts_S144x512_S1x144x512⟩ ::
   P9a i arg5 arg8 arg9 X5 k acc f8 f9) (Rect.unit (s := S4x144x512) ![2, 0, 0] S1x144x512.size inb_S4x144x512_S1x144x512_2_0_0).toLoadRect = shapeCast S1x144x512 (A2 i arg5 arg8 arg9 X5 k acc.2.2.1 acc.2.2.2.2.2.2.1 f8 f9) shapeCasts_S144x512_S1x144x512 := by
  unfold P9a
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _
theorem rc9_3 (acc : FVec Ideal S1x512 .f32 × FVec Ideal S1x512 .f32 × FVec Ideal S1x512 .f32 × FVec Ideal S1x512 .f32 × FVec Ideal S1x512 .f32 × FVec Ideal S1x512 .f32 × FVec Ideal S1x512 .f32 × FVec Ideal S1x512 .f32) (f8 : BufTy.Contents (Elt Ideal) arg8.view.ty) (f9 : BufTy.Contents (Elt Ideal) arg9.view.ty) : arg9.view.readCov (⟨Rect.unit (s := S4x144x512) ![2, 0, 0] S1x144x512.size inb_S4x144x512_S1x144x512_2_0_0, shapeCast S1x144x512 (B2 i arg3 arg4 arg5 arg8 arg9 arg10 X3 X4 X5 X10 k acc.2.2.1 acc.2.2.2.2.2.2.1 f8 f9) shapeCasts_S144x512_S1x144x512⟩ ::
   ⟨Rect.unit (s := S4x144x512) ![1, 0, 0] S1x144x512.size inb_S4x144x512_S1x144x512_1_0_0, shapeCast S1x144x512 (B1 i arg3 arg4 arg5 arg8 arg9 arg10 X3 X4 X5 X10 k acc.2.1 acc.2.2.2.2.2.1 f8 f9) shapeCasts_S144x512_S1x144x512⟩ ::
   ⟨Rect.unit (s := S4x144x512) ![0, 0, 0] S1x144x512.size inb_S4x144x512_S1x144x512_0_0_0, shapeCast S1x144x512 (B0 i arg3 arg4 arg5 arg8 arg9 arg10 X3 X4 X5 X10 k acc.1 acc.2.2.2.2.1 f8 f9) shapeCasts_S144x512_S1x144x512⟩ ::
   P9a i arg5 arg8 arg9 X5 k acc f8 f9) (Rect.unit (s := S4x144x512) ![3, 0, 0] S1x144x512.size inb_S4x144x512_S1x144x512_3_0_0).toLoadRect = shapeCast S1x144x512 (A3 i arg5 arg8 arg9 X5 k acc.2.2.2.1 acc.2.2.2.2.2.2.2 f8 f9) shapeCasts_S144x512_S1x144x512 := by
  unfold P9a
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _
theorem hw9_5 (acc : FVec Ideal S1x512 .f32 × FVec Ideal S1x512 .f32 × FVec Ideal S1x512 .f32 × FVec Ideal S1x512 .f32 × FVec Ideal S1x512 .f32 × FVec Ideal S1x512 .f32 × FVec Ideal S1x512 .f32 × FVec Ideal S1x512 .f32) (f8 : BufTy.Contents (Elt Ideal) arg8.view.ty) (f9 : BufTy.Contents (Elt Ideal) arg9.view.ty) : trip_k0_t2.sl.HW_arg9_5 i arg3 arg4 arg5 arg8 arg9 arg10 X3 X4 X5 X10 k acc f8 f9 = ⟨Rect.unit (s := S4x144x512) ![0, 0, 0] S1x144x512.size inb_S4x144x512_S1x144x512_0_0_0, shapeCast S1x144x512 (B0 i arg3 arg4 arg5 arg8 arg9 arg10 X3 X4 X5 X10 k acc.1 acc.2.2.2.2.1 f8 f9) shapeCasts_S144x512_S1x144x512⟩ ::
   P9a i arg5 arg8 arg9 X5 k acc f8 f9 := by
  have e : trip_k0_t2.sl.HW_arg9_5 i arg3 arg4 arg5 arg8 arg9 arg10 X3 X4 X5 X10 k acc f8 f9 = ⟨Rect.unit (s := S4x144x512) ![0, 0, 0] S1x144x512.size inb_S4x144x512_S1x144x512_0_0_0, shapeCast S1x144x512 (accN (maximumf acc.1 acc.2.2.2.2.1) (maximumf (maximumf acc.1 acc.2.2.2.2.1) (cmx (Lb0 i arg3 arg4 arg10 X3 X4 X10 k))) (arg8.view.readCov (P8 i arg3 arg4 arg10 X3 X4 X10 k) (Rect.unit (s := S4x2x256x512) ![0, 1, 0, 0] S1x1x256x512.size inb_S4x2x256x512_S1x1x256x512_0_1_0_0).toLoadRect) (arg9.view.readCov (trip_k0_t2.sl.HW_arg9_4 i arg5 arg8 arg9 X5 k acc f8 f9) (Rect.unit (s := S4x144x512) ![0, 0, 0] S1x144x512.size inb_S4x144x512_S1x144x512_0_0_0).toLoadRect) (Vb0 i arg5 X5 k)) shapeCasts_S144x512_S1x144x512⟩ :: trip_k0_t2.sl.HW_arg9_4 i arg5 arg8 arg9 X5 k acc f8 f9 := rfl
  rw [e, hw9_4, rc8_0, rc9_0]
  rfl

theorem hw9_6 (acc : FVec Ideal S1x512 .f32 × FVec Ideal S1x512 .f32 × FVec Ideal S1x512 .f32 × FVec Ideal S1x512 .f32 × FVec Ideal S1x512 .f32 × FVec Ideal S1x512 .f32 × FVec Ideal S1x512 .f32 × FVec Ideal S1x512 .f32) (f8 : BufTy.Contents (Elt Ideal) arg8.view.ty) (f9 : BufTy.Contents (Elt Ideal) arg9.view.ty) : trip_k0_t2.sl.HW_arg9_6 i arg3 arg4 arg5 arg8 arg9 arg10 X3 X4 X5 X10 k acc f8 f9 = ⟨Rect.unit (s := S4x144x512) ![1, 0, 0] S1x144x512.size inb_S4x144x512_S1x144x512_1_0_0, shapeCast S1x144x512 (B1 i arg3 arg4 arg5 arg8 arg9 arg10 X3 X4 X5 X10 k acc.2.1 acc.2.2.2.2.2.1 f8 f9) shapeCasts_S144x512_S1x144x512⟩ ::
   ⟨Rect.unit (s := S4x144x512) ![0, 0, 0] S1x144x512.size inb_S4x144x512_S1x144x512_0_0_0, shapeCast S1x144x512 (B0 i arg3 arg4 arg5 arg8 arg9 arg10 X3 X4 X5 X10 k acc.1 acc.2.2.2.2.1 f8 f9) shapeCasts_S144x512_S1x144x512⟩ ::
   P9a i arg5 arg8 arg9 X5 k acc f8 f9 := by
  have e : trip_k0_t2.sl.HW_arg9_6 i arg3 arg4 arg5 arg8 arg9 arg10 X3 X4 X5 X10 k acc f8 f9 = ⟨Rect.unit (s := S4x144x512) ![1, 0, 0] S1x144x512.size inb_S4x144x512_S1x144x512_1_0_0, shapeCast S1x144x512 (accN (maximumf acc.2.1 acc.2.2.2.2.2.1) (maximumf (maximumf acc.2.1 acc.2.2.2.2.2.1) (cmx (Lb1 i arg3 arg4 arg10 X3 X4 X10 k))) (arg8.view.readCov (P8 i arg3 arg4 arg10 X3 X4 X10 k) (Rect.unit (s := S4x2x256x512) ![1, 1, 0, 0] S1x1x256x512.size inb_S4x2x256x512_S1x1x256x512_1_1_0_0).toLoadRect) (arg9.view.readCov (trip_k0_t2.sl.HW_arg9_5 i arg3 arg4 arg5 arg8 arg9 arg10 X3 X4 X5 X10 k acc f8 f9) (Rect.unit (s := S4x144x512) ![1, 0, 0] S1x144x512.size inb_S4x144x512_S1x144x512_1_0_0).toLoadRect) (Vb1 i arg5 X5 k)) shapeCasts_S144x512_S1x144x512⟩ :: trip_k0_t2.sl.HW_arg9_5 i arg3 arg4 arg5 arg8 arg9 arg10 X3 X4 X5 X10 k acc f8 f9 := rfl
  rw [e, hw9_5, rc8_1, rc9_1]
  rfl

theorem hw9_7 (acc : FVec Ideal S1x512 .f32 × FVec Ideal S1x512 .f32 × FVec Ideal S1x512 .f32 × FVec Ideal S1x512 .f32 × FVec Ideal S1x512 .f32 × FVec Ideal S1x512 .f32 × FVec Ideal S1x512 .f32 × FVec Ideal S1x512 .f32) (f8 : BufTy.Contents (Elt Ideal) arg8.view.ty) (f9 : BufTy.Contents (Elt Ideal) arg9.view.ty) : trip_k0_t2.sl.HW_arg9_7 i arg3 arg4 arg5 arg8 arg9 arg10 X3 X4 X5 X10 k acc f8 f9 = ⟨Rect.unit (s := S4x144x512) ![2, 0, 0] S1x144x512.size inb_S4x144x512_S1x144x512_2_0_0, shapeCast S1x144x512 (B2 i arg3 arg4 arg5 arg8 arg9 arg10 X3 X4 X5 X10 k acc.2.2.1 acc.2.2.2.2.2.2.1 f8 f9) shapeCasts_S144x512_S1x144x512⟩ ::
   ⟨Rect.unit (s := S4x144x512) ![1, 0, 0] S1x144x512.size inb_S4x144x512_S1x144x512_1_0_0, shapeCast S1x144x512 (B1 i arg3 arg4 arg5 arg8 arg9 arg10 X3 X4 X5 X10 k acc.2.1 acc.2.2.2.2.2.1 f8 f9) shapeCasts_S144x512_S1x144x512⟩ ::
   ⟨Rect.unit (s := S4x144x512) ![0, 0, 0] S1x144x512.size inb_S4x144x512_S1x144x512_0_0_0, shapeCast S1x144x512 (B0 i arg3 arg4 arg5 arg8 arg9 arg10 X3 X4 X5 X10 k acc.1 acc.2.2.2.2.1 f8 f9) shapeCasts_S144x512_S1x144x512⟩ ::
   P9a i arg5 arg8 arg9 X5 k acc f8 f9 := by
  have e : trip_k0_t2.sl.HW_arg9_7 i arg3 arg4 arg5 arg8 arg9 arg10 X3 X4 X5 X10 k acc f8 f9 = ⟨Rect.unit (s := S4x144x512) ![2, 0, 0] S1x144x512.size inb_S4x144x512_S1x144x512_2_0_0, shapeCast S1x144x512 (accN (maximumf acc.2.2.1 acc.2.2.2.2.2.2.1) (maximumf (maximumf acc.2.2.1 acc.2.2.2.2.2.2.1) (cmx (Lb2 i arg3 arg4 arg10 X3 X4 X10 k))) (arg8.view.readCov (P8 i arg3 arg4 arg10 X3 X4 X10 k) (Rect.unit (s := S4x2x256x512) ![2, 1, 0, 0] S1x1x256x512.size inb_S4x2x256x512_S1x1x256x512_2_1_0_0).toLoadRect) (arg9.view.readCov (trip_k0_t2.sl.HW_arg9_6 i arg3 arg4 arg5 arg8 arg9 arg10 X3 X4 X5 X10 k acc f8 f9) (Rect.unit (s := S4x144x512) ![2, 0, 0] S1x144x512.size inb_S4x144x512_S1x144x512_2_0_0).toLoadRect) (Vb2 i arg5 X5 k)) shapeCasts_S144x512_S1x144x512⟩ :: trip_k0_t2.sl.HW_arg9_6 i arg3 arg4 arg5 arg8 arg9 arg10 X3 X4 X5 X10 k acc f8 f9 := rfl
  rw [e, hw9_6, rc8_2, rc9_2]
  rfl

end Trip

variable (𝒱 : Variants) (c : Dev nD) (bd : Option 𝒱.V) (i : grid0.Coords) (arg3 : Memref sig .tc .vmem S512x512 .bf16) (harg3 : arg3.IsWhole) (arg4 : Memref sig .tc .vmem S4096x512 .bf16) (harg4 : arg4.IsWhole) (arg5 : Memref sig .tc .vmem S1x4x144x4096 .bf16) (harg5 : arg5.IsWhole) (arg6 : Memref sig .tc .vmem S4096x128 .f32) (harg6 : arg6.IsWhole) (arg7 : Memref sig .tc .vmem S512x512 .bf16) (harg7 : arg7.IsWhole) (arg8 : Memref sig .tc .vmem S4x2x256x512 .f32) (harg8 : arg8.IsWhole) (arg9 : Memref sig .tc .vmem S4x144x512 .f32) (harg9 : arg9.IsWhole) (arg10 : Memref sig .tc .vmem S2x4096x128 .f32) (harg10 : arg10.IsWhole)
  (arg1 arg2 v1 : BitVec 32) (v383 v405 v427 v449 v450 v471 v492 v513 : FVec Ideal S1x512 .f32) (v534 c0_i32_267 v536 : BitVec 32)
  (X3 : BufTy.Contents (Elt Ideal) arg3.view.ty) (X4 : BufTy.Contents (Elt Ideal) arg4.view.ty)
  (X5 : BufTy.Contents (Elt Ideal) arg5.view.ty) (X10 : BufTy.Contents (Elt Ideal) arg10.view.ty)

theorem trip_res (k : Fin (k0_t2_loop i).trips) (acc : FVec Ideal S1x512 .f32 × FVec Ideal S1x512 .f32 × FVec Ideal S1x512 .f32 × FVec Ideal S1x512 .f32 × FVec Ideal S1x512 .f32 × FVec Ideal S1x512 .f32 × FVec Ideal S1x512 .f32 × FVec Ideal S1x512 .f32) (f8 : BufTy.Contents (Elt Ideal) arg8.view.ty) (f9 : BufTy.Contents (Elt Ideal) arg9.view.ty) :
    tripR_k0_t2 (F := Ideal) 𝒱 c bd i arg3 harg3 arg4 harg4 arg5 harg5 arg6 harg6 arg7 harg7 arg8 harg8 arg9 harg9 arg10 harg10 arg1 arg2 v1 v383 v405 v427 v449 v450 v471 v492 v513 v534 c0_i32_267 v536 X3 X4 X5 X10 k acc f8 f9 = (maximumf (maximumf acc.1 acc.2.2.2.2.1) (cmx (Lb0 i arg3 arg4 arg10 X3 X4 X10 k)), maximumf (maximumf acc.2.1 acc.2.2.2.2.2.1) (cmx (Lb1 i arg3 arg4 arg10 X3 X4 X10 k)), maximumf (maximumf acc.2.2.1 acc.2.2.2.2.2.2.1) (cmx (Lb2 i arg3 arg4 arg10 X3 X4 X10 k)), maximumf (maximumf acc.2.2.2.1 acc.2.2.2.2.2.2.2) (cmx (Lb3 i arg3 arg4 arg10 X3 X4 X10 k)), cmx (Lc0 i arg3 arg4 arg10 X3 X4 X10 k), cmx (Lc1 i arg3 arg4 arg10 X3 X4 X10 k), cmx (Lc2 i arg3 arg4 arg10 X3 X4 X10 k), cmx (Lc3 i arg3 arg4 arg10 X3 X4 X10 k)) := by
  unfold tripR_k0_t2 trip_k0_t2
  rfl

theorem trip_8 (k : Fin (k0_t2_loop i).trips) (acc : FVec Ideal S1x512 .f32 × FVec Ideal S1x512 .f32 × FVec Ideal S1x512 .f32 × FVec Ideal S1x512 .f32 × FVec Ideal S1x512 .f32 × FVec Ideal S1x512 .f32 × FVec Ideal S1x512 .f32 × FVec Ideal S1x512 .f32) (f8 : BufTy.Contents (Elt Ideal) arg8.view.ty) (f9 : BufTy.Contents (Elt Ideal) arg9.view.ty) :
    (tripL_k0_t2 (F := Ideal) 𝒱 c bd i arg3 harg3 arg4 harg4 arg5 harg5 arg6 harg6 arg7 harg7 arg8 harg8 arg9 harg9 arg10 harg10 arg1 arg2 v1 v383 v405 v427 v449 v450 v471 v492 v513 v534 c0_i32_267 v536 X3 X4 X5 X10 k acc f8 f9).1 = P8 i arg3 arg4 arg10 X3 X4 X10 k := by
  unfold tripL_k0_t2 trip_k0_t2
  rfl

theorem trip_9 (k : Fin (k0_t2_loop i).trips) (acc : FVec Ideal S1x512 .f32 × FVec Ideal S1x512 .f32 × FVec Ideal S1x512 .f32 × FVec Ideal S1x512 .f32 × FVec Ideal S1x512 .f32 × FVec Ideal S1x512 .f32 × FVec Ideal S1x512 .f32 × FVec Ideal S1x512 .f32) (f8 : BufTy.Contents (Elt Ideal) arg8.view.ty) (f9 : BufTy.Contents (Elt Ideal) arg9.view.ty) :
    (tripL_k0_t2 (F := Ideal) 𝒱 c bd i arg3 harg3 arg4 harg4 arg5 harg5 arg6 harg6 arg7 harg7 arg8 harg8 arg9 harg9 arg10 harg10 arg1 arg2 v1 v383 v405 v427 v449 v450 v471 v492 v513 v534 c0_i32_267 v536 X3 X4 X5 X10 k acc f8 f9).2 = P9 i arg3 arg4 arg5 arg8 arg9 arg10 X3 X4 X5 X10 k acc f8 f9 := by
  have e : (tripL_k0_t2 (F := Ideal) 𝒱 c bd i arg3 harg3 arg4 harg4 arg5 harg5 arg6 harg6 arg7 harg7 arg8 harg8 arg9 harg9 arg10 harg10 arg1 arg2 v1 v383 v405 v427 v449 v450 v471 v492 v513 v534 c0_i32_267 v536 X3 X4 X5 X10 k acc f8 f9).2 = ⟨Rect.unit (s := S4x144x512) ![3, 0, 0] S1x144x512.size inb_S4x144x512_S1x144x512_3_0_0, shapeCast S1x144x512 (accN (maximumf acc.2.2.2.1 acc.2.2.2.2.2.2.2) (maximumf (maximumf acc.2.2.2.1 acc.2.2.2.2.2.2.2) (cmx (Lb3 i arg3 arg4 arg10 X3 X4 X10 k))) (arg8.view.readCov (P8 i arg3 arg4 arg10 X3 X4 X10 k) (Rect.unit (s := S4x2x256x512) ![3, 1, 0, 0] S1x1x256x512.size inb_S4x2x256x512_S1x1x256x512_3_1_0_0).toLoadRect) (arg9.view.readCov (trip_k0_t2.sl.HW_arg9_7 i arg3 arg4 arg5 arg8 arg9 arg10 X3 X4 X5 X10 k acc f8 f9) (Rect.unit (s := S4x144x512) ![3, 0, 0] S1x144x512.size inb_S4x144x512_S1x144x512_3_0_0).toLoadRect) (Vb3 i arg5 X5 k)) shapeCasts_S144x512_S1x144x512⟩ :: trip_k0_t2.sl.HW_arg9_7 i arg3 arg4 arg5 arg8 arg9 arg10 X3 X4 X5 X10 k acc f8 f9 := by
    unfold tripL_k0_t2 trip_k0_t2
    rfl
  rw [e, hw9_7, rc8_3, rc9_3]
  rfl

end Cert.KernelIdeal.Attn
-- ==== Proof.AttnLoop.lean ====
/-
  The chunk loop: the four heads' states before every trip, by induction on the trips.
-/
module

public import proofs.«01_k».proof.Proof.AttnTrip
public import proofs.«01_k».proof.Proof.Gen.KernelIdeal.Loops
public import Idealize.ShloMosaic.Lib.WritesUnit
public import Idealize.ShloMosaic.Lib.Pipeline.ReadBack

@[expose] public section

set_option maxRecDepth 8192
set_option maxHeartbeats 1000000

noncomputable section

namespace Cert.KernelIdeal.Attn

open Cert.KernelIdeal Cert.KernelIdeal.Gen
open Idealize.ShloMosaic Idealize.ShloMosaic.ValueIdx

variable (𝒱 : Variants) (c : Dev nD) (bd : Option 𝒱.V) (i : grid0.Coords) (arg3 : Memref sig .tc .vmem S512x512 .bf16) (harg3 : arg3.IsWhole) (arg4 : Memref sig .tc .vmem S4096x512 .bf16) (harg4 : arg4.IsWhole) (arg5 : Memref sig .tc .vmem S1x4x144x4096 .bf16) (harg5 : arg5.IsWhole) (arg6 : Memref sig .tc .vmem S4096x128 .f32) (harg6 : arg6.IsWhole) (arg7 : Memref sig .tc .vmem S512x512 .bf16) (harg7 : arg7.IsWhole) (arg8 : Memref sig .tc .vmem S4x2x256x512 .f32) (harg8 : arg8.IsWhole) (arg9 : Memref sig .tc .vmem S4x144x512 .f32) (harg9 : arg9.IsWhole) (arg10 : Memref sig .tc .vmem S2x4096x128 .f32) (harg10 : arg10.IsWhole)
  (arg1 arg2 v1 : BitVec 32) (v383 v405 v427 v449 v450 v471 v492 v513 : FVec Ideal S1x512 .f32) (v534 c0_i32_267 v536 : BitVec 32)
  (X3 : BufTy.Contents (Elt Ideal) arg3.view.ty) (X4 : BufTy.Contents (Elt Ideal) arg4.view.ty)
  (X5 : BufTy.Contents (Elt Ideal) arg5.view.ty) (X10 : BufTy.Contents (Elt Ideal) arg10.view.ty)

variable {D : Nums}

/-- Head 0 over one trip. -/
theorem trip_inv_0 (H : Holds (arg3 := arg3) (arg4 := arg4) (arg5 := arg5) (arg10 := arg10) D (i 1).val X3 X4 X5 X10) (k : Fin (k0_t2_loop i).trips) (acc : FVec Ideal S1x512 .f32 × FVec Ideal S1x512 .f32 × FVec Ideal S1x512 .f32 × FVec Ideal S1x512 .f32 × FVec Ideal S1x512 .f32 × FVec Ideal S1x512 .f32 × FVec Ideal S1x512 .f32 × FVec Ideal S1x512 .f32) (f8 : BufTy.Contents (Elt Ideal) arg8.view.ty) (f9 : BufTy.Contents (Elt Ideal) arg9.view.ty)
    (h : HInv (arg8 := arg8) (arg9 := arg9) D (i 2).val 0 (by omega) k.val (acc.1) (acc.2.2.2.2.1) (f8) (f9)) :
    HInv (arg8 := arg8) (arg9 := arg9) D (i 2).val 0 (by omega) (k.val + 1) (maximumf (maximumf acc.1 acc.2.2.2.2.1) (cmx (Lb0 i arg3 arg4 arg10 X3 X4 X10 k))) (cmx (Lc0 i arg3 arg4 arg10 X3 X4 X10 k)) (arg8.view.writes (Elt Ideal) f8 (P8 i arg3 arg4 arg10 X3 X4 X10 k)) (arg9.view.writes (Elt Ideal) f9 (P9 i arg3 arg4 arg5 arg8 arg9 arg10 X3 X4 X5 X10 k acc f8 f9)) := by
  have hk : k.val < (i 2).val := by rw [← trips2 i]; exact k.isLt
  have hi : (i 2).val < 8 := (i 2).isLt
  refine h.next hi hk inb_S4x2x256x512_S1x1x256x512_0_0_0_0 inb_S4x144x512_S1x144x512_0_0_0 (Lb0 i arg3 arg4 arg10 X3 X4 X10 k) ?_ (Va0 i arg5 X5 k) (Vb0 i arg5 X5 k) ?_ ?_ (Lc0 i arg3 arg4 arg10 X3 X4 X10 k) ?_ ?_ ?_
  · exact fun s q => H.lg_val 0 (by omega) _ (512 * (i 2).val) (512 * k.val + 256) (by omega) _ _ _ _ (off24_eq i) (off25_eq i k) (off26_eq i k) rfl s q
  · exact fun r s => H.v_val 0 (by omega) (512 * k.val) (by omega) _ (off30_eq i k) r s
  · exact fun r s => H.v_val 0 (by omega) (512 * k.val + 256) (by omega) _ (off39_eq i k) r s
  · exact fun s q => H.lg_val 0 (by omega) _ (512 * (i 2).val) (min (512 * k.val + 512) (512 * ((i 2).val - 1))) (by omega) _ _ _ _ (off24_eq i) (off34_eq i k) (off35_eq i k) rfl s q
  · intro s q
    unfold P8
    refine (View.read_writes_cons_unit_of_not_mem arg8.view f8 _ _ _ _ rfl (0 : Fin 4) (by left; show 0 < 3; omega)).trans ?_
    refine (View.read_writes_cons_unit_of_not_mem arg8.view f8 _ _ _ _ rfl (0 : Fin 4) (by left; show 0 < 2; omega)).trans ?_
    refine (View.read_writes_cons_unit_of_not_mem arg8.view f8 _ _ _ _ rfl (0 : Fin 4) (by left; show 0 < 1; omega)).trans ?_
    refine (View.read_writes_cons_unit_of_mem arg8.view f8 _ _ _ _ (ix4 (0 : Fin 1) (0 : Fin 1) s q) rfl (fun x => ?_)).trans (cast_ab_11ab _ _ _ _ _ _)
    match x with
    | ⟨0, _⟩ => rfl
    | ⟨1, _⟩ => rfl
    | ⟨2, _⟩ => exact (Nat.zero_add _).symm
    | ⟨3, _⟩ => exact (Nat.zero_add _).symm
  · intro r q
    unfold P9
    refine (View.read_writes_cons_unit_of_not_mem arg9.view f9 _ _ _ _ rfl (0 : Fin 3) (by left; show 0 < 3; omega)).trans ?_
    refine (View.read_writes_cons_unit_of_not_mem arg9.view f9 _ _ _ _ rfl (0 : Fin 3) (by left; show 0 < 2; omega)).trans ?_
    refine (View.read_writes_cons_unit_of_not_mem arg9.view f9 _ _ _ _ rfl (0 : Fin 3) (by left; show 0 < 1; omega)).trans ?_
    refine (View.read_writes_cons_unit_of_mem arg9.view f9 _ _ _ _ (ix3 (0 : Fin 1) r q) rfl (fun x => ?_)).trans (shapeCast_ab_1ab_apply _ _ _ _ _)
    match x with
    | ⟨0, _⟩ => rfl
    | ⟨1, _⟩ => exact (Nat.zero_add _).symm
    | ⟨2, _⟩ => exact (Nat.zero_add _).symm

/-- Head 1 over one trip. -/
theorem trip_inv_1 (H : Holds (arg3 := arg3) (arg4 := arg4) (arg5 := arg5) (arg10 := arg10) D (i 1).val X3 X4 X5 X10) (k : Fin (k0_t2_loop i).trips) (acc : FVec Ideal S1x512 .f32 × FVec Ideal S1x512 .f32 × FVec Ideal S1x512 .f32 × FVec Ideal S1x512 .f32 × FVec Ideal S1x512 .f32 × FVec Ideal S1x512 .f32 × FVec Ideal S1x512 .f32 × FVec Ideal S1x512 .f32) (f8 : BufTy.Contents (Elt Ideal) arg8.view.ty) (f9 : BufTy.Contents (Elt Ideal) arg9.view.ty)
    (h : HInv (arg8 := arg8) (arg9 := arg9) D (i 2).val 1 (by omega) k.val (acc.2.1) (acc.2.2.2.2.2.1) (f8) (f9)) :
    HInv (arg8 := arg8) (arg9 := arg9) D (i 2).val 1 (by omega) (k.val + 1) (maximumf (maximumf acc.2.1 acc.2.2.2.2.2.1) (cmx (Lb1 i arg3 arg4 arg10 X3 X4 X10 k))) (cmx (Lc1 i arg3 arg4 arg10 X3 X4 X10 k)) (arg8.view.writes (Elt Ideal) f8 (P8 i arg3 arg4 arg10 X3 X4 X10 k)) (arg9.view.writes (Elt Ideal) f9 (P9 i arg3 arg4 arg5 arg8 arg9 arg10 X3 X4 X5 X10 k acc f8 f9)) := by
  have hk : k.val < (i 2).val := by rw [← trips2 i]; exact k.isLt
  have hi : (i 2).val < 8 := (i 2).isLt
  refine h.next hi hk inb_S4x2x256x512_S1x1x256x512_1_0_0_0 inb_S4x144x512_S1x144x512_1_0_0 (Lb1 i arg3 arg4 arg10 X3 X4 X10 k) ?_ (Va1 i arg5 X5 k) (Vb1 i arg5 X5 k) ?_ ?_ (Lc1 i arg3 arg4 arg10 X3 X4 X10 k) ?_ ?_ ?_
  · exact fun s q => H.lg_val 1 (by omega) _ (512 * (i 2).val) (512 * k.val + 256) (by omega) _ _ _ _ (off24_eq i) (off25_eq i k) (off27_eq i k) rfl s q
  · exact fun r s => H.v_val 1 (by omega) (512 * k.val) (by omega) _ (off31_eq i k) r s
  · exact fun r s => H.v_val 1 (by omega) (512 * k.val + 256) (by omega) _ (off40_eq i k) r s
  · exact fun s q => H.lg_val 1 (by omega) _ (512 * (i 2).val) (min (512 * k.val + 512) (512 * ((i 2).val - 1))) (by omega) _ _ _ _ (off24_eq i) (off34_eq i k) (off36_eq i k) rfl s q
  · intro s q
    unfold P8
    refine (View.read_writes_cons_unit_of_not_mem arg8.view f8 _ _ _ _ rfl (0 : Fin 4) (by left; show 1 < 3; omega)).trans ?_
    refine (View.read_writes_cons_unit_of_not_mem arg8.view f8 _ _ _ _ rfl (0 : Fin 4) (by left; show 1 < 2; omega)).trans ?_
    refine (View.read_writes_cons_unit_of_mem arg8.view f8 _ _ _ _ (ix4 (0 : Fin 1) (0 : Fin 1) s q) rfl (fun x => ?_)).trans (cast_ab_11ab _ _ _ _ _ _)
    match x with
    | ⟨0, _⟩ => rfl
    | ⟨1, _⟩ => rfl
    | ⟨2, _⟩ => exact (Nat.zero_add _).symm
    | ⟨3, _⟩ => exact (Nat.zero_add _).symm
  · intro r q
    unfold P9
    refine (View.read_writes_cons_unit_of_not_mem arg9.view f9 _ _ _ _ rfl (0 : Fin 3) (by left; show 1 < 3; omega)).trans ?_
    refine (View.read_writes_cons_unit_of_not_mem arg9.view f9 _ _ _ _ rfl (0 : Fin 3) (by left; show 1 < 2; omega)).trans ?_
    refine (View.read_writes_cons_unit_of_mem arg9.view f9 _ _ _ _ (ix3 (0 : Fin 1) r q) rfl (fun x => ?_)).trans (shapeCast_ab_1ab_apply _ _ _ _ _)
    match x with
    | ⟨0, _⟩ => rfl
    | ⟨1, _⟩ => exact (Nat.zero_add _).symm
    | ⟨2, _⟩ => exact (Nat.zero_add _).symm

/-- Head 2 over one trip. -/
theorem trip_inv_2 (H : Holds (arg3 := arg3) (arg4 := arg4) (arg5 := arg5) (arg10 := arg10) D (i 1).val X3 X4 X5 X10) (k : Fin (k0_t2_loop i).trips) (acc : FVec Ideal S1x512 .f32 × FVec Ideal S1x512 .f32 × FVec Ideal S1x512 .f32 × FVec Ideal S1x512 .f32 × FVec Ideal S1x512 .f32 × FVec Ideal S1x512 .f32 × FVec Ideal S1x512 .f32 × FVec Ideal S1x512 .f32) (f8 : BufTy.Contents (Elt Ideal) arg8.view.ty) (f9 : BufTy.Contents (Elt Ideal) arg9.view.ty)
    (h : HInv (arg8 := arg8) (arg9 := arg9) D (i 2).val 2 (by omega) k.val (acc.2.2.1) (acc.2.2.2.2.2.2.1) (f8) (f9)) :
    HInv (arg8 := arg8) (arg9 := arg9) D (i 2).val 2 (by omega) (k.val + 1) (maximumf (maximumf acc.2.2.1 acc.2.2.2.2.2.2.1) (cmx (Lb2 i arg3 arg4 arg10 X3 X4 X10 k))) (cmx (Lc2 i arg3 arg4 arg10 X3 X4 X10 k)) (arg8.view.writes (Elt Ideal) f8 (P8 i arg3 arg4 arg10 X3 X4 X10 k)) (arg9.view.writes (Elt Ideal) f9 (P9 i arg3 arg4 arg5 arg8 arg9 arg10 X3 X4 X5 X10 k acc f8 f9)) := by
  have hk : k.val < (i 2).val := by rw [← trips2 i]; exact k.isLt
  have hi : (i 2).val < 8 := (i 2).isLt
  refine h.next hi hk inb_S4x2x256x512_S1x1x256x512_2_0_0_0 inb_S4x144x512_S1x144x512_2_0_0 (Lb2 i arg3 arg4 arg10 X3 X4 X10 k) ?_ (Va2 i arg5 X5 k) (Vb2 i arg5 X5 k) ?_ ?_ (Lc2 i arg3 arg4 arg10 X3 X4 X10 k) ?_ ?_ ?_
  · exact fun s q => H.lg_val 2 (by omega) _ (512 * (i 2).val) (512 * k.val + 256) (by omega) _ _ _ _ (off24_eq i) (off25_eq i k) (off28_eq i k) rfl s q
  · exact fun r s => H.v_val 2 (by omega) (512 * k.val) (by omega) _ (off32_eq i k) r s
  · exact fun r s => H.v_val 2 (by omega) (512 * k.val + 256) (by omega) _ (off41_eq i k) r s
  · exact fun s q => H.lg_val 2 (by omega) _ (512 * (i 2).val) (min (512 * k.val + 512) (512 * ((i 2).val - 1))) (by omega) _ _ _ _ (off24_eq i) (off34_eq i k) (off37_eq i k) rfl s q
  · intro s q
    unfold P8
    refine (View.read_writes_cons_unit_of_not_mem arg8.view f8 _ _ _ _ rfl (0 : Fin 4) (by left; show 2 < 3; omega)).trans ?_
    refine (View.read_writes_cons_unit_of_mem arg8.view f8 _ _ _ _ (ix4 (0 : Fin 1) (0 : Fin 1) s q) rfl (fun x => ?_)).trans (cast_ab_11ab _ _ _ _ _ _)
    match x with
    | ⟨0, _⟩ => rfl
    | ⟨1, _⟩ => rfl
    | ⟨2, _⟩ => exact (Nat.zero_add _).symm
    | ⟨3, _⟩ => exact (Nat.zero_add _).symm
  · intro r q
    unfold P9
    refine (View.read_writes_cons_unit_of_not_mem arg9.view f9 _ _ _ _ rfl (0 : Fin 3) (by left; show 2 < 3; omega)).trans ?_
    refine (View.read_writes_cons_unit_of_mem arg9.view f9 _ _ _ _ (ix3 (0 : Fin 1) r q) rfl (fun x => ?_)).trans (shapeCast_ab_1ab_apply _ _ _ _ _)
    match x with
    | ⟨0, _⟩ => rfl
    | ⟨1, _⟩ => exact (Nat.zero_add _).symm
    | ⟨2, _⟩ => exact (Nat.zero_add _).symm

/-- Head 3 over one trip. -/
theorem trip_inv_3 (H : Holds (arg3 := arg3) (arg4 := arg4) (arg5 := arg5) (arg10 := arg10) D (i 1).val X3 X4 X5 X10) (k : Fin (k0_t2_loop i).trips) (acc : FVec Ideal S1x512 .f32 × FVec Ideal S1x512 .f32 × FVec Ideal S1x512 .f32 × FVec Ideal S1x512 .f32 × FVec Ideal S1x512 .f32 × FVec Ideal S1x512 .f32 × FVec Ideal S1x512 .f32 × FVec Ideal S1x512 .f32) (f8 : BufTy.Contents (Elt Ideal) arg8.view.ty) (f9 : BufTy.Contents (Elt Ideal) arg9.view.ty)
    (h : HInv (arg8 := arg8) (arg9 := arg9) D (i 2).val 3 (by omega) k.val (acc.2.2.2.1) (acc.2.2.2.2.2.2.2) (f8) (f9)) :
    HInv (arg8 := arg8) (arg9 := arg9) D (i 2).val 3 (by omega) (k.val + 1) (maximumf (maximumf acc.2.2.2.1 acc.2.2.2.2.2.2.2) (cmx (Lb3 i arg3 arg4 arg10 X3 X4 X10 k))) (cmx (Lc3 i arg3 arg4 arg10 X3 X4 X10 k)) (arg8.view.writes (Elt Ideal) f8 (P8 i arg3 arg4 arg10 X3 X4 X10 k)) (arg9.view.writes (Elt Ideal) f9 (P9 i arg3 arg4 arg5 arg8 arg9 arg10 X3 X4 X5 X10 k acc f8 f9)) := by
  have hk : k.val < (i 2).val := by rw [← trips2 i]; exact k.isLt
  have hi : (i 2).val < 8 := (i 2).isLt
  refine h.next hi hk inb_S4x2x256x512_S1x1x256x512_3_0_0_0 inb_S4x144x512_S1x144x512_3_0_0 (Lb3 i arg3 arg4 arg10 X3 X4 X10 k) ?_ (Va3 i arg5 X5 k) (Vb3 i arg5 X5 k) ?_ ?_ (Lc3 i arg3 arg4 arg10 X3 X4 X10 k) ?_ ?_ ?_
  · exact fun s q => H.lg_val 3 (by omega) _ (512 * (i 2).val) (512 * k.val + 256) (by omega) _ _ _ _ (off24_eq i) (off25_eq i k) (off29_eq i k) rfl s q
  · exact fun r s => H.v_val 3 (by omega) (512 * k.val) (by omega) _ (off33_eq i k) r s
  · exact fun r s => H.v_val 3 (by omega) (512 * k.val + 256) (by omega) _ (off42_eq i k) r s
  · exact fun s q => H.lg_val 3 (by omega) _ (512 * (i 2).val) (min (512 * k.val + 512) (512 * ((i 2).val - 1))) (by omega) _ _ _ _ (off24_eq i) (off34_eq i k) (off38_eq i k) rfl s q
  · intro s q
    unfold P8
    refine (View.read_writes_cons_unit_of_mem arg8.view f8 _ _ _ _ (ix4 (0 : Fin 1) (0 : Fin 1) s q) rfl (fun x => ?_)).trans (cast_ab_11ab _ _ _ _ _ _)
    match x with
    | ⟨0, _⟩ => rfl
    | ⟨1, _⟩ => rfl
    | ⟨2, _⟩ => exact (Nat.zero_add _).symm
    | ⟨3, _⟩ => exact (Nat.zero_add _).symm
  · intro r q
    unfold P9
    refine (View.read_writes_cons_unit_of_mem arg9.view f9 _ _ _ _ (ix3 (0 : Fin 1) r q) rfl (fun x => ?_)).trans (shapeCast_ab_1ab_apply _ _ _ _ _)
    match x with
    | ⟨0, _⟩ => rfl
    | ⟨1, _⟩ => exact (Nat.zero_add _).symm
    | ⟨2, _⟩ => exact (Nat.zero_add _).symm

/-- The four heads before trip `k`. -/
def Inv4 (D : Nums) (k : ℕ) (acc : FVec Ideal S1x512 .f32 × FVec Ideal S1x512 .f32 × FVec Ideal S1x512 .f32 × FVec Ideal S1x512 .f32 × FVec Ideal S1x512 .f32 × FVec Ideal S1x512 .f32 × FVec Ideal S1x512 .f32 × FVec Ideal S1x512 .f32) (f8 : BufTy.Contents (Elt Ideal) arg8.view.ty) (f9 : BufTy.Contents (Elt Ideal) arg9.view.ty) : Prop :=
  HInv (arg8 := arg8) (arg9 := arg9) D (i 2).val 0 (by omega) k (acc.1) (acc.2.2.2.2.1) (f8) (f9) ∧ HInv (arg8 := arg8) (arg9 := arg9) D (i 2).val 1 (by omega) k (acc.2.1) (acc.2.2.2.2.2.1) (f8) (f9) ∧ HInv (arg8 := arg8) (arg9 := arg9) D (i 2).val 2 (by omega) k (acc.2.2.1) (acc.2.2.2.2.2.2.1) (f8) (f9) ∧ HInv (arg8 := arg8) (arg9 := arg9) D (i 2).val 3 (by omega) k (acc.2.2.2.1) (acc.2.2.2.2.2.2.2) (f8) (f9)

/-- The four heads over one trip. -/
theorem trip_inv (H : Holds (arg3 := arg3) (arg4 := arg4) (arg5 := arg5) (arg10 := arg10) D (i 1).val X3 X4 X5 X10) (G8 : BufTy.Contents (Elt Ideal) arg8.view.ty) (G9 : BufTy.Contents (Elt Ideal) arg9.view.ty)
    (k : Fin (k0_t2_loop i).trips) (acc : FVec Ideal S1x512 .f32 × FVec Ideal S1x512 .f32 × FVec Ideal S1x512 .f32 × FVec Ideal S1x512 .f32 × FVec Ideal S1x512 .f32 × FVec Ideal S1x512 .f32 × FVec Ideal S1x512 .f32 × FVec Ideal S1x512 .f32) (L8 : List (View.Piece (Elt Ideal) S4x2x256x512 .f32)) (L9 : List (View.Piece (Elt Ideal) S4x144x512 .f32))
    (hI : Inv4 i arg8 arg9 D k.val acc (arg8.view.writes (Elt Ideal) G8 L8) (arg9.view.writes (Elt Ideal) G9 L9)) :
    Inv4 i arg8 arg9 D (k.val + 1) (tripR_k0_t2 (F := Ideal) 𝒱 c bd i arg3 harg3 arg4 harg4 arg5 harg5 arg6 harg6 arg7 harg7 arg8 harg8 arg9 harg9 arg10 harg10 arg1 arg2 v1 v383 v405 v427 v449 v450 v471 v492 v513 v534 c0_i32_267 v536 X3 X4 X5 X10 k acc (arg8.view.writes (Elt Ideal) G8 L8) (arg9.view.writes (Elt Ideal) G9 L9)) (arg8.view.writes (Elt Ideal) G8 ((tripL_k0_t2 (F := Ideal) 𝒱 c bd i arg3 harg3 arg4 harg4 arg5 harg5 arg6 harg6 arg7 harg7 arg8 harg8 arg9 harg9 arg10 harg10 arg1 arg2 v1 v383 v405 v427 v449 v450 v471 v492 v513 v534 c0_i32_267 v536 X3 X4 X5 X10 k acc (arg8.view.writes (Elt Ideal) G8 L8) (arg9.view.writes (Elt Ideal) G9 L9)).1 ++ L8))
      (arg9.view.writes (Elt Ideal) G9 ((tripL_k0_t2 (F := Ideal) 𝒱 c bd i arg3 harg3 arg4 harg4 arg5 harg5 arg6 harg6 arg7 harg7 arg8 harg8 arg9 harg9 arg10 harg10 arg1 arg2 v1 v383 v405 v427 v449 v450 v471 v492 v513 v534 c0_i32_267 v536 X3 X4 X5 X10 k acc (arg8.view.writes (Elt Ideal) G8 L8) (arg9.view.writes (Elt Ideal) G9 L9)).2 ++ L9)) := by
  rw [View.writes_append, View.writes_append, trip_res, trip_8, trip_9]
  generalize arg8.view.writes (Elt Ideal) G8 L8 = f8 at hI ⊢
  generalize arg9.view.writes (Elt Ideal) G9 L9 = f9 at hI ⊢
  obtain ⟨h0, h1, h2, h3⟩ := hI
  refine And.intro ?_ (And.intro ?_ (And.intro ?_ ?_))
  · with_reducible exact trip_inv_0 i arg3 arg4 arg5 arg8 arg9 arg10 X3 X4 X5 X10 H k acc f8 f9 h0
  · with_reducible exact trip_inv_1 i arg3 arg4 arg5 arg8 arg9 arg10 X3 X4 X5 X10 H k acc f8 f9 h1
  · with_reducible exact trip_inv_2 i arg3 arg4 arg5 arg8 arg9 arg10 X3 X4 X5 X10 H k acc f8 f9 h2
  · with_reducible exact trip_inv_3 i arg3 arg4 arg5 arg8 arg9 arg10 X3 X4 X5 X10 H k acc f8 f9 h3

/-- The loop: the four heads' states hold before every trip. -/
theorem loop_inv (H : Holds (arg3 := arg3) (arg4 := arg4) (arg5 := arg5) (arg10 := arg10) D (i 1).val X3 X4 X5 X10) (G8 : BufTy.Contents (Elt Ideal) arg8.view.ty) (G9 : BufTy.Contents (Elt Ideal) arg9.view.ty) (init : FVec Ideal S1x512 .f32 × FVec Ideal S1x512 .f32 × FVec Ideal S1x512 .f32 × FVec Ideal S1x512 .f32 × FVec Ideal S1x512 .f32 × FVec Ideal S1x512 .f32 × FVec Ideal S1x512 .f32 × FVec Ideal S1x512 .f32)
    (h0 : Inv4 i arg8 arg9 D 0 init G8 G9) (k : ℕ) (hk : k ≤ (k0_t2_loop i).trips) :
    Inv4 i arg8 arg9 D k (st_k0_t2 (F := Ideal) 𝒱 c bd i arg3 harg3 arg4 harg4 arg5 harg5 arg6 harg6 arg7 harg7 arg8 harg8 arg9 harg9 arg10 harg10 arg1 arg2 v1 v383 v405 v427 v449 v450 v471 v492 v513 v534 c0_i32_267 v536 X3 X4 X5 X10 G8 G9 init k).1 (arg8.view.writes (Elt Ideal) G8 (st_k0_t2 (F := Ideal) 𝒱 c bd i arg3 harg3 arg4 harg4 arg5 harg5 arg6 harg6 arg7 harg7 arg8 harg8 arg9 harg9 arg10 harg10 arg1 arg2 v1 v383 v405 v427 v449 v450 v471 v492 v513 v534 c0_i32_267 v536 X3 X4 X5 X10 G8 G9 init k).2.1) (arg9.view.writes (Elt Ideal) G9 (st_k0_t2 (F := Ideal) 𝒱 c bd i arg3 harg3 arg4 harg4 arg5 harg5 arg6 harg6 arg7 harg7 arg8 harg8 arg9 harg9 arg10 harg10 arg1 arg2 v1 v383 v405 v427 v449 v450 v471 v492 v513 v534 c0_i32_267 v536 X3 X4 X5 X10 G8 G9 init k).2.2) := by
  induction k with
  | zero => exact h0
  | succ k ih =>
    have hI := ih (by omega)
    have e := st_k0_t2_succ (F := Ideal) 𝒱 c bd i arg3 harg3 arg4 harg4 arg5 harg5 arg6 harg6 arg7 harg7 arg8 harg8 arg9 harg9 arg10 harg10 arg1 arg2 v1 v383 v405 v427 v449 v450 v471 v492 v513 v534 c0_i32_267 v536 X3 X4 X5 X10 G8 G9 init ⟨k, hk⟩
    rw [show k + 1 = (⟨k, hk⟩ : Fin (k0_t2_loop i).trips).val + 1 from rfl, e]
    exact trip_inv (G8 := G8) (G9 := G9) (H := H) (k := ⟨k, hk⟩) (hI := hI) ..

end Cert.KernelIdeal.Attn
-- ==== Proof.AttnDiag.lean ====
/-
  The two diagonal chunks, which start every head's running sums, and the chunk of logits made ready for the loop: the
  four heads' states before the loop's first trip.
-/
module

public import proofs.«01_k».proof.Proof.AttnLoop
public import proofs.«01_k».proof.Proof.KernelIdealRun
public import Idealize.ShloMosaic.Lib.WritesUnit
public import Idealize.ShloMosaic.Lib.Pipeline.ReadBack

@[expose] public section

set_option maxRecDepth 8192
set_option maxHeartbeats 1000000

noncomputable section

namespace Cert.KernelIdeal.Attn

open Cert.KernelIdeal Cert.KernelIdeal.Gen
open Idealize.ShloMosaic Idealize.ShloMosaic.ValueIdx

/-- The two masked chunks of a block's own rows, from empty sums. -/
theorem HInv.diag {arg8 : Memref sig .tc .vmem S4x2x256x512 .f32} {arg9 : Memref sig .tc .vmem S4x144x512 .f32} {D : Nums}
    {qi n : ℕ} {hn : n < 4} (hqi : qi < 8) {f8 : BufTy.Contents (Elt Ideal) arg8.view.ty} {f9 : BufTy.Contents (Elt Ideal) arg9.view.ty}
    (L0 L1 Lc : FVec Ideal S256x512 .f32) (hL0 : ∀ (s : Fin 256) (q : Fin 512), L0 (ix2 s q) = (D.l (512 * qi) n (512 * qi + s.val) q.val : EReal))
    (hL1 : ∀ (s : Fin 256) (q : Fin 512), L1 (ix2 s q) = (D.l (512 * qi) n (512 * qi + 256 + s.val) q.val : EReal))
    (hLc : ∀ (s : Fin 256) (q : Fin 512), Lc (ix2 s q) = (D.l (512 * qi) n (0 + s.val) q.val : EReal))
    (m0 : FVec Ideal S1x512 .f32) (hm : ∀ q : Fin 512, m0 (ix2 (0 : Fin 1) q) = ⊥)
    (Z : FVec Ideal S1x144x512 .f32) (hZ : ∀ r (q : Fin 512), Z (ix3 (0 : Fin 1) r q) = 0)
    (V0 V1 : FVec Ideal S1x1x144x256 .bf16) (hV0 : ∀ r (s : Fin 256), V0 (ix4 (0 : Fin 1) (0 : Fin 1) r s) = (D.vr n r (512 * qi + s.val) : EReal))
    (hV1 : ∀ r (s : Fin 256), V1 (ix4 (0 : Fin 1) (0 : Fin 1) r s) = (D.vr n r (512 * qi + 256 + s.val) : EReal))
    (h8 : ∀ (s : Fin 256) (q : Fin 512), arg8.view.read (Elt Ideal) f8 (ix4 (⟨n, hn⟩ : Fin 4) (0 : Fin 2) s q) = Lc (ix2 s q))
    (h9 : ∀ r q, arg9.view.read (Elt Ideal) f9 (ix3 (⟨n, hn⟩ : Fin 4) r q)
      = accN (maximumf m0 (cmx (msk 0#32 L0))) (maximumf (maximumf m0 (cmx (msk 0#32 L0))) (cmx (msk 256#32 L1)))
      (shapeCast S1x1x256x512 (msk 256#32 L1) shapeCasts_S256x512_S1x1x256x512)
      (shapeCast S1x144x512 (accN m0 (maximumf m0 (cmx (msk 0#32 L0)))
        (shapeCast S1x1x256x512 (msk 0#32 L0) shapeCasts_S256x512_S1x1x256x512) Z V0) shapeCasts_S144x512_S1x144x512)
      V1 (ix2 r q)) :
    HInv (arg8 := arg8) (arg9 := arg9) D qi n hn 0 (maximumf (maximumf m0 (cmx (msk 0#32 L0))) (cmx (msk 256#32 L1))) (cmx Lc) f8 f9 := by
  have k0 : ∀ (s : Fin 256) (q : Fin 512), msk 0#32 L0 (ix2 s q) = if s.val ≤ q.val then (D.l (512 * qi) n (512 * qi + s.val) q.val : EReal) else ⊥ := fun s q => by
    rw [msk_apply _ (by decide), hL0]; simp
  have k1 : ∀ (s : Fin 256) (q : Fin 512), msk 256#32 L1 (ix2 s q) = if 256 + s.val ≤ q.val then (D.l (512 * qi) n (512 * qi + 256 + s.val) q.val : EReal) else ⊥ := fun s q => by
    rw [msk_apply _ (by decide), hL1]; rfl
  have c0 := cmx_fin (L := msk 0#32 L0) (fun s q => D.l (512 * qi) n (512 * qi + s) q) (fun q s => s ≤ q) k0
  have c1 := cmx_fin (L := msk 256#32 L1) (fun s q => D.l (512 * qi) n (512 * qi + 256 + s) q) (fun q s => 256 + s ≤ q) k1
  have s0 : HSt D (512 * qi) n (fun _ => ∅) m0 (fun r q => Z (ix3 (0 : Fin 1) r q)) := fun q => Or.inl ⟨rfl, hm q, fun r => hZ r q⟩
  have s1 := s0.step (512 * qi) (fun q s => s ≤ 512 * qi + q) (fun q _ s hs => absurd hs (Finset.notMem_empty s))
    (shapeCast S1x1x256x512 (msk 0#32 L0) shapeCasts_S256x512_S1x1x256x512)
    (fun s q => by rw [cast_ab_11ab, k0]; exact if_congr (by omega) rfl rfl) V0 hV0 (cmx (msk 0#32 L0)) (fun q => (c0 q).1)
    (fun q _ => (c0 q).2 (Nat.zero_le _))
  have s1' : HSt D (512 * qi) n (fun q => ∅ ∪ keys (512 * qi) (fun s => s ≤ 512 * qi + q)) (maximumf m0 (cmx (msk 0#32 L0))) (fun r q =>
      shapeCast S1x144x512 (accN m0 (maximumf m0 (cmx (msk 0#32 L0)))
        (shapeCast S1x1x256x512 (msk 0#32 L0) shapeCasts_S256x512_S1x1x256x512) Z V0) shapeCasts_S144x512_S1x144x512 (ix3 (0 : Fin 1) r q)) := by
    intro q
    simp only [shapeCast_ab_1ab_apply]
    exact s1 q
  have s2 := s1'.step (512 * qi + 256) (fun q s => s ≤ 512 * qi + q) (by
      intro q hq s hs
      simp only [keys, Finset.mem_union, Finset.mem_filter, Finset.mem_Ico, Finset.notMem_empty, false_or] at hs
      omega)
    (shapeCast S1x1x256x512 (msk 256#32 L1) shapeCasts_S256x512_S1x1x256x512)
    (fun s q => by rw [cast_ab_11ab, k1]; exact if_congr (by omega) rfl rfl) V1 hV1 (cmx (msk 256#32 L1)) (fun q => (c1 q).1)
    (fun q he => by
      exfalso
      have : 512 * qi ∈ (∅ ∪ keys (512 * qi) (fun s => s ≤ 512 * qi + q.val) : Finset ℕ) := by
        simp only [keys, Finset.mem_union, Finset.mem_filter, Finset.mem_Ico, Finset.notMem_empty, false_or]
        omega
      rw [he] at this
      exact Finset.notMem_empty _ this)
  refine ⟨?_, fun q => ((cmx_fin (L := Lc) (fun s q => D.l (512 * qi) n (0 + s) q) (fun _ _ => True)
    (fun s q => by rw [if_pos trivial]; exact hLc s q)) q).1, fun _ s q => by rw [h8, hLc]⟩
  have s3 := s2.congr (S' := taken (512 * qi) 0) (by
    intro q hq
    ext s
    simp only [taken, keys, Finset.mem_union, Finset.mem_filter, Finset.mem_range, Finset.mem_Ico, Finset.notMem_empty, false_or]
    omega)
  intro q
  simp only [h9]
  exact s3 q

section Diag

variable (i : grid0.Coords) (arg3 : Memref sig .tc .vmem S512x512 .bf16) (arg4 : Memref sig .tc .vmem S4096x512 .bf16) (arg5 : Memref sig .tc .vmem S1x4x144x4096 .bf16)
  (arg8 : Memref sig .tc .vmem S4x2x256x512 .f32) (arg9 : Memref sig .tc .vmem S4x144x512 .f32) (arg10 : Memref sig .tc .vmem S2x4096x128 .f32)
  (X3 : BufTy.Contents (Elt Ideal) arg3.view.ty) (X4 : BufTy.Contents (Elt Ideal) arg4.view.ty)
  (X5 : BufTy.Contents (Elt Ideal) arg5.view.ty) (X10 : BufTy.Contents (Elt Ideal) arg10.view.ty)

/-- Head 0: the logits of the block's two chunks and of the keys from row 0. -/
def Ea0 : FVec Ideal S256x512 .f32 :=
  lg 0 slices_S256x128_o0_0_S256x1 (arg10.view.readAt (Elt Ideal) (Rect.unit (s := S2x4096x128) (k0_off4 i) S1x1x128.size (k0_off4_inb i)).toLoadRect X10)
    (arg10.view.readAt (Elt Ideal) (Rect.unit (s := S2x4096x128) (k0_off5 i) S1x256x128.size (k0_off5_inb i)).toLoadRect X10)
    (arg4.view.readAt (Elt Ideal) (Rect.unit (s := S4096x512) (k0_off6 i) S256x128.size (k0_off6_inb i)).toLoadRect X4)
    (arg3.view.readAt (Elt Ideal) (Rect.unit (s := S512x512) ![0, 0] S512x128.size inb_S512x512_S512x128_0_0).toLoadRect X3)
def Eb0 : FVec Ideal S256x512 .f32 :=
  lg 0 slices_S256x128_o0_0_S256x1 (arg10.view.readAt (Elt Ideal) (Rect.unit (s := S2x4096x128) (k0_off4 i) S1x1x128.size (k0_off4_inb i)).toLoadRect X10)
    (arg10.view.readAt (Elt Ideal) (Rect.unit (s := S2x4096x128) (k0_off10 i) S1x256x128.size (k0_off10_inb i)).toLoadRect X10)
    (arg4.view.readAt (Elt Ideal) (Rect.unit (s := S4096x512) (k0_off11 i) S256x128.size (k0_off11_inb i)).toLoadRect X4)
    (arg3.view.readAt (Elt Ideal) (Rect.unit (s := S512x512) ![0, 0] S512x128.size inb_S512x512_S512x128_0_0).toLoadRect X3)
def Ec0 : FVec Ideal S256x512 .f32 :=
  lg 0 slices_S256x128_o0_0_S256x1 (arg10.view.readAt (Elt Ideal) (Rect.unit (s := S2x4096x128) (k0_off4 i) S1x1x128.size (k0_off4_inb i)).toLoadRect X10)
    (arg10.view.readAt (Elt Ideal) (Rect.unit (s := S2x4096x128) (k0_off19 i) S1x256x128.size (k0_off19_inb i)).toLoadRect X10)
    (arg4.view.readAt (Elt Ideal) (Rect.unit (s := S4096x512) ![0, 0] S256x128.size inb_S4096x512_S256x128_0_0).toLoadRect X4)
    (arg3.view.readAt (Elt Ideal) (Rect.unit (s := S512x512) ![0, 0] S512x128.size inb_S512x512_S512x128_0_0).toLoadRect X3)
/-- Head 0: the values of the two chunks, the sums before them, the maxima and the sums after each. -/
def Ua0 : FVec Ideal S1x1x144x256 .bf16 :=
  arg5.view.readAt (Elt Ideal) (Rect.unit (s := S1x4x144x4096) (k0_off15 i) S1x1x144x256.size (k0_off15_inb i)).toLoadRect X5
def Ub0 : FVec Ideal S1x1x144x256 .bf16 :=
  arg5.view.readAt (Elt Ideal) (Rect.unit (s := S1x4x144x4096) (k0_off20 i) S1x1x144x256.size (k0_off20_inb i)).toLoadRect X5
def Z0 : FVec Ideal S1x144x512 .f32 := arg9.view.readCov [(⟨Rect.unit (s := S4x144x512) ![0, 0, 0] S4x144x512.size inb_S4x144x512_S4x144x512_0_0_0, k0_pay92 (F := Ideal)⟩ : View.Piece (Elt Ideal) S4x144x512 .f32)] (Rect.unit (s := S4x144x512) ![0, 0, 0] S1x144x512.size inb_S4x144x512_S1x144x512_0_0_0).toLoadRect
def Ma0 : FVec Ideal S1x512 .f32 := maximumf (k0_pay99 (F := Ideal)) (cmx (msk 0#32 (Ea0 i arg3 arg4 arg10 X3 X4 X10)))
def Mb0 : FVec Ideal S1x512 .f32 := maximumf (Ma0 i arg3 arg4 arg10 X3 X4 X10) (cmx (msk 256#32 (Eb0 i arg3 arg4 arg10 X3 X4 X10)))
def Ta0 : FVec Ideal S144x512 .f32 :=
  accN (k0_pay99 (F := Ideal)) (Ma0 i arg3 arg4 arg10 X3 X4 X10) (shapeCast S1x1x256x512 (msk 0#32 (Ea0 i arg3 arg4 arg10 X3 X4 X10)) shapeCasts_S256x512_S1x1x256x512) (Z0 arg9) (Ua0 i arg5 X5)
def Tb0 : FVec Ideal S144x512 .f32 :=
  accN (Ma0 i arg3 arg4 arg10 X3 X4 X10) (Mb0 i arg3 arg4 arg10 X3 X4 X10) (shapeCast S1x1x256x512 (msk 256#32 (Eb0 i arg3 arg4 arg10 X3 X4 X10)) shapeCasts_S256x512_S1x1x256x512) (shapeCast S1x144x512 (Ta0 i arg3 arg4 arg5 arg9 arg10 X3 X4 X5 X10) shapeCasts_S144x512_S1x144x512) (Ub0 i arg5 X5)

/-- Head 1: the logits of the block's two chunks and of the keys from row 0. -/
def Ea1 : FVec Ideal S256x512 .f32 :=
  lg 1 slices_S256x128_o0_1_S256x1 (arg10.view.readAt (Elt Ideal) (Rect.unit (s := S2x4096x128) (k0_off4 i) S1x1x128.size (k0_off4_inb i)).toLoadRect X10)
    (arg10.view.readAt (Elt Ideal) (Rect.unit (s := S2x4096x128) (k0_off5 i) S1x256x128.size (k0_off5_inb i)).toLoadRect X10)
    (arg4.view.readAt (Elt Ideal) (Rect.unit (s := S4096x512) (k0_off7 i) S256x128.size (k0_off7_inb i)).toLoadRect X4)
    (arg3.view.readAt (Elt Ideal) (Rect.unit (s := S512x512) ![0, 128] S512x128.size inb_S512x512_S512x128_0_128).toLoadRect X3)
def Eb1 : FVec Ideal S256x512 .f32 :=
  lg 1 slices_S256x128_o0_1_S256x1 (arg10.view.readAt (Elt Ideal) (Rect.unit (s := S2x4096x128) (k0_off4 i) S1x1x128.size (k0_off4_inb i)).toLoadRect X10)
    (arg10.view.readAt (Elt Ideal) (Rect.unit (s := S2x4096x128) (k0_off10 i) S1x256x128.size (k0_off10_inb i)).toLoadRect X10)
    (arg4.view.readAt (Elt Ideal) (Rect.unit (s := S4096x512) (k0_off12 i) S256x128.size (k0_off12_inb i)).toLoadRect X4)
    (arg3.view.readAt (Elt Ideal) (Rect.unit (s := S512x512) ![0, 128] S512x128.size inb_S512x512_S512x128_0_128).toLoadRect X3)
def Ec1 : FVec Ideal S256x512 .f32 :=
  lg 1 slices_S256x128_o0_1_S256x1 (arg10.view.readAt (Elt Ideal) (Rect.unit (s := S2x4096x128) (k0_off4 i) S1x1x128.size (k0_off4_inb i)).toLoadRect X10)
    (arg10.view.readAt (Elt Ideal) (Rect.unit (s := S2x4096x128) (k0_off19 i) S1x256x128.size (k0_off19_inb i)).toLoadRect X10)
    (arg4.view.readAt (Elt Ideal) (Rect.unit (s := S4096x512) ![0, 128] S256x128.size inb_S4096x512_S256x128_0_128).toLoadRect X4)
    (arg3.view.readAt (Elt Ideal) (Rect.unit (s := S512x512) ![0, 128] S512x128.size inb_S512x512_S512x128_0_128).toLoadRect X3)
/-- Head 1: the values of the two chunks, the sums before them, the maxima and the sums after each. -/
def Ua1 : FVec Ideal S1x1x144x256 .bf16 :=
  arg5.view.readAt (Elt Ideal) (Rect.unit (s := S1x4x144x4096) (k0_off16 i) S1x1x144x256.size (k0_off16_inb i)).toLoadRect X5
def Ub1 : FVec Ideal S1x1x144x256 .bf16 :=
  arg5.view.readAt (Elt Ideal) (Rect.unit (s := S1x4x144x4096) (k0_off21 i) S1x1x144x256.size (k0_off21_inb i)).toLoadRect X5
def Z1 : FVec Ideal S1x144x512 .f32 := arg9.view.readCov [(⟨Rect.unit (s := S4x144x512) ![0, 0, 0] S4x144x512.size inb_S4x144x512_S4x144x512_0_0_0, k0_pay92 (F := Ideal)⟩ : View.Piece (Elt Ideal) S4x144x512 .f32)] (Rect.unit (s := S4x144x512) ![1, 0, 0] S1x144x512.size inb_S4x144x512_S1x144x512_1_0_0).toLoadRect
def Ma1 : FVec Ideal S1x512 .f32 := maximumf (k0_pay99 (F := Ideal)) (cmx (msk 0#32 (Ea1 i arg3 arg4 arg10 X3 X4 X10)))
def Mb1 : FVec Ideal S1x512 .f32 := maximumf (Ma1 i arg3 arg4 arg10 X3 X4 X10) (cmx (msk 256#32 (Eb1 i arg3 arg4 arg10 X3 X4 X10)))
def Ta1 : FVec Ideal S144x512 .f32 :=
  accN (k0_pay99 (F := Ideal)) (Ma1 i arg3 arg4 arg10 X3 X4 X10) (shapeCast S1x1x256x512 (msk 0#32 (Ea1 i arg3 arg4 arg10 X3 X4 X10)) shapeCasts_S256x512_S1x1x256x512) (Z1 arg9) (Ua1 i arg5 X5)
def Tb1 : FVec Ideal S144x512 .f32 :=
  accN (Ma1 i arg3 arg4 arg10 X3 X4 X10) (Mb1 i arg3 arg4 arg10 X3 X4 X10) (shapeCast S1x1x256x512 (msk 256#32 (Eb1 i arg3 arg4 arg10 X3 X4 X10)) shapeCasts_S256x512_S1x1x256x512) (shapeCast S1x144x512 (Ta1 i arg3 arg4 arg5 arg9 arg10 X3 X4 X5 X10) shapeCasts_S144x512_S1x144x512) (Ub1 i arg5 X5)

/-- Head 2: the logits of the block's two chunks and of the keys from row 0. -/
def Ea2 : FVec Ideal S256x512 .f32 :=
  lg 2 slices_S256x128_o0_2_S256x1 (arg10.view.readAt (Elt Ideal) (Rect.unit (s := S2x4096x128) (k0_off4 i) S1x1x128.size (k0_off4_inb i)).toLoadRect X10)
    (arg10.view.readAt (Elt Ideal) (Rect.unit (s := S2x4096x128) (k0_off5 i) S1x256x128.size (k0_off5_inb i)).toLoadRect X10)
    (arg4.view.readAt (Elt Ideal) (Rect.unit (s := S4096x512) (k0_off8 i) S256x128.size (k0_off8_inb i)).toLoadRect X4)
    (arg3.view.readAt (Elt Ideal) (Rect.unit (s := S512x512) ![0, 256] S512x128.size inb_S512x512_S512x128_0_256).toLoadRect X3)
def Eb2 : FVec Ideal S256x512 .f32 :=
  lg 2 slices_S256x128_o0_2_S256x1 (arg10.view.readAt (Elt Ideal) (Rect.unit (s := S2x4096x128) (k0_off4 i) S1x1x128.size (k0_off4_inb i)).toLoadRect X10)
    (arg10.view.readAt (Elt Ideal) (Rect.unit (s := S2x4096x128) (k0_off10 i) S1x256x128.size (k0_off10_inb i)).toLoadRect X10)
    (arg4.view.readAt (Elt Ideal) (Rect.unit (s := S4096x512) (k0_off13 i) S256x128.size (k0_off13_inb i)).toLoadRect X4)
    (arg3.view.readAt (Elt Ideal) (Rect.unit (s := S512x512) ![0, 256] S512x128.size inb_S512x512_S512x128_0_256).toLoadRect X3)
def Ec2 : FVec Ideal S256x512 .f32 :=
  lg 2 slices_S256x128_o0_2_S256x1 (arg10.view.readAt (Elt Ideal) (Rect.unit (s := S2x4096x128) (k0_off4 i) S1x1x128.size (k0_off4_inb i)).toLoadRect X10)
    (arg10.view.readAt (Elt Ideal) (Rect.unit (s := S2x4096x128) (k0_off19 i) S1x256x128.size (k0_off19_inb i)).toLoadRect X10)
    (arg4.view.readAt (Elt Ideal) (Rect.unit (s := S4096x512) ![0, 256] S256x128.size inb_S4096x512_S256x128_0_256).toLoadRect X4)
    (arg3.view.readAt (Elt Ideal) (Rect.unit (s := S512x512) ![0, 256] S512x128.size inb_S512x512_S512x128_0_256).toLoadRect X3)
/-- Head 2: the values of the two chunks, the sums before them, the maxima and the sums after each. -/
def Ua2 : FVec Ideal S1x1x144x256 .bf16 :=
  arg5.view.readAt (Elt Ideal) (Rect.unit (s := S1x4x144x4096) (k0_off17 i) S1x1x144x256.size (k0_off17_inb i)).toLoadRect X5
def Ub2 : FVec Ideal S1x1x144x256 .bf16 :=
  arg5.view.readAt (Elt Ideal) (Rect.unit (s := S1x4x144x4096) (k0_off22 i) S1x1x144x256.size (k0_off22_inb i)).toLoadRect X5
def Z2 : FVec Ideal S1x144x512 .f32 := arg9.view.readCov [(⟨Rect.unit (s := S4x144x512) ![0, 0, 0] S4x144x512.size inb_S4x144x512_S4x144x512_0_0_0, k0_pay92 (F := Ideal)⟩ : View.Piece (Elt Ideal) S4x144x512 .f32)] (Rect.unit (s := S4x144x512) ![2, 0, 0] S1x144x512.size inb_S4x144x512_S1x144x512_2_0_0).toLoadRect
def Ma2 : FVec Ideal S1x512 .f32 := maximumf (k0_pay99 (F := Ideal)) (cmx (msk 0#32 (Ea2 i arg3 arg4 arg10 X3 X4 X10)))
def Mb2 : FVec Ideal S1x512 .f32 := maximumf (Ma2 i arg3 arg4 arg10 X3 X4 X10) (cmx (msk 256#32 (Eb2 i arg3 arg4 arg10 X3 X4 X10)))
def Ta2 : FVec Ideal S144x512 .f32 :=
  accN (k0_pay99 (F := Ideal)) (Ma2 i arg3 arg4 arg10 X3 X4 X10) (shapeCast S1x1x256x512 (msk 0#32 (Ea2 i arg3 arg4 arg10 X3 X4 X10)) shapeCasts_S256x512_S1x1x256x512) (Z2 arg9) (Ua2 i arg5 X5)
def Tb2 : FVec Ideal S144x512 .f32 :=
  accN (Ma2 i arg3 arg4 arg10 X3 X4 X10) (Mb2 i arg3 arg4 arg10 X3 X4 X10) (shapeCast S1x1x256x512 (msk 256#32 (Eb2 i arg3 arg4 arg10 X3 X4 X10)) shapeCasts_S256x512_S1x1x256x512) (shapeCast S1x144x512 (Ta2 i arg3 arg4 arg5 arg9 arg10 X3 X4 X5 X10) shapeCasts_S144x512_S1x144x512) (Ub2 i arg5 X5)

/-- Head 3: the logits of the block's two chunks and of the keys from row 0. -/
def Ea3 : FVec Ideal S256x512 .f32 :=
  lg 3 slices_S256x128_o0_3_S256x1 (arg10.view.readAt (Elt Ideal) (Rect.unit (s := S2x4096x128) (k0_off4 i) S1x1x128.size (k0_off4_inb i)).toLoadRect X10)
    (arg10.view.readAt (Elt Ideal) (Rect.unit (s := S2x4096x128) (k0_off5 i) S1x256x128.size (k0_off5_inb i)).toLoadRect X10)
    (arg4.view.readAt (Elt Ideal) (Rect.unit (s := S4096x512) (k0_off9 i) S256x128.size (k0_off9_inb i)).toLoadRect X4)
    (arg3.view.readAt (Elt Ideal) (Rect.unit (s := S512x512) ![0, 384] S512x128.size inb_S512x512_S512x128_0_384).toLoadRect X3)
def Eb3 : FVec Ideal S256x512 .f32 :=
  lg 3 slices_S256x128_o0_3_S256x1 (arg10.view.readAt (Elt Ideal) (Rect.unit (s := S2x4096x128) (k0_off4 i) S1x1x128.size (k0_off4_inb i)).toLoadRect X10)
    (arg10.view.readAt (Elt Ideal) (Rect.unit (s := S2x4096x128) (k0_off10 i) S1x256x128.size (k0_off10_inb i)).toLoadRect X10)
    (arg4.view.readAt (Elt Ideal) (Rect.unit (s := S4096x512) (k0_off14 i) S256x128.size (k0_off14_inb i)).toLoadRect X4)
    (arg3.view.readAt (Elt Ideal) (Rect.unit (s := S512x512) ![0, 384] S512x128.size inb_S512x512_S512x128_0_384).toLoadRect X3)
def Ec3 : FVec Ideal S256x512 .f32 :=
  lg 3 slices_S256x128_o0_3_S256x1 (arg10.view.readAt (Elt Ideal) (Rect.unit (s := S2x4096x128) (k0_off4 i) S1x1x128.size (k0_off4_inb i)).toLoadRect X10)
    (arg10.view.readAt (Elt Ideal) (Rect.unit (s := S2x4096x128) (k0_off19 i) S1x256x128.size (k0_off19_inb i)).toLoadRect X10)
    (arg4.view.readAt (Elt Ideal) (Rect.unit (s := S4096x512) ![0, 384] S256x128.size inb_S4096x512_S256x128_0_384).toLoadRect X4)
    (arg3.view.readAt (Elt Ideal) (Rect.unit (s := S512x512) ![0, 384] S512x128.size inb_S512x512_S512x128_0_384).toLoadRect X3)
/-- Head 3: the values of the two chunks, the sums before them, the maxima and the sums after each. -/
def Ua3 : FVec Ideal S1x1x144x256 .bf16 :=
  arg5.view.readAt (Elt Ideal) (Rect.unit (s := S1x4x144x4096) (k0_off18 i) S1x1x144x256.size (k0_off18_inb i)).toLoadRect X5
def Ub3 : FVec Ideal S1x1x144x256 .bf16 :=
  arg5.view.readAt (Elt Ideal) (Rect.unit (s := S1x4x144x4096) (k0_off23 i) S1x1x144x256.size (k0_off23_inb i)).toLoadRect X5
def Z3 : FVec Ideal S1x144x512 .f32 := arg9.view.readCov [(⟨Rect.unit (s := S4x144x512) ![0, 0, 0] S4x144x512.size inb_S4x144x512_S4x144x512_0_0_0, k0_pay92 (F := Ideal)⟩ : View.Piece (Elt Ideal) S4x144x512 .f32)] (Rect.unit (s := S4x144x512) ![3, 0, 0] S1x144x512.size inb_S4x144x512_S1x144x512_3_0_0).toLoadRect
def Ma3 : FVec Ideal S1x512 .f32 := maximumf (k0_pay99 (F := Ideal)) (cmx (msk 0#32 (Ea3 i arg3 arg4 arg10 X3 X4 X10)))
def Mb3 : FVec Ideal S1x512 .f32 := maximumf (Ma3 i arg3 arg4 arg10 X3 X4 X10) (cmx (msk 256#32 (Eb3 i arg3 arg4 arg10 X3 X4 X10)))
def Ta3 : FVec Ideal S144x512 .f32 :=
  accN (k0_pay99 (F := Ideal)) (Ma3 i arg3 arg4 arg10 X3 X4 X10) (shapeCast S1x1x256x512 (msk 0#32 (Ea3 i arg3 arg4 arg10 X3 X4 X10)) shapeCasts_S256x512_S1x1x256x512) (Z3 arg9) (Ua3 i arg5 X5)
def Tb3 : FVec Ideal S144x512 .f32 :=
  accN (Ma3 i arg3 arg4 arg10 X3 X4 X10) (Mb3 i arg3 arg4 arg10 X3 X4 X10) (shapeCast S1x1x256x512 (msk 256#32 (Eb3 i arg3 arg4 arg10 X3 X4 X10)) shapeCasts_S256x512_S1x1x256x512) (shapeCast S1x144x512 (Ta3 i arg3 arg4 arg5 arg9 arg10 X3 X4 X5 X10) shapeCasts_S144x512_S1x144x512) (Ub3 i arg5 X5)

/-- The logits stored for the block's own chunks, then with those of the keys from row 0. -/
def D8a : List (View.Piece (Elt Ideal) S4x2x256x512 .f32) :=
  [⟨Rect.unit (s := S4x2x256x512) ![3, 1, 0, 0] S1x1x256x512.size inb_S4x2x256x512_S1x1x256x512_3_1_0_0, shapeCast S1x1x256x512 (msk 256#32 (Eb3 i arg3 arg4 arg10 X3 X4 X10)) shapeCasts_S256x512_S1x1x256x512⟩,
   ⟨Rect.unit (s := S4x2x256x512) ![2, 1, 0, 0] S1x1x256x512.size inb_S4x2x256x512_S1x1x256x512_2_1_0_0, shapeCast S1x1x256x512 (msk 256#32 (Eb2 i arg3 arg4 arg10 X3 X4 X10)) shapeCasts_S256x512_S1x1x256x512⟩,
   ⟨Rect.unit (s := S4x2x256x512) ![1, 1, 0, 0] S1x1x256x512.size inb_S4x2x256x512_S1x1x256x512_1_1_0_0, shapeCast S1x1x256x512 (msk 256#32 (Eb1 i arg3 arg4 arg10 X3 X4 X10)) shapeCasts_S256x512_S1x1x256x512⟩,
   ⟨Rect.unit (s := S4x2x256x512) ![0, 1, 0, 0] S1x1x256x512.size inb_S4x2x256x512_S1x1x256x512_0_1_0_0, shapeCast S1x1x256x512 (msk 256#32 (Eb0 i arg3 arg4 arg10 X3 X4 X10)) shapeCasts_S256x512_S1x1x256x512⟩,
   ⟨Rect.unit (s := S4x2x256x512) ![3, 0, 0, 0] S1x1x256x512.size inb_S4x2x256x512_S1x1x256x512_3_0_0_0, shapeCast S1x1x256x512 (msk 0#32 (Ea3 i arg3 arg4 arg10 X3 X4 X10)) shapeCasts_S256x512_S1x1x256x512⟩,
   ⟨Rect.unit (s := S4x2x256x512) ![2, 0, 0, 0] S1x1x256x512.size inb_S4x2x256x512_S1x1x256x512_2_0_0_0, shapeCast S1x1x256x512 (msk 0#32 (Ea2 i arg3 arg4 arg10 X3 X4 X10)) shapeCasts_S256x512_S1x1x256x512⟩,
   ⟨Rect.unit (s := S4x2x256x512) ![1, 0, 0, 0] S1x1x256x512.size inb_S4x2x256x512_S1x1x256x512_1_0_0_0, shapeCast S1x1x256x512 (msk 0#32 (Ea1 i arg3 arg4 arg10 X3 X4 X10)) shapeCasts_S256x512_S1x1x256x512⟩,
   ⟨Rect.unit (s := S4x2x256x512) ![0, 0, 0, 0] S1x1x256x512.size inb_S4x2x256x512_S1x1x256x512_0_0_0_0, shapeCast S1x1x256x512 (msk 0#32 (Ea0 i arg3 arg4 arg10 X3 X4 X10)) shapeCasts_S256x512_S1x1x256x512⟩]
def D8 : List (View.Piece (Elt Ideal) S4x2x256x512 .f32) :=
  ⟨Rect.unit (s := S4x2x256x512) ![3, 0, 0, 0] S1x1x256x512.size inb_S4x2x256x512_S1x1x256x512_3_0_0_0, shapeCast S1x1x256x512 (Ec3 i arg3 arg4 arg10 X3 X4 X10) shapeCasts_S256x512_S1x1x256x512⟩ ::
  ⟨Rect.unit (s := S4x2x256x512) ![2, 0, 0, 0] S1x1x256x512.size inb_S4x2x256x512_S1x1x256x512_2_0_0_0, shapeCast S1x1x256x512 (Ec2 i arg3 arg4 arg10 X3 X4 X10) shapeCasts_S256x512_S1x1x256x512⟩ ::
  ⟨Rect.unit (s := S4x2x256x512) ![1, 0, 0, 0] S1x1x256x512.size inb_S4x2x256x512_S1x1x256x512_1_0_0_0, shapeCast S1x1x256x512 (Ec1 i arg3 arg4 arg10 X3 X4 X10) shapeCasts_S256x512_S1x1x256x512⟩ ::
  ⟨Rect.unit (s := S4x2x256x512) ![0, 0, 0, 0] S1x1x256x512.size inb_S4x2x256x512_S1x1x256x512_0_0_0_0, shapeCast S1x1x256x512 (Ec0 i arg3 arg4 arg10 X3 X4 X10) shapeCasts_S256x512_S1x1x256x512⟩ :: D8a i arg3 arg4 arg10 X3 X4 X10

/-- The sums stored so far. -/
def W0 : List (View.Piece (Elt Ideal) S4x144x512 .f32) := [(⟨Rect.unit (s := S4x144x512) ![0, 0, 0] S4x144x512.size inb_S4x144x512_S4x144x512_0_0_0, k0_pay92 (F := Ideal)⟩ : View.Piece (Elt Ideal) S4x144x512 .f32)]
def W1 : List (View.Piece (Elt Ideal) S4x144x512 .f32) := ⟨Rect.unit (s := S4x144x512) ![0, 0, 0] S1x144x512.size inb_S4x144x512_S1x144x512_0_0_0, shapeCast S1x144x512 (Ta0 i arg3 arg4 arg5 arg9 arg10 X3 X4 X5 X10) shapeCasts_S144x512_S1x144x512⟩ :: W0
def W2 : List (View.Piece (Elt Ideal) S4x144x512 .f32) := ⟨Rect.unit (s := S4x144x512) ![1, 0, 0] S1x144x512.size inb_S4x144x512_S1x144x512_1_0_0, shapeCast S1x144x512 (Ta1 i arg3 arg4 arg5 arg9 arg10 X3 X4 X5 X10) shapeCasts_S144x512_S1x144x512⟩ :: W1 i arg3 arg4 arg5 arg9 arg10 X3 X4 X5 X10
def W3 : List (View.Piece (Elt Ideal) S4x144x512 .f32) := ⟨Rect.unit (s := S4x144x512) ![2, 0, 0] S1x144x512.size inb_S4x144x512_S1x144x512_2_0_0, shapeCast S1x144x512 (Ta2 i arg3 arg4 arg5 arg9 arg10 X3 X4 X5 X10) shapeCasts_S144x512_S1x144x512⟩ :: W2 i arg3 arg4 arg5 arg9 arg10 X3 X4 X5 X10
def W4 : List (View.Piece (Elt Ideal) S4x144x512 .f32) := ⟨Rect.unit (s := S4x144x512) ![3, 0, 0] S1x144x512.size inb_S4x144x512_S1x144x512_3_0_0, shapeCast S1x144x512 (Ta3 i arg3 arg4 arg5 arg9 arg10 X3 X4 X5 X10) shapeCasts_S144x512_S1x144x512⟩ :: W3 i arg3 arg4 arg5 arg9 arg10 X3 X4 X5 X10
def W5 : List (View.Piece (Elt Ideal) S4x144x512 .f32) := ⟨Rect.unit (s := S4x144x512) ![0, 0, 0] S1x144x512.size inb_S4x144x512_S1x144x512_0_0_0, shapeCast S1x144x512 (Tb0 i arg3 arg4 arg5 arg9 arg10 X3 X4 X5 X10) shapeCasts_S144x512_S1x144x512⟩ :: W4 i arg3 arg4 arg5 arg9 arg10 X3 X4 X5 X10
def W6 : List (View.Piece (Elt Ideal) S4x144x512 .f32) := ⟨Rect.unit (s := S4x144x512) ![1, 0, 0] S1x144x512.size inb_S4x144x512_S1x144x512_1_0_0, shapeCast S1x144x512 (Tb1 i arg3 arg4 arg5 arg9 arg10 X3 X4 X5 X10) shapeCasts_S144x512_S1x144x512⟩ :: W5 i arg3 arg4 arg5 arg9 arg10 X3 X4 X5 X10
def W7 : List (View.Piece (Elt Ideal) S4x144x512 .f32) := ⟨Rect.unit (s := S4x144x512) ![2, 0, 0] S1x144x512.size inb_S4x144x512_S1x144x512_2_0_0, shapeCast S1x144x512 (Tb2 i arg3 arg4 arg5 arg9 arg10 X3 X4 X5 X10) shapeCasts_S144x512_S1x144x512⟩ :: W6 i arg3 arg4 arg5 arg9 arg10 X3 X4 X5 X10
def W8 : List (View.Piece (Elt Ideal) S4x144x512 .f32) := ⟨Rect.unit (s := S4x144x512) ![3, 0, 0] S1x144x512.size inb_S4x144x512_S1x144x512_3_0_0, shapeCast S1x144x512 (Tb3 i arg3 arg4 arg5 arg9 arg10 X3 X4 X5 X10) shapeCasts_S144x512_S1x144x512⟩ :: W7 i arg3 arg4 arg5 arg9 arg10 X3 X4 X5 X10

theorem eq8a : run.sl.H8_8 (F := Ideal) i arg3 arg4 arg10 X3 X4 X10 = D8a i arg3 arg4 arg10 X3 X4 X10 := rfl
theorem eq8 : run.sl.H8_12 (F := Ideal) i arg3 arg4 arg10 X3 X4 X10 = D8 i arg3 arg4 arg10 X3 X4 X10 := rfl
theorem eqm0 : run.sl.v450 (F := Ideal) i arg3 arg4 arg10 X3 X4 X10 = Mb0 i arg3 arg4 arg10 X3 X4 X10 := rfl
theorem eqc0 : run.sl.v383 (F := Ideal) i arg3 arg4 arg10 X3 X4 X10 = cmx (Ec0 i arg3 arg4 arg10 X3 X4 X10) := rfl
theorem eqm1 : run.sl.v471 (F := Ideal) i arg3 arg4 arg10 X3 X4 X10 = Mb1 i arg3 arg4 arg10 X3 X4 X10 := rfl
theorem eqc1 : run.sl.v405 (F := Ideal) i arg3 arg4 arg10 X3 X4 X10 = cmx (Ec1 i arg3 arg4 arg10 X3 X4 X10) := rfl
theorem eqm2 : run.sl.v492 (F := Ideal) i arg3 arg4 arg10 X3 X4 X10 = Mb2 i arg3 arg4 arg10 X3 X4 X10 := rfl
theorem eqc2 : run.sl.v427 (F := Ideal) i arg3 arg4 arg10 X3 X4 X10 = cmx (Ec2 i arg3 arg4 arg10 X3 X4 X10) := rfl
theorem eqm3 : run.sl.v513 (F := Ideal) i arg3 arg4 arg10 X3 X4 X10 = Mb3 i arg3 arg4 arg10 X3 X4 X10 := rfl
theorem eqc3 : run.sl.v449 (F := Ideal) i arg3 arg4 arg10 X3 X4 X10 = cmx (Ec3 i arg3 arg4 arg10 X3 X4 X10) := rfl
theorem rda0 : arg8.view.readCov (D8a i arg3 arg4 arg10 X3 X4 X10) (Rect.unit (s := S4x2x256x512) ![0, 0, 0, 0] S1x1x256x512.size inb_S4x2x256x512_S1x1x256x512_0_0_0_0).toLoadRect = shapeCast S1x1x256x512 (msk 0#32 (Ea0 i arg3 arg4 arg10 X3 X4 X10)) shapeCasts_S256x512_S1x1x256x512 := by
  unfold D8a
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _
theorem rdb0 : arg8.view.readCov (D8 i arg3 arg4 arg10 X3 X4 X10) (Rect.unit (s := S4x2x256x512) ![0, 1, 0, 0] S1x1x256x512.size inb_S4x2x256x512_S1x1x256x512_0_1_0_0).toLoadRect = shapeCast S1x1x256x512 (msk 256#32 (Eb0 i arg3 arg4 arg10 X3 X4 X10)) shapeCasts_S256x512_S1x1x256x512 := by
  unfold D8 D8a
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _
theorem rza0 : arg9.view.readCov (W0) (Rect.unit (s := S4x144x512) ![0, 0, 0] S1x144x512.size inb_S4x144x512_S1x144x512_0_0_0).toLoadRect = Z0 arg9 := by
  unfold W0 Z0
  rfl
theorem rzb0 : arg9.view.readCov (W4 i arg3 arg4 arg5 arg9 arg10 X3 X4 X5 X10) (Rect.unit (s := S4x144x512) ![0, 0, 0] S1x144x512.size inb_S4x144x512_S1x144x512_0_0_0).toLoadRect = shapeCast S1x144x512 (Ta0 i arg3 arg4 arg5 arg9 arg10 X3 X4 X5 X10) shapeCasts_S144x512_S1x144x512 := by
  unfold W4 W3 W2 W1
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _
theorem rda1 : arg8.view.readCov (D8a i arg3 arg4 arg10 X3 X4 X10) (Rect.unit (s := S4x2x256x512) ![1, 0, 0, 0] S1x1x256x512.size inb_S4x2x256x512_S1x1x256x512_1_0_0_0).toLoadRect = shapeCast S1x1x256x512 (msk 0#32 (Ea1 i arg3 arg4 arg10 X3 X4 X10)) shapeCasts_S256x512_S1x1x256x512 := by
  unfold D8a
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _
theorem rdb1 : arg8.view.readCov (D8 i arg3 arg4 arg10 X3 X4 X10) (Rect.unit (s := S4x2x256x512) ![1, 1, 0, 0] S1x1x256x512.size inb_S4x2x256x512_S1x1x256x512_1_1_0_0).toLoadRect = shapeCast S1x1x256x512 (msk 256#32 (Eb1 i arg3 arg4 arg10 X3 X4 X10)) shapeCasts_S256x512_S1x1x256x512 := by
  unfold D8 D8a
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _
theorem rza1 : arg9.view.readCov (W1 i arg3 arg4 arg5 arg9 arg10 X3 X4 X5 X10) (Rect.unit (s := S4x144x512) ![1, 0, 0] S1x144x512.size inb_S4x144x512_S1x144x512_1_0_0).toLoadRect = Z1 arg9 := by
  unfold W1 W0 Z1
  refine (View.readCov_skip _ _ _ _ _ (by decide)).trans ?_
  rfl
theorem rzb1 : arg9.view.readCov (W5 i arg3 arg4 arg5 arg9 arg10 X3 X4 X5 X10) (Rect.unit (s := S4x144x512) ![1, 0, 0] S1x144x512.size inb_S4x144x512_S1x144x512_1_0_0).toLoadRect = shapeCast S1x144x512 (Ta1 i arg3 arg4 arg5 arg9 arg10 X3 X4 X5 X10) shapeCasts_S144x512_S1x144x512 := by
  unfold W5 W4 W3 W2
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _
theorem rda2 : arg8.view.readCov (D8a i arg3 arg4 arg10 X3 X4 X10) (Rect.unit (s := S4x2x256x512) ![2, 0, 0, 0] S1x1x256x512.size inb_S4x2x256x512_S1x1x256x512_2_0_0_0).toLoadRect = shapeCast S1x1x256x512 (msk 0#32 (Ea2 i arg3 arg4 arg10 X3 X4 X10)) shapeCasts_S256x512_S1x1x256x512 := by
  unfold D8a
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _
theorem rdb2 : arg8.view.readCov (D8 i arg3 arg4 arg10 X3 X4 X10) (Rect.unit (s := S4x2x256x512) ![2, 1, 0, 0] S1x1x256x512.size inb_S4x2x256x512_S1x1x256x512_2_1_0_0).toLoadRect = shapeCast S1x1x256x512 (msk 256#32 (Eb2 i arg3 arg4 arg10 X3 X4 X10)) shapeCasts_S256x512_S1x1x256x512 := by
  unfold D8 D8a
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _
theorem rza2 : arg9.view.readCov (W2 i arg3 arg4 arg5 arg9 arg10 X3 X4 X5 X10) (Rect.unit (s := S4x144x512) ![2, 0, 0] S1x144x512.size inb_S4x144x512_S1x144x512_2_0_0).toLoadRect = Z2 arg9 := by
  unfold W2 W1 W0 Z2
  refine (View.readCov_skip _ _ _ _ _ (by decide)).trans ?_
  refine (View.readCov_skip _ _ _ _ _ (by decide)).trans ?_
  rfl
theorem rzb2 : arg9.view.readCov (W6 i arg3 arg4 arg5 arg9 arg10 X3 X4 X5 X10) (Rect.unit (s := S4x144x512) ![2, 0, 0] S1x144x512.size inb_S4x144x512_S1x144x512_2_0_0).toLoadRect = shapeCast S1x144x512 (Ta2 i arg3 arg4 arg5 arg9 arg10 X3 X4 X5 X10) shapeCasts_S144x512_S1x144x512 := by
  unfold W6 W5 W4 W3
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _
theorem rda3 : arg8.view.readCov (D8a i arg3 arg4 arg10 X3 X4 X10) (Rect.unit (s := S4x2x256x512) ![3, 0, 0, 0] S1x1x256x512.size inb_S4x2x256x512_S1x1x256x512_3_0_0_0).toLoadRect = shapeCast S1x1x256x512 (msk 0#32 (Ea3 i arg3 arg4 arg10 X3 X4 X10)) shapeCasts_S256x512_S1x1x256x512 := by
  unfold D8a
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _
theorem rdb3 : arg8.view.readCov (D8 i arg3 arg4 arg10 X3 X4 X10) (Rect.unit (s := S4x2x256x512) ![3, 1, 0, 0] S1x1x256x512.size inb_S4x2x256x512_S1x1x256x512_3_1_0_0).toLoadRect = shapeCast S1x1x256x512 (msk 256#32 (Eb3 i arg3 arg4 arg10 X3 X4 X10)) shapeCasts_S256x512_S1x1x256x512 := by
  unfold D8 D8a
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _
theorem rza3 : arg9.view.readCov (W3 i arg3 arg4 arg5 arg9 arg10 X3 X4 X5 X10) (Rect.unit (s := S4x144x512) ![3, 0, 0] S1x144x512.size inb_S4x144x512_S1x144x512_3_0_0).toLoadRect = Z3 arg9 := by
  unfold W3 W2 W1 W0 Z3
  refine (View.readCov_skip _ _ _ _ _ (by decide)).trans ?_
  refine (View.readCov_skip _ _ _ _ _ (by decide)).trans ?_
  refine (View.readCov_skip _ _ _ _ _ (by decide)).trans ?_
  rfl
theorem rzb3 : arg9.view.readCov (W7 i arg3 arg4 arg5 arg9 arg10 X3 X4 X5 X10) (Rect.unit (s := S4x144x512) ![3, 0, 0] S1x144x512.size inb_S4x144x512_S1x144x512_3_0_0).toLoadRect = shapeCast S1x144x512 (Ta3 i arg3 arg4 arg5 arg9 arg10 X3 X4 X5 X10) shapeCasts_S144x512_S1x144x512 := by
  unfold W7 W6 W5 W4
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem eqw1 : run.sl.H9_2 (F := Ideal) i arg3 arg4 arg5 arg8 arg9 arg10 X3 X4 X5 X10 = W1 i arg3 arg4 arg5 arg9 arg10 X3 X4 X5 X10 := by
  have e : run.sl.H9_2 (F := Ideal) i arg3 arg4 arg5 arg8 arg9 arg10 X3 X4 X5 X10 = ⟨Rect.unit (s := S4x144x512) ![0, 0, 0] S1x144x512.size inb_S4x144x512_S1x144x512_0_0_0, shapeCast S1x144x512 (accN (k0_pay99 (F := Ideal)) (Ma0 i arg3 arg4 arg10 X3 X4 X10) (arg8.view.readCov (run.sl.H8_8 (F := Ideal) i arg3 arg4 arg10 X3 X4 X10) (Rect.unit (s := S4x2x256x512) ![0, 0, 0, 0] S1x1x256x512.size inb_S4x2x256x512_S1x1x256x512_0_0_0_0).toLoadRect) (arg9.view.readCov ([(⟨Rect.unit (s := S4x144x512) ![0, 0, 0] S4x144x512.size inb_S4x144x512_S4x144x512_0_0_0, k0_pay92 (F := Ideal)⟩ : View.Piece (Elt Ideal) S4x144x512 .f32)]) (Rect.unit (s := S4x144x512) ![0, 0, 0] S1x144x512.size inb_S4x144x512_S1x144x512_0_0_0).toLoadRect) (Ua0 i arg5 X5)) shapeCasts_S144x512_S1x144x512⟩ :: [(⟨Rect.unit (s := S4x144x512) ![0, 0, 0] S4x144x512.size inb_S4x144x512_S4x144x512_0_0_0, k0_pay92 (F := Ideal)⟩ : View.Piece (Elt Ideal) S4x144x512 .f32)] := rfl
  rw [e, show [(⟨Rect.unit (s := S4x144x512) ![0, 0, 0] S4x144x512.size inb_S4x144x512_S4x144x512_0_0_0, k0_pay92 (F := Ideal)⟩ : View.Piece (Elt Ideal) S4x144x512 .f32)] = W0 from rfl, eq8a, rda0, rza0]
  rfl
theorem eqw2 : run.sl.H9_3 (F := Ideal) i arg3 arg4 arg5 arg8 arg9 arg10 X3 X4 X5 X10 = W2 i arg3 arg4 arg5 arg9 arg10 X3 X4 X5 X10 := by
  have e : run.sl.H9_3 (F := Ideal) i arg3 arg4 arg5 arg8 arg9 arg10 X3 X4 X5 X10 = ⟨Rect.unit (s := S4x144x512) ![1, 0, 0] S1x144x512.size inb_S4x144x512_S1x144x512_1_0_0, shapeCast S1x144x512 (accN (k0_pay99 (F := Ideal)) (Ma1 i arg3 arg4 arg10 X3 X4 X10) (arg8.view.readCov (run.sl.H8_8 (F := Ideal) i arg3 arg4 arg10 X3 X4 X10) (Rect.unit (s := S4x2x256x512) ![1, 0, 0, 0] S1x1x256x512.size inb_S4x2x256x512_S1x1x256x512_1_0_0_0).toLoadRect) (arg9.view.readCov (run.sl.H9_2 (F := Ideal) i arg3 arg4 arg5 arg8 arg9 arg10 X3 X4 X5 X10) (Rect.unit (s := S4x144x512) ![1, 0, 0] S1x144x512.size inb_S4x144x512_S1x144x512_1_0_0).toLoadRect) (Ua1 i arg5 X5)) shapeCasts_S144x512_S1x144x512⟩ :: run.sl.H9_2 (F := Ideal) i arg3 arg4 arg5 arg8 arg9 arg10 X3 X4 X5 X10 := rfl
  rw [e, eqw1, eq8a, rda1, rza1]
  rfl
theorem eqw3 : run.sl.H9_4 (F := Ideal) i arg3 arg4 arg5 arg8 arg9 arg10 X3 X4 X5 X10 = W3 i arg3 arg4 arg5 arg9 arg10 X3 X4 X5 X10 := by
  have e : run.sl.H9_4 (F := Ideal) i arg3 arg4 arg5 arg8 arg9 arg10 X3 X4 X5 X10 = ⟨Rect.unit (s := S4x144x512) ![2, 0, 0] S1x144x512.size inb_S4x144x512_S1x144x512_2_0_0, shapeCast S1x144x512 (accN (k0_pay99 (F := Ideal)) (Ma2 i arg3 arg4 arg10 X3 X4 X10) (arg8.view.readCov (run.sl.H8_8 (F := Ideal) i arg3 arg4 arg10 X3 X4 X10) (Rect.unit (s := S4x2x256x512) ![2, 0, 0, 0] S1x1x256x512.size inb_S4x2x256x512_S1x1x256x512_2_0_0_0).toLoadRect) (arg9.view.readCov (run.sl.H9_3 (F := Ideal) i arg3 arg4 arg5 arg8 arg9 arg10 X3 X4 X5 X10) (Rect.unit (s := S4x144x512) ![2, 0, 0] S1x144x512.size inb_S4x144x512_S1x144x512_2_0_0).toLoadRect) (Ua2 i arg5 X5)) shapeCasts_S144x512_S1x144x512⟩ :: run.sl.H9_3 (F := Ideal) i arg3 arg4 arg5 arg8 arg9 arg10 X3 X4 X5 X10 := rfl
  rw [e, eqw2, eq8a, rda2, rza2]
  rfl
theorem eqw4 : run.sl.H9_5 (F := Ideal) i arg3 arg4 arg5 arg8 arg9 arg10 X3 X4 X5 X10 = W4 i arg3 arg4 arg5 arg9 arg10 X3 X4 X5 X10 := by
  have e : run.sl.H9_5 (F := Ideal) i arg3 arg4 arg5 arg8 arg9 arg10 X3 X4 X5 X10 = ⟨Rect.unit (s := S4x144x512) ![3, 0, 0] S1x144x512.size inb_S4x144x512_S1x144x512_3_0_0, shapeCast S1x144x512 (accN (k0_pay99 (F := Ideal)) (Ma3 i arg3 arg4 arg10 X3 X4 X10) (arg8.view.readCov (run.sl.H8_8 (F := Ideal) i arg3 arg4 arg10 X3 X4 X10) (Rect.unit (s := S4x2x256x512) ![3, 0, 0, 0] S1x1x256x512.size inb_S4x2x256x512_S1x1x256x512_3_0_0_0).toLoadRect) (arg9.view.readCov (run.sl.H9_4 (F := Ideal) i arg3 arg4 arg5 arg8 arg9 arg10 X3 X4 X5 X10) (Rect.unit (s := S4x144x512) ![3, 0, 0] S1x144x512.size inb_S4x144x512_S1x144x512_3_0_0).toLoadRect) (Ua3 i arg5 X5)) shapeCasts_S144x512_S1x144x512⟩ :: run.sl.H9_4 (F := Ideal) i arg3 arg4 arg5 arg8 arg9 arg10 X3 X4 X5 X10 := rfl
  rw [e, eqw3, eq8a, rda3, rza3]
  rfl
theorem eqw5 : run.sl.H9_6 (F := Ideal) i arg3 arg4 arg5 arg8 arg9 arg10 X3 X4 X5 X10 = W5 i arg3 arg4 arg5 arg9 arg10 X3 X4 X5 X10 := by
  have e : run.sl.H9_6 (F := Ideal) i arg3 arg4 arg5 arg8 arg9 arg10 X3 X4 X5 X10 = ⟨Rect.unit (s := S4x144x512) ![0, 0, 0] S1x144x512.size inb_S4x144x512_S1x144x512_0_0_0, shapeCast S1x144x512 (accN (Ma0 i arg3 arg4 arg10 X3 X4 X10) (Mb0 i arg3 arg4 arg10 X3 X4 X10) (arg8.view.readCov (run.sl.H8_12 (F := Ideal) i arg3 arg4 arg10 X3 X4 X10) (Rect.unit (s := S4x2x256x512) ![0, 1, 0, 0] S1x1x256x512.size inb_S4x2x256x512_S1x1x256x512_0_1_0_0).toLoadRect) (arg9.view.readCov (run.sl.H9_5 (F := Ideal) i arg3 arg4 arg5 arg8 arg9 arg10 X3 X4 X5 X10) (Rect.unit (s := S4x144x512) ![0, 0, 0] S1x144x512.size inb_S4x144x512_S1x144x512_0_0_0).toLoadRect) (Ub0 i arg5 X5)) shapeCasts_S144x512_S1x144x512⟩ :: run.sl.H9_5 (F := Ideal) i arg3 arg4 arg5 arg8 arg9 arg10 X3 X4 X5 X10 := rfl
  rw [e, eqw4, eq8, rdb0, rzb0]
  rfl
theorem eqw6 : run.sl.H9_7 (F := Ideal) i arg3 arg4 arg5 arg8 arg9 arg10 X3 X4 X5 X10 = W6 i arg3 arg4 arg5 arg9 arg10 X3 X4 X5 X10 := by
  have e : run.sl.H9_7 (F := Ideal) i arg3 arg4 arg5 arg8 arg9 arg10 X3 X4 X5 X10 = ⟨Rect.unit (s := S4x144x512) ![1, 0, 0] S1x144x512.size inb_S4x144x512_S1x144x512_1_0_0, shapeCast S1x144x512 (accN (Ma1 i arg3 arg4 arg10 X3 X4 X10) (Mb1 i arg3 arg4 arg10 X3 X4 X10) (arg8.view.readCov (run.sl.H8_12 (F := Ideal) i arg3 arg4 arg10 X3 X4 X10) (Rect.unit (s := S4x2x256x512) ![1, 1, 0, 0] S1x1x256x512.size inb_S4x2x256x512_S1x1x256x512_1_1_0_0).toLoadRect) (arg9.view.readCov (run.sl.H9_6 (F := Ideal) i arg3 arg4 arg5 arg8 arg9 arg10 X3 X4 X5 X10) (Rect.unit (s := S4x144x512) ![1, 0, 0] S1x144x512.size inb_S4x144x512_S1x144x512_1_0_0).toLoadRect) (Ub1 i arg5 X5)) shapeCasts_S144x512_S1x144x512⟩ :: run.sl.H9_6 (F := Ideal) i arg3 arg4 arg5 arg8 arg9 arg10 X3 X4 X5 X10 := rfl
  rw [e, eqw5, eq8, rdb1, rzb1]
  rfl
theorem eqw7 : run.sl.H9_8 (F := Ideal) i arg3 arg4 arg5 arg8 arg9 arg10 X3 X4 X5 X10 = W7 i arg3 arg4 arg5 arg9 arg10 X3 X4 X5 X10 := by
  have e : run.sl.H9_8 (F := Ideal) i arg3 arg4 arg5 arg8 arg9 arg10 X3 X4 X5 X10 = ⟨Rect.unit (s := S4x144x512) ![2, 0, 0] S1x144x512.size inb_S4x144x512_S1x144x512_2_0_0, shapeCast S1x144x512 (accN (Ma2 i arg3 arg4 arg10 X3 X4 X10) (Mb2 i arg3 arg4 arg10 X3 X4 X10) (arg8.view.readCov (run.sl.H8_12 (F := Ideal) i arg3 arg4 arg10 X3 X4 X10) (Rect.unit (s := S4x2x256x512) ![2, 1, 0, 0] S1x1x256x512.size inb_S4x2x256x512_S1x1x256x512_2_1_0_0).toLoadRect) (arg9.view.readCov (run.sl.H9_7 (F := Ideal) i arg3 arg4 arg5 arg8 arg9 arg10 X3 X4 X5 X10) (Rect.unit (s := S4x144x512) ![2, 0, 0] S1x144x512.size inb_S4x144x512_S1x144x512_2_0_0).toLoadRect) (Ub2 i arg5 X5)) shapeCasts_S144x512_S1x144x512⟩ :: run.sl.H9_7 (F := Ideal) i arg3 arg4 arg5 arg8 arg9 arg10 X3 X4 X5 X10 := rfl
  rw [e, eqw6, eq8, rdb2, rzb2]
  rfl
theorem eqw8 : (⟨Rect.unit (s := S4x144x512) ![3, 0, 0] S1x144x512.size inb_S4x144x512_S1x144x512_3_0_0, run.sl.v533 (F := Ideal) i arg3 arg4 arg5 arg8 arg9 arg10 X3 X4 X5 X10⟩ :: run.sl.H9_8 (F := Ideal) i arg3 arg4 arg5 arg8 arg9 arg10 X3 X4 X5 X10) = W8 i arg3 arg4 arg5 arg9 arg10 X3 X4 X5 X10 := by
  have e : (⟨Rect.unit (s := S4x144x512) ![3, 0, 0] S1x144x512.size inb_S4x144x512_S1x144x512_3_0_0, run.sl.v533 (F := Ideal) i arg3 arg4 arg5 arg8 arg9 arg10 X3 X4 X5 X10⟩ :: run.sl.H9_8 (F := Ideal) i arg3 arg4 arg5 arg8 arg9 arg10 X3 X4 X5 X10) = ⟨Rect.unit (s := S4x144x512) ![3, 0, 0] S1x144x512.size inb_S4x144x512_S1x144x512_3_0_0, shapeCast S1x144x512 (accN (Ma3 i arg3 arg4 arg10 X3 X4 X10) (Mb3 i arg3 arg4 arg10 X3 X4 X10) (arg8.view.readCov (run.sl.H8_12 (F := Ideal) i arg3 arg4 arg10 X3 X4 X10) (Rect.unit (s := S4x2x256x512) ![3, 1, 0, 0] S1x1x256x512.size inb_S4x2x256x512_S1x1x256x512_3_1_0_0).toLoadRect) (arg9.view.readCov (run.sl.H9_8 (F := Ideal) i arg3 arg4 arg5 arg8 arg9 arg10 X3 X4 X5 X10) (Rect.unit (s := S4x144x512) ![3, 0, 0] S1x144x512.size inb_S4x144x512_S1x144x512_3_0_0).toLoadRect) (Ub3 i arg5 X5)) shapeCasts_S144x512_S1x144x512⟩ :: run.sl.H9_8 (F := Ideal) i arg3 arg4 arg5 arg8 arg9 arg10 X3 X4 X5 X10 := rfl
  rw [e, eqw7, eq8, rdb3, rzb3]
  rfl

variable {D : Nums}

/-- Head 0 before the loop. -/
theorem diag_inv_0 (H : Holds (arg3 := arg3) (arg4 := arg4) (arg5 := arg5) (arg10 := arg10) D (i 1).val X3 X4 X5 X10)
    (f8 : BufTy.Contents (Elt Ideal) arg8.view.ty) (f9 : BufTy.Contents (Elt Ideal) arg9.view.ty) :
    HInv (arg8 := arg8) (arg9 := arg9) D (i 2).val 0 (by omega) 0 (Mb0 i arg3 arg4 arg10 X3 X4 X10) (cmx (Ec0 i arg3 arg4 arg10 X3 X4 X10)) (arg8.view.writes (Elt Ideal) f8 (D8 i arg3 arg4 arg10 X3 X4 X10))
      (arg9.view.writes (Elt Ideal) f9 (W8 i arg3 arg4 arg5 arg9 arg10 X3 X4 X5 X10)) := by
  have hi : (i 2).val < 8 := (i 2).isLt
  refine HInv.diag hi (Ea0 i arg3 arg4 arg10 X3 X4 X10) (Eb0 i arg3 arg4 arg10 X3 X4 X10) (Ec0 i arg3 arg4 arg10 X3 X4 X10) ?_ ?_ ?_ (k0_pay99 (F := Ideal)) (fun q => rfl) (Z0 arg9) ?_ (Ua0 i arg5 X5) (Ub0 i arg5 X5) ?_ ?_ ?_ ?_
  · exact fun s q => H.lg_val 0 (by omega) _ (512 * (i 2).val) (512 * (i 2).val) (by omega) _ _ _ _ (off4_eq i) (off5_eq i) (off6_eq i) rfl s q
  · exact fun s q => H.lg_val 0 (by omega) _ (512 * (i 2).val) (512 * (i 2).val + 256) (by omega) _ _ _ _ (off4_eq i) (off10_eq i) (off11_eq i) rfl s q
  · exact fun s q => H.lg_val 0 (by omega) _ (512 * (i 2).val) 0 (by omega) _ _ _ _ (off4_eq i) (off19_eq i) rfl rfl s q
  · intro r q
    unfold Z0
    rw [View.readCov_fill _ _ _ _ _ (by decide)]
    exact Ideal.ofBits_zero_f32
  · exact fun r s => H.v_val 0 (by omega) (512 * (i 2).val) (by omega) _ (off15_eq i) r s
  · exact fun r s => H.v_val 0 (by omega) (512 * (i 2).val + 256) (by omega) _ (off20_eq i) r s
  · intro s q
    unfold D8
    refine (View.read_writes_cons_unit_of_not_mem arg8.view f8 _ _ _ _ rfl (0 : Fin 4) (by left; show 0 < 3; omega)).trans ?_
    refine (View.read_writes_cons_unit_of_not_mem arg8.view f8 _ _ _ _ rfl (0 : Fin 4) (by left; show 0 < 2; omega)).trans ?_
    refine (View.read_writes_cons_unit_of_not_mem arg8.view f8 _ _ _ _ rfl (0 : Fin 4) (by left; show 0 < 1; omega)).trans ?_
    refine (View.read_writes_cons_unit_of_mem arg8.view f8 _ _ _ _ (ix4 (0 : Fin 1) (0 : Fin 1) s q) rfl (fun x => ?_)).trans (cast_ab_11ab _ _ _ _ _ _)
    match x with
    | ⟨0, _⟩ => rfl
    | ⟨1, _⟩ => rfl
    | ⟨2, _⟩ => exact (Nat.zero_add _).symm
    | ⟨3, _⟩ => exact (Nat.zero_add _).symm
  · intro r q
    unfold W8 W7 W6 W5
    refine (View.read_writes_cons_unit_of_not_mem arg9.view f9 _ _ _ _ rfl (0 : Fin 3) (by left; show 0 < 3; omega)).trans ?_
    refine (View.read_writes_cons_unit_of_not_mem arg9.view f9 _ _ _ _ rfl (0 : Fin 3) (by left; show 0 < 2; omega)).trans ?_
    refine (View.read_writes_cons_unit_of_not_mem arg9.view f9 _ _ _ _ rfl (0 : Fin 3) (by left; show 0 < 1; omega)).trans ?_
    refine (View.read_writes_cons_unit_of_mem arg9.view f9 _ _ _ _ (ix3 (0 : Fin 1) r q) rfl (fun x => ?_)).trans (shapeCast_ab_1ab_apply _ _ _ _ _)
    match x with
    | ⟨0, _⟩ => rfl
    | ⟨1, _⟩ => exact (Nat.zero_add _).symm
    | ⟨2, _⟩ => exact (Nat.zero_add _).symm

/-- Head 1 before the loop. -/
theorem diag_inv_1 (H : Holds (arg3 := arg3) (arg4 := arg4) (arg5 := arg5) (arg10 := arg10) D (i 1).val X3 X4 X5 X10)
    (f8 : BufTy.Contents (Elt Ideal) arg8.view.ty) (f9 : BufTy.Contents (Elt Ideal) arg9.view.ty) :
    HInv (arg8 := arg8) (arg9 := arg9) D (i 2).val 1 (by omega) 0 (Mb1 i arg3 arg4 arg10 X3 X4 X10) (cmx (Ec1 i arg3 arg4 arg10 X3 X4 X10)) (arg8.view.writes (Elt Ideal) f8 (D8 i arg3 arg4 arg10 X3 X4 X10))
      (arg9.view.writes (Elt Ideal) f9 (W8 i arg3 arg4 arg5 arg9 arg10 X3 X4 X5 X10)) := by
  have hi : (i 2).val < 8 := (i 2).isLt
  refine HInv.diag hi (Ea1 i arg3 arg4 arg10 X3 X4 X10) (Eb1 i arg3 arg4 arg10 X3 X4 X10) (Ec1 i arg3 arg4 arg10 X3 X4 X10) ?_ ?_ ?_ (k0_pay99 (F := Ideal)) (fun q => rfl) (Z1 arg9) ?_ (Ua1 i arg5 X5) (Ub1 i arg5 X5) ?_ ?_ ?_ ?_
  · exact fun s q => H.lg_val 1 (by omega) _ (512 * (i 2).val) (512 * (i 2).val) (by omega) _ _ _ _ (off4_eq i) (off5_eq i) (off7_eq i) rfl s q
  · exact fun s q => H.lg_val 1 (by omega) _ (512 * (i 2).val) (512 * (i 2).val + 256) (by omega) _ _ _ _ (off4_eq i) (off10_eq i) (off12_eq i) rfl s q
  · exact fun s q => H.lg_val 1 (by omega) _ (512 * (i 2).val) 0 (by omega) _ _ _ _ (off4_eq i) (off19_eq i) rfl rfl s q
  · intro r q
    unfold Z1
    rw [View.readCov_fill _ _ _ _ _ (by decide)]
    exact Ideal.ofBits_zero_f32
  · exact fun r s => H.v_val 1 (by omega) (512 * (i 2).val) (by omega) _ (off16_eq i) r s
  · exact fun r s => H.v_val 1 (by omega) (512 * (i 2).val + 256) (by omega) _ (off21_eq i) r s
  · intro s q
    unfold D8
    refine (View.read_writes_cons_unit_of_not_mem arg8.view f8 _ _ _ _ rfl (0 : Fin 4) (by left; show 1 < 3; omega)).trans ?_
    refine (View.read_writes_cons_unit_of_not_mem arg8.view f8 _ _ _ _ rfl (0 : Fin 4) (by left; show 1 < 2; omega)).trans ?_
    refine (View.read_writes_cons_unit_of_mem arg8.view f8 _ _ _ _ (ix4 (0 : Fin 1) (0 : Fin 1) s q) rfl (fun x => ?_)).trans (cast_ab_11ab _ _ _ _ _ _)
    match x with
    | ⟨0, _⟩ => rfl
    | ⟨1, _⟩ => rfl
    | ⟨2, _⟩ => exact (Nat.zero_add _).symm
    | ⟨3, _⟩ => exact (Nat.zero_add _).symm
  · intro r q
    unfold W8 W7 W6
    refine (View.read_writes_cons_unit_of_not_mem arg9.view f9 _ _ _ _ rfl (0 : Fin 3) (by left; show 1 < 3; omega)).trans ?_
    refine (View.read_writes_cons_unit_of_not_mem arg9.view f9 _ _ _ _ rfl (0 : Fin 3) (by left; show 1 < 2; omega)).trans ?_
    refine (View.read_writes_cons_unit_of_mem arg9.view f9 _ _ _ _ (ix3 (0 : Fin 1) r q) rfl (fun x => ?_)).trans (shapeCast_ab_1ab_apply _ _ _ _ _)
    match x with
    | ⟨0, _⟩ => rfl
    | ⟨1, _⟩ => exact (Nat.zero_add _).symm
    | ⟨2, _⟩ => exact (Nat.zero_add _).symm

/-- Head 2 before the loop. -/
theorem diag_inv_2 (H : Holds (arg3 := arg3) (arg4 := arg4) (arg5 := arg5) (arg10 := arg10) D (i 1).val X3 X4 X5 X10)
    (f8 : BufTy.Contents (Elt Ideal) arg8.view.ty) (f9 : BufTy.Contents (Elt Ideal) arg9.view.ty) :
    HInv (arg8 := arg8) (arg9 := arg9) D (i 2).val 2 (by omega) 0 (Mb2 i arg3 arg4 arg10 X3 X4 X10) (cmx (Ec2 i arg3 arg4 arg10 X3 X4 X10)) (arg8.view.writes (Elt Ideal) f8 (D8 i arg3 arg4 arg10 X3 X4 X10))
      (arg9.view.writes (Elt Ideal) f9 (W8 i arg3 arg4 arg5 arg9 arg10 X3 X4 X5 X10)) := by
  have hi : (i 2).val < 8 := (i 2).isLt
  refine HInv.diag hi (Ea2 i arg3 arg4 arg10 X3 X4 X10) (Eb2 i arg3 arg4 arg10 X3 X4 X10) (Ec2 i arg3 arg4 arg10 X3 X4 X10) ?_ ?_ ?_ (k0_pay99 (F := Ideal)) (fun q => rfl) (Z2 arg9) ?_ (Ua2 i arg5 X5) (Ub2 i arg5 X5) ?_ ?_ ?_ ?_
  · exact fun s q => H.lg_val 2 (by omega) _ (512 * (i 2).val) (512 * (i 2).val) (by omega) _ _ _ _ (off4_eq i) (off5_eq i) (off8_eq i) rfl s q
  · exact fun s q => H.lg_val 2 (by omega) _ (512 * (i 2).val) (512 * (i 2).val + 256) (by omega) _ _ _ _ (off4_eq i) (off10_eq i) (off13_eq i) rfl s q
  · exact fun s q => H.lg_val 2 (by omega) _ (512 * (i 2).val) 0 (by omega) _ _ _ _ (off4_eq i) (off19_eq i) rfl rfl s q
  · intro r q
    unfold Z2
    rw [View.readCov_fill _ _ _ _ _ (by decide)]
    exact Ideal.ofBits_zero_f32
  · exact fun r s => H.v_val 2 (by omega) (512 * (i 2).val) (by omega) _ (off17_eq i) r s
  · exact fun r s => H.v_val 2 (by omega) (512 * (i 2).val + 256) (by omega) _ (off22_eq i) r s
  · intro s q
    unfold D8
    refine (View.read_writes_cons_unit_of_not_mem arg8.view f8 _ _ _ _ rfl (0 : Fin 4) (by left; show 2 < 3; omega)).trans ?_
    refine (View.read_writes_cons_unit_of_mem arg8.view f8 _ _ _ _ (ix4 (0 : Fin 1) (0 : Fin 1) s q) rfl (fun x => ?_)).trans (cast_ab_11ab _ _ _ _ _ _)
    match x with
    | ⟨0, _⟩ => rfl
    | ⟨1, _⟩ => rfl
    | ⟨2, _⟩ => exact (Nat.zero_add _).symm
    | ⟨3, _⟩ => exact (Nat.zero_add _).symm
  · intro r q
    unfold W8 W7
    refine (View.read_writes_cons_unit_of_not_mem arg9.view f9 _ _ _ _ rfl (0 : Fin 3) (by left; show 2 < 3; omega)).trans ?_
    refine (View.read_writes_cons_unit_of_mem arg9.view f9 _ _ _ _ (ix3 (0 : Fin 1) r q) rfl (fun x => ?_)).trans (shapeCast_ab_1ab_apply _ _ _ _ _)
    match x with
    | ⟨0, _⟩ => rfl
    | ⟨1, _⟩ => exact (Nat.zero_add _).symm
    | ⟨2, _⟩ => exact (Nat.zero_add _).symm

/-- Head 3 before the loop. -/
theorem diag_inv_3 (H : Holds (arg3 := arg3) (arg4 := arg4) (arg5 := arg5) (arg10 := arg10) D (i 1).val X3 X4 X5 X10)
    (f8 : BufTy.Contents (Elt Ideal) arg8.view.ty) (f9 : BufTy.Contents (Elt Ideal) arg9.view.ty) :
    HInv (arg8 := arg8) (arg9 := arg9) D (i 2).val 3 (by omega) 0 (Mb3 i arg3 arg4 arg10 X3 X4 X10) (cmx (Ec3 i arg3 arg4 arg10 X3 X4 X10)) (arg8.view.writes (Elt Ideal) f8 (D8 i arg3 arg4 arg10 X3 X4 X10))
      (arg9.view.writes (Elt Ideal) f9 (W8 i arg3 arg4 arg5 arg9 arg10 X3 X4 X5 X10)) := by
  have hi : (i 2).val < 8 := (i 2).isLt
  refine HInv.diag hi (Ea3 i arg3 arg4 arg10 X3 X4 X10) (Eb3 i arg3 arg4 arg10 X3 X4 X10) (Ec3 i arg3 arg4 arg10 X3 X4 X10) ?_ ?_ ?_ (k0_pay99 (F := Ideal)) (fun q => rfl) (Z3 arg9) ?_ (Ua3 i arg5 X5) (Ub3 i arg5 X5) ?_ ?_ ?_ ?_
  · exact fun s q => H.lg_val 3 (by omega) _ (512 * (i 2).val) (512 * (i 2).val) (by omega) _ _ _ _ (off4_eq i) (off5_eq i) (off9_eq i) rfl s q
  · exact fun s q => H.lg_val 3 (by omega) _ (512 * (i 2).val) (512 * (i 2).val + 256) (by omega) _ _ _ _ (off4_eq i) (off10_eq i) (off14_eq i) rfl s q
  · exact fun s q => H.lg_val 3 (by omega) _ (512 * (i 2).val) 0 (by omega) _ _ _ _ (off4_eq i) (off19_eq i) rfl rfl s q
  · intro r q
    unfold Z3
    rw [View.readCov_fill _ _ _ _ _ (by decide)]
    exact Ideal.ofBits_zero_f32
  · exact fun r s => H.v_val 3 (by omega) (512 * (i 2).val) (by omega) _ (off18_eq i) r s
  · exact fun r s => H.v_val 3 (by omega) (512 * (i 2).val + 256) (by omega) _ (off23_eq i) r s
  · intro s q
    unfold D8
    refine (View.read_writes_cons_unit_of_mem arg8.view f8 _ _ _ _ (ix4 (0 : Fin 1) (0 : Fin 1) s q) rfl (fun x => ?_)).trans (cast_ab_11ab _ _ _ _ _ _)
    match x with
    | ⟨0, _⟩ => rfl
    | ⟨1, _⟩ => rfl
    | ⟨2, _⟩ => exact (Nat.zero_add _).symm
    | ⟨3, _⟩ => exact (Nat.zero_add _).symm
  · intro r q
    unfold W8
    refine (View.read_writes_cons_unit_of_mem arg9.view f9 _ _ _ _ (ix3 (0 : Fin 1) r q) rfl (fun x => ?_)).trans (shapeCast_ab_1ab_apply _ _ _ _ _)
    match x with
    | ⟨0, _⟩ => rfl
    | ⟨1, _⟩ => exact (Nat.zero_add _).symm
    | ⟨2, _⟩ => exact (Nat.zero_add _).symm

end Diag

end Cert.KernelIdeal.Attn
-- ==== Proof.AttnOut.lean ====
/-
  The output block: sixteen tiles, each a quotient of the running sums by the row of ones' sums, turned over; so every
  entry of the block is the softmax-weighted sum over the keys the query may see.
-/
module

public import proofs.«01_k».proof.Proof.AttnDiag

@[expose] public section

set_option maxRecDepth 8192
set_option maxHeartbeats 1000000

noncomputable section

namespace Cert.KernelIdeal.Attn

open Cert.KernelIdeal Cert.KernelIdeal.Gen
open Idealize.ShloMosaic Idealize.ShloMosaic.ValueIdx

theorem trips3 : ∀ i : grid0.Coords, (k0_t3_loop i).trips = 0 := by decide +kernel

/-- A head's sums over the row of ones' sums. -/
def quo (x : FVec Ideal S1x128x512 .f32) (y : FVec Ideal S1x1x512 .f32) : FVec Ideal S128x512 .f32 :=
  divf (shapeCast S128x512 x shapeCasts_S1x128x512_S128x512)
    (broadcastTo S128x512 (shapeCast S1x512 y shapeCasts_S1x1x512_S1x512) broadcasts_S1x512_S128x512)

/-- The tile of 128 queries from query `o`, queries by rows. -/
def tile (o : ℕ) (h : S128x512.Slices ![0, o] S128x128) (v : FVec Ideal S128x512 .f32) : FVec Ideal S128x128 .bf16 :=
  truncf .bf16 (transpose S128x128 [1, 0] (extractStridedSlice S128x128 ![0, o] v h) transposes_S128x128_p1_0_S128x128) bitsLt_bf16_f32

theorem tile_apply (o : ℕ) (h : S128x512.Slices ![0, o] S128x128) (x : FVec Ideal S1x128x512 .f32) (y : FVec Ideal S1x1x512 .f32)
    (a r : Fin 128) (q : Fin 512) (hq : q.val = o + a.val) :
    tile o h (quo x y) (ix2 a r) = Ideal.div (x (ix3 (0 : Fin 1) r q)) (y (ix3 (0 : Fin 1) (0 : Fin 1) q)) := by
  unfold tile quo
  rw [truncf_apply, transpose_ix2_apply, slice2_axis1_apply o _ h r a q hq, divf_apply, broadcastTo_1b_ab_apply,
    shapeCast_1ab_ab_apply, shapeCast_1ab_ab_apply]

section Out

variable (arg7 : Memref sig .tc .vmem S512x512 .bf16) (arg9 : Memref sig .tc .vmem S4x144x512 .f32) (f7 : BufTy.Contents (Elt Ideal) arg7.view.ty)
  (f9 : BufTy.Contents (Elt Ideal) arg9.view.ty)

/-- Head 0's quotients. -/
def Q0 : FVec Ideal S128x512 .f32 :=
  quo (arg9.view.readAt (Elt Ideal) (Rect.unit (s := S4x144x512) ![0, 0, 0] S1x128x512.size inb_S4x144x512_S1x128x512_0_0_0).toLoadRect f9)
    (arg9.view.readAt (Elt Ideal) (Rect.unit (s := S4x144x512) ![0, 128, 0] S1x1x512.size inb_S4x144x512_S1x1x512_0_128_0).toLoadRect f9)
/-- Head 1's quotients. -/
def Q1 : FVec Ideal S128x512 .f32 :=
  quo (arg9.view.readAt (Elt Ideal) (Rect.unit (s := S4x144x512) ![1, 0, 0] S1x128x512.size inb_S4x144x512_S1x128x512_1_0_0).toLoadRect f9)
    (arg9.view.readAt (Elt Ideal) (Rect.unit (s := S4x144x512) ![1, 128, 0] S1x1x512.size inb_S4x144x512_S1x1x512_1_128_0).toLoadRect f9)
/-- Head 2's quotients. -/
def Q2 : FVec Ideal S128x512 .f32 :=
  quo (arg9.view.readAt (Elt Ideal) (Rect.unit (s := S4x144x512) ![2, 0, 0] S1x128x512.size inb_S4x144x512_S1x128x512_2_0_0).toLoadRect f9)
    (arg9.view.readAt (Elt Ideal) (Rect.unit (s := S4x144x512) ![2, 128, 0] S1x1x512.size inb_S4x144x512_S1x1x512_2_128_0).toLoadRect f9)
/-- Head 3's quotients. -/
def Q3 : FVec Ideal S128x512 .f32 :=
  quo (arg9.view.readAt (Elt Ideal) (Rect.unit (s := S4x144x512) ![3, 0, 0] S1x128x512.size inb_S4x144x512_S1x128x512_3_0_0).toLoadRect f9)
    (arg9.view.readAt (Elt Ideal) (Rect.unit (s := S4x144x512) ![3, 128, 0] S1x1x512.size inb_S4x144x512_S1x1x512_3_128_0).toLoadRect f9)

/-- The tiles stored. -/
def outs : List (View.Piece (Elt Ideal) S512x512 .bf16) :=
  [⟨Rect.unit (s := S512x512) ![384, 384] S128x128.size inb_S512x512_S128x128_384_384, tile 384 slices_S128x512_o0_384_S128x128 (Q3 arg9 f9)⟩,
   ⟨Rect.unit (s := S512x512) ![256, 384] S128x128.size inb_S512x512_S128x128_256_384, tile 256 slices_S128x512_o0_256_S128x128 (Q3 arg9 f9)⟩,
   ⟨Rect.unit (s := S512x512) ![128, 384] S128x128.size inb_S512x512_S128x128_128_384, tile 128 slices_S128x512_o0_128_S128x128 (Q3 arg9 f9)⟩,
   ⟨Rect.unit (s := S512x512) ![0, 384] S128x128.size inb_S512x512_S128x128_0_384, tile 0 slices_S128x512_o0_0_S128x128 (Q3 arg9 f9)⟩,
   ⟨Rect.unit (s := S512x512) ![384, 256] S128x128.size inb_S512x512_S128x128_384_256, tile 384 slices_S128x512_o0_384_S128x128 (Q2 arg9 f9)⟩,
   ⟨Rect.unit (s := S512x512) ![256, 256] S128x128.size inb_S512x512_S128x128_256_256, tile 256 slices_S128x512_o0_256_S128x128 (Q2 arg9 f9)⟩,
   ⟨Rect.unit (s := S512x512) ![128, 256] S128x128.size inb_S512x512_S128x128_128_256, tile 128 slices_S128x512_o0_128_S128x128 (Q2 arg9 f9)⟩,
   ⟨Rect.unit (s := S512x512) ![0, 256] S128x128.size inb_S512x512_S128x128_0_256, tile 0 slices_S128x512_o0_0_S128x128 (Q2 arg9 f9)⟩,
   ⟨Rect.unit (s := S512x512) ![384, 128] S128x128.size inb_S512x512_S128x128_384_128, tile 384 slices_S128x512_o0_384_S128x128 (Q1 arg9 f9)⟩,
   ⟨Rect.unit (s := S512x512) ![256, 128] S128x128.size inb_S512x512_S128x128_256_128, tile 256 slices_S128x512_o0_256_S128x128 (Q1 arg9 f9)⟩,
   ⟨Rect.unit (s := S512x512) ![128, 128] S128x128.size inb_S512x512_S128x128_128_128, tile 128 slices_S128x512_o0_128_S128x128 (Q1 arg9 f9)⟩,
   ⟨Rect.unit (s := S512x512) ![0, 128] S128x128.size inb_S512x512_S128x128_0_128, tile 0 slices_S128x512_o0_0_S128x128 (Q1 arg9 f9)⟩,
   ⟨Rect.unit (s := S512x512) ![384, 0] S128x128.size inb_S512x512_S128x128_384_0, tile 384 slices_S128x512_o0_384_S128x128 (Q0 arg9 f9)⟩,
   ⟨Rect.unit (s := S512x512) ![256, 0] S128x128.size inb_S512x512_S128x128_256_0, tile 256 slices_S128x512_o0_256_S128x128 (Q0 arg9 f9)⟩,
   ⟨Rect.unit (s := S512x512) ![128, 0] S128x128.size inb_S512x512_S128x128_128_0, tile 128 slices_S128x512_o0_128_S128x128 (Q0 arg9 f9)⟩,
   ⟨Rect.unit (s := S512x512) ![0, 0] S128x128.size inb_S512x512_S128x128_0_0, tile 0 slices_S128x512_o0_0_S128x128 (Q0 arg9 f9)⟩]

theorem Q0_tile (o : ℕ) (h : S128x512.Slices ![0, o] S128x128) (a r : Fin 128) (q : Fin 512) (hq : q.val = o + a.val) :
    tile o h (Q0 arg9 f9) (ix2 a r)
      = Ideal.div (arg9.view.read (Elt Ideal) f9 (ix3 (0 : Fin 4) (⟨r.val, by omega⟩ : Fin 144) q)) (arg9.view.read (Elt Ideal) f9 (ix3 (0 : Fin 4) (128 : Fin 144) q)) := by
  unfold Q0
  rw [tile_apply o h _ _ a r q hq]
  congr 1
  · refine readAt_at arg9 f9 _ _ _ fun x => ?_
    match x with
    | ⟨0, _⟩ => rfl
    | ⟨1, _⟩ => exact (Nat.zero_add _).symm
    | ⟨2, _⟩ => exact (Nat.zero_add _).symm
  · refine readAt_at arg9 f9 _ _ _ fun x => ?_
    match x with
    | ⟨0, _⟩ => rfl
    | ⟨1, _⟩ => rfl
    | ⟨2, _⟩ => exact (Nat.zero_add _).symm

theorem Q1_tile (o : ℕ) (h : S128x512.Slices ![0, o] S128x128) (a r : Fin 128) (q : Fin 512) (hq : q.val = o + a.val) :
    tile o h (Q1 arg9 f9) (ix2 a r)
      = Ideal.div (arg9.view.read (Elt Ideal) f9 (ix3 (1 : Fin 4) (⟨r.val, by omega⟩ : Fin 144) q)) (arg9.view.read (Elt Ideal) f9 (ix3 (1 : Fin 4) (128 : Fin 144) q)) := by
  unfold Q1
  rw [tile_apply o h _ _ a r q hq]
  congr 1
  · refine readAt_at arg9 f9 _ _ _ fun x => ?_
    match x with
    | ⟨0, _⟩ => rfl
    | ⟨1, _⟩ => exact (Nat.zero_add _).symm
    | ⟨2, _⟩ => exact (Nat.zero_add _).symm
  · refine readAt_at arg9 f9 _ _ _ fun x => ?_
    match x with
    | ⟨0, _⟩ => rfl
    | ⟨1, _⟩ => rfl
    | ⟨2, _⟩ => exact (Nat.zero_add _).symm

theorem Q2_tile (o : ℕ) (h : S128x512.Slices ![0, o] S128x128) (a r : Fin 128) (q : Fin 512) (hq : q.val = o + a.val) :
    tile o h (Q2 arg9 f9) (ix2 a r)
      = Ideal.div (arg9.view.read (Elt Ideal) f9 (ix3 (2 : Fin 4) (⟨r.val, by omega⟩ : Fin 144) q)) (arg9.view.read (Elt Ideal) f9 (ix3 (2 : Fin 4) (128 : Fin 144) q)) := by
  unfold Q2
  rw [tile_apply o h _ _ a r q hq]
  congr 1
  · refine readAt_at arg9 f9 _ _ _ fun x => ?_
    match x with
    | ⟨0, _⟩ => rfl
    | ⟨1, _⟩ => exact (Nat.zero_add _).symm
    | ⟨2, _⟩ => exact (Nat.zero_add _).symm
  · refine readAt_at arg9 f9 _ _ _ fun x => ?_
    match x with
    | ⟨0, _⟩ => rfl
    | ⟨1, _⟩ => rfl
    | ⟨2, _⟩ => exact (Nat.zero_add _).symm

theorem Q3_tile (o : ℕ) (h : S128x512.Slices ![0, o] S128x128) (a r : Fin 128) (q : Fin 512) (hq : q.val = o + a.val) :
    tile o h (Q3 arg9 f9) (ix2 a r)
      = Ideal.div (arg9.view.read (Elt Ideal) f9 (ix3 (3 : Fin 4) (⟨r.val, by omega⟩ : Fin 144) q)) (arg9.view.read (Elt Ideal) f9 (ix3 (3 : Fin 4) (128 : Fin 144) q)) := by
  unfold Q3
  rw [tile_apply o h _ _ a r q hq]
  congr 1
  · refine readAt_at arg9 f9 _ _ _ fun x => ?_
    match x with
    | ⟨0, _⟩ => rfl
    | ⟨1, _⟩ => exact (Nat.zero_add _).symm
    | ⟨2, _⟩ => exact (Nat.zero_add _).symm
  · refine readAt_at arg9 f9 _ _ _ fun x => ?_
    match x with
    | ⟨0, _⟩ => rfl
    | ⟨1, _⟩ => rfl
    | ⟨2, _⟩ => exact (Nat.zero_add _).symm

/-- Every entry of the block: a quotient of sums. -/
theorem outs_read (b n : Fin 4) (a r : Fin 128) (q j : Fin 512) (hq : q.val = 128 * b.val + a.val) (hj : j.val = 128 * n.val + r.val) :
    arg7.view.read (Elt Ideal) (arg7.view.writes (Elt Ideal) f7 (outs arg9 f9)) (ix2 q j)
      = Ideal.div (arg9.view.read (Elt Ideal) f9 (ix3 n (⟨r.val, by omega⟩ : Fin 144) q)) (arg9.view.read (Elt Ideal) f9 (ix3 n (128 : Fin 144) q)) := by
  have ha := a.isLt
  have hr := r.isLt
  unfold outs
  match b, n, hq, hj with
  | ⟨0, _⟩, ⟨0, _⟩, hq, hj =>
    have hq : q.val = 0 + a.val := hq
    have hj : j.val = 0 + r.val := hj
    refine (View.read_writes_cons_unit_of_not_mem arg7.view f7 _ _ _ _ rfl (1 : Fin 2) (by left; show j.val < 384; omega)).trans ?_
    refine (View.read_writes_cons_unit_of_not_mem arg7.view f7 _ _ _ _ rfl (1 : Fin 2) (by left; show j.val < 384; omega)).trans ?_
    refine (View.read_writes_cons_unit_of_not_mem arg7.view f7 _ _ _ _ rfl (1 : Fin 2) (by left; show j.val < 384; omega)).trans ?_
    refine (View.read_writes_cons_unit_of_not_mem arg7.view f7 _ _ _ _ rfl (1 : Fin 2) (by left; show j.val < 384; omega)).trans ?_
    refine (View.read_writes_cons_unit_of_not_mem arg7.view f7 _ _ _ _ rfl (1 : Fin 2) (by left; show j.val < 256; omega)).trans ?_
    refine (View.read_writes_cons_unit_of_not_mem arg7.view f7 _ _ _ _ rfl (1 : Fin 2) (by left; show j.val < 256; omega)).trans ?_
    refine (View.read_writes_cons_unit_of_not_mem arg7.view f7 _ _ _ _ rfl (1 : Fin 2) (by left; show j.val < 256; omega)).trans ?_
    refine (View.read_writes_cons_unit_of_not_mem arg7.view f7 _ _ _ _ rfl (1 : Fin 2) (by left; show j.val < 256; omega)).trans ?_
    refine (View.read_writes_cons_unit_of_not_mem arg7.view f7 _ _ _ _ rfl (1 : Fin 2) (by left; show j.val < 128; omega)).trans ?_
    refine (View.read_writes_cons_unit_of_not_mem arg7.view f7 _ _ _ _ rfl (1 : Fin 2) (by left; show j.val < 128; omega)).trans ?_
    refine (View.read_writes_cons_unit_of_not_mem arg7.view f7 _ _ _ _ rfl (1 : Fin 2) (by left; show j.val < 128; omega)).trans ?_
    refine (View.read_writes_cons_unit_of_not_mem arg7.view f7 _ _ _ _ rfl (1 : Fin 2) (by left; show j.val < 128; omega)).trans ?_
    refine (View.read_writes_cons_unit_of_not_mem arg7.view f7 _ _ _ _ rfl (0 : Fin 2) (by left; show q.val < 384; omega)).trans ?_
    refine (View.read_writes_cons_unit_of_not_mem arg7.view f7 _ _ _ _ rfl (0 : Fin 2) (by left; show q.val < 256; omega)).trans ?_
    refine (View.read_writes_cons_unit_of_not_mem arg7.view f7 _ _ _ _ rfl (0 : Fin 2) (by left; show q.val < 128; omega)).trans ?_
    refine (View.read_writes_cons_unit_of_mem arg7.view f7 _ _ _ _ (ix2 a r) rfl (fun x => ?_)).trans (Q0_tile arg9 f9 _ _ a r q hq)
    match x with
    | ⟨0, _⟩ => exact hq
    | ⟨1, _⟩ => exact hj
  | ⟨0, _⟩, ⟨1, _⟩, hq, hj =>
    have hq : q.val = 0 + a.val := hq
    have hj : j.val = 128 + r.val := hj
    refine (View.read_writes_cons_unit_of_not_mem arg7.view f7 _ _ _ _ rfl (1 : Fin 2) (by left; show j.val < 384; omega)).trans ?_
    refine (View.read_writes_cons_unit_of_not_mem arg7.view f7 _ _ _ _ rfl (1 : Fin 2) (by left; show j.val < 384; omega)).trans ?_
    refine (View.read_writes_cons_unit_of_not_mem arg7.view f7 _ _ _ _ rfl (1 : Fin 2) (by left; show j.val < 384; omega)).trans ?_
    refine (View.read_writes_cons_unit_of_not_mem arg7.view f7 _ _ _ _ rfl (1 : Fin 2) (by left; show j.val < 384; omega)).trans ?_
    refine (View.read_writes_cons_unit_of_not_mem arg7.view f7 _ _ _ _ rfl (1 : Fin 2) (by left; show j.val < 256; omega)).trans ?_
    refine (View.read_writes_cons_unit_of_not_mem arg7.view f7 _ _ _ _ rfl (1 : Fin 2) (by left; show j.val < 256; omega)).trans ?_
    refine (View.read_writes_cons_unit_of_not_mem arg7.view f7 _ _ _ _ rfl (1 : Fin 2) (by left; show j.val < 256; omega)).trans ?_
    refine (View.read_writes_cons_unit_of_not_mem arg7.view f7 _ _ _ _ rfl (1 : Fin 2) (by left; show j.val < 256; omega)).trans ?_
    refine (View.read_writes_cons_unit_of_not_mem arg7.view f7 _ _ _ _ rfl (0 : Fin 2) (by left; show q.val < 384; omega)).trans ?_
    refine (View.read_writes_cons_unit_of_not_mem arg7.view f7 _ _ _ _ rfl (0 : Fin 2) (by left; show q.val < 256; omega)).trans ?_
    refine (View.read_writes_cons_unit_of_not_mem arg7.view f7 _ _ _ _ rfl (0 : Fin 2) (by left; show q.val < 128; omega)).trans ?_
    refine (View.read_writes_cons_unit_of_mem arg7.view f7 _ _ _ _ (ix2 a r) rfl (fun x => ?_)).trans (Q1_tile arg9 f9 _ _ a r q hq)
    match x with
    | ⟨0, _⟩ => exact hq
    | ⟨1, _⟩ => exact hj
  | ⟨0, _⟩, ⟨2, _⟩, hq, hj =>
    have hq : q.val = 0 + a.val := hq
    have hj : j.val = 256 + r.val := hj
    refine (View.read_writes_cons_unit_of_not_mem arg7.view f7 _ _ _ _ rfl (1 : Fin 2) (by left; show j.val < 384; omega)).trans ?_
    refine (View.read_writes_cons_unit_of_not_mem arg7.view f7 _ _ _ _ rfl (1 : Fin 2) (by left; show j.val < 384; omega)).trans ?_
    refine (View.read_writes_cons_unit_of_not_mem arg7.view f7 _ _ _ _ rfl (1 : Fin 2) (by left; show j.val < 384; omega)).trans ?_
    refine (View.read_writes_cons_unit_of_not_mem arg7.view f7 _ _ _ _ rfl (1 : Fin 2) (by left; show j.val < 384; omega)).trans ?_
    refine (View.read_writes_cons_unit_of_not_mem arg7.view f7 _ _ _ _ rfl (0 : Fin 2) (by left; show q.val < 384; omega)).trans ?_
    refine (View.read_writes_cons_unit_of_not_mem arg7.view f7 _ _ _ _ rfl (0 : Fin 2) (by left; show q.val < 256; omega)).trans ?_
    refine (View.read_writes_cons_unit_of_not_mem arg7.view f7 _ _ _ _ rfl (0 : Fin 2) (by left; show q.val < 128; omega)).trans ?_
    refine (View.read_writes_cons_unit_of_mem arg7.view f7 _ _ _ _ (ix2 a r) rfl (fun x => ?_)).trans (Q2_tile arg9 f9 _ _ a r q hq)
    match x with
    | ⟨0, _⟩ => exact hq
    | ⟨1, _⟩ => exact hj
  | ⟨0, _⟩, ⟨3, _⟩, hq, hj =>
    have hq : q.val = 0 + a.val := hq
    have hj : j.val = 384 + r.val := hj
    refine (View.read_writes_cons_unit_of_not_mem arg7.view f7 _ _ _ _ rfl (0 : Fin 2) (by left; show q.val < 384; omega)).trans ?_
    refine (View.read_writes_cons_unit_of_not_mem arg7.view f7 _ _ _ _ rfl (0 : Fin 2) (by left; show q.val < 256; omega)).trans ?_
    refine (View.read_writes_cons_unit_of_not_mem arg7.view f7 _ _ _ _ rfl (0 : Fin 2) (by left; show q.val < 128; omega)).trans ?_
    refine (View.read_writes_cons_unit_of_mem arg7.view f7 _ _ _ _ (ix2 a r) rfl (fun x => ?_)).trans (Q3_tile arg9 f9 _ _ a r q hq)
    match x with
    | ⟨0, _⟩ => exact hq
    | ⟨1, _⟩ => exact hj
  | ⟨1, _⟩, ⟨0, _⟩, hq, hj =>
    have hq : q.val = 128 + a.val := hq
    have hj : j.val = 0 + r.val := hj
    refine (View.read_writes_cons_unit_of_not_mem arg7.view f7 _ _ _ _ rfl (1 : Fin 2) (by left; show j.val < 384; omega)).trans ?_
    refine (View.read_writes_cons_unit_of_not_mem arg7.view f7 _ _ _ _ rfl (1 : Fin 2) (by left; show j.val < 384; omega)).trans ?_
    refine (View.read_writes_cons_unit_of_not_mem arg7.view f7 _ _ _ _ rfl (1 : Fin 2) (by left; show j.val < 384; omega)).trans ?_
    refine (View.read_writes_cons_unit_of_not_mem arg7.view f7 _ _ _ _ rfl (1 : Fin 2) (by left; show j.val < 384; omega)).trans ?_
    refine (View.read_writes_cons_unit_of_not_mem arg7.view f7 _ _ _ _ rfl (1 : Fin 2) (by left; show j.val < 256; omega)).trans ?_
    refine (View.read_writes_cons_unit_of_not_mem arg7.view f7 _ _ _ _ rfl (1 : Fin 2) (by left; show j.val < 256; omega)).trans ?_
    refine (View.read_writes_cons_unit_of_not_mem arg7.view f7 _ _ _ _ rfl (1 : Fin 2) (by left; show j.val < 256; omega)).trans ?_
    refine (View.read_writes_cons_unit_of_not_mem arg7.view f7 _ _ _ _ rfl (1 : Fin 2) (by left; show j.val < 256; omega)).trans ?_
    refine (View.read_writes_cons_unit_of_not_mem arg7.view f7 _ _ _ _ rfl (1 : Fin 2) (by left; show j.val < 128; omega)).trans ?_
    refine (View.read_writes_cons_unit_of_not_mem arg7.view f7 _ _ _ _ rfl (1 : Fin 2) (by left; show j.val < 128; omega)).trans ?_
    refine (View.read_writes_cons_unit_of_not_mem arg7.view f7 _ _ _ _ rfl (1 : Fin 2) (by left; show j.val < 128; omega)).trans ?_
    refine (View.read_writes_cons_unit_of_not_mem arg7.view f7 _ _ _ _ rfl (1 : Fin 2) (by left; show j.val < 128; omega)).trans ?_
    refine (View.read_writes_cons_unit_of_not_mem arg7.view f7 _ _ _ _ rfl (0 : Fin 2) (by left; show q.val < 384; omega)).trans ?_
    refine (View.read_writes_cons_unit_of_not_mem arg7.view f7 _ _ _ _ rfl (0 : Fin 2) (by left; show q.val < 256; omega)).trans ?_
    refine (View.read_writes_cons_unit_of_mem arg7.view f7 _ _ _ _ (ix2 a r) rfl (fun x => ?_)).trans (Q0_tile arg9 f9 _ _ a r q hq)
    match x with
    | ⟨0, _⟩ => exact hq
    | ⟨1, _⟩ => exact hj
  | ⟨1, _⟩, ⟨1, _⟩, hq, hj =>
    have hq : q.val = 128 + a.val := hq
    have hj : j.val = 128 + r.val := hj
    refine (View.read_writes_cons_unit_of_not_mem arg7.view f7 _ _ _ _ rfl (1 : Fin 2) (by left; show j.val < 384; omega)).trans ?_
    refine (View.read_writes_cons_unit_of_not_mem arg7.view f7 _ _ _ _ rfl (1 : Fin 2) (by left; show j.val < 384; omega)).trans ?_
    refine (View.read_writes_cons_unit_of_not_mem arg7.view f7 _ _ _ _ rfl (1 : Fin 2) (by left; show j.val < 384; omega)).trans ?_
    refine (View.read_writes_cons_unit_of_not_mem arg7.view f7 _ _ _ _ rfl (1 : Fin 2) (by left; show j.val < 384; omega)).trans ?_
    refine (View.read_writes_cons_unit_of_not_mem arg7.view f7 _ _ _ _ rfl (1 : Fin 2) (by left; show j.val < 256; omega)).trans ?_
    refine (View.read_writes_cons_unit_of_not_mem arg7.view f7 _ _ _ _ rfl (1 : Fin 2) (by left; show j.val < 256; omega)).trans ?_
    refine (View.read_writes_cons_unit_of_not_mem arg7.view f7 _ _ _ _ rfl (1 : Fin 2) (by left; show j.val < 256; omega)).trans ?_
    refine (View.read_writes_cons_unit_of_not_mem arg7.view f7 _ _ _ _ rfl (1 : Fin 2) (by left; show j.val < 256; omega)).trans ?_
    refine (View.read_writes_cons_unit_of_not_mem arg7.view f7 _ _ _ _ rfl (0 : Fin 2) (by left; show q.val < 384; omega)).trans ?_
    refine (View.read_writes_cons_unit_of_not_mem arg7.view f7 _ _ _ _ rfl (0 : Fin 2) (by left; show q.val < 256; omega)).trans ?_
    refine (View.read_writes_cons_unit_of_mem arg7.view f7 _ _ _ _ (ix2 a r) rfl (fun x => ?_)).trans (Q1_tile arg9 f9 _ _ a r q hq)
    match x with
    | ⟨0, _⟩ => exact hq
    | ⟨1, _⟩ => exact hj
  | ⟨1, _⟩, ⟨2, _⟩, hq, hj =>
    have hq : q.val = 128 + a.val := hq
    have hj : j.val = 256 + r.val := hj
    refine (View.read_writes_cons_unit_of_not_mem arg7.view f7 _ _ _ _ rfl (1 : Fin 2) (by left; show j.val < 384; omega)).trans ?_
    refine (View.read_writes_cons_unit_of_not_mem arg7.view f7 _ _ _ _ rfl (1 : Fin 2) (by left; show j.val < 384; omega)).trans ?_
    refine (View.read_writes_cons_unit_of_not_mem arg7.view f7 _ _ _ _ rfl (1 : Fin 2) (by left; show j.val < 384; omega)).trans ?_
    refine (View.read_writes_cons_unit_of_not_mem arg7.view f7 _ _ _ _ rfl (1 : Fin 2) (by left; show j.val < 384; omega)).trans ?_
    refine (View.read_writes_cons_unit_of_not_mem arg7.view f7 _ _ _ _ rfl (0 : Fin 2) (by left; show q.val < 384; omega)).trans ?_
    refine (View.read_writes_cons_unit_of_not_mem arg7.view f7 _ _ _ _ rfl (0 : Fin 2) (by left; show q.val < 256; omega)).trans ?_
    refine (View.read_writes_cons_unit_of_mem arg7.view f7 _ _ _ _ (ix2 a r) rfl (fun x => ?_)).trans (Q2_tile arg9 f9 _ _ a r q hq)
    match x with
    | ⟨0, _⟩ => exact hq
    | ⟨1, _⟩ => exact hj
  | ⟨1, _⟩, ⟨3, _⟩, hq, hj =>
    have hq : q.val = 128 + a.val := hq
    have hj : j.val = 384 + r.val := hj
    refine (View.read_writes_cons_unit_of_not_mem arg7.view f7 _ _ _ _ rfl (0 : Fin 2) (by left; show q.val < 384; omega)).trans ?_
    refine (View.read_writes_cons_unit_of_not_mem arg7.view f7 _ _ _ _ rfl (0 : Fin 2) (by left; show q.val < 256; omega)).trans ?_
    refine (View.read_writes_cons_unit_of_mem arg7.view f7 _ _ _ _ (ix2 a r) rfl (fun x => ?_)).trans (Q3_tile arg9 f9 _ _ a r q hq)
    match x with
    | ⟨0, _⟩ => exact hq
    | ⟨1, _⟩ => exact hj
  | ⟨2, _⟩, ⟨0, _⟩, hq, hj =>
    have hq : q.val = 256 + a.val := hq
    have hj : j.val = 0 + r.val := hj
    refine (View.read_writes_cons_unit_of_not_mem arg7.view f7 _ _ _ _ rfl (1 : Fin 2) (by left; show j.val < 384; omega)).trans ?_
    refine (View.read_writes_cons_unit_of_not_mem arg7.view f7 _ _ _ _ rfl (1 : Fin 2) (by left; show j.val < 384; omega)).trans ?_
    refine (View.read_writes_cons_unit_of_not_mem arg7.view f7 _ _ _ _ rfl (1 : Fin 2) (by left; show j.val < 384; omega)).trans ?_
    refine (View.read_writes_cons_unit_of_not_mem arg7.view f7 _ _ _ _ rfl (1 : Fin 2) (by left; show j.val < 384; omega)).trans ?_
    refine (View.read_writes_cons_unit_of_not_mem arg7.view f7 _ _ _ _ rfl (1 : Fin 2) (by left; show j.val < 256; omega)).trans ?_
    refine (View.read_writes_cons_unit_of_not_mem arg7.view f7 _ _ _ _ rfl (1 : Fin 2) (by left; show j.val < 256; omega)).trans ?_
    refine (View.read_writes_cons_unit_of_not_mem arg7.view f7 _ _ _ _ rfl (1 : Fin 2) (by left; show j.val < 256; omega)).trans ?_
    refine (View.read_writes_cons_unit_of_not_mem arg7.view f7 _ _ _ _ rfl (1 : Fin 2) (by left; show j.val < 256; omega)).trans ?_
    refine (View.read_writes_cons_unit_of_not_mem arg7.view f7 _ _ _ _ rfl (1 : Fin 2) (by left; show j.val < 128; omega)).trans ?_
    refine (View.read_writes_cons_unit_of_not_mem arg7.view f7 _ _ _ _ rfl (1 : Fin 2) (by left; show j.val < 128; omega)).trans ?_
    refine (View.read_writes_cons_unit_of_not_mem arg7.view f7 _ _ _ _ rfl (1 : Fin 2) (by left; show j.val < 128; omega)).trans ?_
    refine (View.read_writes_cons_unit_of_not_mem arg7.view f7 _ _ _ _ rfl (1 : Fin 2) (by left; show j.val < 128; omega)).trans ?_
    refine (View.read_writes_cons_unit_of_not_mem arg7.view f7 _ _ _ _ rfl (0 : Fin 2) (by left; show q.val < 384; omega)).trans ?_
    refine (View.read_writes_cons_unit_of_mem arg7.view f7 _ _ _ _ (ix2 a r) rfl (fun x => ?_)).trans (Q0_tile arg9 f9 _ _ a r q hq)
    match x with
    | ⟨0, _⟩ => exact hq
    | ⟨1, _⟩ => exact hj
  | ⟨2, _⟩, ⟨1, _⟩, hq, hj =>
    have hq : q.val = 256 + a.val := hq
    have hj : j.val = 128 + r.val := hj
    refine (View.read_writes_cons_unit_of_not_mem arg7.view f7 _ _ _ _ rfl (1 : Fin 2) (by left; show j.val < 384; omega)).trans ?_
    refine (View.read_writes_cons_unit_of_not_mem arg7.view f7 _ _ _ _ rfl (1 : Fin 2) (by left; show j.val < 384; omega)).trans ?_
    refine (View.read_writes_cons_unit_of_not_mem arg7.view f7 _ _ _ _ rfl (1 : Fin 2) (by left; show j.val < 384; omega)).trans ?_
    refine (View.read_writes_cons_unit_of_not_mem arg7.view f7 _ _ _ _ rfl (1 : Fin 2) (by left; show j.val < 384; omega)).trans ?_
    refine (View.read_writes_cons_unit_of_not_mem arg7.view f7 _ _ _ _ rfl (1 : Fin 2) (by left; show j.val < 256; omega)).trans ?_
    refine (View.read_writes_cons_unit_of_not_mem arg7.view f7 _ _ _ _ rfl (1 : Fin 2) (by left; show j.val < 256; omega)).trans ?_
    refine (View.read_writes_cons_unit_of_not_mem arg7.view f7 _ _ _ _ rfl (1 : Fin 2) (by left; show j.val < 256; omega)).trans ?_
    refine (View.read_writes_cons_unit_of_not_mem arg7.view f7 _ _ _ _ rfl (1 : Fin 2) (by left; show j.val < 256; omega)).trans ?_
    refine (View.read_writes_cons_unit_of_not_mem arg7.view f7 _ _ _ _ rfl (0 : Fin 2) (by left; show q.val < 384; omega)).trans ?_
    refine (View.read_writes_cons_unit_of_mem arg7.view f7 _ _ _ _ (ix2 a r) rfl (fun x => ?_)).trans (Q1_tile arg9 f9 _ _ a r q hq)
    match x with
    | ⟨0, _⟩ => exact hq
    | ⟨1, _⟩ => exact hj
  | ⟨2, _⟩, ⟨2, _⟩, hq, hj =>
    have hq : q.val = 256 + a.val := hq
    have hj : j.val = 256 + r.val := hj
    refine (View.read_writes_cons_unit_of_not_mem arg7.view f7 _ _ _ _ rfl (1 : Fin 2) (by left; show j.val < 384; omega)).trans ?_
    refine (View.read_writes_cons_unit_of_not_mem arg7.view f7 _ _ _ _ rfl (1 : Fin 2) (by left; show j.val < 384; omega)).trans ?_
    refine (View.read_writes_cons_unit_of_not_mem arg7.view f7 _ _ _ _ rfl (1 : Fin 2) (by left; show j.val < 384; omega)).trans ?_
    refine (View.read_writes_cons_unit_of_not_mem arg7.view f7 _ _ _ _ rfl (1 : Fin 2) (by left; show j.val < 384; omega)).trans ?_
    refine (View.read_writes_cons_unit_of_not_mem arg7.view f7 _ _ _ _ rfl (0 : Fin 2) (by left; show q.val < 384; omega)).trans ?_
    refine (View.read_writes_cons_unit_of_mem arg7.view f7 _ _ _ _ (ix2 a r) rfl (fun x => ?_)).trans (Q2_tile arg9 f9 _ _ a r q hq)
    match x with
    | ⟨0, _⟩ => exact hq
    | ⟨1, _⟩ => exact hj
  | ⟨2, _⟩, ⟨3, _⟩, hq, hj =>
    have hq : q.val = 256 + a.val := hq
    have hj : j.val = 384 + r.val := hj
    refine (View.read_writes_cons_unit_of_not_mem arg7.view f7 _ _ _ _ rfl (0 : Fin 2) (by left; show q.val < 384; omega)).trans ?_
    refine (View.read_writes_cons_unit_of_mem arg7.view f7 _ _ _ _ (ix2 a r) rfl (fun x => ?_)).trans (Q3_tile arg9 f9 _ _ a r q hq)
    match x with
    | ⟨0, _⟩ => exact hq
    | ⟨1, _⟩ => exact hj
  | ⟨3, _⟩, ⟨0, _⟩, hq, hj =>
    have hq : q.val = 384 + a.val := hq
    have hj : j.val = 0 + r.val := hj
    refine (View.read_writes_cons_unit_of_not_mem arg7.view f7 _ _ _ _ rfl (1 : Fin 2) (by left; show j.val < 384; omega)).trans ?_
    refine (View.read_writes_cons_unit_of_not_mem arg7.view f7 _ _ _ _ rfl (1 : Fin 2) (by left; show j.val < 384; omega)).trans ?_
    refine (View.read_writes_cons_unit_of_not_mem arg7.view f7 _ _ _ _ rfl (1 : Fin 2) (by left; show j.val < 384; omega)).trans ?_
    refine (View.read_writes_cons_unit_of_not_mem arg7.view f7 _ _ _ _ rfl (1 : Fin 2) (by left; show j.val < 384; omega)).trans ?_
    refine (View.read_writes_cons_unit_of_not_mem arg7.view f7 _ _ _ _ rfl (1 : Fin 2) (by left; show j.val < 256; omega)).trans ?_
    refine (View.read_writes_cons_unit_of_not_mem arg7.view f7 _ _ _ _ rfl (1 : Fin 2) (by left; show j.val < 256; omega)).trans ?_
    refine (View.read_writes_cons_unit_of_not_mem arg7.view f7 _ _ _ _ rfl (1 : Fin 2) (by left; show j.val < 256; omega)).trans ?_
    refine (View.read_writes_cons_unit_of_not_mem arg7.view f7 _ _ _ _ rfl (1 : Fin 2) (by left; show j.val < 256; omega)).trans ?_
    refine (View.read_writes_cons_unit_of_not_mem arg7.view f7 _ _ _ _ rfl (1 : Fin 2) (by left; show j.val < 128; omega)).trans ?_
    refine (View.read_writes_cons_unit_of_not_mem arg7.view f7 _ _ _ _ rfl (1 : Fin 2) (by left; show j.val < 128; omega)).trans ?_
    refine (View.read_writes_cons_unit_of_not_mem arg7.view f7 _ _ _ _ rfl (1 : Fin 2) (by left; show j.val < 128; omega)).trans ?_
    refine (View.read_writes_cons_unit_of_not_mem arg7.view f7 _ _ _ _ rfl (1 : Fin 2) (by left; show j.val < 128; omega)).trans ?_
    refine (View.read_writes_cons_unit_of_mem arg7.view f7 _ _ _ _ (ix2 a r) rfl (fun x => ?_)).trans (Q0_tile arg9 f9 _ _ a r q hq)
    match x with
    | ⟨0, _⟩ => exact hq
    | ⟨1, _⟩ => exact hj
  | ⟨3, _⟩, ⟨1, _⟩, hq, hj =>
    have hq : q.val = 384 + a.val := hq
    have hj : j.val = 128 + r.val := hj
    refine (View.read_writes_cons_unit_of_not_mem arg7.view f7 _ _ _ _ rfl (1 : Fin 2) (by left; show j.val < 384; omega)).trans ?_
    refine (View.read_writes_cons_unit_of_not_mem arg7.view f7 _ _ _ _ rfl (1 : Fin 2) (by left; show j.val < 384; omega)).trans ?_
    refine (View.read_writes_cons_unit_of_not_mem arg7.view f7 _ _ _ _ rfl (1 : Fin 2) (by left; show j.val < 384; omega)).trans ?_
    refine (View.read_writes_cons_unit_of_not_mem arg7.view f7 _ _ _ _ rfl (1 : Fin 2) (by left; show j.val < 384; omega)).trans ?_
    refine (View.read_writes_cons_unit_of_not_mem arg7.view f7 _ _ _ _ rfl (1 : Fin 2) (by left; show j.val < 256; omega)).trans ?_
    refine (View.read_writes_cons_unit_of_not_mem arg7.view f7 _ _ _ _ rfl (1 : Fin 2) (by left; show j.val < 256; omega)).trans ?_
    refine (View.read_writes_cons_unit_of_not_mem arg7.view f7 _ _ _ _ rfl (1 : Fin 2) (by left; show j.val < 256; omega)).trans ?_
    refine (View.read_writes_cons_unit_of_not_mem arg7.view f7 _ _ _ _ rfl (1 : Fin 2) (by left; show j.val < 256; omega)).trans ?_
    refine (View.read_writes_cons_unit_of_mem arg7.view f7 _ _ _ _ (ix2 a r) rfl (fun x => ?_)).trans (Q1_tile arg9 f9 _ _ a r q hq)
    match x with
    | ⟨0, _⟩ => exact hq
    | ⟨1, _⟩ => exact hj
  | ⟨3, _⟩, ⟨2, _⟩, hq, hj =>
    have hq : q.val = 384 + a.val := hq
    have hj : j.val = 256 + r.val := hj
    refine (View.read_writes_cons_unit_of_not_mem arg7.view f7 _ _ _ _ rfl (1 : Fin 2) (by left; show j.val < 384; omega)).trans ?_
    refine (View.read_writes_cons_unit_of_not_mem arg7.view f7 _ _ _ _ rfl (1 : Fin 2) (by left; show j.val < 384; omega)).trans ?_
    refine (View.read_writes_cons_unit_of_not_mem arg7.view f7 _ _ _ _ rfl (1 : Fin 2) (by left; show j.val < 384; omega)).trans ?_
    refine (View.read_writes_cons_unit_of_not_mem arg7.view f7 _ _ _ _ rfl (1 : Fin 2) (by left; show j.val < 384; omega)).trans ?_
    refine (View.read_writes_cons_unit_of_mem arg7.view f7 _ _ _ _ (ix2 a r) rfl (fun x => ?_)).trans (Q2_tile arg9 f9 _ _ a r q hq)
    match x with
    | ⟨0, _⟩ => exact hq
    | ⟨1, _⟩ => exact hj
  | ⟨3, _⟩, ⟨3, _⟩, hq, hj =>
    have hq : q.val = 384 + a.val := hq
    have hj : j.val = 384 + r.val := hj
    refine (View.read_writes_cons_unit_of_mem arg7.view f7 _ _ _ _ (ix2 a r) rfl (fun x => ?_)).trans (Q3_tile arg9 f9 _ _ a r q hq)
    match x with
    | ⟨0, _⟩ => exact hq
    | ⟨1, _⟩ => exact hj

end Out

section Run

variable (𝒱 : Variants) (c : Dev nD) (bd : Option 𝒱.V) (i : grid0.Coords) (arg3 : Memref sig .tc .vmem S512x512 .bf16) (harg3 : arg3.IsWhole) (arg4 : Memref sig .tc .vmem S4096x512 .bf16) (harg4 : arg4.IsWhole) (arg5 : Memref sig .tc .vmem S1x4x144x4096 .bf16) (harg5 : arg5.IsWhole) (arg6 : Memref sig .tc .vmem S4096x128 .f32) (harg6 : arg6.IsWhole) (arg7 : Memref sig .tc .vmem S512x512 .bf16) (harg7 : arg7.IsWhole) (arg8 : Memref sig .tc .vmem S4x2x256x512 .f32) (harg8 : arg8.IsWhole) (arg9 : Memref sig .tc .vmem S4x144x512 .f32) (harg9 : arg9.IsWhole) (arg10 : Memref sig .tc .vmem S2x4096x128 .f32) (harg10 : arg10.IsWhole)
  (X3 : BufTy.Contents (Elt Ideal) arg3.view.ty) (X4 : BufTy.Contents (Elt Ideal) arg4.view.ty)
  (X5 : BufTy.Contents (Elt Ideal) arg5.view.ty) (X6 : BufTy.Contents (Elt Ideal) arg6.view.ty) (X10 : BufTy.Contents (Elt Ideal) arg10.view.ty)

/-- The sums' buffer after the loop. -/
def fin9 : BufTy.Contents (Elt Ideal) arg9.view.ty := arg9.view.writes (Elt Ideal) arg9.view.junk ((st_k0_t2 (F := Ideal) 𝒱 c bd i arg3 harg3 arg4 harg4 arg5 harg5 arg6 harg6 arg7 harg7 arg8 harg8 arg9 harg9 arg10 harg10 (BitVec.ofNat 32 ↑(i 1)) (BitVec.ofNat 32 ↑(i 2)) (run.sl.v0 i) (cmx (Ec0 i arg3 arg4 arg10 X3 X4 X10)) (cmx (Ec1 i arg3 arg4 arg10 X3 X4 X10)) (cmx (Ec2 i arg3 arg4 arg10 X3 X4 X10)) (cmx (Ec3 i arg3 arg4 arg10 X3 X4 X10)) (Mb0 i arg3 arg4 arg10 X3 X4 X10) (Mb1 i arg3 arg4 arg10 X3 X4 X10) (Mb2 i arg3 arg4 arg10 X3 X4 X10) (Mb3 i arg3 arg4 arg10 X3 X4 X10) (run.sl.v534 i) 0#32 (Scalar.muli (Scalar.maxsi (run.sl.v534 i) 0#32) 512#32) X3 X4 X5 X10 (arg8.view.writes (Elt Ideal) arg8.view.junk (D8 i arg3 arg4 arg10 X3 X4 X10)) (arg9.view.writes (Elt Ideal) arg9.view.junk (W8 i arg3 arg4 arg5 arg9 arg10 X3 X4 X5 X10)) (Mb0 i arg3 arg4 arg10 X3 X4 X10, Mb1 i arg3 arg4 arg10 X3 X4 X10, Mb2 i arg3 arg4 arg10 X3 X4 X10, Mb3 i arg3 arg4 arg10 X3 X4 X10, cmx (Ec0 i arg3 arg4 arg10 X3 X4 X10), cmx (Ec1 i arg3 arg4 arg10 X3 X4 X10), cmx (Ec2 i arg3 arg4 arg10 X3 X4 X10), cmx (Ec3 i arg3 arg4 arg10 X3 X4 X10)) (k0_t2_loop i).trips).2.2 ++ (W8 i arg3 arg4 arg5 arg9 arg10 X3 X4 X5 X10))

theorem run_pieces (f8 : BufTy.Contents (Elt Ideal) arg8.view.ty) (f9 : BufTy.Contents (Elt Ideal) arg9.view.ty) :
    (run (F := Ideal) 𝒱 c bd i arg3 harg3 arg4 harg4 arg5 harg5 arg6 harg6 arg7 harg7 arg8 harg8 arg9 harg9 arg10 harg10 X3 X4 X5 X6).1 f8 f9 X10 = outs arg9 (fin9 𝒱 c bd i arg3 harg3 arg4 harg4 arg5 harg5 arg6 harg6 arg7 harg7 arg8 harg8 arg9 harg9 arg10 harg10 X3 X4 X5 X10) := by
  have e : (run (F := Ideal) 𝒱 c bd i arg3 harg3 arg4 harg4 arg5 harg5 arg6 harg6 arg7 harg7 arg8 harg8 arg9 harg9 arg10 harg10 X3 X4 X5 X6).1 f8 f9 X10
      = outs arg9 (arg9.view.writes (Elt Ideal) arg9.view.junk ((st_k0_t3 (F := Ideal) 𝒱 c bd i arg3 harg3 arg4 harg4 arg5 harg5 arg6 harg6 arg7 harg7 arg8 harg8 arg9 harg9 arg10 harg10 (BitVec.ofNat 32 ↑(i 1)) (BitVec.ofNat 32 ↑(i 2)) (run.sl.v0 i) (run.sl.v383 (F := Ideal) i arg3 arg4 arg10 X3 X4 X10) (run.sl.v405 (F := Ideal) i arg3 arg4 arg10 X3 X4 X10) (run.sl.v427 (F := Ideal) i arg3 arg4 arg10 X3 X4 X10) (run.sl.v449 (F := Ideal) i arg3 arg4 arg10 X3 X4 X10) (run.sl.v450 (F := Ideal) i arg3 arg4 arg10 X3 X4 X10) (run.sl.v471 (F := Ideal) i arg3 arg4 arg10 X3 X4 X10) (run.sl.v492 (F := Ideal) i arg3 arg4 arg10 X3 X4 X10) (run.sl.v513 (F := Ideal) i arg3 arg4 arg10 X3 X4 X10) (run.sl.v534 i) 0#32 (Scalar.muli (Scalar.maxsi (run.sl.v534 i) 0#32) 512#32) (Scalar.addi (0#32) (Scalar.muli (Scalar.divsi (Scalar.subi (BitVec.ofNat 32 ↑(i 2)) 0#32) 1#32) 1#32)) X3 X4 X5 X10 (arg8.view.writes (Elt Ideal) arg8.view.junk ((st_k0_t2 (F := Ideal) 𝒱 c bd i arg3 harg3 arg4 harg4 arg5 harg5 arg6 harg6 arg7 harg7 arg8 harg8 arg9 harg9 arg10 harg10 (BitVec.ofNat 32 ↑(i 1)) (BitVec.ofNat 32 ↑(i 2)) (run.sl.v0 i) (run.sl.v383 (F := Ideal) i arg3 arg4 arg10 X3 X4 X10) (run.sl.v405 (F := Ideal) i arg3 arg4 arg10 X3 X4 X10) (run.sl.v427 (F := Ideal) i arg3 arg4 arg10 X3 X4 X10) (run.sl.v449 (F := Ideal) i arg3 arg4 arg10 X3 X4 X10) (run.sl.v450 (F := Ideal) i arg3 arg4 arg10 X3 X4 X10) (run.sl.v471 (F := Ideal) i arg3 arg4 arg10 X3 X4 X10) (run.sl.v492 (F := Ideal) i arg3 arg4 arg10 X3 X4 X10) (run.sl.v513 (F := Ideal) i arg3 arg4 arg10 X3 X4 X10) (run.sl.v534 i) 0#32 (Scalar.muli (Scalar.maxsi (run.sl.v534 i) 0#32) 512#32) X3 X4 X5 X10 (arg8.view.writes (Elt Ideal) arg8.view.junk (run.sl.H8_12 (F := Ideal) i arg3 arg4 arg10 X3 X4 X10)) (arg9.view.writes (Elt Ideal) arg9.view.junk (⟨Rect.unit (s := S4x144x512) ![3, 0, 0] S1x144x512.size inb_S4x144x512_S1x144x512_3_0_0, run.sl.v533 (F := Ideal) i arg3 arg4 arg5 arg8 arg9 arg10 X3 X4 X5 X10⟩ :: run.sl.H9_8 (F := Ideal) i arg3 arg4 arg5 arg8 arg9 arg10 X3 X4 X5 X10)) (run.sl.v450 (F := Ideal) i arg3 arg4 arg10 X3 X4 X10, run.sl.v471 (F := Ideal) i arg3 arg4 arg10 X3 X4 X10, run.sl.v492 (F := Ideal) i arg3 arg4 arg10 X3 X4 X10, run.sl.v513 (F := Ideal) i arg3 arg4 arg10 X3 X4 X10, run.sl.v383 (F := Ideal) i arg3 arg4 arg10 X3 X4 X10, run.sl.v405 (F := Ideal) i arg3 arg4 arg10 X3 X4 X10, run.sl.v427 (F := Ideal) i arg3 arg4 arg10 X3 X4 X10, run.sl.v449 (F := Ideal) i arg3 arg4 arg10 X3 X4 X10) (k0_t2_loop i).trips).2.1 ++ (run.sl.H8_12 (F := Ideal) i arg3 arg4 arg10 X3 X4 X10))) (arg9.view.writes (Elt Ideal) arg9.view.junk ((st_k0_t2 (F := Ideal) 𝒱 c bd i arg3 harg3 arg4 harg4 arg5 harg5 arg6 harg6 arg7 harg7 arg8 harg8 arg9 harg9 arg10 harg10 (BitVec.ofNat 32 ↑(i 1)) (BitVec.ofNat 32 ↑(i 2)) (run.sl.v0 i) (run.sl.v383 (F := Ideal) i arg3 arg4 arg10 X3 X4 X10) (run.sl.v405 (F := Ideal) i arg3 arg4 arg10 X3 X4 X10) (run.sl.v427 (F := Ideal) i arg3 arg4 arg10 X3 X4 X10) (run.sl.v449 (F := Ideal) i arg3 arg4 arg10 X3 X4 X10) (run.sl.v450 (F := Ideal) i arg3 arg4 arg10 X3 X4 X10) (run.sl.v471 (F := Ideal) i arg3 arg4 arg10 X3 X4 X10) (run.sl.v492 (F := Ideal) i arg3 arg4 arg10 X3 X4 X10) (run.sl.v513 (F := Ideal) i arg3 arg4 arg10 X3 X4 X10) (run.sl.v534 i) 0#32 (Scalar.muli (Scalar.maxsi (run.sl.v534 i) 0#32) 512#32) X3 X4 X5 X10 (arg8.view.writes (Elt Ideal) arg8.view.junk (run.sl.H8_12 (F := Ideal) i arg3 arg4 arg10 X3 X4 X10)) (arg9.view.writes (Elt Ideal) arg9.view.junk (⟨Rect.unit (s := S4x144x512) ![3, 0, 0] S1x144x512.size inb_S4x144x512_S1x144x512_3_0_0, run.sl.v533 (F := Ideal) i arg3 arg4 arg5 arg8 arg9 arg10 X3 X4 X5 X10⟩ :: run.sl.H9_8 (F := Ideal) i arg3 arg4 arg5 arg8 arg9 arg10 X3 X4 X5 X10)) (run.sl.v450 (F := Ideal) i arg3 arg4 arg10 X3 X4 X10, run.sl.v471 (F := Ideal) i arg3 arg4 arg10 X3 X4 X10, run.sl.v492 (F := Ideal) i arg3 arg4 arg10 X3 X4 X10, run.sl.v513 (F := Ideal) i arg3 arg4 arg10 X3 X4 X10, run.sl.v383 (F := Ideal) i arg3 arg4 arg10 X3 X4 X10, run.sl.v405 (F := Ideal) i arg3 arg4 arg10 X3 X4 X10, run.sl.v427 (F := Ideal) i arg3 arg4 arg10 X3 X4 X10, run.sl.v449 (F := Ideal) i arg3 arg4 arg10 X3 X4 X10) (k0_t2_loop i).trips).2.2 ++ (⟨Rect.unit (s := S4x144x512) ![3, 0, 0] S1x144x512.size inb_S4x144x512_S1x144x512_3_0_0, run.sl.v533 (F := Ideal) i arg3 arg4 arg5 arg8 arg9 arg10 X3 X4 X5 X10⟩ :: run.sl.H9_8 (F := Ideal) i arg3 arg4 arg5 arg8 arg9 arg10 X3 X4 X5 X10))) (st_k0_t2 (F := Ideal) 𝒱 c bd i arg3 harg3 arg4 harg4 arg5 harg5 arg6 harg6 arg7 harg7 arg8 harg8 arg9 harg9 arg10 harg10 (BitVec.ofNat 32 ↑(i 1)) (BitVec.ofNat 32 ↑(i 2)) (run.sl.v0 i) (run.sl.v383 (F := Ideal) i arg3 arg4 arg10 X3 X4 X10) (run.sl.v405 (F := Ideal) i arg3 arg4 arg10 X3 X4 X10) (run.sl.v427 (F := Ideal) i arg3 arg4 arg10 X3 X4 X10) (run.sl.v449 (F := Ideal) i arg3 arg4 arg10 X3 X4 X10) (run.sl.v450 (F := Ideal) i arg3 arg4 arg10 X3 X4 X10) (run.sl.v471 (F := Ideal) i arg3 arg4 arg10 X3 X4 X10) (run.sl.v492 (F := Ideal) i arg3 arg4 arg10 X3 X4 X10) (run.sl.v513 (F := Ideal) i arg3 arg4 arg10 X3 X4 X10) (run.sl.v534 i) 0#32 (Scalar.muli (Scalar.maxsi (run.sl.v534 i) 0#32) 512#32) X3 X4 X5 X10 (arg8.view.writes (Elt Ideal) arg8.view.junk (run.sl.H8_12 (F := Ideal) i arg3 arg4 arg10 X3 X4 X10)) (arg9.view.writes (Elt Ideal) arg9.view.junk (⟨Rect.unit (s := S4x144x512) ![3, 0, 0] S1x144x512.size inb_S4x144x512_S1x144x512_3_0_0, run.sl.v533 (F := Ideal) i arg3 arg4 arg5 arg8 arg9 arg10 X3 X4 X5 X10⟩ :: run.sl.H9_8 (F := Ideal) i arg3 arg4 arg5 arg8 arg9 arg10 X3 X4 X5 X10)) (run.sl.v450 (F := Ideal) i arg3 arg4 arg10 X3 X4 X10, run.sl.v471 (F := Ideal) i arg3 arg4 arg10 X3 X4 X10, run.sl.v492 (F := Ideal) i arg3 arg4 arg10 X3 X4 X10, run.sl.v513 (F := Ideal) i arg3 arg4 arg10 X3 X4 X10, run.sl.v383 (F := Ideal) i arg3 arg4 arg10 X3 X4 X10, run.sl.v405 (F := Ideal) i arg3 arg4 arg10 X3 X4 X10, run.sl.v427 (F := Ideal) i arg3 arg4 arg10 X3 X4 X10, run.sl.v449 (F := Ideal) i arg3 arg4 arg10 X3 X4 X10) (k0_t2_loop i).trips).1 (k0_t3_loop i).trips).2.2 ++ ((st_k0_t2 (F := Ideal) 𝒱 c bd i arg3 harg3 arg4 harg4 arg5 harg5 arg6 harg6 arg7 harg7 arg8 harg8 arg9 harg9 arg10 harg10 (BitVec.ofNat 32 ↑(i 1)) (BitVec.ofNat 32 ↑(i 2)) (run.sl.v0 i) (run.sl.v383 (F := Ideal) i arg3 arg4 arg10 X3 X4 X10) (run.sl.v405 (F := Ideal) i arg3 arg4 arg10 X3 X4 X10) (run.sl.v427 (F := Ideal) i arg3 arg4 arg10 X3 X4 X10) (run.sl.v449 (F := Ideal) i arg3 arg4 arg10 X3 X4 X10) (run.sl.v450 (F := Ideal) i arg3 arg4 arg10 X3 X4 X10) (run.sl.v471 (F := Ideal) i arg3 arg4 arg10 X3 X4 X10) (run.sl.v492 (F := Ideal) i arg3 arg4 arg10 X3 X4 X10) (run.sl.v513 (F := Ideal) i arg3 arg4 arg10 X3 X4 X10) (run.sl.v534 i) 0#32 (Scalar.muli (Scalar.maxsi (run.sl.v534 i) 0#32) 512#32) X3 X4 X5 X10 (arg8.view.writes (Elt Ideal) arg8.view.junk (run.sl.H8_12 (F := Ideal) i arg3 arg4 arg10 X3 X4 X10)) (arg9.view.writes (Elt Ideal) arg9.view.junk (⟨Rect.unit (s := S4x144x512) ![3, 0, 0] S1x144x512.size inb_S4x144x512_S1x144x512_3_0_0, run.sl.v533 (F := Ideal) i arg3 arg4 arg5 arg8 arg9 arg10 X3 X4 X5 X10⟩ :: run.sl.H9_8 (F := Ideal) i arg3 arg4 arg5 arg8 arg9 arg10 X3 X4 X5 X10)) (run.sl.v450 (F := Ideal) i arg3 arg4 arg10 X3 X4 X10, run.sl.v471 (F := Ideal) i arg3 arg4 arg10 X3 X4 X10, run.sl.v492 (F := Ideal) i arg3 arg4 arg10 X3 X4 X10, run.sl.v513 (F := Ideal) i arg3 arg4 arg10 X3 X4 X10, run.sl.v383 (F := Ideal) i arg3 arg4 arg10 X3 X4 X10, run.sl.v405 (F := Ideal) i arg3 arg4 arg10 X3 X4 X10, run.sl.v427 (F := Ideal) i arg3 arg4 arg10 X3 X4 X10, run.sl.v449 (F := Ideal) i arg3 arg4 arg10 X3 X4 X10) (k0_t2_loop i).trips).2.2 ++ (⟨Rect.unit (s := S4x144x512) ![3, 0, 0] S1x144x512.size inb_S4x144x512_S1x144x512_3_0_0, run.sl.v533 (F := Ideal) i arg3 arg4 arg5 arg8 arg9 arg10 X3 X4 X5 X10⟩ :: run.sl.H9_8 (F := Ideal) i arg3 arg4 arg5 arg8 arg9 arg10 X3 X4 X5 X10)))) := by
    unfold run
    rfl
  have z : (st_k0_t3 (F := Ideal) 𝒱 c bd i arg3 harg3 arg4 harg4 arg5 harg5 arg6 harg6 arg7 harg7 arg8 harg8 arg9 harg9 arg10 harg10 (BitVec.ofNat 32 ↑(i 1)) (BitVec.ofNat 32 ↑(i 2)) (run.sl.v0 i) (run.sl.v383 (F := Ideal) i arg3 arg4 arg10 X3 X4 X10) (run.sl.v405 (F := Ideal) i arg3 arg4 arg10 X3 X4 X10) (run.sl.v427 (F := Ideal) i arg3 arg4 arg10 X3 X4 X10) (run.sl.v449 (F := Ideal) i arg3 arg4 arg10 X3 X4 X10) (run.sl.v450 (F := Ideal) i arg3 arg4 arg10 X3 X4 X10) (run.sl.v471 (F := Ideal) i arg3 arg4 arg10 X3 X4 X10) (run.sl.v492 (F := Ideal) i arg3 arg4 arg10 X3 X4 X10) (run.sl.v513 (F := Ideal) i arg3 arg4 arg10 X3 X4 X10) (run.sl.v534 i) 0#32 (Scalar.muli (Scalar.maxsi (run.sl.v534 i) 0#32) 512#32) (Scalar.addi (0#32) (Scalar.muli (Scalar.divsi (Scalar.subi (BitVec.ofNat 32 ↑(i 2)) 0#32) 1#32) 1#32)) X3 X4 X5 X10 (arg8.view.writes (Elt Ideal) arg8.view.junk ((st_k0_t2 (F := Ideal) 𝒱 c bd i arg3 harg3 arg4 harg4 arg5 harg5 arg6 harg6 arg7 harg7 arg8 harg8 arg9 harg9 arg10 harg10 (BitVec.ofNat 32 ↑(i 1)) (BitVec.ofNat 32 ↑(i 2)) (run.sl.v0 i) (run.sl.v383 (F := Ideal) i arg3 arg4 arg10 X3 X4 X10) (run.sl.v405 (F := Ideal) i arg3 arg4 arg10 X3 X4 X10) (run.sl.v427 (F := Ideal) i arg3 arg4 arg10 X3 X4 X10) (run.sl.v449 (F := Ideal) i arg3 arg4 arg10 X3 X4 X10) (run.sl.v450 (F := Ideal) i arg3 arg4 arg10 X3 X4 X10) (run.sl.v471 (F := Ideal) i arg3 arg4 arg10 X3 X4 X10) (run.sl.v492 (F := Ideal) i arg3 arg4 arg10 X3 X4 X10) (run.sl.v513 (F := Ideal) i arg3 arg4 arg10 X3 X4 X10) (run.sl.v534 i) 0#32 (Scalar.muli (Scalar.maxsi (run.sl.v534 i) 0#32) 512#32) X3 X4 X5 X10 (arg8.view.writes (Elt Ideal) arg8.view.junk (run.sl.H8_12 (F := Ideal) i arg3 arg4 arg10 X3 X4 X10)) (arg9.view.writes (Elt Ideal) arg9.view.junk (⟨Rect.unit (s := S4x144x512) ![3, 0, 0] S1x144x512.size inb_S4x144x512_S1x144x512_3_0_0, run.sl.v533 (F := Ideal) i arg3 arg4 arg5 arg8 arg9 arg10 X3 X4 X5 X10⟩ :: run.sl.H9_8 (F := Ideal) i arg3 arg4 arg5 arg8 arg9 arg10 X3 X4 X5 X10)) (run.sl.v450 (F := Ideal) i arg3 arg4 arg10 X3 X4 X10, run.sl.v471 (F := Ideal) i arg3 arg4 arg10 X3 X4 X10, run.sl.v492 (F := Ideal) i arg3 arg4 arg10 X3 X4 X10, run.sl.v513 (F := Ideal) i arg3 arg4 arg10 X3 X4 X10, run.sl.v383 (F := Ideal) i arg3 arg4 arg10 X3 X4 X10, run.sl.v405 (F := Ideal) i arg3 arg4 arg10 X3 X4 X10, run.sl.v427 (F := Ideal) i arg3 arg4 arg10 X3 X4 X10, run.sl.v449 (F := Ideal) i arg3 arg4 arg10 X3 X4 X10) (k0_t2_loop i).trips).2.1 ++ (run.sl.H8_12 (F := Ideal) i arg3 arg4 arg10 X3 X4 X10))) (arg9.view.writes (Elt Ideal) arg9.view.junk ((st_k0_t2 (F := Ideal) 𝒱 c bd i arg3 harg3 arg4 harg4 arg5 harg5 arg6 harg6 arg7 harg7 arg8 harg8 arg9 harg9 arg10 harg10 (BitVec.ofNat 32 ↑(i 1)) (BitVec.ofNat 32 ↑(i 2)) (run.sl.v0 i) (run.sl.v383 (F := Ideal) i arg3 arg4 arg10 X3 X4 X10) (run.sl.v405 (F := Ideal) i arg3 arg4 arg10 X3 X4 X10) (run.sl.v427 (F := Ideal) i arg3 arg4 arg10 X3 X4 X10) (run.sl.v449 (F := Ideal) i arg3 arg4 arg10 X3 X4 X10) (run.sl.v450 (F := Ideal) i arg3 arg4 arg10 X3 X4 X10) (run.sl.v471 (F := Ideal) i arg3 arg4 arg10 X3 X4 X10) (run.sl.v492 (F := Ideal) i arg3 arg4 arg10 X3 X4 X10) (run.sl.v513 (F := Ideal) i arg3 arg4 arg10 X3 X4 X10) (run.sl.v534 i) 0#32 (Scalar.muli (Scalar.maxsi (run.sl.v534 i) 0#32) 512#32) X3 X4 X5 X10 (arg8.view.writes (Elt Ideal) arg8.view.junk (run.sl.H8_12 (F := Ideal) i arg3 arg4 arg10 X3 X4 X10)) (arg9.view.writes (Elt Ideal) arg9.view.junk (⟨Rect.unit (s := S4x144x512) ![3, 0, 0] S1x144x512.size inb_S4x144x512_S1x144x512_3_0_0, run.sl.v533 (F := Ideal) i arg3 arg4 arg5 arg8 arg9 arg10 X3 X4 X5 X10⟩ :: run.sl.H9_8 (F := Ideal) i arg3 arg4 arg5 arg8 arg9 arg10 X3 X4 X5 X10)) (run.sl.v450 (F := Ideal) i arg3 arg4 arg10 X3 X4 X10, run.sl.v471 (F := Ideal) i arg3 arg4 arg10 X3 X4 X10, run.sl.v492 (F := Ideal) i arg3 arg4 arg10 X3 X4 X10, run.sl.v513 (F := Ideal) i arg3 arg4 arg10 X3 X4 X10, run.sl.v383 (F := Ideal) i arg3 arg4 arg10 X3 X4 X10, run.sl.v405 (F := Ideal) i arg3 arg4 arg10 X3 X4 X10, run.sl.v427 (F := Ideal) i arg3 arg4 arg10 X3 X4 X10, run.sl.v449 (F := Ideal) i arg3 arg4 arg10 X3 X4 X10) (k0_t2_loop i).trips).2.2 ++ (⟨Rect.unit (s := S4x144x512) ![3, 0, 0] S1x144x512.size inb_S4x144x512_S1x144x512_3_0_0, run.sl.v533 (F := Ideal) i arg3 arg4 arg5 arg8 arg9 arg10 X3 X4 X5 X10⟩ :: run.sl.H9_8 (F := Ideal) i arg3 arg4 arg5 arg8 arg9 arg10 X3 X4 X5 X10))) (st_k0_t2 (F := Ideal) 𝒱 c bd i arg3 harg3 arg4 harg4 arg5 harg5 arg6 harg6 arg7 harg7 arg8 harg8 arg9 harg9 arg10 harg10 (BitVec.ofNat 32 ↑(i 1)) (BitVec.ofNat 32 ↑(i 2)) (run.sl.v0 i) (run.sl.v383 (F := Ideal) i arg3 arg4 arg10 X3 X4 X10) (run.sl.v405 (F := Ideal) i arg3 arg4 arg10 X3 X4 X10) (run.sl.v427 (F := Ideal) i arg3 arg4 arg10 X3 X4 X10) (run.sl.v449 (F := Ideal) i arg3 arg4 arg10 X3 X4 X10) (run.sl.v450 (F := Ideal) i arg3 arg4 arg10 X3 X4 X10) (run.sl.v471 (F := Ideal) i arg3 arg4 arg10 X3 X4 X10) (run.sl.v492 (F := Ideal) i arg3 arg4 arg10 X3 X4 X10) (run.sl.v513 (F := Ideal) i arg3 arg4 arg10 X3 X4 X10) (run.sl.v534 i) 0#32 (Scalar.muli (Scalar.maxsi (run.sl.v534 i) 0#32) 512#32) X3 X4 X5 X10 (arg8.view.writes (Elt Ideal) arg8.view.junk (run.sl.H8_12 (F := Ideal) i arg3 arg4 arg10 X3 X4 X10)) (arg9.view.writes (Elt Ideal) arg9.view.junk (⟨Rect.unit (s := S4x144x512) ![3, 0, 0] S1x144x512.size inb_S4x144x512_S1x144x512_3_0_0, run.sl.v533 (F := Ideal) i arg3 arg4 arg5 arg8 arg9 arg10 X3 X4 X5 X10⟩ :: run.sl.H9_8 (F := Ideal) i arg3 arg4 arg5 arg8 arg9 arg10 X3 X4 X5 X10)) (run.sl.v450 (F := Ideal) i arg3 arg4 arg10 X3 X4 X10, run.sl.v471 (F := Ideal) i arg3 arg4 arg10 X3 X4 X10, run.sl.v492 (F := Ideal) i arg3 arg4 arg10 X3 X4 X10, run.sl.v513 (F := Ideal) i arg3 arg4 arg10 X3 X4 X10, run.sl.v383 (F := Ideal) i arg3 arg4 arg10 X3 X4 X10, run.sl.v405 (F := Ideal) i arg3 arg4 arg10 X3 X4 X10, run.sl.v427 (F := Ideal) i arg3 arg4 arg10 X3 X4 X10, run.sl.v449 (F := Ideal) i arg3 arg4 arg10 X3 X4 X10) (k0_t2_loop i).trips).1 (k0_t3_loop i).trips).2.2 = [] := by rw [trips3 i]; rfl
  rw [e, z, List.nil_append, eqw8, eq8, eqm0, eqc0, eqm1, eqc1, eqm2, eqc2, eqm3, eqc3]
  rfl

variable {D : Nums}

/-- The block's value: the softmax-weighted sum, in powers of two, over the keys up to the query's. -/
def Nums.o (D : Nums) (q0 k n : ℕ) (r : Fin 144) (q : ℕ) : ℝ :=
  (∑ s ∈ taken q0 k q, D.vr n r s * (2 : ℝ) ^ (D.l q0 n s q)) / (∑ s ∈ taken q0 k q, (2 : ℝ) ^ (D.l q0 n s q))

/-- What the loop's state says of each head's weighted sums. -/
theorem Inv4.sums {i : grid0.Coords} {arg8 : Memref sig .tc .vmem S4x2x256x512 .f32} {arg9 : Memref sig .tc .vmem S4x144x512 .f32} {k : ℕ} {acc} {f8 : BufTy.Contents (Elt Ideal) arg8.view.ty} {f9 : BufTy.Contents (Elt Ideal) arg9.view.ty}
    (hI : Inv4 i arg8 arg9 D k acc f8 f9) (n : Fin 4) :
    ∃ m, HSt D (512 * (i 2).val) n.val (taken (512 * (i 2).val) k) m (fun r q => arg9.view.read (Elt Ideal) f9 (ix3 n r q)) := by
  obtain ⟨h0, h1, h2, h3⟩ := hI
  match n with
  | ⟨0, _⟩ => exact ⟨_, h0.st⟩
  | ⟨1, _⟩ => exact ⟨_, h1.st⟩
  | ⟨2, _⟩ => exact ⟨_, h2.st⟩
  | ⟨3, _⟩ => exact ⟨_, h3.st⟩

/-- The state after the diagonal's two chunks. -/
theorem diag_inv (H : Holds (arg3 := arg3) (arg4 := arg4) (arg5 := arg5) (arg10 := arg10) D (i 1).val X3 X4 X5 X10) :
    Inv4 i arg8 arg9 D 0 (Mb0 i arg3 arg4 arg10 X3 X4 X10, Mb1 i arg3 arg4 arg10 X3 X4 X10, Mb2 i arg3 arg4 arg10 X3 X4 X10, Mb3 i arg3 arg4 arg10 X3 X4 X10, cmx (Ec0 i arg3 arg4 arg10 X3 X4 X10), cmx (Ec1 i arg3 arg4 arg10 X3 X4 X10), cmx (Ec2 i arg3 arg4 arg10 X3 X4 X10), cmx (Ec3 i arg3 arg4 arg10 X3 X4 X10)) (arg8.view.writes (Elt Ideal) arg8.view.junk (D8 i arg3 arg4 arg10 X3 X4 X10)) (arg9.view.writes (Elt Ideal) arg9.view.junk (W8 i arg3 arg4 arg5 arg9 arg10 X3 X4 X5 X10)) := by
  refine And.intro ?_ (And.intro ?_ (And.intro ?_ ?_))
  · with_reducible exact diag_inv_0 i arg3 arg4 arg5 arg8 arg9 arg10 X3 X4 X5 X10 H arg8.view.junk arg9.view.junk
  · with_reducible exact diag_inv_1 i arg3 arg4 arg5 arg8 arg9 arg10 X3 X4 X5 X10 H arg8.view.junk arg9.view.junk
  · with_reducible exact diag_inv_2 i arg3 arg4 arg5 arg8 arg9 arg10 X3 X4 X5 X10 H arg8.view.junk arg9.view.junk
  · with_reducible exact diag_inv_3 i arg3 arg4 arg5 arg8 arg9 arg10 X3 X4 X5 X10 H arg8.view.junk arg9.view.junk

theorem fin9_eq : fin9 𝒱 c bd i arg3 harg3 arg4 harg4 arg5 harg5 arg6 harg6 arg7 harg7 arg8 harg8 arg9 harg9 arg10 harg10 X3 X4 X5 X10 = arg9.view.writes (Elt Ideal) (arg9.view.writes (Elt Ideal) arg9.view.junk (W8 i arg3 arg4 arg5 arg9 arg10 X3 X4 X5 X10)) (st_k0_t2 (F := Ideal) 𝒱 c bd i arg3 harg3 arg4 harg4 arg5 harg5 arg6 harg6 arg7 harg7 arg8 harg8 arg9 harg9 arg10 harg10 (BitVec.ofNat 32 ↑(i 1)) (BitVec.ofNat 32 ↑(i 2)) (run.sl.v0 i) (cmx (Ec0 i arg3 arg4 arg10 X3 X4 X10)) (cmx (Ec1 i arg3 arg4 arg10 X3 X4 X10)) (cmx (Ec2 i arg3 arg4 arg10 X3 X4 X10)) (cmx (Ec3 i arg3 arg4 arg10 X3 X4 X10)) (Mb0 i arg3 arg4 arg10 X3 X4 X10) (Mb1 i arg3 arg4 arg10 X3 X4 X10) (Mb2 i arg3 arg4 arg10 X3 X4 X10) (Mb3 i arg3 arg4 arg10 X3 X4 X10) (run.sl.v534 i) 0#32 (Scalar.muli (Scalar.maxsi (run.sl.v534 i) 0#32) 512#32) X3 X4 X5 X10 (arg8.view.writes (Elt Ideal) arg8.view.junk (D8 i arg3 arg4 arg10 X3 X4 X10)) (arg9.view.writes (Elt Ideal) arg9.view.junk (W8 i arg3 arg4 arg5 arg9 arg10 X3 X4 X5 X10)) (Mb0 i arg3 arg4 arg10 X3 X4 X10, Mb1 i arg3 arg4 arg10 X3 X4 X10, Mb2 i arg3 arg4 arg10 X3 X4 X10, Mb3 i arg3 arg4 arg10 X3 X4 X10, cmx (Ec0 i arg3 arg4 arg10 X3 X4 X10), cmx (Ec1 i arg3 arg4 arg10 X3 X4 X10), cmx (Ec2 i arg3 arg4 arg10 X3 X4 X10), cmx (Ec3 i arg3 arg4 arg10 X3 X4 X10)) (k0_t2_loop i).trips).2.2 := by
  unfold fin9
  rw [View.writes_append]

theorem fin9_sums (H : Holds (arg3 := arg3) (arg4 := arg4) (arg5 := arg5) (arg10 := arg10) D (i 1).val X3 X4 X5 X10) (n : Fin 4) :
    ∃ m, HSt D (512 * (i 2).val) n.val (taken (512 * (i 2).val) (k0_t2_loop i).trips) m
      (fun r q => arg9.view.read (Elt Ideal) (fin9 𝒱 c bd i arg3 harg3 arg4 harg4 arg5 harg5 arg6 harg6 arg7 harg7 arg8 harg8 arg9 harg9 arg10 harg10 X3 X4 X5 X10) (ix3 n r q)) := by
  rw [fin9_eq]
  have hI := loop_inv 𝒱 c bd i arg3 harg3 arg4 harg4 arg5 harg5 arg6 harg6 arg7 harg7 arg8 harg8 arg9 harg9 arg10 harg10 (BitVec.ofNat 32 ↑(i 1)) (BitVec.ofNat 32 ↑(i 2)) (run.sl.v0 i) (cmx (Ec0 i arg3 arg4 arg10 X3 X4 X10)) (cmx (Ec1 i arg3 arg4 arg10 X3 X4 X10)) (cmx (Ec2 i arg3 arg4 arg10 X3 X4 X10)) (cmx (Ec3 i arg3 arg4 arg10 X3 X4 X10)) (Mb0 i arg3 arg4 arg10 X3 X4 X10) (Mb1 i arg3 arg4 arg10 X3 X4 X10) (Mb2 i arg3 arg4 arg10 X3 X4 X10) (Mb3 i arg3 arg4 arg10 X3 X4 X10) (run.sl.v534 i) 0#32 (Scalar.muli (Scalar.maxsi (run.sl.v534 i) 0#32) 512#32) X3 X4 X5 X10 H (arg8.view.writes (Elt Ideal) arg8.view.junk (D8 i arg3 arg4 arg10 X3 X4 X10)) (arg9.view.writes (Elt Ideal) arg9.view.junk (W8 i arg3 arg4 arg5 arg9 arg10 X3 X4 X5 X10)) (Mb0 i arg3 arg4 arg10 X3 X4 X10, Mb1 i arg3 arg4 arg10 X3 X4 X10, Mb2 i arg3 arg4 arg10 X3 X4 X10, Mb3 i arg3 arg4 arg10 X3 X4 X10, cmx (Ec0 i arg3 arg4 arg10 X3 X4 X10), cmx (Ec1 i arg3 arg4 arg10 X3 X4 X10), cmx (Ec2 i arg3 arg4 arg10 X3 X4 X10), cmx (Ec3 i arg3 arg4 arg10 X3 X4 X10)) (diag_inv i arg3 arg4 arg5 arg8 arg9 arg10 X3 X4 X5 X10 H) (k0_t2_loop i).trips le_rfl
  exact hI.sums n

theorem run_val (H : Holds (arg3 := arg3) (arg4 := arg4) (arg5 := arg5) (arg10 := arg10) D (i 1).val X3 X4 X5 X10)
    (h1 : ∀ n s, D.vr n (128 : Fin 144) s = 1)
    (f7 : BufTy.Contents (Elt Ideal) arg7.view.ty) (f8 : BufTy.Contents (Elt Ideal) arg8.view.ty) (f9 : BufTy.Contents (Elt Ideal) arg9.view.ty)
    (n : Fin 4) (r : Fin 128) (q j : Fin 512) (hj : j.val = 128 * n.val + r.val) :
    arg7.view.read (Elt Ideal) (arg7.view.writes (Elt Ideal) f7 ((run (F := Ideal) 𝒱 c bd i arg3 harg3 arg4 harg4 arg5 harg5 arg6 harg6 arg7 harg7 arg8 harg8 arg9 harg9 arg10 harg10 X3 X4 X5 X6).1 f8 f9 X10)) (ix2 q j)
      = (D.o (512 * (i 2).val) (i 2).val n.val (⟨r.val, by omega⟩ : Fin 144) q.val : EReal) := by
  have hq := q.isLt
  have hi : (i 2).val < 8 := (i 2).isLt
  rw [run_pieces, outs_read arg7 arg9 f7 _ (⟨q.val / 128, by omega⟩ : Fin 4) n (⟨q.val % 128, by omega⟩ : Fin 128) r q j
    (by show q.val = 128 * (q.val / 128) + q.val % 128; omega) hj]
  have hne : (taken (512 * (i 2).val) (k0_t2_loop i).trips q.val).Nonempty :=
    ⟨512 * (i 2).val, by simp only [taken, Finset.mem_filter, Finset.mem_range]; omega⟩
  obtain ⟨m, hS⟩ := fin9_sums 𝒱 c bd i arg3 harg3 arg4 harg4 arg5 harg5 arg6 harg6 arg7 harg7 arg8 harg8 arg9 harg9 arg10 harg10 X3 X4 X5 X10 H n
  have := (hS q).quot hne (⟨r.val, by omega⟩ : Fin 144) (128 : Fin 144) (h1 n.val)
  rw [trips2 i] at this
  exact this

end Run

end Cert.KernelIdeal.Attn
-- ==== Proof.AttnSums.lean ====
/-
  The cumulative sums of the log forget gates: sixteen blocks of 256 rows, each the block's running sums on top of the last
  row of the one before, in powers of two, one group of heads beside the other.
-/
module

public import Idealize.ShloMosaic.Lib.KernelVsHost
public import proofs.«01_k».proof.Proof.AttnOffs
public import proofs.«01_k».proof.Proof.AttnStep
public import proofs.«01_k».proof.Proof.KernelIdealRun

@[expose] public section

set_option maxRecDepth 8192

noncomputable section

namespace Cert.KernelIdeal.Attn

open Cert.KernelIdeal Cert.KernelIdeal.Gen
open Idealize.ShloMosaic Idealize.ShloMosaic.ValueIdx

/-- One where the column is at most the row. -/
def tri : FVec Ideal S256x256 .bf16 :=
  truncf .bf16 (select (cmpi .sle (iota .tc S256x256 32 [1] iota_S256x256_d1_w32) (iota .tc S256x256 32 [0] iota_S256x256_d0_w32))
    (broadcast S256x256 (Scalar.ofBits (F := Ideal) .f32 0x3F800000#32)) (broadcast S256x256 (Scalar.ofBits (F := Ideal) .f32 0x00000000#32))) bitsLt_bf16_f32

theorem tri_apply (s t : Fin 256) : tri (ix2 s t) = if t.val ≤ s.val then (1 : EReal) else 0 := by
  have h1 : (Scalar.ofBits (F := Ideal) .f32 0x3F800000#32 : EReal) = 1 := by
    show (FloatOps.ofBits .f32 0x3F800000#32 : Ideal .f32) = (1 : EReal)
    rw [Ideal.ofBits_def]; simp [Ideal.ofBits, Ideal.ieee, -EReal.coe_mul]; norm_num
  have h0 : (Scalar.ofBits (F := Ideal) .f32 0x00000000#32 : EReal) = 0 := Ideal.ofBits_zero_f32
  have e : tri (ix2 s t) = Scalar.select (BitVec.ofBool ((BitVec.ofNat 32 t.val).sle (BitVec.ofNat 32 s.val))) (1 : EReal) 0 := by
    rw [← h1, ← h0]
    show Scalar.select (BitVec.ofBool (BitVec.sle (iota .tc S256x256 32 [1] _ _) (iota .tc S256x256 32 [0] _ _))) _ _ = _
    rw [iota_single_apply, iota_single_apply]
    rfl
  have hs := s.isLt
  have ht := t.isLt
  have e2 : (BitVec.ofNat 32 t.val).sle (BitVec.ofNat 32 s.val) = decide (t.val ≤ s.val) := by
    have h1 : (BitVec.ofNat 32 s.val).toNat = s.val := by rw [BitVec.toNat_ofNat]; omega
    have h2 : (BitVec.ofNat 32 t.val).toNat = t.val := by rw [BitVec.toNat_ofNat]; omega
    rw [BitVec.sle_eq_decide, BitVec.toInt_eq_toNat_of_lt (by omega), BitVec.toInt_eq_toNat_of_lt (by omega), h1, h2]
    simp only [decide_eq_decide]
    omega
  rw [e, e2]
  by_cases h : t.val ≤ s.val
  · simp [h, Scalar.select]
  · simp [h, Scalar.select]

/-- The running sums of a block's columns, as the product with the triangle. -/
def run1 (y : FVec Ideal S256x128 .bf16) : FVec Ideal S256x128 .f32 :=
  matmul dot_S256x256_S256x128_S256x128_1_0_0_1_n_n none tri y (constant S256x128 .f32 0x00000000#32)

theorem run1_apply (y : FVec Ideal S256x128 .bf16) (Y : ℕ → ℝ) (j : Fin 128) (hY : ∀ t : Fin 256, y (ix2 t j) = (Y t.val : EReal)) (s : Fin 256) :
    run1 y (ix2 s j) = ((∑ t ∈ Finset.range (s.val + 1), Y t : ℝ) : EReal) := by
  refine (Ideal.matmul_plain_apply none _ _ _ s j).trans ?_
  rw [constant_apply]
  have hr : ∑ t ∈ Finset.range (s.val + 1), Y t = ∑ t : Fin 256, (if t.val ≤ s.val then Y t.val else 0) := by
    rw [Fin.sum_univ_eq_sum_range (fun t => if t ≤ s.val then Y t else 0) 256, ← Finset.sum_filter]
    congr 1
    have := s.isLt
    ext t
    simp only [Finset.mem_range, Finset.mem_filter]
    omega
  rw [hr, coe_sum]
  rw [Ideal.ofBits_zero_f32, zero_add]
  refine Finset.sum_congr rfl fun t _ => ?_
  rw [tri_apply, hY]
  by_cases h : t.val ≤ s.val
  · rw [if_pos h, if_pos h, one_mul]
  · rw [if_neg h, if_neg h, zero_mul, EReal.coe_zero]

theorem pay94_eq (a : FVec Ideal S1x128 .f32) (x : Vec Ideal S256x128 .f32) :
    k0_pay94 a x = addf (addf (addf (run1 (truncf .bf16 (shapeCast S256x128 x shapeCasts_S256x128_S256x128) bitsLt_bf16_f32))
        (run1 (truncf .bf16 (subf (shapeCast S256x128 x shapeCasts_S256x128_S256x128) (shapeCast S256x128 x shapeCasts_S256x128_S256x128)) bitsLt_bf16_f32)))
        (run1 (truncf .bf16 (subf (subf (shapeCast S256x128 x shapeCasts_S256x128_S256x128) (shapeCast S256x128 x shapeCasts_S256x128_S256x128))
          (subf (shapeCast S256x128 x shapeCasts_S256x128_S256x128) (shapeCast S256x128 x shapeCasts_S256x128_S256x128))) bitsLt_bf16_f32)))
      (broadcastTo S256x128 a broadcasts_S1x128_S256x128) := rfl

/-- A block's sums: the rows up to this one, on top of what came before. -/
theorem pay94_apply (a : FVec Ideal S1x128 .f32) (x : Vec Ideal S256x128 .f32) (j : Fin 128) (A : ℝ) (Y : ℕ → ℝ)
    (ha : a (ix2 (0 : Fin 1) j) = (A : EReal)) (hY : ∀ t : Fin 256, x (ix2 t j) = (Y t.val : EReal)) (s : Fin 256) :
    k0_pay94 a x (ix2 s j) = ((A + ∑ t ∈ Finset.range (s.val + 1), Y t : ℝ) : EReal) := by
  have z : ∀ t : Fin 256, (subf (F := Ideal) (φ := .f32) x x) (ix2 t j) = ((0 : ℝ) : EReal) := by
    intro t
    rw [subf_apply, hY, ← EReal.coe_sub, sub_self]
  have z2 : ∀ t : Fin 256, (subf (F := Ideal) (φ := .f32) (subf x x) (subf x x)) (ix2 t j) = ((0 : ℝ) : EReal) := by
    intro t
    rw [subf_apply, z, ← EReal.coe_sub, sub_self]
  rw [pay94_eq, shapeCast_self, addf_apply, addf_apply, addf_apply, run1_apply (truncf .bf16 x bitsLt_bf16_f32) Y j (fun t => hY t),
    run1_apply (truncf .bf16 (subf x x) bitsLt_bf16_f32) (fun _ => 0) j (fun t => z t), run1_apply (truncf .bf16 (subf (subf x x) (subf x x)) bitsLt_bf16_f32) (fun _ => 0) j (fun t => z2 t), broadcastTo_1b_ab_apply, ha]
  simp only [Finset.sum_const_zero, EReal.coe_zero, add_zero]
  rw [← EReal.coe_add, add_comm]

theorem pay95_apply (a : FVec Ideal S1x128 .f32) (x : Vec Ideal S256x128 .f32) (k : S256x128.Idx) :
    k0_pay95 a x k = k0_pay94 a x k * (((Real.log 2)⁻¹ : ℝ) : EReal) := rfl

theorem pay96_apply (a : FVec Ideal S1x128 .f32) (x : Vec Ideal S256x128 .f32) (s : Fin 256) (n : Fin 128) (hn : n.val < 4) :
    k0_pay96 a x (ix3 (0 : Fin 1) s n) = k0_pay95 a x (ix2 s (⟨80 + n.val, by omega⟩ : Fin 128)) := by
  unfold k0_pay96
  rw [shapeCast_ab_1ab_apply]
  refine dynamicRotate_apply 1 48#32 _ _ _ _ fun b => ?_
  match b with
  | ⟨0, _⟩ => rfl
  | ⟨1, _⟩ =>
    show 80 + n.val = (n.val + 128 - 48 % 128) % 128
    omega

theorem pay97_apply (a : FVec Ideal S1x128 .f32) (x : Vec Ideal S256x128 .f32) (s : Fin 256) (n : Fin 128) (hn : n.val < 4) :
    k0_pay97 a x (ix3 (0 : Fin 1) s n) = k0_pay95 a x (ix2 s (⟨84 + n.val, by omega⟩ : Fin 128)) := by
  unfold k0_pay97
  rw [shapeCast_ab_1ab_apply]
  refine dynamicRotate_apply 1 44#32 _ _ _ _ fun b => ?_
  match b with
  | ⟨0, _⟩ => rfl
  | ⟨1, _⟩ =>
    show 84 + n.val = (n.val + 128 - 44 % 128) % 128
    omega

theorem pay98_apply (a : FVec Ideal S1x128 .f32) (x : Vec Ideal S256x128 .f32) (j : Fin 128) :
    k0_pay98 a x (ix2 (0 : Fin 1) j) = k0_pay94 a x (ix2 (255 : Fin 256) j) := by
  unfold k0_pay98
  refine extractStridedSlice_apply _ _ _ _ _ fun b => ?_
  match b with
  | ⟨0, _⟩ => rfl
  | ⟨1, _⟩ => exact (Nat.zero_add _).symm

/-- The sum of the gates of lane `j` up to row `s`. -/
def cum (G : ℕ → ℕ → ℝ) (s j : ℕ) : ℝ := ∑ t ∈ Finset.range (s + 1), G t j

section Trip

variable (𝒱 : Variants) (c : Dev nD) (bd : Option 𝒱.V) (i : grid0.Coords) (arg3 : Memref sig .tc .vmem S512x512 .bf16) (harg3 : arg3.IsWhole) (arg4 : Memref sig .tc .vmem S4096x512 .bf16) (harg4 : arg4.IsWhole) (arg5 : Memref sig .tc .vmem S1x4x144x4096 .bf16) (harg5 : arg5.IsWhole) (arg6 : Memref sig .tc .vmem S4096x128 .f32) (harg6 : arg6.IsWhole) (arg7 : Memref sig .tc .vmem S512x512 .bf16) (harg7 : arg7.IsWhole) (arg8 : Memref sig .tc .vmem S4x2x256x512 .f32) (harg8 : arg8.IsWhole) (arg9 : Memref sig .tc .vmem S4x144x512 .f32) (harg9 : arg9.IsWhole) (arg10 : Memref sig .tc .vmem S2x4096x128 .f32) (harg10 : arg10.IsWhole)
  (h : k0_cond1 i = 1#1) (X6 : BufTy.Contents (Elt Ideal) arg6.view.ty)

/-- The rows of block `k`. -/
def rows (k : Fin k0_t1_loop.trips) : Vec Ideal S256x128 .f32 :=
  arg6.view.readAt (Elt Ideal) (Rect.unit (s := S4096x128) (k0_off1 k) S256x128.size (k0_off1_inb i k h)).toLoadRect X6

theorem tripR1_eq (k : Fin k0_t1_loop.trips) (a : FVec Ideal S1x128 .f32) :
    tripR_k0_t1 (F := Ideal) 𝒱 c bd i arg3 harg3 arg4 harg4 arg5 harg5 arg6 harg6 arg7 harg7 arg8 harg8 arg9 harg9 arg10 harg10 h X6 k a = k0_pay98 a (rows i arg6 h X6 k) := by
  unfold tripR_k0_t1 trip_k0_t1
  rfl

theorem tripL1_eq (k : Fin k0_t1_loop.trips) (a : FVec Ideal S1x128 .f32) :
    tripL_k0_t1 (F := Ideal) 𝒱 c bd i arg3 harg3 arg4 harg4 arg5 harg5 arg6 harg6 arg7 harg7 arg8 harg8 arg9 harg9 arg10 harg10 h X6 k a
      = [⟨Rect.unit (s := S2x4096x128) (k0_off3 k) S1x256x128.size (k0_off3_inb i k h), k0_pay97 a (rows i arg6 h X6 k)⟩,
         ⟨Rect.unit (s := S2x4096x128) (k0_off2 k) S1x256x128.size (k0_off2_inb i k h), k0_pay96 a (rows i arg6 h X6 k)⟩] := by
  unfold tripL_k0_t1 trip_k0_t1
  rfl

theorem rows_apply (G : ℕ → ℕ → ℝ) (hG : ∀ (s : Fin 4096) (j : Fin 128), arg6.view.read (Elt Ideal) X6 (ix2 s j) = (G s.val j.val : EReal))
    (k : Fin k0_t1_loop.trips) (t : Fin 256) (j : Fin 128) : rows i arg6 h X6 k (ix2 t j) = (G (256 * k.val + t.val) j.val : EReal) := by
  have hk : k.val < 16 := trips1 ▸ k.isLt
  have ht := t.isLt
  refine (readAt_at arg6 X6 _ (ix2 t j) (ix2 (⟨256 * k.val + t.val, by omega⟩ : Fin 4096) j) ?_).trans (hG _ _)
  intro x
  have e := congrFun (off1_eq k) x
  match x, e with
  | ⟨0, _⟩, e => exact (congrArg (· + t.val) e).symm
  | ⟨1, _⟩, e => exact ((congrArg (· + j.val) e).trans (Nat.zero_add _)).symm

/-- A write of one block of rows of one group, read back inside it. -/
theorem blk_mem (f : BufTy.Contents (Elt Ideal) arg10.view.ty) (L : List (View.Piece (Elt Ideal) S2x4096x128 .f32)) {off : Fin 3 → ℕ} (inb)
    (w : Vec Ideal S1x256x128 .f32) (g : Fin 2) (o : ℕ) (hoff : off = ![g.val, o, 0]) (s : Fin 4096) (t : Fin 256) (hs : s.val = o + t.val) (n : Fin 128) :
    arg10.view.read (Elt Ideal) (arg10.view.writes (Elt Ideal) f (⟨Rect.unit (s := S2x4096x128) off S1x256x128.size inb, w⟩ :: L)) (ix3 g s n)
      = w (ix3 (0 : Fin 1) t n) := by
  subst hoff
  refine View.read_writes_cons_unit_of_mem arg10.view f _ _ _ _ (ix3 (0 : Fin 1) t n) rfl fun x => ?_
  match x with
  | ⟨0, _⟩ => rfl
  | ⟨1, _⟩ => exact hs
  | ⟨2, _⟩ => exact (Nat.zero_add _).symm

/-- The same, read in the other group. -/
theorem blk_group (f : BufTy.Contents (Elt Ideal) arg10.view.ty) (L : List (View.Piece (Elt Ideal) S2x4096x128 .f32)) {off : Fin 3 → ℕ} (inb)
    (w : Vec Ideal S1x256x128 .f32) (g g' : Fin 2) (o : ℕ) (hoff : off = ![g.val, o, 0]) (hg : g' ≠ g) (s : Fin 4096) (n : Fin 128) :
    arg10.view.read (Elt Ideal) (arg10.view.writes (Elt Ideal) f (⟨Rect.unit (s := S2x4096x128) off S1x256x128.size inb, w⟩ :: L)) (ix3 g' s n)
      = arg10.view.read (Elt Ideal) (arg10.view.writes (Elt Ideal) f L) (ix3 g' s n) := by
  subst hoff
  refine View.read_writes_cons_unit_of_not_mem arg10.view f _ _ _ _ rfl (0 : Fin 3) ?_
  show g'.val < g.val ∨ g.val + 1 ≤ g'.val
  have : g'.val ≠ g.val := fun e => hg (Fin.ext e)
  omega

/-- The same, read in another row. -/
theorem blk_row (f : BufTy.Contents (Elt Ideal) arg10.view.ty) (L : List (View.Piece (Elt Ideal) S2x4096x128 .f32)) {off : Fin 3 → ℕ} (inb)
    (w : Vec Ideal S1x256x128 .f32) (g g' : Fin 2) (o : ℕ) (hoff : off = ![g.val, o, 0]) (s : Fin 4096) (hs : s.val < o) (n : Fin 128) :
    arg10.view.read (Elt Ideal) (arg10.view.writes (Elt Ideal) f (⟨Rect.unit (s := S2x4096x128) off S1x256x128.size inb, w⟩ :: L)) (ix3 g' s n)
      = arg10.view.read (Elt Ideal) (arg10.view.writes (Elt Ideal) f L) (ix3 g' s n) := by
  subst hoff
  refine View.read_writes_cons_unit_of_not_mem arg10.view f _ _ _ _ rfl (1 : Fin 3) ?_
  left
  exact hs

/-- What the buffer holds of a batch: in group `g`, row `s`, lane `n`, the sum of head `4g + n`'s gates up to `s`, in powers of two. -/
def SumsTo (G : ℕ → ℕ → ℝ) (r : ℕ) (b : S2x4096x128.Idx → EReal) : Prop :=
  ∀ (g : Fin 2) (s : Fin 4096) (n : Fin 128), s.val < r → n.val < 4 →
    b (ix3 g s n) = ((cum G s.val (80 + 4 * g.val + n.val) * (Real.log 2)⁻¹ : ℝ) : EReal)

theorem sums_loop (G : ℕ → ℕ → ℝ) (hG : ∀ (s : Fin 4096) (j : Fin 128), arg6.view.read (Elt Ideal) X6 (ix2 s j) = (G s.val j.val : EReal))
    (f10 : BufTy.Contents (Elt Ideal) arg10.view.ty) (k : ℕ) (hk : k ≤ k0_t1_loop.trips) :
    (∀ j : Fin 128, (st_k0_t1 (F := Ideal) 𝒱 c bd i arg3 harg3 arg4 harg4 arg5 harg5 arg6 harg6 arg7 harg7 arg8 harg8 arg9 harg9 arg10 harg10 h X6 (k0_pay93 (F := Ideal)) k).1 (ix2 (0 : Fin 1) j) = ((∑ t ∈ Finset.range (256 * k), G t j.val : ℝ) : EReal))
      ∧ SumsTo G (256 * k) (arg10.view.read (Elt Ideal) (arg10.view.writes (Elt Ideal) f10 (st_k0_t1 (F := Ideal) 𝒱 c bd i arg3 harg3 arg4 harg4 arg5 harg5 arg6 harg6 arg7 harg7 arg8 harg8 arg9 harg9 arg10 harg10 h X6 (k0_pay93 (F := Ideal)) k).2)) := by
  induction k with
  | zero =>
    refine And.intro (fun j => ?_) (fun g s n hs => absurd hs (by omega))
    rw [Nat.mul_zero, Finset.range_zero, Finset.sum_empty]
    exact Ideal.ofBits_zero_f32
  | succ k ih =>
    obtain ⟨ha, hb⟩ := ih (by omega)
    have hk16 : k < 16 := trips1 ▸ hk
    have e := st_k0_t1_succ (F := Ideal) 𝒱 c bd i arg3 harg3 arg4 harg4 arg5 harg5 arg6 harg6 arg7 harg7 arg8 harg8 arg9 harg9 arg10 harg10 h X6 (k0_pay93 (F := Ideal)) ⟨k, hk⟩
    rw [show k + 1 = (⟨k, hk⟩ : Fin k0_t1_loop.trips).val + 1 from rfl, e, tripR1_eq, tripL1_eq]
    show _ ∧ SumsTo G _ (arg10.view.read (Elt Ideal) (arg10.view.writes (Elt Ideal) f10 (_ :: _ :: (st_k0_t1 (F := Ideal) 𝒱 c bd i arg3 harg3 arg4 harg4 arg5 harg5 arg6 harg6 arg7 harg7 arg8 harg8 arg9 harg9 arg10 harg10 h X6 (k0_pay93 (F := Ideal)) k).2)))
    generalize (st_k0_t1 (F := Ideal) 𝒱 c bd i arg3 harg3 arg4 harg4 arg5 harg5 arg6 harg6 arg7 harg7 arg8 harg8 arg9 harg9 arg10 harg10 h X6 (k0_pay93 (F := Ideal)) k).1 = a at ha ⊢
    generalize (st_k0_t1 (F := Ideal) 𝒱 c bd i arg3 harg3 arg4 harg4 arg5 harg5 arg6 harg6 arg7 harg7 arg8 harg8 arg9 harg9 arg10 harg10 h X6 (k0_pay93 (F := Ideal)) k).2 = L at hb ⊢
    have hv : ∀ (s : Fin 256) (j : Fin 128), k0_pay94 a (rows i arg6 h X6 ⟨k, hk⟩) (ix2 s j) = ((cum G (256 * k + s.val) j.val : ℝ) : EReal) := by
      intro s j
      rw [pay94_apply a _ j _ (fun t => G (256 * k + t) j.val) (ha j) (fun t => rows_apply i arg6 h X6 G hG ⟨k, hk⟩ t j) s]
      unfold cum
      rw [show 256 * k + s.val + 1 = 256 * k + (s.val + 1) by omega, Finset.sum_range_add (fun t => G t j.val) (256 * k) (s.val + 1)]
    refine And.intro (fun j => ?_) (fun g s n hs hn => ?_)
    · refine (pay98_apply a _ j).trans ((hv _ j).trans ?_)
      rfl
    · have hs : s.val < 256 * (k + 1) := hs
      by_cases hr : s.val < 256 * k
      · rw [blk_row arg10 f10 _ _ _ (1 : Fin 2) g (256 * k) (off3_eq ⟨k, hk⟩) s hr n, blk_row arg10 f10 _ _ _ (0 : Fin 2) g (256 * k) (off2_eq ⟨k, hk⟩) s hr n]
        exact hb g s n hr hn
      · have hsv : s.val = 256 * k + (⟨s.val - 256 * k, by omega⟩ : Fin 256).val := by show s.val = 256 * k + (s.val - 256 * k); omega
        match g with
        | ⟨0, _⟩ =>
          rw [blk_group arg10 f10 _ _ _ (1 : Fin 2) (⟨0, by decide⟩ : Fin 2) (256 * k) (off3_eq ⟨k, hk⟩) (by decide) s n,
            blk_mem arg10 f10 _ _ _ (⟨0, by decide⟩ : Fin 2) (256 * k) (off2_eq ⟨k, hk⟩) s _ hsv n, pay96_apply _ _ _ n hn, pay95_apply, hv, ← EReal.coe_mul, ← hsv]
          rfl
        | ⟨1, _⟩ =>
          rw [blk_mem arg10 f10 _ _ _ (⟨1, by decide⟩ : Fin 2) (256 * k) (off3_eq ⟨k, hk⟩) s _ hsv n, pay97_apply _ _ _ n hn, pay95_apply, hv, ← EReal.coe_mul, ← hsv]
          rfl

include h in
/-- The sums of a batch, where the body renews them. -/
theorem sums_new (G : ℕ → ℕ → ℝ) (hG : ∀ (s : Fin 4096) (j : Fin 128), arg6.view.read (Elt Ideal) X6 (ix2 s j) = (G s.val j.val : EReal))
    (f10 : BufTy.Contents (Elt Ideal) arg10.view.ty) :
    SumsTo G 4096 (arg10.view.read (Elt Ideal) (sums 𝒱 c bd i arg3 harg3 arg4 harg4 arg5 harg5 arg6 harg6 arg7 harg7 arg8 harg8 arg9 harg9 arg10 harg10 X6 f10)) := by
  unfold sums
  rw [dif_pos h]
  have := (sums_loop 𝒱 c bd i arg3 harg3 arg4 harg4 arg5 harg5 arg6 harg6 arg7 harg7 arg8 harg8 arg9 harg9 arg10 harg10 h X6 G hG f10 k0_t1_loop.trips le_rfl).2
  rwa [show 256 * k0_t1_loop.trips = 4096 by rw [trips1]] at this

end Trip

end Cert.KernelIdeal.Attn
-- ==== Proof.AttnRef.lean ====
/-
  What the reference computes: the softmax over the keys up to the query of the scaled product plus the difference of the
  cumulative log gates, applied to the values, in numbers.
-/
module

public import proofs.«01_k».proof.Proof.Gen.ReferenceIdeal.Run
public import proofs.«01_k».proof.Proof.AttnMath
public import Idealize.ShloMosaic.Lib.ValueIdx
public import Idealize.ShloMosaic.Lib.IdealHost
public import Idealize.ShloMosaic.Lib.KernelVsHost
public import Idealize.ShloMosaic.Lib.Pointwise.Tactic
public import Idealize.ShloMosaic.Lib.Pointwise.IndexBridge
public import Idealize.ShloMosaic.Lib.Pipeline.Value

@[expose] public section

set_option maxRecDepth 8192

noncomputable section

namespace Cert.ReferenceIdeal.Attn

open Cert.ReferenceIdeal Cert.ReferenceIdeal.Gen
open Idealize.ShloMosaic Idealize.ShloMosaic.TcCoe

/-- The cumulative gates. -/
def sumsOf (g : FVec Ideal S8192x8 .f32) : FVec Ideal S2x4096x8 .f32 :=
  Host.reduceWindowAdd ![1, 4096, 1] ![1, 1, 1] ![0, 4095, 0] ![0, 0, 0] (shapeCast _ g shapeCasts_S8192x8_S2x4096x8) (broadcastInDim S_ ![] bcast_S_S_ (constant S_ .f32 0x00000000#32)) reduceWindows_S2x4096x8_S2x4096x8_w1s1p0_0_w4096s1p4095_0_w1s1p0_0 h_S_

/-- The masked logits. -/
def logitsOf (q k : FVec Ideal S8192x1024 .f32) (cs : FVec Ideal S2x4096x8 .f32) : FVec Ideal S2x8x4096x4096 .f32 :=
  select (broadcastInDim S2x8x4096x4096 ![2, 3] bcast_S4096x4096_S2x8x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) (subf (addf (Host.divf (Host.dotGeneral dot_S2x4096x8x128_S2x4096x8x128_S2x8x4096x4096_3_3_1_1_02_02 none (shapeCast _ q shapeCasts_S8192x1024_S2x4096x8x128) (shapeCast _ k shapeCasts_S8192x1024_S2x4096x8x128)) (broadcastInDim S2x8x4096x4096 ![] bcast_S_S2x8x4096x4096 (Host.sqrt (constant S_ .f32 0x43000000#32)))) (broadcastInDim S2x8x4096x4096 ![0, 1, 2, 3] bcast_S2x8x4096x1_S2x8x4096x4096_0_1_2_3 (broadcastInDim S2x8x4096x1 ![0, 1, 2] bcast_S2x8x4096_S2x8x4096x1_0_1_2 (transpose S2x8x4096 [0, 2, 1] cs transposes_S2x4096x8_S2x8x4096_0_2_1)))) (broadcastInDim S2x8x4096x4096 ![0, 1, 2, 3] bcast_S2x8x1x4096_S2x8x4096x4096_0_1_2_3 (broadcastInDim S2x8x1x4096 ![0, 1, 3] bcast_S2x8x4096_S2x8x1x4096_0_1_3 (transpose S2x8x4096 [0, 2, 1] cs transposes_S2x4096x8_S2x8x4096_0_2_1)))) (broadcastInDim S2x8x4096x4096 ![] bcast_S_S2x8x4096x4096 (id (constant S_ .f32 0xFF800000#32)))

/-- The row maxima. -/
def maxOf (L : FVec Ideal S2x8x4096x4096 .f32) : FVec Ideal S2x8x4096 .f32 :=
  maximumf (broadcastInDim S2x8x4096 ![] bcast_S_S2x8x4096 (constant S_ .f32 0xFF800000#32)) (Host.reduce FloatOps.maximumf L (constant S_ .f32 0xFF800000#32) reducesTo_S2x8x4096x4096_S2x8x4096_d3 h_S_)

/-- The exponentials. -/
def expOf (L : FVec Ideal S2x8x4096x4096 .f32) (M : FVec Ideal S2x8x4096 .f32) : FVec Ideal S2x8x4096x4096 .f32 :=
  Host.exp (subf L (broadcastInDim S2x8x4096x4096 ![0, 1, 2, 3] bcast_S2x8x4096x1_S2x8x4096x4096_0_1_2_3 (broadcastInDim S2x8x4096x1 ![0, 1, 2] bcast_S2x8x4096_S2x8x4096x1_0_1_2 M)))

/-- The weights. -/
def probOf (E : FVec Ideal S2x8x4096x4096 .f32) : FVec Ideal S2x8x4096x4096 .f32 :=
  Host.divf E (broadcastInDim S2x8x4096x4096 ![0, 1, 2, 3] bcast_S2x8x4096x1_S2x8x4096x4096_0_1_2_3 (broadcastInDim S2x8x4096x1 ![0, 1, 2] bcast_S2x8x4096_S2x8x4096x1_0_1_2 (Host.reduceAdd E (constant S_ .f32 0x00000000#32) reducesTo_S2x8x4096x4096_S2x8x4096_d3 h_S_)))

/-- The output. -/
def outOf (v : FVec Ideal S8192x1024 .f32) (P : FVec Ideal S2x8x4096x4096 .f32) : FVec Ideal S8192x1024 .bf16 :=
  truncf .bf16 (shapeCast _ (transpose S2x4096x8x128 [0, 3, 1, 2] (Host.dotGeneral dot_S2x4096x8x128_S2x8x4096x4096_S2x8x128x4096_1_3_3_2_02_01 none (shapeCast _ v shapeCasts_S8192x1024_S2x4096x8x128) P : FVec Ideal S2x8x128x4096 .f32) transposes_S2x8x128x4096_S2x4096x8x128_0_3_1_2) shapeCasts_S2x4096x8x128_S8192x1024) bitsLt_bf16_f32

theorem res_eq (m : (ℓ : Loc nD τ sig) → Buf (Elt Ideal) ℓ) (c : Dev nD) :
    Value.res_main_v37 (F := Ideal) m c = outOf (m ((c.tc : Thread nD τ).loc main_arg2))
      (probOf (expOf (logitsOf (m ((c.tc : Thread nD τ).loc main_arg0)) (m ((c.tc : Thread nD τ).loc main_arg1)) (sumsOf (m ((c.tc : Thread nD τ).loc main_arg3))))
        (maxOf (logitsOf (m ((c.tc : Thread nD τ).loc main_arg0)) (m ((c.tc : Thread nD τ).loc main_arg1)) (sumsOf (m ((c.tc : Thread nD τ).loc main_arg3))))))) := by
  unfold Value.res_main_v37
  rfl

theorem qk_apply (L : FVec Ideal S2x4096x8x128 .f32) (R : FVec Ideal S2x4096x8x128 .f32) (b : Fin 2) (h : Fin 8) (t s : Fin 4096) :
    (Host.dotGeneral dot_S2x4096x8x128_S2x4096x8x128_S2x8x4096x4096_3_3_1_1_02_02 none L R : FVec Ideal S2x8x4096x4096 .f32) (ix4 b h t s)
      = ∑ k : Fin 128, L (ix4 b t h k) * R (ix4 b s h k) := by
  refine (Ideal.dotGeneral_apply dot_S2x4096x8x128_S2x4096x8x128_S2x8x4096x4096_3_3_1_1_02_02 _ _ L R _).trans ?_
  rw [← Equiv.sum_comp (ValueIdx.contrEquiv1 dot_S2x4096x8x128_S2x4096x8x128_S2x8x4096x4096_3_3_1_1_02_02 128 rfl rfl).symm]
  refine Finset.sum_congr rfl fun k _ => ?_
  have hk := ValueIdx.contrEquiv1_symm_val dot_S2x4096x8x128_S2x4096x8x128_S2x8x4096x4096_3_3_1_1_02_02 128 rfl rfl k
  refine congrArg₂ (· * ·) (congrArg L ?_) (congrArg R ?_)
  · funext a; apply Fin.ext
    match a with
    | ⟨0, _⟩ => rfl
    | ⟨1, _⟩ => rfl
    | ⟨2, _⟩ => rfl
    | ⟨3, _⟩ => exact hk
  · funext a; apply Fin.ext
    match a with
    | ⟨0, _⟩ => rfl
    | ⟨1, _⟩ => rfl
    | ⟨2, _⟩ => rfl
    | ⟨3, _⟩ => exact hk

theorem vp_apply (L : FVec Ideal S2x4096x8x128 .f32) (R : FVec Ideal S2x8x4096x4096 .f32) (b : Fin 2) (h : Fin 8) (r : Fin 128) (t : Fin 4096) :
    (Host.dotGeneral dot_S2x4096x8x128_S2x8x4096x4096_S2x8x128x4096_1_3_3_2_02_01 none L R : FVec Ideal S2x8x128x4096 .f32) (ix4 b h r t)
      = ∑ k : Fin 4096, L (ix4 b k h r) * R (ix4 b h t k) := by
  refine (Ideal.dotGeneral_apply dot_S2x4096x8x128_S2x8x4096x4096_S2x8x128x4096_1_3_3_2_02_01 _ _ L R _).trans ?_
  rw [← Equiv.sum_comp (ValueIdx.contrEquiv1 dot_S2x4096x8x128_S2x8x4096x4096_S2x8x128x4096_1_3_3_2_02_01 4096 rfl rfl).symm]
  refine Finset.sum_congr rfl fun k _ => ?_
  have hk := ValueIdx.contrEquiv1_symm_val dot_S2x4096x8x128_S2x8x4096x4096_S2x8x128x4096_1_3_3_2_02_01 4096 rfl rfl k
  refine congrArg₂ (· * ·) (congrArg L ?_) (congrArg R ?_)
  · funext a; apply Fin.ext
    match a with
    | ⟨0, _⟩ => rfl
    | ⟨1, _⟩ => exact hk
    | ⟨2, _⟩ => rfl
    | ⟨3, _⟩ => rfl
  · funext a; apply Fin.ext
    match a with
    | ⟨0, _⟩ => rfl
    | ⟨1, _⟩ => rfl
    | ⟨2, _⟩ => rfl
    | ⟨3, _⟩ => exact hk

/-- The heads of a row. -/
theorem heads_apply (x : FVec Ideal S8192x1024 .f32) (b : Fin 2) (t : Fin 4096) (h : Fin 8) (r : Fin 128) (i : Fin 8192) (j : Fin 1024)
    (hi : i.val = 4096 * b.val + t.val) (hj : j.val = 128 * h.val + r.val) :
    shapeCast S2x4096x8x128 x shapeCasts_S8192x1024_S2x4096x8x128 (ix4 b t h r) = x (ix2 i j) := by
  refine shapeCast_apply x _ _ _ ?_
  rw [Shape.rowMajor_val_two, Shape.rowMajor_val_four]
  show i.val * 1024 + j.val = ((b.val * 4096 + t.val) * 8 + h.val) * 128 + r.val
  omega

/-- The rows of the heads. -/
theorem rows_apply (x : FVec Ideal S2x4096x8x128 .f32) (b : Fin 2) (t : Fin 4096) (h : Fin 8) (r : Fin 128) (i : Fin 8192) (j : Fin 1024)
    (hi : i.val = 4096 * b.val + t.val) (hj : j.val = 128 * h.val + r.val) :
    shapeCast S8192x1024 x shapeCasts_S2x4096x8x128_S8192x1024 (ix2 i j) = x (ix4 b t h r) := by
  refine shapeCast_apply x _ _ _ ?_
  rw [Shape.rowMajor_val_two, Shape.rowMajor_val_four]
  show ((b.val * 4096 + t.val) * 8 + h.val) * 128 + r.val = i.val * 1024 + j.val
  omega

theorem out_apply (v : FVec Ideal S8192x1024 .f32) (P : FVec Ideal S2x8x4096x4096 .f32) (b : Fin 2) (t : Fin 4096) (h : Fin 8) (r : Fin 128)
    (i : Fin 8192) (j : Fin 1024) (hi : i.val = 4096 * b.val + t.val) (hj : j.val = 128 * h.val + r.val) :
    outOf v P (ix2 i j) = ∑ s : Fin 4096, v (ix2 (⟨4096 * b.val + s.val, by omega⟩ : Fin 8192) j) * P (ix4 b h t s) := by
  unfold outOf
  rw [ValueIdx.truncf_apply]
  refine (rows_apply _ b t h r i j hi hj).trans ?_
  refine Eq.trans ?_ ((vp_apply (shapeCast S2x4096x8x128 v shapeCasts_S8192x1024_S2x4096x8x128) P b h r t).trans ?_)
  · unfold transpose
    refine congrArg _ ?_
    funext a
    match a with
    | ⟨0, _⟩ => rfl
    | ⟨1, _⟩ => rfl
    | ⟨2, _⟩ => rfl
    | ⟨3, _⟩ => rfl
  · refine Finset.sum_congr rfl fun s _ => ?_
    rw [heads_apply v b s h r ⟨4096 * b.val + s.val, by omega⟩ j rfl hj]

theorem prob_apply (E : FVec Ideal S2x8x4096x4096 .f32) (b : Fin 2) (t : Fin 4096) (h : Fin 8) (s : Fin 4096) :
    probOf E (ix4 b h t s) = Ideal.div (E (ix4 b h t s)) (∑ s' : Fin 4096, E (ix4 b h t s')) := by
  unfold probOf
  pointwise
  refine congrArg _ ?_
  have hr : Shape.Reduces S2x8x4096x4096 [3] S2x8x4096 := by decide
  refine (Ideal.hostReduceAdd_single reducesTo_S2x8x4096x4096_S2x8x4096_d3 hr E _ (ix3 b h t)).trans ?_
  rw [ValueIdx.constant_apply, Ideal.ofBits_zero_f32, zero_add]
  refine Finset.sum_congr rfl fun s' _ => congrArg E ?_
  funext x
  match x with
  | ⟨0, _⟩ => rfl
  | ⟨1, _⟩ => rfl
  | ⟨2, _⟩ => rfl
  | ⟨3, _⟩ => rfl

theorem exp_apply (L : FVec Ideal S2x8x4096x4096 .f32) (M : FVec Ideal S2x8x4096 .f32) (b : Fin 2) (t : Fin 4096) (h : Fin 8) (s : Fin 4096) :
    expOf L M (ix4 b h t s) = Ideal.exp (L (ix4 b h t s) - M (ix3 b h t)) := by
  unfold expOf
  pointwise

theorem max_apply (L : FVec Ideal S2x8x4096x4096 .f32) (b : Fin 2) (t : Fin 4096) (h : Fin 8) :
    maxOf L (ix3 b h t) = (Finset.univ : Finset (Fin 4096)).fold max ⊥ (fun s => L (ix4 b h t s)) := by
  have hr : Shape.Reduces S2x8x4096x4096 [3] S2x8x4096 := by decide
  have e : Host.reduce FloatOps.maximumf L (constant (F := Ideal) S_ .f32 0xFF800000#32) reducesTo_S2x8x4096x4096_S2x8x4096_d3 h_S_
      = multiReduction .maximumf [3] S2x8x4096 L 0xFF800000#32 hr (by decide) (by decide) :=
    hostReduce_maximumf_eq_multiReduction L _ _ _ hr (by decide) (by decide)
  have hb : Ideal.ofBits .f32 0xFF800000#32 = ⊥ := by
    simp [Ideal.ofBits, Ideal.ieee]
  unfold maxOf
  rw [e, ValueIdx.maximumf_apply, ValueIdx.broadcastInDim_scalar_apply, ValueIdx.constant_apply, hb]
  refine (bot_sup_eq _).trans ?_
  refine (Ideal.multiReduction_maximumf_single L 0xFF800000#32 hr _ _ (ix3 b h t)).trans ?_
  rw [Ideal.ofBits_def, hb]
  refine congrArg (fun f => (Finset.univ : Finset (Fin 4096)).fold max ⊥ f) (funext fun s => congrArg L ?_)
  funext x
  match x with
  | ⟨0, _⟩ => rfl
  | ⟨1, _⟩ => rfl
  | ⟨2, _⟩ => rfl
  | ⟨3, _⟩ => rfl

theorem foldl_add_coe {α : Type} (f : α → EReal) (r : α → ℝ) (hf : ∀ n, f n = (r n : EReal)) (l : List α) (v : ℝ) :
    l.foldl (fun e n => e + f n) (v : EReal) = ((v + (l.map r).sum : ℝ) : EReal) := by
  induction l generalizing v with
  | nil => simp
  | cons a l ih =>
    rw [List.foldl_cons, hf, ← EReal.coe_add, ih, List.map_cons, List.sum_cons, add_assoc]

theorem window_sum (f : ℕ → ℝ) (t : ℕ) (ht : t < 4096) :
    ∑ n ∈ Finset.range 4096, (if 4095 ≤ t + n then f (t + n - 4095) else 0) = ∑ u ∈ Finset.range (t + 1), f u := by
  rw [← Finset.sum_filter]
  refine Finset.sum_bij (fun n _ => t + n - 4095) ?_ ?_ ?_ ?_
  · intro n hn
    simp only [Finset.mem_filter, Finset.mem_range] at hn ⊢
    omega
  · intro n hn n' hn' e
    simp only [Finset.mem_filter, Finset.mem_range] at hn hn'
    omega
  · intro u hu
    simp only [Finset.mem_range] at hu
    refine ⟨u + 4095 - t, ?_, ?_⟩
    · simp only [Finset.mem_filter, Finset.mem_range]
      omega
    · omega
  · intro n hn
    rfl

theorem numel_win : (⟨3, ![1, 4096, 1]⟩ : Shape).numel = 4096 := by decide

theorem symm_win (n : Fin (⟨3, ![1, 4096, 1]⟩ : Shape).numel) :
    (⟨3, ![1, 4096, 1]⟩ : Shape).rowMajor.symm n = ValueIdx.ix3 (0 : Fin 1) (n.cast numel_win) (0 : Fin 1) := by
  rw [Equiv.symm_apply_eq]
  refine Fin.ext ?_
  rw [Shape.rowMajor_val_three]
  show n.val = (0 * 4096 + n.val) * 1 + 0
  omega

theorem cast_apply (g : FVec Ideal S8192x8 .f32) (b : Fin 2) (t : Fin 4096) (h : Fin 8) :
    shapeCast S2x4096x8 g shapeCasts_S8192x8_S2x4096x8 (ix3 b t h) = g (ix2 (⟨4096 * b.val + t.val, by omega⟩ : Fin 8192) h) := by
  refine shapeCast_apply g _ _ _ ?_
  rw [Shape.rowMajor_val_two, Shape.rowMajor_val_three]
  show (4096 * b.val + t.val) * 8 + h.val = (b.val * 4096 + t.val) * 8 + h.val
  omega

theorem sums_apply (g : FVec Ideal S8192x8 .f32) (G : ℕ → ℕ → ℝ) (hg : ∀ (i : Fin 8192) (j : Fin 8), g (ix2 i j) = (G i.val j.val : EReal))
    (b : Fin 2) (t : Fin 4096) (h : Fin 8) :
    sumsOf g (ix3 b t h) = ((∑ u ∈ Finset.range (t.val + 1), G (4096 * b.val + u) h.val : ℝ) : EReal) := by
  have hv : broadcastInDim S_ ![] bcast_S_S_ (constant (F := Ideal) S_ .f32 0x00000000#32) (Shape.Idx.first h_S_) = ((0 : ℝ) : EReal) := by
    rw [ValueIdx.broadcastInDim_scalar_apply, ValueIdx.constant_apply, Ideal.ofBits_zero_f32]
    rfl
  unfold sumsOf Host.reduceWindowAdd
  show Ideal.hostReduceWindowAdd _ _ _ _ _ _ _ _ = _
  unfold Ideal.hostReduceWindowAdd Host.reduceWindow
  rw [hv]
  refine (foldl_add_coe _ (fun n => if 4095 ≤ t.val + n.val then G (4096 * b.val + (t.val + n.val - 4095)) h.val else 0) (fun n => ?_) _ 0).trans ?_
  · have hn : n.val < 4096 := lt_of_lt_of_eq n.isLt numel_win
    have h0 : ((⟨3, ![1, 4096, 1]⟩ : Shape).rowMajor.symm n 0).val = 0 := by rw [symm_win]; rfl
    have h1 : ((⟨3, ![1, 4096, 1]⟩ : Shape).rowMajor.symm n 1).val = n.val := by rw [symm_win]; rfl
    have h2 : ((⟨3, ![1, 4096, 1]⟩ : Shape).rowMajor.symm n 2).val = 0 := by rw [symm_win]; rfl
    dsimp only
    split
    · next hin =>
      have h3 := hin 1
      change 4095 ≤ t.val * 1 + ((⟨3, ![1, 4096, 1]⟩ : Shape).rowMajor.symm n 1).val
        ∧ t.val * 1 + ((⟨3, ![1, 4096, 1]⟩ : Shape).rowMajor.symm n 1).val - 4095 < 4096 at h3
      rw [h1] at h3
      rw [if_pos (by omega)]
      refine Eq.trans (congrArg _ ?_) ((cast_apply g b ⟨t.val + n.val - 4095, by omega⟩ h).trans (hg _ _))
      refine funext fun a => Fin.ext ?_
      match a with
      | ⟨0, _⟩ =>
        show b.val * 1 + ((⟨3, ![1, 4096, 1]⟩ : Shape).rowMajor.symm n 0).val - 0 = b.val
        rw [h0]; omega
      | ⟨1, _⟩ =>
        show t.val * 1 + ((⟨3, ![1, 4096, 1]⟩ : Shape).rowMajor.symm n 1).val - 4095 = t.val + n.val - 4095
        rw [h1]; omega
      | ⟨2, _⟩ =>
        show h.val * 1 + ((⟨3, ![1, 4096, 1]⟩ : Shape).rowMajor.symm n 2).val - 0 = h.val
        rw [h2]; omega
    · next hin =>
      rw [if_neg fun hle => hin fun a => by
        match a with
        | ⟨0, _⟩ =>
          show 0 ≤ b.val * 1 + ((⟨3, ![1, 4096, 1]⟩ : Shape).rowMajor.symm n 0).val
            ∧ b.val * 1 + ((⟨3, ![1, 4096, 1]⟩ : Shape).rowMajor.symm n 0).val - 0 < 2
          rw [h0]; omega
        | ⟨1, _⟩ =>
          show 4095 ≤ t.val * 1 + ((⟨3, ![1, 4096, 1]⟩ : Shape).rowMajor.symm n 1).val
            ∧ t.val * 1 + ((⟨3, ![1, 4096, 1]⟩ : Shape).rowMajor.symm n 1).val - 4095 < 4096
          rw [h1]; omega
        | ⟨2, _⟩ =>
          show 0 ≤ h.val * 1 + ((⟨3, ![1, 4096, 1]⟩ : Shape).rowMajor.symm n 2).val
            ∧ h.val * 1 + ((⟨3, ![1, 4096, 1]⟩ : Shape).rowMajor.symm n 2).val - 0 < 8
          rw [h2]; omega]
  · refine congrArg _ ?_
    rw [zero_add, ← window_sum (fun u => G (4096 * b.val + u) h.val) t.val t.isLt, ← Fin.sum_univ_eq_sum_range (fun n => if 4095 ≤ t.val + n then G (4096 * b.val + (t.val + n - 4095)) h.val else 0),
      ← List.sum_ofFn, List.ofFn_eq_map]
    rfl

theorem logits_apply (q k : FVec Ideal S8192x1024 .f32) (cs : FVec Ideal S2x4096x8 .f32) (b : Fin 2) (t : Fin 4096) (h : Fin 8) (s : Fin 4096) :
    logitsOf q k cs (ix4 b h t s) = if s.val ≤ t.val then
      Ideal.div (∑ d : Fin 128, q (ix2 (⟨4096 * b.val + t.val, by omega⟩ : Fin 8192) (⟨128 * h.val + d.val, by omega⟩ : Fin 1024))
          * k (ix2 (⟨4096 * b.val + s.val, by omega⟩ : Fin 8192) (⟨128 * h.val + d.val, by omega⟩ : Fin 1024))) ((Real.sqrt 128 : ℝ) : EReal)
        + cs (ix3 b t h) - cs (ix3 b s h) else ⊥ := by
  unfold logitsOf
  pointwise
  have hs : Ideal.sqrt (Ideal.ofBits FTy.f32 0x43000000#32) = ((Real.sqrt 128 : ℝ) : EReal) := by
    have e : Ideal.ofBits FTy.f32 0x43000000#32 = ((128 : ℝ) : EReal) := by
      simp [Ideal.ofBits, Ideal.ieee, -EReal.coe_mul]; norm_num
    rw [e, Ideal.sqrt_coe, if_neg (by norm_num)]
  have hb : id (constant (F := Ideal) S_ FTy.f32 0xFF800000#32) ix0 = (⊥ : EReal) := by
    show FloatOps.ofBits (F := Ideal) .f32 0xFF800000#32 = (⊥ : EReal)
    rw [Ideal.ofBits_def]; simp [Ideal.ofBits, Ideal.ieee]
  have hd : Ideal.matmul dot_S2x4096x8x128_S2x4096x8x128_S2x8x4096x4096_3_3_1_1_02_02
      (shapeCast S2x4096x8x128 q shapeCasts_S8192x1024_S2x4096x8x128) (shapeCast S2x4096x8x128 k shapeCasts_S8192x1024_S2x4096x8x128) (fun _ => 0) (ix4 b h t s)
      = ∑ d : Fin 128, q (ix2 (⟨4096 * b.val + t.val, by omega⟩ : Fin 8192) (⟨128 * h.val + d.val, by omega⟩ : Fin 1024))
          * k (ix2 (⟨4096 * b.val + s.val, by omega⟩ : Fin 8192) (⟨128 * h.val + d.val, by omega⟩ : Fin 1024)) := by
    refine (qk_apply _ _ b h t s).trans (Finset.sum_congr rfl fun d _ => ?_)
    rw [heads_apply q b t h d ⟨4096 * b.val + t.val, by omega⟩ ⟨128 * h.val + d.val, by omega⟩ rfl rfl,
      heads_apply k b s h d ⟨4096 * b.val + s.val, by omega⟩ ⟨128 * h.val + d.val, by omega⟩ rfl rfl]
  rw [hs, hb, hd]
  have hc : IntOp.cmpi CmpIPredicate.sle (BitVec.ofNat 32 s.val) (BitVec.ofNat 32 t.val) = BitVec.ofBool (decide (s.val ≤ t.val)) := by
    have h1 : (BitVec.ofNat 32 s.val).toInt = s.val := by
      rw [BitVec.toInt_eq_toNat_of_lt] <;> rw [BitVec.toNat_ofNat, Nat.mod_eq_of_lt] <;> omega
    have h2 : (BitVec.ofNat 32 t.val).toInt = t.val := by
      rw [BitVec.toInt_eq_toNat_of_lt] <;> rw [BitVec.toNat_ofNat, Nat.mod_eq_of_lt] <;> omega
    show BitVec.ofBool (BitVec.sle _ _) = _
    unfold BitVec.sle
    rw [h1, h2]
    simp
  rw [hc]
  by_cases hst : s.val ≤ t.val
  · rw [if_pos hst, decide_eq_true hst]; rfl
  · rw [if_neg hst, decide_eq_false hst]; rfl

end Cert.ReferenceIdeal.Attn
-- ==== Proof.AttnRefValue.lean ====
/-
  The reference's value in real numbers: at a query, the quotient of the two exponential sums over the keys up to it.
-/
module

public import proofs.«01_k».proof.Proof.AttnRef

@[expose] public section

set_option maxRecDepth 8192

noncomputable section

namespace Cert.ReferenceIdeal.Attn

open Cert.ReferenceIdeal Cert.ReferenceIdeal.Gen
open Idealize.ShloMosaic Idealize.ShloMosaic.TcCoe

/-- The logit of key `s` at query `t`, of head `h` in sequence `b`. -/
def logit (Q K G : ℕ → ℕ → ℝ) (b h t s : ℕ) : ℝ :=
  (∑ d : Fin 128, Q (4096 * b + t) (128 * h + d.val) * K (4096 * b + s) (128 * h + d.val)) / Real.sqrt 128
    + ((∑ u ∈ Finset.range (t + 1), G (4096 * b + u) h) - ∑ u ∈ Finset.range (s + 1), G (4096 * b + u) h)

/-- The attention's value. -/
def value (Q K V G : ℕ → ℕ → ℝ) (b h t j : ℕ) : ℝ :=
  (∑ s ∈ Finset.range (t + 1), V (4096 * b + s) j * Real.exp (logit Q K G b h t s))
    / ∑ s ∈ Finset.range (t + 1), Real.exp (logit Q K G b h t s)

theorem coe_sum' {α : Type} (s : Finset α) (f : α → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem logits_value (q k : FVec Ideal S8192x1024 .f32) (g : FVec Ideal S8192x8 .f32) (Q K G : ℕ → ℕ → ℝ)
    (hq : ∀ (i : Fin 8192) (j : Fin 1024), q (ix2 i j) = (Q i.val j.val : EReal))
    (hk : ∀ (i : Fin 8192) (j : Fin 1024), k (ix2 i j) = (K i.val j.val : EReal))
    (hg : ∀ (i : Fin 8192) (j : Fin 8), g (ix2 i j) = (G i.val j.val : EReal))
    (b : Fin 2) (t : Fin 4096) (h : Fin 8) (s : Fin 4096) :
    logitsOf q k (sumsOf g) (ix4 b h t s) = if s.val ≤ t.val then (logit Q K G b.val h.val t.val s.val : EReal) else ⊥ := by
  rw [logits_apply, sums_apply g G hg, sums_apply g G hg]
  by_cases hst : s.val ≤ t.val
  · rw [if_pos hst, if_pos hst]
    have hs : Real.sqrt 128 ≠ 0 := by positivity
    simp only [hq, hk, ← EReal.coe_mul]
    rw [coe_sum', Ideal.div_coe hs, ← EReal.coe_mul, ← EReal.coe_add, ← EReal.coe_sub]
    refine congrArg _ ?_
    unfold logit
    ring
  · rw [if_neg hst, if_neg hst]

/-- The largest of finitely many numbers, at least one of them a real number and none `⊤`, is a real number. -/
theorem fold_real (f : Fin 4096 → EReal) (i : Fin 4096) (r : ℝ) (hi : f i = (r : EReal)) (hf : ∀ s, f s ≠ ⊤) :
    ∃ m : ℝ, (Finset.univ : Finset (Fin 4096)).fold max ⊥ f = (m : EReal) := by
  have h1 : (Finset.univ : Finset (Fin 4096)).fold max ⊥ f < ⊤ := by
    rw [Finset.fold_max_lt]
    exact ⟨bot_lt_top, fun s _ => lt_top_iff_ne_top.2 (hf s)⟩
  have h2 : (⊥ : EReal) < (Finset.univ : Finset (Fin 4096)).fold max ⊥ f := by
    rw [Finset.lt_fold_max]
    exact Or.inr ⟨i, Finset.mem_univ _, by rw [hi]; exact EReal.bot_lt_coe r⟩
  exact ⟨_, (EReal.coe_toReal h1.ne h2.ne').symm⟩

/-- A sum over all keys of what is zero after the query is the sum up to the query. -/
theorem sum_upto (f : ℕ → ℝ) (t : Fin 4096) : ∑ s : Fin 4096, (if s.val ≤ t.val then f s.val else 0) = ∑ s ∈ Finset.range (t.val + 1), f s := by
  rw [Fin.sum_univ_eq_sum_range (fun n => if n ≤ t.val then f n else 0) 4096, ← Finset.sum_filter]
  refine Finset.sum_congr (Finset.ext fun s => ?_) fun _ _ => rfl
  simp only [Finset.mem_filter, Finset.mem_range]
  have := t.isLt
  omega

theorem ref_value (q k v : FVec Ideal S8192x1024 .f32) (g : FVec Ideal S8192x8 .f32) (Q K V G : ℕ → ℕ → ℝ)
    (hq : ∀ (i : Fin 8192) (j : Fin 1024), q (ix2 i j) = (Q i.val j.val : EReal))
    (hk : ∀ (i : Fin 8192) (j : Fin 1024), k (ix2 i j) = (K i.val j.val : EReal))
    (hv : ∀ (i : Fin 8192) (j : Fin 1024), v (ix2 i j) = (V i.val j.val : EReal))
    (hg : ∀ (i : Fin 8192) (j : Fin 8), g (ix2 i j) = (G i.val j.val : EReal))
    (b : Fin 2) (t : Fin 4096) (h : Fin 8) (r : Fin 128) (i : Fin 8192) (j : Fin 1024)
    (hi : i.val = 4096 * b.val + t.val) (hj : j.val = 128 * h.val + r.val) :
    outOf v (probOf (expOf (logitsOf q k (sumsOf g)) (maxOf (logitsOf q k (sumsOf g))))) (ix2 i j)
      = (value Q K V G b.val h.val t.val j.val : EReal) := by
  have hl := logits_value q k g Q K G hq hk hg b t h
  generalize logitsOf q k (sumsOf g) = L at hl ⊢
  obtain ⟨m, hm⟩ : ∃ m : ℝ, maxOf L (ix3 b h t) = (m : EReal) := by
    rw [max_apply]
    refine fold_real _ t (logit Q K G b.val h.val t.val t.val) ?_ fun s => ?_
    · rw [hl, if_pos le_rfl]
    · rw [hl]
      split
      · exact EReal.coe_ne_top _
      · exact bot_ne_top
  have he : ∀ s : Fin 4096, expOf L (maxOf L) (ix4 b h t s)
      = ((if s.val ≤ t.val then Real.exp (logit Q K G b.val h.val t.val s.val - m) else 0 : ℝ) : EReal) := by
    intro s
    rw [exp_apply, hm, hl]
    by_cases hst : s.val ≤ t.val
    · rw [if_pos hst, if_pos hst, ← EReal.coe_sub]
      rfl
    · rw [if_neg hst, if_neg hst, EReal.bot_sub]
      rfl
  have hpos : 0 < ∑ s ∈ Finset.range (t.val + 1), Real.exp (logit Q K G b.val h.val t.val s - m) :=
    Finset.sum_pos (fun _ _ => Real.exp_pos _) ⟨0, by simp⟩
  have hp : ∀ s : Fin 4096, probOf (expOf L (maxOf L)) (ix4 b h t s)
      = ((if s.val ≤ t.val then Real.exp (logit Q K G b.val h.val t.val s.val - m)
          / ∑ s ∈ Finset.range (t.val + 1), Real.exp (logit Q K G b.val h.val t.val s - m) else 0 : ℝ) : EReal) := by
    intro s
    rw [prob_apply]
    simp only [he]
    rw [coe_sum', sum_upto (fun s => Real.exp (logit Q K G b.val h.val t.val s - m)), Ideal.div_coe hpos.ne', ← EReal.coe_mul]
    refine congrArg _ ?_
    split
    · exact mul_one_div _ _
    · exact zero_mul _
  rw [out_apply v _ b t h r i j hi hj]
  simp only [hp, hv, ← EReal.coe_mul]
  rw [coe_sum']
  refine congrArg _ ?_
  have e : ∀ s : Fin 4096, V (4096 * b.val + s.val) j.val * (if s.val ≤ t.val then Real.exp (logit Q K G b.val h.val t.val s.val - m)
          / ∑ s ∈ Finset.range (t.val + 1), Real.exp (logit Q K G b.val h.val t.val s - m) else 0)
      = if s.val ≤ t.val then V (4096 * b.val + s.val) j.val * (Real.exp (logit Q K G b.val h.val t.val s.val - m)
          / ∑ s ∈ Finset.range (t.val + 1), Real.exp (logit Q K G b.val h.val t.val s - m)) else 0 := by
    intro s
    split
    · rfl
    · exact mul_zero _
  rw [Finset.sum_congr rfl fun s _ => e s,
    sum_upto (fun s => V (4096 * b.val + s) j.val * (Real.exp (logit Q K G b.val h.val t.val s - m)
          / ∑ s ∈ Finset.range (t.val + 1), Real.exp (logit Q K G b.val h.val t.val s - m)))]
  unfold value
  have e2 : ∑ s ∈ Finset.range (t.val + 1), Real.exp (logit Q K G b.val h.val t.val s - m)
      = (∑ s ∈ Finset.range (t.val + 1), Real.exp (logit Q K G b.val h.val t.val s)) / Real.exp m := by
    rw [Finset.sum_div]
    exact Finset.sum_congr rfl fun s _ => Real.exp_sub _ _
  have hpos2 : 0 < ∑ s ∈ Finset.range (t.val + 1), Real.exp (logit Q K G b.val h.val t.val s) :=
    Finset.sum_pos (fun _ _ => Real.exp_pos _) ⟨0, by simp⟩
  rw [e2]
  generalize (∑ s ∈ Finset.range (t.val + 1), Real.exp (logit Q K G b.val h.val t.val s)) = D at hpos2 ⊢
  rw [Finset.sum_div]
  refine Finset.sum_congr rfl fun s _ => ?_
  rw [Real.exp_sub]
  have := Real.exp_pos m
  field_simp

end Cert.ReferenceIdeal.Attn
-- ==== Proof.AttnEq.lean ====
/-
  The equation: the softmax in powers of two, with the gates measured from the block's first row, is the softmax of the
  layer, with the gates measured from the query's own row. The difference of the two is a factor of the query alone, which
  leaves the quotient.
-/
module

public import proofs.«01_k».proof.Proof.AttnOut
public import proofs.«01_k».proof.Proof.AttnSums
public import proofs.«01_k».proof.Proof.AttnRefValue

@[expose] public section

set_option maxRecDepth 8192

noncomputable section

namespace Cert.KernelIdeal.Attn

open Cert.ReferenceIdeal.Attn (logit value)

/-- A batch's log gates in their lanes. -/
def gates (G : ℕ → ℕ → ℝ) (b t j : ℕ) : ℝ := if 80 ≤ j ∧ j < 88 then G (4096 * b + t) (j - 80) else 0

/-- The numbers a grid point works on: batch `b`, group `g` of four heads, block `k` of 512 queries. -/
def numsOf (Q K V G : ℕ → ℕ → ℝ) (b g k : ℕ) : Nums where
  qr q j := Q (4096 * b + 512 * k + q) (512 * g + j) * (1 / (Real.sqrt 128 * Real.log 2))
  kr s j := K (4096 * b + s) (512 * g + j)
  vr n r s := if r.val < 128 then V (4096 * b + s) (128 * (4 * g + n) + r.val) else 1
  cr s n := cum (gates G b) s (80 + 4 * g + n) * (Real.log 2)⁻¹

variable (Q K V G : ℕ → ℕ → ℝ) (b g k : ℕ)

theorem cum_gates (s h : ℕ) (hh : h < 8) : cum (gates G b) s (80 + h) = ∑ u ∈ Finset.range (s + 1), G (4096 * b + u) h := by
  refine Finset.sum_congr rfl fun u _ => ?_
  rw [gates, if_pos ⟨by omega, by omega⟩, Nat.add_sub_cancel_left]

theorem taken_eq (q : ℕ) (hk : k < 8) (hq : q < 512) : taken (512 * k) k q = Finset.range (512 * k + q + 1) := by
  ext s
  simp only [taken, Finset.mem_filter, Finset.mem_range]
  omega

/-- The power of two is the layer's exponential times a factor of the query alone. -/
theorem pow_l (n s q : ℕ) (hg : g < 2) (hn : n < 4) :
    (2 : ℝ) ^ ((numsOf Q K V G b g k).l (512 * k) n s q) = Real.exp (logit Q K G b (4 * g + n) (512 * k + q) s)
      * Real.exp ((∑ u ∈ Finset.range (512 * k + 1), G (4096 * b + u) (4 * g + n)) - ∑ u ∈ Finset.range (512 * k + q + 1), G (4096 * b + u) (4 * g + n)) := by
  have h2 : Real.log 2 ≠ 0 := (Real.log_pos one_lt_two).ne'
  rw [Real.rpow_def_of_pos two_pos, ← Real.exp_add]
  congr 1
  unfold Nums.l numsOf logit
  simp only [Nat.add_assoc 80]
  rw [cum_gates G b (512 * k) (4 * g + n) (by omega), cum_gates G b s (4 * g + n) (by omega)]
  have e : ∑ d : Fin 128, K (4096 * b + s) (512 * g + (128 * n + d.val)) * (Q (4096 * b + 512 * k + q) (512 * g + (128 * n + d.val)) * (1 / (Real.sqrt 128 * Real.log 2)))
      = (∑ d : Fin 128, Q (4096 * b + (512 * k + q)) (128 * (4 * g + n) + d.val) * K (4096 * b + s) (128 * (4 * g + n) + d.val)) * (1 / (Real.sqrt 128 * Real.log 2)) := by
    rw [Finset.sum_mul]
    refine Finset.sum_congr rfl fun d _ => ?_
    rw [show 512 * g + (128 * n + d.val) = 128 * (4 * g + n) + d.val by omega, ← Nat.add_assoc (4096 * b)]
    ring
  rw [e]
  have h3 : Real.sqrt 128 ≠ 0 := (Real.sqrt_pos.mpr (by norm_num)).ne'
  field_simp
  ring

theorem o_eq (n r q : ℕ) (hg : g < 2) (hk : k < 8) (hn : n < 4) (hr : r < 128) (hq : q < 512) :
    (numsOf Q K V G b g k).o (512 * k) k n (⟨r, by omega⟩ : Fin 144) q
      = value Q K V G b (4 * g + n) (512 * k + q) (128 * (4 * g + n) + r) := by
  unfold Nums.o value
  rw [taken_eq k q hk hq]
  simp only [pow_l Q K V G b g k _ _ _ hg hn]
  simp only [← mul_assoc]
  rw [← Finset.sum_mul, ← Finset.sum_mul, mul_div_mul_right _ _ (Real.exp_pos _).ne']
  congr 1
  refine Finset.sum_congr rfl fun s _ => ?_
  simp only [numsOf, hr, if_true]

end Cert.KernelIdeal.Attn

end
-- ==== Proof.AttnHost.lean ====
/-
  The arrays the kernel's windows read, as numbers: the packed projections (the queries scaled), the values of a head with the
  row of ones below, the log gates in their lanes.
-/
module

public import proofs.«01_k».proof.Proof.Gen.KernelIdeal.Frame
public import proofs.«01_k».proof.Proof.AttnMath
public import Idealize.ShloMosaic.Lib.ValueIdx
public import Idealize.ShloMosaic.Lib.IdealHost
public import Idealize.ShloMosaic.Lib.Pipeline.Value

@[expose] public section

set_option maxRecDepth 8192

noncomputable section

namespace Cert.KernelIdeal.Attn

open Cert.KernelIdeal Cert.KernelIdeal.Gen
open Idealize.ShloMosaic Idealize.ShloMosaic.TcCoe Idealize.ShloMosaic.ValueIdx

/-- The scale of the queries, as the host computes it. -/
def scaleArr : FVec Ideal S_ .f32 :=
  Host.divf (constant S_ .f32 0x3F800000#32) (mulf (Host.sqrt (constant S_ .f32 0x43000000#32)) (Host.log (constant S_ .f32 0x40000000#32)))

/-- The packed projections. -/
def packed (q k v : FVec Ideal S8192x1024 .f32) : FVec Ideal S8192x10240 .bf16 :=
  concatenate S8192x10240 1 [⟨S8192x7168, broadcastInDim S8192x7168 ![] bcast_S_S8192x7168 (constant (F := Ideal) S_ .bf16 0x0000#16)⟩,
    ⟨S8192x1024, truncf .bf16 (mulf q (broadcastInDim S8192x1024 ![] bcast_S_S8192x1024 scaleArr)) bitsLt_bf16_f32⟩,
    ⟨S8192x1024, truncf .bf16 k bitsLt_bf16_f32⟩, ⟨S8192x1024, truncf .bf16 v bitsLt_bf16_f32⟩]
    concatenates_S8192x7168_S8192x1024_S8192x1024_S8192x1024_S8192x10240_d1

/-- The values of the heads, each with sixteen rows of ones below. -/
def valueRows (v : FVec Ideal S8192x1024 .f32) : FVec Ideal S2x8x144x4096 .bf16 :=
  concatenate S2x8x144x4096 2 [⟨S2x8x128x4096, truncf .bf16 (transpose S2x8x128x4096 [0, 2, 3, 1] (shapeCast S2x4096x8x128 v shapeCasts_S8192x1024_S2x4096x8x128)
      transposes_S2x4096x8x128_S2x8x128x4096_0_2_3_1) bitsLt_bf16_f32⟩,
    ⟨S2x8x16x4096, broadcastInDim S2x8x16x4096 ![] bcast_S_S2x8x16x4096 (constant (F := Ideal) S_ .bf16 0x3F80#16)⟩]
    concatenates_S2x8x128x4096_S2x8x16x4096_S2x8x144x4096_d2

/-- The log gates in lanes 80 to 87. -/
def lanes (g : FVec Ideal S8192x8 .f32) : FVec Ideal S8192x128 .f32 :=
  concatenate S8192x128 1 [⟨S8192x80, broadcastInDim S8192x80 ![] bcast_S_S8192x80 (constant (F := Ideal) S_ .f32 0x00000000#32)⟩, ⟨S8192x8, g⟩,
    ⟨S8192x40, broadcastInDim S8192x40 ![] bcast_S_S8192x40 (constant (F := Ideal) S_ .f32 0x00000000#32)⟩]
    concatenates_S8192x80_S8192x8_S8192x40_S8192x128_d1

variable (m : (ℓ : Loc nD τ sig) → Buf (Elt Ideal) ℓ) (c : Dev nD)

theorem V_packed : V m c main_v10 = packed (m ((c : Thread nD τ).loc main_arg0)) (m ((c : Thread nD τ).loc main_arg1)) (m ((c : Thread nD τ).loc main_arg2)) := by
  rfl

theorem V_valueRows : V m c main_v15 = valueRows (m ((c : Thread nD τ).loc main_arg2)) := by
  rfl

theorem V_lanes : V m c main_v18 = lanes (m ((c : Thread nD τ).loc main_arg3)) := by
  rfl

/-! ## The arrays at an index -/

theorem scale_apply : scaleArr ix0 = ((1 / (Real.sqrt 128 * Real.log 2) : ℝ) : EReal) := by
  have h1 : Ideal.ofBits FTy.f32 0x43000000#32 = ((128 : ℝ) : EReal) := by
    simp [Ideal.ofBits, Ideal.ieee, -EReal.coe_mul]; norm_num
  have h2 : Ideal.ofBits FTy.f32 0x40000000#32 = ((2 : ℝ) : EReal) := by
    simp [Ideal.ofBits, Ideal.ieee, -EReal.coe_mul]; norm_num
  have h3 : Ideal.ofBits FTy.f32 0x3F800000#32 = ((1 : ℝ) : EReal) := by
    simp [Ideal.ofBits, Ideal.ieee, -EReal.coe_mul]; norm_num
  show Ideal.div (Ideal.ofBits FTy.f32 0x3F800000#32) (Ideal.sqrt (Ideal.ofBits FTy.f32 0x43000000#32) * Ideal.log (Ideal.ofBits FTy.f32 0x40000000#32)) = _
  have hl : Ideal.log ((2 : ℝ) : EReal) = ((Real.log 2 : ℝ) : EReal) := by
    rw [Ideal.log_coe]
    norm_num
  have h0 : Real.sqrt 128 * Real.log 2 ≠ 0 := by
    have : 0 < Real.log 2 := Real.log_pos (by norm_num)
    positivity
  rw [h1, h2, h3, Ideal.sqrt_coe, if_neg (by norm_num), hl, ← EReal.coe_mul, Ideal.div_coe h0, ← EReal.coe_mul, one_mul]

section Packed

variable (q k v : FVec Ideal S8192x1024 .f32) (i : Fin 8192) (j : Fin 1024)

theorem packed_q (x : Fin 10240) (hx : x.val = 7168 + j.val) : packed q k v (ix2 i x) = (q (ix2 i j) : EReal) * ((1 / (Real.sqrt 128 * Real.log 2) : ℝ) : EReal) := by
  unfold packed
  refine Eq.trans (concatenate_apply_piece (1 : Fin 2) _ _ (ix2 i x) 1 (Nat.lt_of_sub_pos (by exact Nat.zero_lt_succ _)) S8192x1024 _ rfl rfl 7168 rfl (ix2 i j) (fun b hb => ?_) (by exact hx.symm)) ?_
  · match b, hb with
    | ⟨0, _⟩, _ => rfl
    | ⟨1, _⟩, hb => exact absurd rfl hb
  · rw [truncf_apply, mulf_apply, broadcastInDim_scalar_apply, scale_apply]

theorem packed_k (x : Fin 10240) (hx : x.val = 8192 + j.val) : packed q k v (ix2 i x) = k (ix2 i j) := by
  unfold packed
  refine Eq.trans (concatenate_apply_piece (1 : Fin 2) _ _ (ix2 i x) 2 (Nat.lt_of_sub_pos (by exact Nat.zero_lt_succ _)) S8192x1024 _ rfl rfl 8192 rfl (ix2 i j) (fun b hb => ?_) (by exact hx.symm)) ?_
  · match b, hb with
    | ⟨0, _⟩, _ => rfl
    | ⟨1, _⟩, hb => exact absurd rfl hb
  · rw [truncf_apply]

end Packed

theorem valueRows_v (v : FVec Ideal S8192x1024 .f32) (b : Fin 2) (h : Fin 8) (r : Fin 144) (s : Fin 4096) (r' : Fin 128) (i : Fin 8192) (j : Fin 1024)
    (hr : r.val = r'.val) (hi : i.val = 4096 * b.val + s.val) (hj : j.val = 128 * h.val + r'.val) :
    valueRows v (ix4 b h r s) = v (ix2 i j) := by
  unfold valueRows
  refine Eq.trans (concatenate_pair_apply_left (s₁ := S2x8x128x4096) (2 : Fin 4) _ _ _ (ix4 b h r s) rfl (ix4 b h r' s) (fun a => ?_)) ?_
  · match a with
    | ⟨0, _⟩ => rfl
    | ⟨1, _⟩ => rfl
    | ⟨2, _⟩ => exact hr.symm
    | ⟨3, _⟩ => rfl
  · rw [truncf_apply]
    unfold transpose
    refine shapeCast_apply v _ _ _ ?_
    rw [Shape.rowMajor_val_two, Shape.rowMajor_val_four]
    show i.val * 1024 + j.val = ((b.val * 4096 + s.val) * 8 + h.val) * 128 + r'.val
    omega

theorem valueRows_one (v : FVec Ideal S8192x1024 .f32) (b : Fin 2) (h : Fin 8) (r : Fin 144) (s : Fin 4096) (hr : 128 ≤ r.val) :
    valueRows v (ix4 b h r s) = ((1 : ℝ) : EReal) := by
  unfold valueRows
  refine Eq.trans (concatenate_pair_apply_right (s₁ := S2x8x128x4096) (s₂ := S2x8x16x4096) (2 : Fin 4) _ _ _ (ix4 b h r s) rfl rfl (ix4 b h (⟨r.val - 128, by omega⟩ : Fin 16) s) (fun a ha => ?_) ?_) ?_
  · match a, ha with
    | ⟨0, _⟩, _ => rfl
    | ⟨1, _⟩, _ => rfl
    | ⟨2, _⟩, ha => exact absurd rfl ha
    | ⟨3, _⟩, _ => rfl
  · show r.val - 128 + 128 = r.val
    omega
  · rw [broadcastInDim_scalar_apply, constant_apply, Ideal.ofBits_one_bf16]
    rfl

theorem lanes_apply (g : FVec Ideal S8192x8 .f32) (i : Fin 8192) (x : Fin 128) (j : Fin 8) (hx : x.val = 80 + j.val) : lanes g (ix2 i x) = g (ix2 i j) := by
  unfold lanes
  refine Eq.trans (concatenate_apply_piece (1 : Fin 2) _ _ (ix2 i x) 1 (Nat.lt_of_sub_pos (by exact Nat.zero_lt_succ _)) S8192x8 _ rfl rfl 80 rfl (ix2 i j) (fun b hb => ?_) (by exact hx.symm)) rfl
  match b, hb with
  | ⟨0, _⟩, _ => rfl
  | ⟨1, _⟩, hb => exact absurd rfl hb

theorem lanes_low (g : FVec Ideal S8192x8 .f32) (i : Fin 8192) (x : Fin 128) (hx : x.val < 80) : lanes g (ix2 i x) = ((0 : ℝ) : EReal) := by
  unfold lanes
  refine Eq.trans (concatenate_apply_piece (1 : Fin 2) _ _ (ix2 i x) 0 (Nat.lt_of_sub_pos (by exact Nat.zero_lt_succ _)) S8192x80 _ rfl rfl 0 rfl (ix2 i (⟨x.val, hx⟩ : Fin 80)) (fun b hb => ?_) (by exact (Nat.zero_add _))) ?_
  · match b, hb with
    | ⟨0, _⟩, _ => rfl
    | ⟨1, _⟩, hb => exact absurd rfl hb
  · rw [broadcastInDim_scalar_apply, constant_apply, Ideal.ofBits_zero_f32]
    rfl

theorem lanes_high (g : FVec Ideal S8192x8 .f32) (i : Fin 8192) (x : Fin 128) (hx : 88 ≤ x.val) : lanes g (ix2 i x) = ((0 : ℝ) : EReal) := by
  unfold lanes
  refine Eq.trans (concatenate_apply_piece (1 : Fin 2) _ _ (ix2 i x) 2 (Nat.lt_of_sub_pos (by exact Nat.zero_lt_succ _)) S8192x40 _ rfl rfl 88 rfl (ix2 i (⟨x.val - 88, by omega⟩ : Fin 40)) (fun b hb => ?_) ?_) ?_
  · match b, hb with
    | ⟨0, _⟩, _ => rfl
    | ⟨1, _⟩, hb => exact absurd rfl hb
  · show 88 + (x.val - 88) = x.val
    omega
  · rw [broadcastInDim_scalar_apply, constant_apply, Ideal.ofBits_zero_f32]
    rfl

/-! ## The blocks -/

theorem idx_0 : ∀ t : Fin cfg0.N, win0_0.index t 0 = t.val / 16 * 8 + t.val % 8 ∧ win0_0.index t 1 = 14 + t.val / 8 % 2 := by decide +kernel
theorem idx_1 : ∀ t : Fin cfg0.N, win0_1.index t 0 = t.val / 16 ∧ win0_1.index t 1 = 16 + t.val / 8 % 2 := by decide +kernel
theorem idx_2 : ∀ t : Fin cfg0.N, win0_2.index t 0 = t.val / 16 ∧ win0_2.index t 1 = t.val / 8 % 2 ∧ win0_2.index t 2 = 0 ∧ win0_2.index t 3 = 0 := by decide +kernel
theorem idx_3 : ∀ t : Fin cfg0.N, win0_3.index t 0 = t.val / 16 ∧ win0_3.index t 1 = 0 := by decide +kernel
theorem idx_4 : ∀ t : Fin cfg0.N, win0_4.index t 0 = t.val / 16 * 8 + t.val % 8 ∧ win0_4.index t 1 = t.val / 8 % 2 := by decide +kernel
theorem coords_val : ∀ t : Fin cfg0.N, (grid0.coords t 0).val = t.val / 16 ∧ (grid0.coords t 1).val = t.val / 8 % 2 ∧ (grid0.coords t 2).val = t.val % 8 := by decide +kernel
theorem point_lt (t : Fin cfg0.N) : t.val < 32 := lt_of_lt_of_eq t.isLt (by decide)

theorem blk_0 (t : Fin cfg0.N) (q j : Fin 512) (i : Fin 8192) (x : Fin 10240) (hi : i.val = (t.val / 16 * 8 + t.val % 8) * 512 + q.val)
    (hx : x.val = (14 + t.val / 8 % 2) * 512 + j.val) : iblk m c 0 t (ix2 q j) = V m c main_v10 (ix2 i x) := by
  unfold iblk
  refine congrArg (V m c main_v10) (funext fun a => Fin.ext ?_)
  match a with
  | ⟨0, _⟩ =>
    show win0_0.index t 0 * 512 + 1 * q.val = i.val
    rw [(idx_0 t).1]; omega
  | ⟨1, _⟩ =>
    show win0_0.index t 1 * 512 + 1 * j.val = x.val
    rw [(idx_0 t).2]; omega

theorem blk_1 (t : Fin cfg0.N) (s : Fin 4096) (j : Fin 512) (i : Fin 8192) (x : Fin 10240) (hi : i.val = t.val / 16 * 4096 + s.val)
    (hx : x.val = (16 + t.val / 8 % 2) * 512 + j.val) : iblk m c 1 t (ix2 s j) = V m c main_v10 (ix2 i x) := by
  unfold iblk
  refine congrArg (V m c main_v10) (funext fun a => Fin.ext ?_)
  match a with
  | ⟨0, _⟩ =>
    show win0_1.index t 0 * 4096 + 1 * s.val = i.val
    rw [(idx_1 t).1]; omega
  | ⟨1, _⟩ =>
    show win0_1.index t 1 * 512 + 1 * j.val = x.val
    rw [(idx_1 t).2]; omega

theorem blk_2 (t : Fin cfg0.N) (z : Fin 1) (n : Fin 4) (r : Fin 144) (s : Fin 4096) (b : Fin 2) (h : Fin 8) (hb : b.val = t.val / 16)
    (hh : h.val = t.val / 8 % 2 * 4 + n.val) : iblk m c 2 t (ix4 z n r s) = V m c main_v15 (ix4 b h r s) := by
  unfold iblk
  refine congrArg (V m c main_v15) (funext fun a => Fin.ext ?_)
  match a with
  | ⟨0, _⟩ =>
    show win0_2.index t 0 * 1 + 1 * z.val = b.val
    rw [(idx_2 t).1]; omega
  | ⟨1, _⟩ =>
    show win0_2.index t 1 * 4 + 1 * n.val = h.val
    rw [(idx_2 t).2.1]; omega
  | ⟨2, _⟩ =>
    show win0_2.index t 2 * 144 + 1 * r.val = r.val
    rw [(idx_2 t).2.2.1]; omega
  | ⟨3, _⟩ =>
    show win0_2.index t 3 * 4096 + 1 * s.val = s.val
    rw [(idx_2 t).2.2.2]; omega

theorem blk_3 (t : Fin cfg0.N) (s : Fin 4096) (x : Fin 128) (i : Fin 8192) (hi : i.val = t.val / 16 * 4096 + s.val) :
    iblk m c 3 t (ix2 s x) = V m c main_v18 (ix2 i x) := by
  unfold iblk
  refine congrArg (V m c main_v18) (funext fun a => Fin.ext ?_)
  match a with
  | ⟨0, _⟩ =>
    show win0_3.index t 0 * 4096 + 1 * s.val = i.val
    rw [(idx_3 t).1]; omega
  | ⟨1, _⟩ =>
    show win0_3.index t 1 * 128 + 1 * x.val = x.val
    rw [(idx_3 t).2]; omega

end Cert.KernelIdeal.Attn
-- ==== Proof.AttnKeeps.lean ====
/-
  The launch's invariant and what each point leaves: from a batch's first point on the scratch holds that batch's cumulative
  log gates, and each output block holds the attention of its queries.
-/
module

public import proofs.«01_k».proof.Proof.AttnEq
public import proofs.«01_k».proof.Proof.AttnHost
public import proofs.«01_k».proof.Proof.KernelIdealFrame

@[expose] public section

set_option maxRecDepth 8192

noncomputable section

namespace Cert.KernelIdeal.Attn

open Cert.KernelIdeal Cert.KernelIdeal.Gen
open Idealize.ShloMosaic hiding ix2 ix3 ix4
open Idealize.ShloMosaic.TcCoe
open Idealize.ShloMosaic.ValueIdx (ix2 ix3 ix4)
open Cert.ReferenceIdeal.Attn (value)

/-- The arguments' entries are these real numbers, on each device. -/
structure Reals (m : (ℓ : Loc nD τ sig) → Buf (Elt Ideal) ℓ) (Q K W G : Dev nD → ℕ → ℕ → ℝ) : Prop where
  q : ∀ c (i : Fin 8192) (j : Fin 1024), (m ((c : Thread nD τ).loc main_arg0) : FVec Ideal S8192x1024 .f32) (ix2 i j) = (Q c i.val j.val : EReal)
  k : ∀ c (i : Fin 8192) (j : Fin 1024), (m ((c : Thread nD τ).loc main_arg1) : FVec Ideal S8192x1024 .f32) (ix2 i j) = (K c i.val j.val : EReal)
  v : ∀ c (i : Fin 8192) (j : Fin 1024), (m ((c : Thread nD τ).loc main_arg2) : FVec Ideal S8192x1024 .f32) (ix2 i j) = (W c i.val j.val : EReal)
  g : ∀ c (i : Fin 8192) (j : Fin 8), (m ((c : Thread nD τ).loc main_arg3) : FVec Ideal S8192x8 .f32) (ix2 i j) = (G c i.val j.val : EReal)

variable {m : (ℓ : Loc nD τ sig) → Buf (Elt Ideal) ℓ} {Q K W G : Dev nD → ℕ → ℕ → ℝ} (R : Reals m Q K W G)

include R

/-! ## The input blocks as numbers -/

theorem in_q (c : Dev nD) (t : Fin cfg0.N) (q j : Fin 512) :
    iblk m c 0 t (ix2 q j) = ((numsOf (Q c) (K c) (W c) (G c) (t.val / 16) (t.val / 8 % 2) (t.val % 8)).qr q.val j.val : EReal) := by
  have ht := point_lt t
  rw [blk_0 m c t q j (⟨(t.val / 16 * 8 + t.val % 8) * 512 + q.val, by omega⟩ : Fin 8192) (⟨(14 + t.val / 8 % 2) * 512 + j.val, by omega⟩ : Fin 10240) rfl rfl,
    V_packed, packed_q _ _ _ _ (⟨t.val / 8 % 2 * 512 + j.val, by omega⟩ : Fin 1024) _ (by show (14 + t.val / 8 % 2) * 512 + j.val = 7168 + (t.val / 8 % 2 * 512 + j.val); omega),
    R.q, ← EReal.coe_mul]
  show ((Q c ((t.val / 16 * 8 + t.val % 8) * 512 + q.val) (t.val / 8 % 2 * 512 + j.val) * _ : ℝ) : EReal) = ((Q c (4096 * (t.val / 16) + 512 * (t.val % 8) + q.val) (512 * (t.val / 8 % 2) + j.val) * _ : ℝ) : EReal)
  rw [show (t.val / 16 * 8 + t.val % 8) * 512 + q.val = 4096 * (t.val / 16) + 512 * (t.val % 8) + q.val by omega, Nat.mul_comm (t.val / 8 % 2) 512]

theorem in_k (c : Dev nD) (t : Fin cfg0.N) (s : Fin 4096) (j : Fin 512) :
    iblk m c 1 t (ix2 s j) = ((numsOf (Q c) (K c) (W c) (G c) (t.val / 16) (t.val / 8 % 2) (t.val % 8)).kr s.val j.val : EReal) := by
  have ht := point_lt t
  rw [blk_1 m c t s j (⟨t.val / 16 * 4096 + s.val, by omega⟩ : Fin 8192) (⟨(16 + t.val / 8 % 2) * 512 + j.val, by omega⟩ : Fin 10240) rfl rfl,
    V_packed, packed_k _ _ _ _ (⟨t.val / 8 % 2 * 512 + j.val, by omega⟩ : Fin 1024) _ (by show (16 + t.val / 8 % 2) * 512 + j.val = 8192 + (t.val / 8 % 2 * 512 + j.val); omega),
    R.k]
  show ((K c (t.val / 16 * 4096 + s.val) (t.val / 8 % 2 * 512 + j.val) : ℝ) : EReal) = ((K c (4096 * (t.val / 16) + s.val) (512 * (t.val / 8 % 2) + j.val) : ℝ) : EReal)
  rw [Nat.mul_comm (t.val / 16) 4096, Nat.mul_comm (t.val / 8 % 2) 512]

theorem in_v (c : Dev nD) (t : Fin cfg0.N) (n : Fin 4) (r : Fin 144) (s : Fin 4096) :
    iblk m c 2 t (ix4 (0 : Fin 1) n r s) = ((numsOf (Q c) (K c) (W c) (G c) (t.val / 16) (t.val / 8 % 2) (t.val % 8)).vr n.val r s.val : EReal) := by
  have ht := point_lt t
  rw [blk_2 m c t 0 n r s (⟨t.val / 16, by omega⟩ : Fin 2) (⟨t.val / 8 % 2 * 4 + n.val, by omega⟩ : Fin 8) rfl rfl, V_valueRows]
  by_cases hr : r.val < 128
  · rw [valueRows_v _ _ _ r s (⟨r.val, hr⟩ : Fin 128) (⟨4096 * (t.val / 16) + s.val, by omega⟩ : Fin 8192)
      (⟨128 * (4 * (t.val / 8 % 2) + n.val) + r.val, by omega⟩ : Fin 1024) rfl rfl (by show 128 * (4 * (t.val / 8 % 2) + n.val) + r.val = 128 * (t.val / 8 % 2 * 4 + n.val) + r.val; omega), R.v]
    simp only [numsOf, hr, if_true]
  · rw [valueRows_one _ _ _ r s (by omega)]
    simp only [numsOf, hr, if_false]

theorem in_g (c : Dev nD) (t : Fin cfg0.N) (s : Fin 4096) (j : Fin 128) :
    iblk m c 3 t (ix2 s j) = (gates (G c) (t.val / 16) s.val j.val : EReal) := by
  have ht := point_lt t
  rw [blk_3 m c t s j (⟨t.val / 16 * 4096 + s.val, by omega⟩ : Fin 8192) rfl, V_lanes]
  unfold gates
  by_cases h : 80 ≤ j.val ∧ j.val < 88
  · rw [if_pos h, lanes_apply _ _ j (⟨j.val - 80, by omega⟩ : Fin 8) (by show j.val = 80 + (j.val - 80); omega), R.g]
    show ((G c (t.val / 16 * 4096 + s.val) _ : ℝ) : EReal) = _
    rw [Nat.mul_comm (t.val / 16) 4096]
  · rw [if_neg h]
    by_cases h' : j.val < 80
    · exact lanes_low _ _ j h'
    · exact lanes_high _ _ j (by omega)

/-! ## The invariant -/

omit R in
/-- Between points: past a batch's first point, the scratch holds the batch's sums. -/
def Inv (G : Dev nD → ℕ → ℕ → ℝ) (c : Dev nD) (t : ℕ) (d : S2x4096x128.Idx → EReal) : Prop :=
  t % 16 ≠ 0 → SumsTo (gates (G c) (t / 16)) 4096 d

/-- After a point's conditional the scratch holds its batch's sums. -/
theorem sumsAt_ok (c : Dev nD) (t : Fin cfg0.N) (X6 : BufTy.Contents (Elt Ideal) (p3 t).view.ty) (f10 : BufTy.Contents (Elt Ideal) sc10.view.ty)
    (h6 : (p3 t).view.read (Elt Ideal) X6 = iblk m c 3 t) (hI : Inv G c t.val (sc10.view.read (Elt Ideal) f10)) :
    SumsTo (gates (G c) (t.val / 16)) 4096 (sc10.view.read (Elt Ideal) (sumsAt c t X6 f10)) := by
  have hc := coords_val t
  by_cases h : k0_cond1 (grid0.coords t) = 1#1
  · exact sums_new _ c _ _ _ _ _ _ _ _ _ _ _ _ _ _ _ _ _ _ h X6 _ (fun s j => by rw [h6]; exact in_g R c t s j) f10
  · unfold sumsAt sums
    rw [dif_neg h]
    refine hI fun h0 => h ((cond1_iff _).mpr ?_)
    rw [hc.2.1, hc.2.2]
    omega

omit R in
/-- What a point leaves in the output window: the attention of its queries and heads. -/
def Rl (Q K W G : Dev nD → ℕ → ℕ → ℝ) (c : Dev nD) (w : Fin cfg0.W) (t : Fin cfg0.N) (d : (cfg0.win w).block.Idx → Elt Ideal (cfg0.win w).elt) : Prop :=
  match w, d with
  | 4, d => ∀ (q j : Fin 512), (d : FVec Ideal S512x512 .bf16) (ix2 q j)
      = (value (Q c) (K c) (W c) (G c) (t.val / 16) (4 * (t.val / 8 % 2) + j.val / 128) (512 * (t.val % 8) + q.val) (512 * (t.val / 8 % 2) + j.val) : EReal)
  | _, _ => True

theorem keeps : Keeps m (Inv G) (Rl Q K W G) where
  start c X h := absurd rfl h
  step c t X6 f10 h6 hI h := by
    have := sumsAt_ok R c t X6 f10 h6 hI
    rwa [show (t.val + 1) / 16 = t.val / 16 by omega]
  out c t X3 X4 X5 X6 f7 f8 f9 f10 h3 h4 h5 h6 hI q j := by
    have ht := point_lt t
    have hs := sumsAt_ok R c t X6 f10 h6 hI
    obtain ⟨hc0, hc1, hc2⟩ := coords_val t
    have H : Holds (arg3 := p0 t) (arg4 := p1 t) (arg5 := p2 t) (arg10 := sc10)
        (numsOf (Q c) (K c) (W c) (G c) (t.val / 16) (t.val / 8 % 2) (t.val % 8)) (grid0.coords t 1).val X3 X4 X5 (sumsAt c t X6 f10) :=
      { hg := by rw [hc1]; omega
        q := fun s j => by rw [h3]; exact in_q R c t s j
        k := fun s j => by rw [h4]; exact in_k R c t s j
        v := fun n r s => by rw [h5]; exact in_v R c t n r s
        c := fun s n hn => by
          refine (hs _ s n s.isLt hn).trans ?_
          simp only [numsOf, hc1] }
    refine (run_val _ c _ _ _ _ _ _ _ _ _ _ _ _ _ _ _ _ _ _ X3 X4 X5 X6 _ H (fun n s => by simp [numsOf]) f7 f8 f9
      (⟨j.val / 128, by omega⟩ : Fin 4) (⟨j.val % 128, Nat.mod_lt _ (by norm_num)⟩ : Fin 128) q j (by show j.val = 128 * (j.val / 128) + j.val % 128; omega)).trans ?_
    rw [hc2]
    refine congrArg _ ((o_eq (Q c) (K c) (W c) (G c) _ _ _ (j.val / 128) (j.val % 128) q.val (by omega) (by omega) (by omega) (by omega) q.isLt).trans ?_)
    rw [show 128 * (4 * (t.val / 8 % 2) + j.val / 128) + j.val % 128 = 512 * (t.val / 8 % 2) + j.val by omega]

end Cert.KernelIdeal.Attn

end
-- ==== Proof.AttnFinal.lean ====
/-
  What every run of the program leaves: the arguments as launched, and in the result array the attention.
-/
module

public import proofs.«01_k».proof.Proof.AttnKeeps
public import Idealize.ShloMosaic.Lib.Pipeline.ArrRel
public import Idealize.ShloMosaic.Lib.Pipeline.ValueKit.Geometry

@[expose] public section

set_option maxRecDepth 8192

noncomputable section

namespace Cert.KernelIdeal.Attn

open Cert.KernelIdeal Cert.KernelIdeal.Gen
open Idealize.ShloMosaic hiding ix2 ix3 ix4
open Idealize.ShloMosaic.TcCoe
open Idealize.SL.Sem
open Idealize.ShloMosaic.ValueIdx (ix2 ix3 ix4)
open Cert.ReferenceIdeal.Attn (value)

/-- The attention, as an array. -/
def attn (Q K W G : ℕ → ℕ → ℝ) : FVec Ideal S8192x1024 .bf16 := fun x =>
  (value Q K W G ((x 0).val / 4096) ((x 1).val / 128) ((x 0).val % 4096) (x 1).val : EReal)

variable {m : (ℓ : Loc nD τ sig) → Buf (Elt Ideal) ℓ} {Q K W G : Dev nD → ℕ → ℕ → ℝ}

theorem covers4 : (cfg0.win 4).Covers := by decide +kernel

theorem result {r : PUnit × MemSt nD τ sig (Elt Ideal)} (h : Pipeline.RDat.FramePost (cfgs 0) (rdat m (Inv G) (Rl Q K W G)) (V m) r) (c : Dev nD) :
    r.2.mem ((c : Thread nD τ).loc main_v19) = attn (Q c) (K c) (W c) (G c) := by
  obtain ⟨after, hL, hA⟩ := h.exists_exact c
  refine (hA 4).trans (((rdat m (Inv G) (Rl Q K W G) c).withAfter after).arrAt_eq_of_covers (4 : Fin 5) (attn (Q c) (K c) (W c) (G c)) covers4 fun t hf y => ?_)
  have hR := (dats m (Inv G) 0 c).toRRel_leaves rfl (hL 4 t hf)
  have e := idx_4 t
  blk_simp
  have ht := point_lt t
  have hy : (fun a => y a : S512x512.Idx) = ix2 (y 0 : Fin 512) (y 1 : Fin 512) := by
    funext a
    match a with
    | ⟨0, _⟩ => rfl
    | ⟨1, _⟩ => rfl
  have h0 : (y 0).val < 512 := (y 0 : Fin 512).isLt
  have h1 : (y 1).val < 512 := (y 1 : Fin 512).isLt
  have e0 : (((win0_4.blk t).view.emb y) 0).val = 4096 * (t.val / 16) + (512 * (t.val % 8) + (y 0).val) := by
    refine Eq.trans (b := win0_4.index t 0 * 512 + (y 0).val) (by blk_simp) ?_
    rw [e.1]; omega
  have e1 : (((win0_4.blk t).view.emb y) 1).val = 512 * (t.val / 8 % 2) + (y 1).val := by
    refine Eq.trans (b := win0_4.index t 1 * 512 + (y 1).val) (by blk_simp) ?_
    rw [e.2]; omega
  refine Eq.trans ?_ ((hR (y 0 : Fin 512) (y 1 : Fin 512)).trans ?_)
  · exact congrArg (after 4 t) hy
  · unfold attn
    rw [e0, e1]
    congr 2 <;> omega

end Cert.KernelIdeal.Attn

end
-- ==== Proof.AttnFinite.lean ====
/-
  What the precondition says of an argument array: every entry is a real number.
-/
module

public import proofs.«01_k».proof.Pre_finite
public import Idealize.ShloMosaic.Lib.ReduceAll
public import Idealize.ShloMosaic.Lib.ValueIdx
public import Idealize.ShloMosaic.Lib.IdealHost

@[expose] public section

set_option maxRecDepth 8192

noncomputable section

namespace Cert.Attn

open Idealize.ShloMosaic Cert.Pre_finite

/-- An extended real below `⊤` in absolute value is a real number. -/
theorem real_of_abs (a : EReal) (h : max a (-a) < ⊤) : a = ((a.toReal : ℝ) : EReal) := by
  have h1 := (max_lt_iff.1 h).1
  have h2 := (max_lt_iff.1 h).2
  refine (EReal.coe_toReal h1.ne fun e => ?_).symm
  rw [e] at h2
  exact absurd h2 (by simp)

/-- The and over an array of `|x| < ∞`. -/
theorem reals_of {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant (F := Ideal) S_ .f32 0x7F800000#32)))
      (constantI S_ 1 1#1) hr hu j = 1#1) (i : s.Idx) : x i = (((x i : EReal).toReal : ℝ) : EReal) := by
  haveI : Subsingleton S_.Idx := ⟨fun a b => funext fun k => k.elim0⟩
  have e := Host.reduce_andi_all _ _ hr hu j h i
  refine real_of_abs _ ?_
  have hc : broadcastInDim s ![] hb (constant (F := Ideal) S_ .f32 0x7F800000#32) i = (⊤ : EReal) := by
    rw [ValueIdx.broadcastInDim_scalar_apply, ValueIdx.constant_apply]
    simp [Ideal.ofBits, Ideal.ieee]
  change FloatOps.cmpf .olt (max (x i : EReal) (-(x i))) (broadcastInDim s ![] hb (constant (F := Ideal) S_ .f32 0x7F800000#32) i) = 1#1 at e
  rw [hc] at e
  change BitVec.ofBool (decide (max (x i : EReal) (-(x i)) < ⊤)) = 1#1 at e
  by_contra hn
  rw [decide_eq_false hn] at e
  exact absurd e (by decide)

variable [Facts]

theorem reals (a0 a1 a2 : FVec Ideal S8192x1024 .f32) (a3 : FVec Ideal S8192x8 .f32) (h : fn a0 a1 a2 a3 = fun _ => 1#1) :
    (∀ i, a0 i = (((a0 i : EReal).toReal : ℝ) : EReal)) ∧ (∀ i, a1 i = (((a1 i : EReal).toReal : ℝ) : EReal))
      ∧ (∀ i, a2 i = (((a2 i : EReal).toReal : ℝ) : EReal)) ∧ ∀ i, a3 i = (((a3 i : EReal).toReal : ℝ) : EReal) := by
  have e := congrFun h ValueIdx.ix0
  obtain ⟨e, h3⟩ := IntOp.andi_eq_one.1 e
  obtain ⟨e, h2⟩ := IntOp.andi_eq_one.1 e
  obtain ⟨h0, h1⟩ := IntOp.andi_eq_one.1 e
  exact ⟨reals_of a0 _ _ _ _ h0, reals_of a1 _ _ _ _ h1, reals_of a2 _ _ _ _ h2, reals_of a3 _ _ _ _ h3⟩

end Cert.Attn
-- ==== Proof.AttnClaim.lean ====
/-
  The claim: at finite arguments, the kernel and the reference leave the same array, the attention.
-/
module

public import proofs.«01_k».proof.Defs
public import proofs.«01_k».proof.Proof.Gen.Pre_finite
public import proofs.«01_k».proof.Proof.Gen.ReferenceIdeal.Run
public import proofs.«01_k».proof.Proof.AttnFinal
public import proofs.«01_k».proof.Proof.AttnFinite

@[expose] public section

set_option maxRecDepth 8192

noncomputable section

namespace Cert.Attn

open Idealize.ShloMosaic hiding ix2 ix3 ix4
open Idealize.ShloMosaic.TcCoe
open Idealize.SL.Sem
open Idealize.ShloMosaic.ValueIdx (ix2)
open Cert.KernelIdeal.Attn (Reals attn keeps result args_kept run_main)

/-- An array's entries as real numbers. -/
def entry {a b : ℕ} (x : FVec Ideal ⟨2, ![a, b]⟩ .f32) (i j : ℕ) : ℝ :=
  if h : i < a ∧ j < b then (x (ix2 (⟨i, h.1⟩ : Fin a) (⟨j, h.2⟩ : Fin b)) : EReal).toReal else 0

theorem entry_val {a b : ℕ} (x : FVec Ideal ⟨2, ![a, b]⟩ .f32) (h : ∀ i, x i = (((x i : EReal).toReal : ℝ) : EReal)) (i : Fin a) (j : Fin b) :
    x (ix2 i j) = (entry x i.val j.val : EReal) := by
  unfold entry
  rw [dif_pos ⟨i.isLt, j.isLt⟩]
  exact h _

section

open Cert.ReferenceIdeal Cert.ReferenceIdeal.Attn

/-- The reference's result is the attention. -/
theorem reference (q k v : FVec Ideal Cert.KernelIdeal.S8192x1024 .f32) (g : FVec Ideal Cert.KernelIdeal.S8192x8 .f32)
    (Q K W G : ℕ → ℕ → ℝ) (hq : ∀ (i : Fin 8192) (j : Fin 1024), q (ix2 i j) = (Q i.val j.val : EReal))
    (hk : ∀ (i : Fin 8192) (j : Fin 1024), k (ix2 i j) = (K i.val j.val : EReal))
    (hv : ∀ (i : Fin 8192) (j : Fin 1024), v (ix2 i j) = (W i.val j.val : EReal))
    (hg : ∀ (i : Fin 8192) (j : Fin 8), g (ix2 i j) = (G i.val j.val : EReal)) :
    outOf v (probOf (expOf (logitsOf q k (sumsOf g)) (maxOf (logitsOf q k (sumsOf g))))) = attn Q K W G := by
  funext x
  have h0 : (x 0).val < 8192 := (x 0).isLt
  have h1 : (x 1).val < 1024 := (x 1).isLt
  have hx : x = Idealize.ShloMosaic.ix2 (⟨(x 0).val, h0⟩ : Fin 8192) (⟨(x 1).val, h1⟩ : Fin 1024) := by
    funext a
    match a with
    | ⟨0, _⟩ => rfl
    | ⟨1, _⟩ => rfl
  refine Eq.trans (congrArg _ hx) ?_
  refine ref_value q k v g Q K W G (fun i j => by rw [ix2_eq_valueIdx]; exact hq i j) (fun i j => by rw [ix2_eq_valueIdx]; exact hk i j)
    (fun i j => by rw [ix2_eq_valueIdx]; exact hv i j) (fun i j => by rw [ix2_eq_valueIdx]; exact hg i j)
    (⟨(x 0).val / 4096, by omega⟩ : Fin 2) (⟨(x 0).val % 4096, by omega⟩ : Fin 4096) (⟨(x 1).val / 128, by omega⟩ : Fin 8) (⟨(x 1).val % 128, by omega⟩ : Fin 128)
    _ _ ?_ ?_
  · show (x 0).val = 4096 * ((x 0).val / 4096) + (x 0).val % 4096; omega
  · show (x 1).val = 128 * ((x 1).val / 128) + (x 1).val % 128; omega

end

theorem algebraic : Cert.algebraic_KernelIdeal_ReferenceIdeal_pre_finite (hPre_finite := Cert.Pre_finite.Gen.facts) := by
  intro m g m' g' hfin hm
  let Q (c : Dev Cert.KernelIdeal.nD) := entry (a := 8192) (b := 1024) (m ((c.tc : Thread Cert.KernelIdeal.nD Cert.KernelIdeal.τ).loc Cert.KernelIdeal.main_arg0))
  let K (c : Dev Cert.KernelIdeal.nD) := entry (a := 8192) (b := 1024) (m ((c.tc : Thread Cert.KernelIdeal.nD Cert.KernelIdeal.τ).loc Cert.KernelIdeal.main_arg1))
  let W (c : Dev Cert.KernelIdeal.nD) := entry (a := 8192) (b := 1024) (m ((c.tc : Thread Cert.KernelIdeal.nD Cert.KernelIdeal.τ).loc Cert.KernelIdeal.main_arg2))
  let G (c : Dev Cert.KernelIdeal.nD) := entry (a := 8192) (b := 8) (m ((c.tc : Thread Cert.KernelIdeal.nD Cert.KernelIdeal.τ).loc Cert.KernelIdeal.main_arg3))
  have R : Reals m Q K W G :=
    ⟨fun c => entry_val _ (reals _ _ _ _ (hfin c)).1, fun c => entry_val _ (reals _ _ _ _ (hfin c)).2.1,
      fun c => entry_val _ (reals _ _ _ _ (hfin c)).2.2.1, fun c => entry_val _ (reals _ _ _ _ (hfin c)).2.2.2⟩
  refine ⟨fun c => attn (Q c) (K c) (W c) (G c), ?_, ?_⟩
  · exact (θ_run Cert.KernelIdeal.defs _ _).mono (fun r h c => ⟨result h.1 c, args_kept h.1 c⟩) (run_main m g _ _ (keeps R))
  · refine (θ_run Cert.ReferenceIdeal.defs _ _).mono (fun r h c => ⟨(h c).1.trans ?_, (h c).2⟩) (Cert.ReferenceIdeal.Value.run (F := Ideal) m' g')
    rw [Cert.ReferenceIdeal.Attn.res_eq, (hm c).1, (hm c).2.1, (hm c).2.2.1, (hm c).2.2.2]
    exact reference _ _ _ _ _ _ _ _ (R.q c) (R.k c) (R.v c) (R.g c)

end Cert.Attn

end
-- ==== Proof.Products.lean ====
/-
  Products of matrices read at an index, and a sum cut into blocks.
-/
module

public import Idealize.ShloMosaic.Lib.StackMember
public import Idealize.ShloMosaic.Lib.MatmulPlain
public import Idealize.ShloMosaic.Lib.ValueIdx
public import Idealize.ShloMosaic.Lib.IdealHost
public import Idealize.ShloMosaic.Lib.Pipeline.Value

@[expose] public section

noncomputable section

namespace Cert.Products

open Idealize.ShloMosaic
open Idealize.ShloMosaic.ValueIdx (ix2)

variable {M K N : ℕ} {φ₁ φ₂ : FTy}

/-- An index of a matrix is its two coordinates. -/
theorem idx_eq (x : Shape.Idx ⟨2, ![M, N]⟩) : x = ix2 (x 0) (x 1) := by
  funext a
  match a with
  | ⟨0, _⟩ => rfl
  | ⟨1, _⟩ => rfl

/-- The kernel's product into a zero accumulator. -/
theorem kernel_apply (d : DotDims ⟨2, ![M, K]⟩ ⟨2, ![K, N]⟩ ⟨2, ![M, N]⟩) (hd : d = DotDims.plain M K N)
    (A : FVec Ideal ⟨2, ![M, K]⟩ φ₁) (B : FVec Ideal ⟨2, ![K, N]⟩ φ₂) (i : Fin M) (j : Fin N) :
    matmul d none A B (constant ⟨2, ![M, N]⟩ .f32 0x00000000#32) (ix2 i j) = ∑ k : Fin K, (A (ix2 i k) * B (ix2 k j) : EReal) := by
  subst hd
  refine (Ideal.matmul_plain_apply none A B _ i j).trans ?_
  rw [ValueIdx.constant_apply, Ideal.ofBits_zero_f32]
  exact zero_add _

/-- The host's product. -/
theorem host_apply (d : DotDims ⟨2, ![M, K]⟩ ⟨2, ![K, N]⟩ ⟨2, ![M, N]⟩) (hd : d = DotDims.plain M K N)
    (A : FVec Ideal ⟨2, ![M, K]⟩ φ₁) (B : FVec Ideal ⟨2, ![K, N]⟩ φ₂) (i : Fin M) (j : Fin N) :
    Host.dotGeneral d none A B (ix2 i j) = ∑ k : Fin K, (A (ix2 i k) * B (ix2 k j) : EReal) := by
  subst hd
  exact StackMember.dotGeneral_plain_apply none A B i j

/-- A sum over `a * b` places, block by block. -/
theorem sum_blocks {β : Type} [AddCommMonoid β] (a b n : ℕ) (h : n = a * b) (f : Fin n → β) (g : ℕ → β)
    (hg : ∀ s (hs : s < a), g s = ∑ k : Fin b, f ⟨b * s + k.val, by rw [h]; exact lt_of_lt_of_le (Nat.add_lt_add_left k.isLt _) (by rw [← Nat.mul_succ, Nat.mul_comm]; exact Nat.mul_le_mul_right b hs)⟩) :
    ∑ s ∈ Finset.range a, g s = ∑ k : Fin n, f k := by
  subst h
  rw [Finset.sum_range, ← Equiv.sum_comp finProdFinEquiv, Fintype.sum_prod_type]
  refine Finset.sum_congr rfl fun s _ => ?_
  rw [hg s.val s.isLt]
  refine Finset.sum_congr rfl fun k _ => congrArg f (Fin.ext ?_)
  exact Nat.add_comm _ _

/-- The sigmoid, as the host computes it. -/
theorem host_sigmoid {s : Shape} (hs : (⟨0, ![]⟩ : Shape).BroadcastsInDim s ![]) (g : FVec Ideal s .f32) (x : s.Idx) :
    Host.divf (broadcastInDim s ![] hs (constant (F := Ideal) ⟨0, ![]⟩ .f32 0x3F800000#32))
      (addf (broadcastInDim s ![] hs (constant (F := Ideal) ⟨0, ![]⟩ .f32 0x3F800000#32)) (Host.exp (Host.negf g))) x = Ideal.logistic (g x) := by
  have h1 : ∀ y, broadcastInDim s ![] hs (constant (F := Ideal) ⟨0, ![]⟩ .f32 0x3F800000#32) y = (1 : EReal) := fun y => by
    rw [Idealize.ShloMosaic.ValueIdx.broadcastInDim_scalar_apply, ValueIdx.constant_apply, Ideal.ofBits_one_f32]
  refine Eq.trans (congrArg₂ Ideal.div (h1 x) (congrArg₂ (· + ·) (h1 x) rfl)) ?_
  rfl

/-- `x · σ(x)`. -/
def silu (x : EReal) : EReal := x * Ideal.logistic x

end Cert.Products

end
-- ==== Proof.FfnBlock.lean ====
/-
  The feed-forward call: what a grid point adds to its block, and the block a run of eleven points leaves.
-/
module

public import proofs.«01_k».proof.Proof.Gen.KernelFfnIdeal.Value
public import proofs.«01_k».proof.Proof.Products
public import Idealize.ShloMosaic.Lib.Pipeline.Value

@[expose] public section

set_option maxRecDepth 8192

noncomputable section

namespace Cert.KernelFfnIdeal.Ffn

open Cert.KernelFfnIdeal Cert.KernelFfnIdeal.Gen Cert.KernelFfnIdeal.Value Cert.Products
open Idealize.ShloMosaic
open Idealize.ShloMosaic.TcCoe
open Idealize.ShloMosaic.ValueIdx (ix2)

/-- Row `i`'s `k`-th hidden number. -/
def hid (h : FVec Ideal S8192x2048 .bf16) (wg wu : FVec Ideal S2048x5632 .f32) (i : Fin 8192) (k : Fin 5632) : EReal :=
  silu (∑ d : Fin 2048, (h (ix2 i d) * wg (ix2 d k) : EReal)) * ∑ d : Fin 2048, (h (ix2 i d) * wu (ix2 d k) : EReal)

/-- The feed-forward layer. -/
def ffn (h : FVec Ideal S8192x2048 .bf16) (wg wu : FVec Ideal S2048x5632 .f32) (wd : FVec Ideal S5632x2048 .f32) : FVec Ideal S8192x2048 .f32 :=
  fun x => ∑ k : Fin 5632, (hid h wg wu (x 0) k * wd (ix2 k (x 1)) : EReal)

/-- What a point stores, at an index. -/
theorem pay_apply (v3 : Vec Ideal S1024x2048 .bf16) (v4 v7 : Vec Ideal S2048x512 .f32) (v14 : Vec Ideal S1024x2048 .f32)
    (v16 : Vec Ideal S512x2048 .f32) (p : Fin 1024) (q : Fin 2048) :
    k0_pay2 v3 v4 v7 v14 v16 (ix2 p q) = (v14 (ix2 p q) : EReal) + ∑ k : Fin 512, ((silu (∑ d : Fin 2048, (v3 (ix2 p d) * v4 (ix2 d k) : EReal))
      * ∑ d : Fin 2048, (v3 (ix2 p d) * v7 (ix2 d k) : EReal)) * v16 (ix2 k q) : EReal) := by
  unfold k0_pay2
  refine congrArg₂ (· + ·) (congrFun (shapeCast_self v14 _) (ix2 p q)) ?_
  refine (kernel_apply _ rfl _ _ p q).trans ?_
  refine Finset.sum_congr rfl fun k _ => congrArg₂ (· * ·) (congrArg₂ (· * ·) (congrArg silu ?_) ?_) rfl
  · exact kernel_apply _ rfl _ _ p k
  · exact kernel_apply _ rfl _ _ p k

variable (m : (ℓ : Loc nD τ sig) → Buf (Elt Ideal) ℓ) (c : Dev nD)

theorem idx_0 : ∀ t : Fin cfg0.N, win0_0.index t 0 = t.val / 11 ∧ win0_0.index t 1 = 0 := by decide +kernel
theorem idx_1 : ∀ t : Fin cfg0.N, win0_1.index t 0 = 0 ∧ win0_1.index t 1 = t.val % 11 := by decide +kernel
theorem idx_2 : ∀ t : Fin cfg0.N, win0_2.index t 0 = 0 ∧ win0_2.index t 1 = t.val % 11 := by decide +kernel
theorem idx_3 : ∀ t : Fin cfg0.N, win0_3.index t 0 = t.val % 11 ∧ win0_3.index t 1 = 0 := by decide +kernel

theorem blk_0 (t : Fin cfg0.N) (p : Fin 1024) (d : Fin 2048) (i : Fin 8192) (hi : i.val = t.val / 11 * 1024 + p.val) :
    iblk m c 0 t (ix2 p d) = V m c main_arg0 (ix2 i d) := by
  unfold iblk
  refine congrArg (V m c main_arg0) (funext fun a => Fin.ext ?_)
  match a with
  | ⟨0, _⟩ =>
    show win0_0.index t 0 * 1024 + 1 * p.val = i.val
    rw [(idx_0 t).1]; omega
  | ⟨1, _⟩ =>
    show win0_0.index t 1 * 2048 + 1 * d.val = d.val
    rw [(idx_0 t).2]; omega

theorem blk_1 (t : Fin cfg0.N) (d : Fin 2048) (k : Fin 512) (x : Fin 5632) (hx : x.val = 512 * (t.val % 11) + k.val) :
    iblk m c 1 t (ix2 d k) = V m c main_arg1 (ix2 d x) := by
  unfold iblk
  refine congrArg (V m c main_arg1) (funext fun a => Fin.ext ?_)
  match a with
  | ⟨0, _⟩ =>
    show win0_1.index t 0 * 2048 + 1 * d.val = d.val
    rw [(idx_1 t).1]; omega
  | ⟨1, _⟩ =>
    show win0_1.index t 1 * 512 + 1 * k.val = x.val
    rw [(idx_1 t).2]; omega

theorem blk_2 (t : Fin cfg0.N) (d : Fin 2048) (k : Fin 512) (x : Fin 5632) (hx : x.val = 512 * (t.val % 11) + k.val) :
    iblk m c 2 t (ix2 d k) = V m c main_arg2 (ix2 d x) := by
  unfold iblk
  refine congrArg (V m c main_arg2) (funext fun a => Fin.ext ?_)
  match a with
  | ⟨0, _⟩ =>
    show win0_2.index t 0 * 2048 + 1 * d.val = d.val
    rw [(idx_2 t).1]; omega
  | ⟨1, _⟩ =>
    show win0_2.index t 1 * 512 + 1 * k.val = x.val
    rw [(idx_2 t).2]; omega

theorem blk_3 (t : Fin cfg0.N) (k : Fin 512) (q : Fin 2048) (x : Fin 5632) (hx : x.val = 512 * (t.val % 11) + k.val) :
    iblk m c 3 t (ix2 k q) = V m c main_arg3 (ix2 x q) := by
  unfold iblk
  refine congrArg (V m c main_arg3) (funext fun a => Fin.ext ?_)
  match a with
  | ⟨0, _⟩ =>
    show win0_3.index t 0 * 512 + 1 * k.val = x.val
    rw [(idx_3 t).1]; omega
  | ⟨1, _⟩ =>
    show win0_3.index t 1 * 2048 + 1 * q.val = q.val
    rw [(idx_3 t).2]; omega

theorem point_lt {n : ℕ} (h : n < cfg0.N) : n < 88 := lt_of_lt_of_eq h N_0

/-- What point `n` adds at a place of its block. -/
def added (n : ℕ) (y : S1024x2048.Idx) : EReal :=
  if h : n < 88 then
    ∑ k : Fin 512, (hid (V m c main_arg0) (V m c main_arg1) (V m c main_arg2)
        ⟨n / 11 * 1024 + (y 0).val, by have : (y 0).val < 1024 := (y 0).isLt; omega⟩ ⟨512 * (n % 11) + k.val, by have := k.isLt; omega⟩
      * (V m c main_arg3) (ix2 (⟨512 * (n % 11) + k.val, by have := k.isLt; omega⟩ : Fin 5632) (y 1)) : EReal)
  else 0

/-- A point's store is what was there plus what the point adds. -/
theorem pay_blocks (n : ℕ) (h : n < cfg0.N) (acc : Vec Ideal S1024x2048 .f32) (y : S1024x2048.Idx) :
    k0_pay2 (iblk m c 0 ⟨n, h⟩) (iblk m c 1 ⟨n, h⟩) (iblk m c 2 ⟨n, h⟩) acc (iblk m c 3 ⟨n, h⟩) y = (acc y : EReal) + added m c n y := by
  have hy0 : (y 0).val < 1024 := (y 0).isLt
  have hn := point_lt h
  obtain ⟨p, q, rfl⟩ : ∃ (p : Fin 1024) (q : Fin 2048), y = ix2 p q := ⟨y 0, y 1, idx_eq y⟩
  refine (pay_apply _ _ _ _ _ p q).trans (congrArg (fun z : EReal => (acc (ix2 p q) : EReal) + z) ?_)
  unfold added
  rw [dif_pos hn]
  refine Finset.sum_congr rfl fun k _ => congrArg₂ (· * ·) ?_ (blk_3 m c ⟨n, h⟩ k q _ rfl)
  unfold hid
  refine congrArg₂ (· * ·) (congrArg silu ?_) ?_
  · exact Finset.sum_congr rfl fun d _ => congrArg₂ (· * ·) (blk_0 m c ⟨n, h⟩ p d _ rfl) (blk_1 m c ⟨n, h⟩ d k _ rfl)
  · exact Finset.sum_congr rfl fun d _ => congrArg₂ (· * ·) (blk_0 m c ⟨n, h⟩ p d _ rfl) (blk_2 m c ⟨n, h⟩ d k _ rfl)

/-- The array the call leaves is the feed-forward layer. -/
theorem result : G4 m c = ffn (m ((c : Thread nD τ).loc main_arg0)) (m ((c : Thread nD τ).loc main_arg1)) (m ((c : Thread nD τ).loc main_arg2)) (m ((c : Thread nD τ).loc main_arg3)) := by
  funext x
  have h0 : (x 0).val < 8192 := (x 0).isLt
  have h1 : (x 1).val < 2048 := (x 1).isLt
  have hr : run4Of x = (x 0).val / 1024 := by
    show 1 * ((x 0).val / 1024 - 0) + 1 * ((x 1).val / 2048 - 0) = _
    omega
  have hlt : 11 * run4Of x + 10 < cfg0.N := by show _ < grid0.N; rw [N_0, hr]; omega
  unfold G4
  rw [dif_pos hlt]
  refine (Pipeline.accAt_add_apply (reset4 m c) (step4 m c) (fun _ => (0 : EReal)) (added m c) (11 * run4Of x) 10 ?_ ?_ 10 le_rfl hlt (loc4Of x)).trans ?_
  · intro h i
    refine (pay_blocks m c _ h (k0_pay1 (F := Ideal)) i).trans (congrArg (fun z : EReal => z + added m c (11 * run4Of x) i) ?_)
    exact Ideal.ofBits_zero_f32
  · intro n h acc i _ _
    exact pay_blocks m c n h acc i
  · refine (zero_add _).trans ?_
    unfold ffn
    refine sum_blocks 11 512 5632 rfl _ _ fun s hs => ?_
    unfold added
    rw [dif_pos (by rw [hr]; omega)]
    have hq : (11 * run4Of x + s) % 11 = s := by omega
    have hd : (11 * run4Of x + s) / 11 * 1024 + (loc4Of x 0).val = (x 0).val := by
      show (11 * run4Of x + s) / 11 * 1024 + (x 0).val % 1024 = (x 0).val
      rw [hr]; omega
    have hl : loc4Of x 1 = x 1 := Fin.ext (Nat.mod_eq_of_lt h1)
    refine Finset.sum_congr rfl fun k _ => congrArg₂ (· * ·) (congrArg₂ (hid _ _ _) (Fin.ext hd) (Fin.ext ?_)) (congrArg _ (congrArg₂ ix2 (Fin.ext ?_) hl))
    · show 512 * ((11 * run4Of x + s) % 11) + k.val = 512 * s + k.val
      rw [hq]
    · show 512 * ((11 * run4Of x + s) % 11) + k.val = 512 * s + k.val
      rw [hq]

end Cert.KernelFfnIdeal.Ffn

end
-- ==== Proof.FfnClaim.lean ====
/-
  The claim on the feed-forward call: the kernel and the reference leave the same array, the feed-forward layer.
-/
module

public import proofs.«01_k».proof.Defs
public import proofs.«01_k».proof.Proof.Gen.ReferenceFfnIdeal.Run
public import proofs.«01_k».proof.Proof.FfnBlock

@[expose] public section

set_option maxRecDepth 8192

noncomputable section

namespace Cert.Ffn

open Idealize.ShloMosaic
open Idealize.ShloMosaic.TcCoe
open Idealize.SL.Sem
open Idealize.ShloMosaic.ValueIdx (ix2)
open Cert.Products
open Cert.KernelFfnIdeal.Ffn (ffn hid result)

section

open Cert.ReferenceFfnIdeal Cert.ReferenceFfnIdeal.Gen

/-- The gate's factor, as the reference computes it. -/
def siluArr (g : FVec Ideal S8192x5632 .f32) : FVec Ideal S8192x5632 .f32 :=
  mulf g (Host.divf (broadcastInDim S8192x5632 ![] bcast_S_S8192x5632 (constant S_ .f32 0x3F800000#32))
    (addf (broadcastInDim S8192x5632 ![] bcast_S_S8192x5632 (constant S_ .f32 0x3F800000#32)) (Host.exp (Host.negf g))))

theorem siluArr_apply (g : FVec Ideal S8192x5632 .f32) (x : S8192x5632.Idx) : siluArr g x = silu (g x) := by
  unfold siluArr silu
  exact congrArg (fun z : EReal => (g x : EReal) * z) (host_sigmoid _ g x)

/-- The reference's result at its arguments. -/
def refArr (h : FVec Ideal S8192x2048 .bf16) (wg wu : FVec Ideal S2048x5632 .f32) (wd : FVec Ideal S5632x2048 .f32) : FVec Ideal S8192x2048 .f32 :=
  Host.dotGeneral dot_S8192x5632_S5632x2048_S8192x2048_1_0_0_1_n_n none
    (mulf (siluArr (Host.dotGeneral dot_S8192x2048_S2048x5632_S8192x5632_1_0_0_1_n_n none (extf .f32 h bitsLt_bf16_f32) wg))
      (Host.dotGeneral dot_S8192x2048_S2048x5632_S8192x5632_1_0_0_1_n_n none (extf .f32 h bitsLt_bf16_f32) wu)) wd

theorem refArr_eq (h : FVec Ideal S8192x2048 .bf16) (wg wu : FVec Ideal S2048x5632 .f32) (wd : FVec Ideal S5632x2048 .f32) :
    refArr h wg wu wd = ffn h wg wu wd := by
  funext x
  obtain ⟨i, j, rfl⟩ : ∃ (i : Fin 8192) (j : Fin 2048), x = ix2 i j := ⟨x 0, x 1, idx_eq x⟩
  unfold refArr
  refine (host_apply _ rfl _ _ i j).trans ?_
  unfold ffn hid
  refine Finset.sum_congr rfl fun k _ => congrArg₂ (· * ·) (congrArg₂ (· * ·) ?_ (host_apply _ rfl _ _ i k)) rfl
  exact (siluArr_apply _ _).trans (congrArg silu (host_apply _ rfl _ _ i k))

end

theorem algebraic : Cert.algebraic_KernelFfnIdeal_ReferenceFfnIdeal := by
  intro m g m' g' _ hm
  refine ⟨fun c => ffn (m ((c.tc : Thread Cert.KernelFfnIdeal.nD Cert.KernelFfnIdeal.τ).loc Cert.KernelFfnIdeal.main_arg0))
    (m ((c.tc : Thread Cert.KernelFfnIdeal.nD Cert.KernelFfnIdeal.τ).loc Cert.KernelFfnIdeal.main_arg1))
    (m ((c.tc : Thread Cert.KernelFfnIdeal.nD Cert.KernelFfnIdeal.τ).loc Cert.KernelFfnIdeal.main_arg2))
    (m ((c.tc : Thread Cert.KernelFfnIdeal.nD Cert.KernelFfnIdeal.τ).loc Cert.KernelFfnIdeal.main_arg3)), ?_, ?_⟩
  · exact (θ_run Cert.KernelFfnIdeal.defs _ _).mono (fun r h c => ⟨(h c).1.trans (result m c), (h c).2⟩) (Cert.KernelFfnIdeal.Value.run (F := Ideal) m g)
  · refine (θ_run Cert.ReferenceFfnIdeal.defs _ _).mono (fun r h c => ⟨(h c).1.trans ?_, (h c).2⟩) (Cert.ReferenceFfnIdeal.Value.run (F := Ideal) m' g')
    rw [(hm c).1, (hm c).2.1, (hm c).2.2.1, (hm c).2.2.2]
    exact refArr_eq _ _ _ _

end Cert.Ffn

end
-- ==== Proof.Norms.lean ====
/-
  The root mean square norm of a row of 2048 numbers, as the kernels and as the host compute it.
-/
module

public import proofs.«01_k».proof.Proof.Products
public import Idealize.ShloMosaic.Lib.KernelVsHost

@[expose] public section

noncomputable section

namespace Cert.Products

open Idealize.ShloMosaic
open Idealize.ShloMosaic.ValueIdx (ix1 ix2)

/-- The factor of a row: one over the root of its mean square, the constant added. -/
def factor (r : Fin 2048 → EReal) : EReal :=
  Ideal.rsqrt (Ideal.div (∑ k : Fin 2048, r k * r k) (Ideal.ofBits .f32 0x45000000#32) + Ideal.ofBits .f32 0x358637BD#32)

/-- The norm of a row, weighted. -/
def norm (r g : Fin 2048 → EReal) (j : Fin 2048) : EReal := r j * factor r * g j

variable {M : ℕ}

/-- The places that a row's sum runs over. -/
theorem lift_row (h : (⟨2, ![M, 2048]⟩ : Shape).Reduces [1] ⟨1, ![M]⟩) (i : (⟨1, ![M]⟩ : Shape).Idx) (k : Fin 2048) :
    h.lift i k = ix2 (⟨(i 0).val, (i 0).isLt⟩ : Fin M) k := by
  funext a
  match a with
  | ⟨0, _⟩ => exact Fin.ext rfl
  | ⟨1, _⟩ => exact Fin.ext rfl

/-- The kernel's norm. -/
theorem kernel_norm (x : FVec Ideal ⟨2, ![M, 2048]⟩ .f32) (g : FVec Ideal ⟨2, ![1, 2048]⟩ .f32)
    (hr : (⟨2, ![M, 2048]⟩ : Shape).Reduces [1] ⟨1, ![M]⟩) (hc : (⟨1, ![M]⟩ : Shape).ShapeCasts ⟨2, ![M, 1]⟩)
    (hb : (⟨2, ![M, 1]⟩ : Shape).Broadcasts ⟨2, ![M, 2048]⟩) (hg : (⟨2, ![1, 2048]⟩ : Shape).Broadcasts ⟨2, ![M, 2048]⟩) (i : Fin M) (j : Fin 2048) :
    mulf (mulf x (broadcastTo ⟨2, ![M, 2048]⟩ (rsqrt (addf (divf (shapeCast ⟨2, ![M, 1]⟩
      (multiReduction .add [1] ⟨1, ![M]⟩ (mulf x x) 0x00000000#32 hr (.inl rfl) rfl) hc) (broadcast ⟨2, ![M, 1]⟩ (Scalar.ofBits (F := Ideal) .f32 0x45000000#32)))
        (broadcast ⟨2, ![M, 1]⟩ (Scalar.ofBits (F := Ideal) .f32 0x358637BD#32)))) hb)) (broadcastTo ⟨2, ![M, 2048]⟩ g hg) (ix2 i j)
      = norm (fun k => x (ix2 i k)) (fun k => g (ix2 (0 : Fin 1) k)) j := by
  unfold norm
  refine congrArg₂ (· * ·) (congrArg (fun z : EReal => (x (ix2 i j) : EReal) * z) ?_) ?_
  · refine (broadcastTo_apply _ hb (ix2 i j) (ix2 i (0 : Fin 1)) fun a => ?_).trans ?_
    · match a with
      | ⟨0, _⟩ =>
        show i.val = if M = 1 then 0 else i.val
        split
        · have := i.isLt; omega
        · rfl
      | ⟨1, _⟩ => rfl
    · unfold factor
      refine congrArg Ideal.rsqrt (congrArg (fun z : EReal => z + Ideal.ofBits .f32 0x358637BD#32) (congrArg (fun z : EReal => Ideal.div z (Ideal.ofBits .f32 0x45000000#32)) ?_))
      refine (shapeCast_apply _ hc (ix2 i (0 : Fin 1)) (ix1 i) ?_).trans ?_
      · simp [Shape.rowMajor_val_one, Shape.rowMajor_val_two]
        rfl
      · refine (Ideal.multiReduction_add_single _ _ hr _ _ _).trans ?_
        refine Finset.sum_congr rfl fun k _ => ?_
        rw [lift_row hr (ix1 i) k]
        rfl
  · refine broadcastTo_apply _ hg (ix2 i j) (ix2 (0 : Fin 1) j) fun a => ?_
    match a with
    | ⟨0, _⟩ => rfl
    | ⟨1, _⟩ => rfl

/-- The host's norm. -/
theorem host_norm (x : FVec Ideal ⟨2, ![M, 2048]⟩ .f32) (g : FVec Ideal ⟨1, ![2048]⟩ .f32)
    (hr : (⟨2, ![M, 2048]⟩ : Shape).ReducesTo [1] ⟨1, ![M]⟩) (hu : 0 < (⟨0, ![]⟩ : Shape).numel) (hc : (⟨1, ![M]⟩ : Shape).BroadcastsInDim ⟨2, ![M, 1]⟩ ![0])
    (hs : (⟨0, ![]⟩ : Shape).BroadcastsInDim ⟨2, ![M, 1]⟩ ![])
    (hb : (⟨2, ![M, 1]⟩ : Shape).BroadcastsInDim ⟨2, ![M, 2048]⟩ ![0, 1]) (hg' : (⟨1, ![2048]⟩ : Shape).BroadcastsInDim ⟨2, ![1, 2048]⟩ ![1])
    (hg : (⟨2, ![1, 2048]⟩ : Shape).BroadcastsInDim ⟨2, ![M, 2048]⟩ ![0, 1]) (i : Fin M) (j : Fin 2048) :
    mulf (mulf x (broadcastInDim ⟨2, ![M, 2048]⟩ ![0, 1] hb (Host.rsqrt (addf (Host.divf (broadcastInDim ⟨2, ![M, 1]⟩ ![0] hc
      (Host.reduceAdd (mulf x x) (constant (F := Ideal) ⟨0, ![]⟩ .f32 0x00000000#32) hr hu)) (broadcastInDim ⟨2, ![M, 1]⟩ ![] hs (constant (F := Ideal) ⟨0, ![]⟩ .f32 0x45000000#32)))
        (broadcastInDim ⟨2, ![M, 1]⟩ ![] hs (constant (F := Ideal) ⟨0, ![]⟩ .f32 0x358637BD#32))))))
        (broadcastInDim ⟨2, ![M, 2048]⟩ ![0, 1] hg (broadcastInDim ⟨2, ![1, 2048]⟩ ![1] hg' g)) (ix2 i j)
      = norm (fun k => x (ix2 i k)) (fun k => g (ix1 k)) j := by
  have hr' : (⟨2, ![M, 2048]⟩ : Shape).Reduces [1] ⟨1, ![M]⟩ := ⟨hr.1, Nat.one_pos, hr.2⟩
  unfold norm
  refine congrArg₂ (· * ·) (congrArg (fun z : EReal => (x (ix2 i j) : EReal) * z) ?_) ?_
  · refine (broadcastInDim_apply _ hb _ (ix2 i j) (ix2 i (0 : Fin 1)) fun a => ?_).trans ?_
    · match a with
      | ⟨0, _⟩ =>
        show i.val = if M = 1 then 0 else i.val
        split
        · have := i.isLt; omega
        · rfl
      | ⟨1, _⟩ => rfl
    · unfold factor
      refine congrArg Ideal.rsqrt (congrArg₂ (· + ·) (congrArg₂ Ideal.div ?_ ?_) ?_)
      · refine (broadcastInDim_apply _ hc _ (ix2 i (0 : Fin 1)) (ix1 i) fun a => ?_).trans ?_
        · match a with
          | ⟨0, _⟩ =>
            show i.val = if M = 1 then 0 else i.val
            split
            · have := i.isLt; omega
            · rfl
        · show Ideal.hostReduceAdd _ _ _ _ = _
          rw [Ideal.hostReduceAdd_single hr hr']
          refine Eq.trans (congrArg (fun z : EReal => z + _) Ideal.ofBits_zero_f32) ((zero_add _).trans ?_)
          refine Finset.sum_congr rfl fun k _ => ?_
          rw [lift_row hr' (ix1 i) k]
          rfl
      · rw [ValueIdx.broadcastInDim_scalar_apply, ValueIdx.constant_apply]
      · rw [ValueIdx.broadcastInDim_scalar_apply, ValueIdx.constant_apply]
  · refine (broadcastInDim_apply _ hg _ (ix2 i j) (ix2 (0 : Fin 1) j) fun a => ?_).trans ?_
    · match a with
      | ⟨0, _⟩ => rfl
      | ⟨1, _⟩ => rfl
    · refine broadcastInDim_apply _ hg' g _ (ix1 j) fun a => ?_
      match a with
      | ⟨0, _⟩ => rfl

end Cert.Products

end
-- ==== Proof.MergeBlock.lean ====
/-
  The merge's call: what a grid point writes, row by row, and the two arrays that the points leave.
-/
module

public import proofs.«01_k».proof.Proof.Gen.KernelMergeIdeal.Value
public import proofs.«01_k».proof.Proof.Norms
public import Idealize.ShloMosaic.Lib.Pipeline.ValueKit.Geometry

@[expose] public section

set_option maxRecDepth 8192

noncomputable section

namespace Cert.Merge

/-- A row of the stream with the two gated branches mixed in; `ga` and `gb` are the gates. -/
def row (x : Fin 2048 → EReal) (a b : Fin 1024 → EReal) (ga gb : Fin 2048 → EReal) (wa wb : Fin 1024 → Fin 2048 → EReal) (wo : Fin 2048 → Fin 2048 → EReal)
    (j : Fin 2048) : EReal :=
  x j + ∑ k : Fin 2048, (ga k * (∑ d : Fin 1024, a d * wa d k) + gb k * ∑ d : Fin 1024, b d * wb d k) * wo k j

end Cert.Merge

namespace Cert.KernelMergeIdeal.Merge

open Cert.KernelMergeIdeal Cert.KernelMergeIdeal.Gen Cert.KernelMergeIdeal.Value Cert.Products Cert.Merge
open Idealize.ShloMosaic
open Idealize.ShloMosaic.TcCoe
open Idealize.ShloMosaic.ValueIdx (ix1 ix2)

/-- The merged stream. -/
def merged (x : FVec Ideal S8192x2048 .f32) (a b : FVec Ideal S8192x1024 .bf16) (ga gb : FVec Ideal S8192x2048 .f32) (wa wb : FVec Ideal S1024x2048 .f32)
    (wo : FVec Ideal S2048x2048 .f32) : FVec Ideal S8192x2048 .f32 := fun i =>
  row (fun k => x (ix2 (i 0) k)) (fun d => a (ix2 (i 0) d)) (fun d => b (ix2 (i 0) d)) (fun k => Ideal.logistic (ga (ix2 (i 0) k)))
    (fun k => Ideal.logistic (gb (ix2 (i 0) k))) (fun d k => wa (ix2 d k)) (fun d k => wb (ix2 d k)) (fun k j => wo (ix2 k j)) (i 1)

/-- The norm of the merged stream's rows. -/
def normed (s : FVec Ideal S8192x2048 .f32) (g : FVec Ideal S2048 .f32) : FVec Ideal S8192x2048 .bf16 := fun i =>
  norm (fun k => s (ix2 (i 0) k)) (fun k => g (ix1 k)) (i 1)

theorem pay2_apply (v0 : Vec Ideal S512x1024 .bf16) (v1 : Vec Ideal S1024x2048 .bf16) (v4 : Vec Ideal S512x1024 .bf16) (v5 : Vec Ideal S1024x2048 .bf16)
    (v8 v12 : Vec Ideal S512x2048 .bf16) (v17 : Vec Ideal S512x2048 .f32) (v19 : Vec Ideal S2048x2048 .bf16) (a : Fin 512) (j : Fin 2048) :
    k0_pay2 v0 v1 v4 v5 v8 v12 v17 v19 (ix2 a j) = row (fun k => v17 (ix2 a k)) (fun d => v0 (ix2 a d)) (fun d => v4 (ix2 a d)) (fun k => v8 (ix2 a k))
      (fun k => v12 (ix2 a k)) (fun d k => v1 (ix2 d k)) (fun d k => v5 (ix2 d k)) (fun k j => v19 (ix2 k j)) j := by
  unfold k0_pay2 row
  dsimp only
  rw [shapeCast_self, shapeCast_self, shapeCast_self, shapeCast_self, shapeCast_self]
  refine congrArg (fun z : EReal => (v17 (ix2 a j) : EReal) + z) ?_
  refine (kernel_apply (φ₁ := .bf16) (φ₂ := .bf16) _ rfl _ _ a j).trans ?_
  refine Finset.sum_congr rfl fun k _ => congrArg (fun z : EReal => z * (v19 (ix2 k j) : EReal)) ?_
  refine congrArg₂ (fun u v : EReal => u + v) (congrArg (fun z : EReal => (v8 (ix2 a k) : EReal) * z) ?_) (congrArg (fun z : EReal => (v12 (ix2 a k) : EReal) * z) ?_)
  · exact kernel_apply (φ₁ := .bf16) (φ₂ := .bf16) _ rfl _ _ a k
  · exact kernel_apply (φ₁ := .bf16) (φ₂ := .bf16) _ rfl _ _ a k

theorem pay1_apply (v0 : Vec Ideal S512x1024 .bf16) (v1 : Vec Ideal S1024x2048 .bf16) (v4 : Vec Ideal S512x1024 .bf16) (v5 : Vec Ideal S1024x2048 .bf16)
    (v8 v12 : Vec Ideal S512x2048 .bf16) (v17 : Vec Ideal S512x2048 .f32) (v19 : Vec Ideal S2048x2048 .bf16) (v24 : Vec Ideal S1x2048 .f32) (a : Fin 512) (j : Fin 2048) :
    k0_pay1 (k0_pay2 v0 v1 v4 v5 v8 v12 v17 v19) (k0_pay3 v24) (k0_pay4 v0 v1 v4 v5 v8 v12 v17 v19) (k0_pay5 (F := Ideal)) (ix2 a j)
      = norm (row (fun k => v17 (ix2 a k)) (fun d => v0 (ix2 a d)) (fun d => v4 (ix2 a d)) (fun k => v8 (ix2 a k))
      (fun k => v12 (ix2 a k)) (fun d k => v1 (ix2 d k)) (fun d k => v5 (ix2 d k)) (fun k j => v19 (ix2 k j))) (fun k => v24 (ix2 (0 : Fin 1) k)) j := by
  have h3 : k0_pay3 v24 = v24 := shapeCast_self v24 _
  rw [h3]
  refine (kernel_norm (k0_pay2 v0 v1 v4 v5 v8 v12 v17 v19) v24 _ _ _ _ a j).trans ?_
  exact congrArg (fun r => norm r _ j) (funext fun k => pay2_apply v0 v1 v4 v5 v8 v12 v17 v19 a k)

theorem zeros : (![0, 0] : Fin 2 → ℕ) = fun _ => 0 := by decide

section

variable (x0 : Vec Ideal S512x2048 .f32) (x1 x2 : Vec Ideal S512x1024 .bf16) (x3 x4 : Vec Ideal S512x2048 .bf16) (x5 x6 : Vec Ideal S1024x2048 .bf16)
  (x7 : Vec Ideal S2048x2048 .bf16) (x8 : Vec Ideal S1x2048 .f32) (a : Fin 512) (j : Fin 2048)

theorem out9_apply : out0_9 x0 x1 x2 x3 x4 x5 x6 x7 x8 (ix2 a j) = row (fun k => x0 (ix2 a k)) (fun d => x1 (ix2 a d)) (fun d => x2 (ix2 a d)) (fun k => x3 (ix2 a k))
      (fun k => x4 (ix2 a k)) (fun d k => x5 (ix2 d k)) (fun d k => x6 (ix2 d k)) (fun k j => x7 (ix2 k j)) j := by
  unfold out0_9
  rw [View.canon_unit_zero zeros, View.ld_unit_zero zeros, View.ld_unit_zero zeros, View.ld_unit_zero zeros, View.ld_unit_zero zeros, View.ld_unit_zero zeros, View.ld_unit_zero zeros, View.ld_unit_zero zeros, View.ld_unit_zero zeros]
  exact pay2_apply x1 x5 x2 x6 x3 x4 x0 x7 a j

theorem out10_apply : out0_10 x0 x1 x2 x3 x4 x5 x6 x7 x8 (ix2 a j) = norm (row (fun k => x0 (ix2 a k)) (fun d => x1 (ix2 a d)) (fun d => x2 (ix2 a d)) (fun k => x3 (ix2 a k))
      (fun k => x4 (ix2 a k)) (fun d k => x5 (ix2 d k)) (fun d k => x6 (ix2 d k)) (fun k j => x7 (ix2 k j))) (fun k => x8 (ix2 (0 : Fin 1) k)) j := by
  unfold out0_10
  rw [View.canon_unit_zero zeros, View.ld_unit_zero zeros, View.ld_unit_zero zeros, View.ld_unit_zero zeros, View.ld_unit_zero zeros, View.ld_unit_zero zeros, View.ld_unit_zero zeros, View.ld_unit_zero zeros, View.ld_unit_zero zeros, View.ld_unit_zero zeros]
  exact pay1_apply x1 x5 x2 x6 x3 x4 x0 x7 x8 a j

end

/-! ## The host's arrays -/

/-- The gates' sigmoid, as the host computes it. -/
def sigm (g : FVec Ideal S8192x2048 .f32) : FVec Ideal S8192x2048 .f32 :=
  Host.divf (broadcastInDim S8192x2048 ![] bcast_S_S8192x2048 (constant S_ .f32 0x3F800000#32))
    (addf (broadcastInDim S8192x2048 ![] bcast_S_S8192x2048 (constant S_ .f32 0x3F800000#32)) (Host.exp (Host.negf g)))

/-- The packed projection: the two gates in its first columns, zeros in the others. -/
def packed (ga gb : FVec Ideal S8192x2048 .f32) : FVec Ideal S8192x10240 .bf16 :=
  concatenate S8192x10240 1 [⟨S8192x2048, truncf .bf16 (sigm ga) bitsLt_bf16_f32⟩, ⟨S8192x2048, truncf .bf16 (sigm gb) bitsLt_bf16_f32⟩,
    ⟨S8192x6144, broadcastInDim S8192x6144 ![] bcast_S_S8192x6144 (constant (F := Ideal) S_ .bf16 0x0000#16)⟩] concatenates_S8192x2048_S8192x2048_S8192x6144_S8192x10240_d1

theorem packed_a (ga gb : FVec Ideal S8192x2048 .f32) (i : Fin 8192) (j : Fin 2048) (x : Fin 10240) (hx : x.val = j.val) :
    packed ga gb (ix2 i x) = Ideal.logistic (ga (ix2 i j)) := by
  unfold packed
  refine Eq.trans (concatenate_apply_piece (1 : Fin 2) _ _ (ix2 i x) 0 (Nat.lt_of_sub_pos (by exact Nat.zero_lt_succ _)) S8192x2048 _ rfl rfl 0 rfl (ix2 i j) (fun b hb => ?_) (by exact (Nat.zero_add _).trans hx.symm)) ?_
  · match b, hb with
    | ⟨0, _⟩, _ => rfl
    | ⟨1, _⟩, hb => exact absurd rfl hb
  · exact host_sigmoid _ _ _

theorem packed_b (ga gb : FVec Ideal S8192x2048 .f32) (i : Fin 8192) (j : Fin 2048) (x : Fin 10240) (hx : x.val = 2048 + j.val) :
    packed ga gb (ix2 i x) = Ideal.logistic (gb (ix2 i j)) := by
  unfold packed
  refine Eq.trans (concatenate_apply_piece (1 : Fin 2) _ _ (ix2 i x) 1 (Nat.lt_of_sub_pos (by exact Nat.zero_lt_succ _)) S8192x2048 _ rfl rfl 2048 rfl (ix2 i j) (fun b hb => ?_) (by exact hx.symm)) ?_
  · match b, hb with
    | ⟨0, _⟩, _ => rfl
    | ⟨1, _⟩, hb => exact absurd rfl hb
  · exact host_sigmoid _ _ _

variable (m : (ℓ : Loc nD τ sig) → Buf (Elt Ideal) ℓ) (c : Dev nD)

theorem V_packed : V m c main_v15 = packed (m ((c : Thread nD τ).loc main_arg3)) (m ((c : Thread nD τ).loc main_arg4)) := by rfl
theorem V_wa : V m c main_v16 = m ((c : Thread nD τ).loc main_arg5) := by rfl
theorem V_wb : V m c main_v17 = m ((c : Thread nD τ).loc main_arg6) := by rfl
theorem V_wo : V m c main_v18 = m ((c : Thread nD τ).loc main_arg7) := by rfl
theorem V_g : V m c main_v19 = broadcastInDim S1x2048 ![1] bcast_S2048_S1x2048_1 (m ((c : Thread nD τ).loc main_arg8)) := by rfl

/-- The weights of a norm, laid out as a row. -/
theorem row_apply (g : FVec Ideal S2048 .f32) (k : Fin 2048) : broadcastInDim S1x2048 ![1] bcast_S2048_S1x2048_1 g (ix2 (0 : Fin 1) k) = g (ix1 k) :=
  broadcastInDim_apply _ _ g _ (ix1 k) fun a => by
    match a with
    | ⟨0, _⟩ => rfl

/-! ## The blocks -/

theorem idx_0 : ∀ t : Fin cfg0.N, win0_0.index t 0 = t.val ∧ win0_0.index t 1 = 0 := by decide +kernel
theorem idx_1 : ∀ t : Fin cfg0.N, win0_1.index t 0 = t.val ∧ win0_1.index t 1 = 0 := by decide +kernel
theorem idx_2 : ∀ t : Fin cfg0.N, win0_2.index t 0 = t.val ∧ win0_2.index t 1 = 0 := by decide +kernel
theorem idx_3 : ∀ t : Fin cfg0.N, win0_3.index t 0 = t.val ∧ win0_3.index t 1 = 0 := by decide +kernel
theorem idx_4 : ∀ t : Fin cfg0.N, win0_4.index t 0 = t.val ∧ win0_4.index t 1 = 1 := by decide +kernel
theorem idx_5 : ∀ t : Fin cfg0.N, win0_5.index t 0 = 0 ∧ win0_5.index t 1 = 0 := by decide +kernel
theorem idx_6 : ∀ t : Fin cfg0.N, win0_6.index t 0 = 0 ∧ win0_6.index t 1 = 0 := by decide +kernel
theorem idx_7 : ∀ t : Fin cfg0.N, win0_7.index t 0 = 0 ∧ win0_7.index t 1 = 0 := by decide +kernel
theorem idx_8 : ∀ t : Fin cfg0.N, win0_8.index t 0 = 0 ∧ win0_8.index t 1 = 0 := by decide +kernel
theorem idx_9 : ∀ t : Fin cfg0.N, win0_9.index t 0 = t.val ∧ win0_9.index t 1 = 0 := by decide +kernel
theorem idx_10 : ∀ t : Fin cfg0.N, win0_10.index t 0 = t.val ∧ win0_10.index t 1 = 0 := by decide +kernel

theorem blk_0 (t : Fin cfg0.N) (a : Fin 512) (k : Fin 2048) (i : Fin 8192) (hi : i.val = t.val * 512 + a.val) :
    iblk m c 0 t (ix2 a k) = V m c main_arg0 (ix2 i k) := by
  unfold iblk
  refine congrArg (V m c main_arg0) (funext fun b => Fin.ext ?_)
  match b with
  | ⟨0, _⟩ =>
    show win0_0.index t 0 * 512 + 1 * a.val = i.val
    rw [(idx_0 t).1]; omega
  | ⟨1, _⟩ =>
    show win0_0.index t 1 * 2048 + 1 * k.val = k.val
    rw [(idx_0 t).2]; omega

theorem blk_1 (t : Fin cfg0.N) (a : Fin 512) (k : Fin 1024) (i : Fin 8192) (hi : i.val = t.val * 512 + a.val) :
    iblk m c 1 t (ix2 a k) = V m c main_arg1 (ix2 i k) := by
  unfold iblk
  refine congrArg (V m c main_arg1) (funext fun b => Fin.ext ?_)
  match b with
  | ⟨0, _⟩ =>
    show win0_1.index t 0 * 512 + 1 * a.val = i.val
    rw [(idx_1 t).1]; omega
  | ⟨1, _⟩ =>
    show win0_1.index t 1 * 1024 + 1 * k.val = k.val
    rw [(idx_1 t).2]; omega

theorem blk_2 (t : Fin cfg0.N) (a : Fin 512) (k : Fin 1024) (i : Fin 8192) (hi : i.val = t.val * 512 + a.val) :
    iblk m c 2 t (ix2 a k) = V m c main_arg2 (ix2 i k) := by
  unfold iblk
  refine congrArg (V m c main_arg2) (funext fun b => Fin.ext ?_)
  match b with
  | ⟨0, _⟩ =>
    show win0_2.index t 0 * 512 + 1 * a.val = i.val
    rw [(idx_2 t).1]; omega
  | ⟨1, _⟩ =>
    show win0_2.index t 1 * 1024 + 1 * k.val = k.val
    rw [(idx_2 t).2]; omega

theorem blk_3 (t : Fin cfg0.N) (a : Fin 512) (k : Fin 2048) (i : Fin 8192) (hi : i.val = t.val * 512 + a.val) (x : Fin 10240) (hx : x.val = k.val) :
    iblk m c 3 t (ix2 a k) = V m c main_v15 (ix2 i x) := by
  unfold iblk
  refine congrArg (V m c main_v15) (funext fun b => Fin.ext ?_)
  match b with
  | ⟨0, _⟩ =>
    show win0_3.index t 0 * 512 + 1 * a.val = i.val
    rw [(idx_3 t).1]; omega
  | ⟨1, _⟩ =>
    show win0_3.index t 1 * 2048 + 1 * k.val = x.val
    rw [(idx_3 t).2]; omega

theorem blk_4 (t : Fin cfg0.N) (a : Fin 512) (k : Fin 2048) (i : Fin 8192) (hi : i.val = t.val * 512 + a.val) (x : Fin 10240) (hx : x.val = 2048 + k.val) :
    iblk m c 4 t (ix2 a k) = V m c main_v15 (ix2 i x) := by
  unfold iblk
  refine congrArg (V m c main_v15) (funext fun b => Fin.ext ?_)
  match b with
  | ⟨0, _⟩ =>
    show win0_4.index t 0 * 512 + 1 * a.val = i.val
    rw [(idx_4 t).1]; omega
  | ⟨1, _⟩ =>
    show win0_4.index t 1 * 2048 + 1 * k.val = x.val
    rw [(idx_4 t).2]; omega

theorem blk_5 (t : Fin cfg0.N) (d : Fin 1024) (k : Fin 2048) : iblk m c 5 t (ix2 d k) = V m c main_v16 (ix2 d k) := by
  unfold iblk
  refine congrArg (V m c main_v16) (funext fun b => Fin.ext ?_)
  match b with
  | ⟨0, _⟩ =>
    show win0_5.index t 0 * 1024 + 1 * d.val = d.val
    rw [(idx_5 t).1]; omega
  | ⟨1, _⟩ =>
    show win0_5.index t 1 * 2048 + 1 * k.val = k.val
    rw [(idx_5 t).2]; omega

theorem blk_6 (t : Fin cfg0.N) (d : Fin 1024) (k : Fin 2048) : iblk m c 6 t (ix2 d k) = V m c main_v17 (ix2 d k) := by
  unfold iblk
  refine congrArg (V m c main_v17) (funext fun b => Fin.ext ?_)
  match b with
  | ⟨0, _⟩ =>
    show win0_6.index t 0 * 1024 + 1 * d.val = d.val
    rw [(idx_6 t).1]; omega
  | ⟨1, _⟩ =>
    show win0_6.index t 1 * 2048 + 1 * k.val = k.val
    rw [(idx_6 t).2]; omega

theorem blk_7 (t : Fin cfg0.N) (d : Fin 2048) (k : Fin 2048) : iblk m c 7 t (ix2 d k) = V m c main_v18 (ix2 d k) := by
  unfold iblk
  refine congrArg (V m c main_v18) (funext fun b => Fin.ext ?_)
  match b with
  | ⟨0, _⟩ =>
    show win0_7.index t 0 * 2048 + 1 * d.val = d.val
    rw [(idx_7 t).1]; omega
  | ⟨1, _⟩ =>
    show win0_7.index t 1 * 2048 + 1 * k.val = k.val
    rw [(idx_7 t).2]; omega

theorem blk_8 (t : Fin cfg0.N) (d : Fin 1) (k : Fin 2048) : iblk m c 8 t (ix2 d k) = V m c main_v19 (ix2 d k) := by
  unfold iblk
  refine congrArg (V m c main_v19) (funext fun b => Fin.ext ?_)
  match b with
  | ⟨0, _⟩ =>
    show win0_8.index t 0 * 1 + 1 * d.val = d.val
    rw [(idx_8 t).1]; omega
  | ⟨1, _⟩ =>
    show win0_8.index t 1 * 2048 + 1 * k.val = k.val
    rw [(idx_8 t).2]; omega

/-- The merged stream at the launch's arguments. -/
def stream : FVec Ideal S8192x2048 .f32 :=
  merged (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- Its norm at the launch's arguments. -/
def normStream : FVec Ideal S8192x2048 .bf16 := normed (stream m c) (m ((c : Thread nD τ).loc main_arg8))

/-- A point's row, written by the launch's arguments. -/
theorem point (t : Fin cfg0.N) (a : Fin 512) (i : Fin 8192) (hi : i.val = t.val * 512 + a.val) :
    row (fun k => iblk m c 0 t (ix2 a k)) (fun d => iblk m c 1 t (ix2 a d)) (fun d => iblk m c 2 t (ix2 a d)) (fun k => iblk m c 3 t (ix2 a k))
      (fun k => iblk m c 4 t (ix2 a k)) (fun d k => iblk m c 5 t (ix2 d k)) (fun d k => iblk m c 6 t (ix2 d k)) (fun k j => iblk m c 7 t (ix2 k j))
      = fun j => stream m c (ix2 i j) := by
  have e0 : ∀ k, iblk m c 0 t (ix2 a k) = m ((c : Thread nD τ).loc main_arg0) (ix2 i k) := fun k => (blk_0 m c t a k i hi).trans (congrFun (V_main_arg0 m c) _)
  have e1 : ∀ k, iblk m c 1 t (ix2 a k) = m ((c : Thread nD τ).loc main_arg1) (ix2 i k) := fun k => (blk_1 m c t a k i hi).trans (congrFun (V_main_arg1 m c) _)
  have e2 : ∀ k, iblk m c 2 t (ix2 a k) = m ((c : Thread nD τ).loc main_arg2) (ix2 i k) := fun k => (blk_2 m c t a k i hi).trans (congrFun (V_main_arg2 m c) _)
  have e3 : ∀ k : Fin 2048, iblk m c 3 t (ix2 a k) = Ideal.logistic (m ((c : Thread nD τ).loc main_arg3) (ix2 i k)) := fun k =>
    (blk_3 m c t a k i hi ⟨k.val, by omega⟩ rfl).trans ((congrFun (V_packed m c) _).trans (packed_a _ _ i k _ rfl))
  have e4 : ∀ k : Fin 2048, iblk m c 4 t (ix2 a k) = Ideal.logistic (m ((c : Thread nD τ).loc main_arg4) (ix2 i k)) := fun k =>
    (blk_4 m c t a k i hi ⟨2048 + k.val, by omega⟩ rfl).trans ((congrFun (V_packed m c) _).trans (packed_b _ _ i k _ rfl))
  have e5 : ∀ d k, iblk m c 5 t (ix2 d k) = m ((c : Thread nD τ).loc main_arg5) (ix2 d k) := fun d k => (blk_5 m c t d k).trans (congrFun (V_wa m c) _)
  have e6 : ∀ d k, iblk m c 6 t (ix2 d k) = m ((c : Thread nD τ).loc main_arg6) (ix2 d k) := fun d k => (blk_6 m c t d k).trans (congrFun (V_wb m c) _)
  have e7 : ∀ d k, iblk m c 7 t (ix2 d k) = m ((c : Thread nD τ).loc main_arg7) (ix2 d k) := fun d k => (blk_7 m c t d k).trans (congrFun (V_wo m c) _)
  funext j
  unfold stream merged row
  refine congrArg₂ (fun u v : EReal => u + v) (e0 j) (Finset.sum_congr rfl fun k _ => congrArg₂ (fun u v : EReal => u * v) ?_ (e7 k j))
  refine congrArg₂ (fun u v : EReal => u + v) (congrArg₂ (fun u v : EReal => u * v) (e3 k) ?_) (congrArg₂ (fun u v : EReal => u * v) (e4 k) ?_)
  · exact Finset.sum_congr rfl fun d _ => congrArg₂ (fun u v : EReal => u * v) (e1 d) (e5 d k)
  · exact Finset.sum_congr rfl fun d _ => congrArg₂ (fun u v : EReal => u * v) (e2 d) (e6 d k)

/-- A point's block of the stream. -/
theorem block9 (t : Fin cfg0.N) (a : Fin 512) (j : Fin 2048) (i : Fin 8192) (hi : i.val = t.val * 512 + a.val) :
    out0_9 (iblk m c 0 t) (iblk m c 1 t) (iblk m c 2 t) (iblk m c 3 t) (iblk m c 4 t) (iblk m c 5 t) (iblk m c 6 t) (iblk m c 7 t) (iblk m c 8 t) (ix2 a j) = stream m c (ix2 i j) :=
  (out9_apply _ _ _ _ _ _ _ _ _ a j).trans (congrFun (point m c t a i hi) j)

/-- A point's block of the norm. -/
theorem block10 (t : Fin cfg0.N) (a : Fin 512) (j : Fin 2048) (i : Fin 8192) (hi : i.val = t.val * 512 + a.val) :
    out0_10 (iblk m c 0 t) (iblk m c 1 t) (iblk m c 2 t) (iblk m c 3 t) (iblk m c 4 t) (iblk m c 5 t) (iblk m c 6 t) (iblk m c 7 t) (iblk m c 8 t) (ix2 a j) = normStream m c (ix2 i j) := by
  refine (out10_apply _ _ _ _ _ _ _ _ _ a j).trans ?_
  have e8 : ∀ k, iblk m c 8 t (ix2 (0 : Fin 1) k) = m ((c : Thread nD τ).loc main_arg8) (ix1 k) := fun k =>
    (blk_8 m c t 0 k).trans ((congrFun (V_g m c) _).trans (row_apply _ k))
  exact congrFun (congrArg₂ norm (point m c t a i hi) (funext e8)) j

theorem covers9 : (cfg0.win 9).Covers := by decide +kernel

theorem result9 : (dats m 0 c).arrAt 9 cfg0.N = stream m c := by
  refine (dats m 0 c).arrAt_eq_of_covers (9 : Fin 11) (stream m c) covers9 fun t hf y => ?_
  have h0 : (y 0).val < 512 := (y 0 : Fin 512).isLt
  have h1 : (y 1).val < 2048 := (y 1 : Fin 2048).isLt
  have ht : t.val < 16 := lt_of_lt_of_eq t.isLt (by decide)
  show (dats m 0 c).after 9 t ((cfg0.win 9).xinj (grid0.coords t) y) = _
  rw [after0_9]
  refine Eq.trans ?_ ((block9 m c t (y 0 : Fin 512) (y 1 : Fin 2048) ⟨t.val * 512 + (y 0).val, by omega⟩ rfl).trans ?_)
  · refine congrArg _ (funext fun a => ?_)
    match a with
    | ⟨0, _⟩ => rfl
    | ⟨1, _⟩ => rfl
  · refine congrArg (stream m c) (funext fun a => Fin.ext ?_)
    match a with
    | ⟨0, _⟩ =>
      show t.val * 512 + (y 0).val = win0_9.index t 0 * 512 + 1 * (y 0).val
      rw [(idx_9 t).1]; omega
    | ⟨1, _⟩ =>
      show (y 1).val = win0_9.index t 1 * 2048 + 1 * (y 1).val
      rw [(idx_9 t).2]; omega

theorem covers10 : (cfg0.win 10).Covers := by decide +kernel

theorem result10 : (dats m 0 c).arrAt 10 cfg0.N = normStream m c := by
  refine (dats m 0 c).arrAt_eq_of_covers (10 : Fin 11) (normStream m c) covers10 fun t hf y => ?_
  have h0 : (y 0).val < 512 := (y 0 : Fin 512).isLt
  have h1 : (y 1).val < 2048 := (y 1 : Fin 2048).isLt
  have ht : t.val < 16 := lt_of_lt_of_eq t.isLt (by decide)
  show (dats m 0 c).after 10 t ((cfg0.win 10).xinj (grid0.coords t) y) = _
  rw [after0_10]
  refine Eq.trans ?_ ((block10 m c t (y 0 : Fin 512) (y 1 : Fin 2048) ⟨t.val * 512 + (y 0).val, by omega⟩ rfl).trans ?_)
  · refine congrArg _ (funext fun a => ?_)
    match a with
    | ⟨0, _⟩ => rfl
    | ⟨1, _⟩ => rfl
  · refine congrArg (normStream m c) (funext fun a => Fin.ext ?_)
    match a with
    | ⟨0, _⟩ =>
      show t.val * 512 + (y 0).val = win0_10.index t 0 * 512 + 1 * (y 0).val
      rw [(idx_10 t).1]; omega
    | ⟨1, _⟩ =>
      show (y 1).val = win0_10.index t 1 * 2048 + 1 * (y 1).val
      rw [(idx_10 t).2]; omega

end Cert.KernelMergeIdeal.Merge

end
-- ==== Proof.MergeClaim.lean ====
/-
  The claim on the merge's call: the kernel and the reference leave the same two arrays.
-/
module

public import proofs.«01_k».proof.Defs
public import proofs.«01_k».proof.Proof.Gen.ReferenceMergeIdeal.Run
public import proofs.«01_k».proof.Proof.MergeBlock

@[expose] public section

set_option maxRecDepth 8192

noncomputable section

namespace Cert.Merge

open Idealize.ShloMosaic
open Idealize.ShloMosaic.TcCoe
open Idealize.SL.Sem
open Idealize.ShloMosaic.ValueIdx (ix1 ix2)
open Cert.Products
open Cert.KernelMergeIdeal.Merge (merged normed stream normStream result9 result10)

section

open Cert.ReferenceMergeIdeal Cert.ReferenceMergeIdeal.Gen

/-- The norm of the rows, as the reference computes it. -/
def normArr (x : FVec Ideal S8192x2048 .f32) (g : FVec Ideal S2048 .f32) : FVec Ideal S8192x2048 .bf16 :=
  truncf .bf16 (mulf (mulf x (broadcastInDim S8192x2048 ![0, 1] bcast_S8192x1_S8192x2048_0_1 (Host.rsqrt (addf (Host.divf
    (broadcastInDim S8192x1 ![0] bcast_S8192_S8192x1_0 (Host.reduceAdd (mulf x x) (constant S_ .f32 0x00000000#32) reducesTo_S8192x2048_S8192_d1 h_S_))
    (broadcastInDim S8192x1 ![] bcast_S_S8192x1 (constant S_ .f32 0x45000000#32))) (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))) bitsLt_bf16_f32

theorem normArr_eq (x : FVec Ideal S8192x2048 .f32) (g : FVec Ideal S2048 .f32) : normArr x g = normed x g := by
  funext z
  obtain ⟨i, j, rfl⟩ : ∃ (i : Fin 8192) (j : Fin 2048), z = ix2 i j := ⟨z 0, z 1, idx_eq z⟩
  unfold normArr
  exact host_norm x g _ _ _ _ _ _ _ i j

/-- The sigmoid, as the reference computes it. -/
def sigArr (g : FVec Ideal S8192x2048 .f32) : FVec Ideal S8192x2048 .f32 :=
  Host.divf (broadcastInDim S8192x2048 ![] bcast_S_S8192x2048 (constant S_ .f32 0x3F800000#32))
    (addf (broadcastInDim S8192x2048 ![] bcast_S_S8192x2048 (constant S_ .f32 0x3F800000#32)) (Host.exp (Host.negf g)))

/-- The merged stream, as the reference computes it. -/
def streamArr (x : FVec Ideal S8192x2048 .f32) (a b : FVec Ideal S8192x1024 .bf16) (ga gb : FVec Ideal S8192x2048 .f32) (wa wb : FVec Ideal S1024x2048 .f32)
    (wo : FVec Ideal S2048x2048 .f32) : FVec Ideal S8192x2048 .f32 :=
  addf x (Host.dotGeneral dot_S8192x2048_S2048x2048_S8192x2048_1_0_0_1_n_n none
    (addf (mulf (sigArr ga) (Host.dotGeneral dot_S8192x1024_S1024x2048_S8192x2048_1_0_0_1_n_n none (extf .f32 a bitsLt_bf16_f32) wa))
      (mulf (sigArr gb) (Host.dotGeneral dot_S8192x1024_S1024x2048_S8192x2048_1_0_0_1_n_n none (extf .f32 b bitsLt_bf16_f32) wb))) wo)

theorem streamArr_eq (x : FVec Ideal S8192x2048 .f32) (a b : FVec Ideal S8192x1024 .bf16) (ga gb : FVec Ideal S8192x2048 .f32) (wa wb : FVec Ideal S1024x2048 .f32)
    (wo : FVec Ideal S2048x2048 .f32) : streamArr x a b ga gb wa wb wo = merged x a b ga gb wa wb wo := by
  funext z
  obtain ⟨i, j, rfl⟩ : ∃ (i : Fin 8192) (j : Fin 2048), z = ix2 i j := ⟨z 0, z 1, idx_eq z⟩
  unfold streamArr merged row
  refine congrArg (fun z : EReal => (x (ix2 i j) : EReal) + z) ?_
  refine (host_apply (φ₁ := .f32) (φ₂ := .f32) _ rfl _ _ i j).trans ?_
  refine Finset.sum_congr rfl fun k _ => congrArg (fun z : EReal => z * (wo (ix2 k j) : EReal)) ?_
  refine congrArg₂ (fun u v : EReal => u + v) (congrArg₂ (fun u v : EReal => u * v) (host_sigmoid _ _ _) ?_)
    (congrArg₂ (fun u v : EReal => u * v) (host_sigmoid _ _ _) ?_)
  · exact host_apply (φ₁ := .f32) (φ₂ := .f32) _ rfl _ _ i k
  · exact host_apply (φ₁ := .f32) (φ₂ := .f32) _ rfl _ _ i k

/-- What the reference leaves in its two results. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = streamArr (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
      ∧ r.2.mem ((c.tc : Thread nD τ).loc main_v34) = normArr (streamArr (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)))
          (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  Cert.ReferenceMergeIdeal.Value.run (F := Ideal) m ρ

end

theorem algebraic : Cert.algebraic_KernelMergeIdeal_ReferenceMergeIdeal := by
  intro m g m' g' _ hm
  refine ⟨fun c => stream m c, fun c => normStream m c, ?_, ?_⟩
  · exact (θ_run Cert.KernelMergeIdeal.defs _ _).mono (fun r h c => ⟨(h c).1.trans (result9 m c), (h c).2.1.trans (result10 m c), (h c).2.2⟩)
      (Cert.KernelMergeIdeal.Value.run_blocks (F := Ideal) m g)
  · refine (θ_run Cert.ReferenceMergeIdeal.defs _ _).mono (fun r h c => ⟨(h c).1.trans ?_, (h c).2.1.trans ?_, (h c).2.2⟩) (ref_run m' g')
    · rw [(hm c).1, (hm c).2.1, (hm c).2.2.1, (hm c).2.2.2.1, (hm c).2.2.2.2.1, (hm c).2.2.2.2.2.1, (hm c).2.2.2.2.2.2.1, (hm c).2.2.2.2.2.2.2.1]
      exact streamArr_eq _ _ _ _ _ _ _ _
    · rw [(hm c).1, (hm c).2.1, (hm c).2.2.1, (hm c).2.2.2.1, (hm c).2.2.2.2.1, (hm c).2.2.2.2.2.1, (hm c).2.2.2.2.2.2.1, (hm c).2.2.2.2.2.2.2.1,
        (hm c).2.2.2.2.2.2.2.2, streamArr_eq]
      exact normArr_eq _ _

end Cert.Merge

end
-- ==== Proof.PleBlock.lean ====
/-
  The per-layer embedding's call: what a grid point writes, row by row, and the array that the points leave.
-/
module

public import proofs.«01_k».proof.Proof.Gen.KernelPleIdeal.Value
public import proofs.«01_k».proof.Proof.Norms
public import Idealize.ShloMosaic.Lib.Pipeline.ValueKit.Geometry

@[expose] public section

set_option maxRecDepth 8192

noncomputable section

namespace Cert.Ple

open Cert.Products

/-- A row of the stream with the gated embedding added. -/
def stream (s : Fin 2048 → EReal) (p : Fin 256 → EReal) (g : Fin 2048 → EReal) (wg : Fin 2048 → Fin 2048 → EReal) (wp : Fin 256 → Fin 2048 → EReal)
    (j : Fin 2048) : EReal :=
  s j + Idealize.ShloMosaic.Ideal.logistic (∑ k : Fin 2048, norm s g k * wg k j) * ∑ d : Fin 256, p d * wp d j

end Cert.Ple

namespace Cert.KernelPleIdeal.Ple

open Cert.KernelPleIdeal Cert.KernelPleIdeal.Gen Cert.KernelPleIdeal.Value Cert.Products Cert.Ple
open Idealize.ShloMosaic
open Idealize.ShloMosaic.TcCoe
open Idealize.ShloMosaic.ValueIdx (ix1 ix2)

/-- The embedding's layer. -/
def ple (x y : FVec Ideal S8192x2048 .f32) (p : FVec Ideal S8192x256 .f32) (g f : FVec Ideal S2048 .f32) (wg : FVec Ideal S2048x2048 .f32)
    (wp : FVec Ideal S256x2048 .f32) : FVec Ideal S8192x2048 .f32 := fun i =>
  norm (stream (fun k => (x (ix2 (i 0) k) + y (ix2 (i 0) k) : EReal)) (fun d => p (ix2 (i 0) d)) (fun k => g (ix1 k)) (fun k j => wg (ix2 k j)) (fun d j => wp (ix2 d j)))
    (fun k => f (ix1 k)) (i 1)

theorem pay2_apply (v0 v1 : Vec Ideal S512x2048 .f32) (v3 : Vec Ideal S1x2048 .f32) (v18 : Vec Ideal S2048x2048 .bf16) (v22 : Vec Ideal S512x256 .f32)
    (v24 : Vec Ideal S256x2048 .bf16) (a : Fin 512) (j : Fin 2048) :
    k0_pay2 v0 v1 v3 v18 v22 v24 (ix2 a j) = stream (fun k => (v0 (ix2 a k) + v1 (ix2 a k) : EReal)) (fun d => v22 (ix2 a d)) (fun k => v3 (ix2 (0 : Fin 1) k))
      (fun k j => v18 (ix2 k j)) (fun d j => v24 (ix2 d j)) j := by
  unfold k0_pay2 stream
  dsimp only
  rw [shapeCast_self, shapeCast_self, shapeCast_self]
  refine congrArg (fun z : EReal => ((v0 (ix2 a j) : EReal) + v1 (ix2 a j)) + z) (congrArg₂ (· * ·) (congrArg Ideal.logistic ?_) ?_)
  · refine (kernel_apply (φ₁ := .bf16) (φ₂ := .bf16) _ rfl _ _ a j).trans ?_
    refine Finset.sum_congr rfl fun k _ => congrArg (fun z : EReal => z * (v18 (ix2 k j) : EReal)) ?_
    exact kernel_norm (addf v0 v1) v3 _ _ _ _ a k
  · exact kernel_apply (φ₁ := .bf16) (φ₂ := .bf16) _ rfl _ _ a j

theorem pay1_apply (v0 v1 : Vec Ideal S512x2048 .f32) (v3 : Vec Ideal S1x2048 .f32) (v18 : Vec Ideal S2048x2048 .bf16) (v22 : Vec Ideal S512x256 .f32)
    (v24 : Vec Ideal S256x2048 .bf16) (v29 : Vec Ideal S1x2048 .f32) (a : Fin 512) (j : Fin 2048) :
    k0_pay1 (k0_pay2 v0 v1 v3 v18 v22 v24) (k0_pay3 v29) (k0_pay4 v0 v1 v3 v18 v22 v24) (k0_pay5 (F := Ideal)) (ix2 a j)
      = norm (stream (fun k => (v0 (ix2 a k) + v1 (ix2 a k) : EReal)) (fun d => v22 (ix2 a d)) (fun k => v3 (ix2 (0 : Fin 1) k))
      (fun k j => v18 (ix2 k j)) (fun d j => v24 (ix2 d j))) (fun k => v29 (ix2 (0 : Fin 1) k)) j := by
  have h3 : k0_pay3 v29 = v29 := shapeCast_self v29 _
  rw [h3]
  refine (kernel_norm (k0_pay2 v0 v1 v3 v18 v22 v24) v29 _ _ _ _ a j).trans ?_
  exact congrArg (fun r => norm r _ j) (funext fun k => pay2_apply v0 v1 v3 v18 v22 v24 a k)

theorem zeros : (![0, 0] : Fin 2 → ℕ) = fun _ => 0 := by decide

theorem out_apply (x0 x1 : Vec Ideal S512x2048 .f32) (x2 : Vec Ideal S512x256 .f32) (x3 x4 : Vec Ideal S1x2048 .f32) (x5 : Vec Ideal S2048x2048 .bf16)
    (x6 : Vec Ideal S256x2048 .bf16) (a : Fin 512) (j : Fin 2048) :
    out0_7 x0 x1 x2 x3 x4 x5 x6 (ix2 a j) = norm (stream (fun k => (x0 (ix2 a k) + x1 (ix2 a k) : EReal)) (fun d => x2 (ix2 a d)) (fun k => x3 (ix2 (0 : Fin 1) k))
      (fun k j => x5 (ix2 k j)) (fun d j => x6 (ix2 d j))) (fun k => x4 (ix2 (0 : Fin 1) k)) j := by
  unfold out0_7
  rw [View.canon_unit_zero zeros, View.ld_unit_zero zeros, View.ld_unit_zero zeros, View.ld_unit_zero zeros, View.ld_unit_zero zeros, View.ld_unit_zero zeros,
    View.ld_unit_zero zeros, View.ld_unit_zero zeros]
  exact pay1_apply x0 x1 x3 x5 x2 x6 x4 a j

variable (m : (ℓ : Loc nD τ sig) → Buf (Elt Ideal) ℓ) (c : Dev nD)

theorem V_g : V m c main_v0 = broadcastInDim S1x2048 ![1] bcast_S2048_S1x2048_1 (m ((c : Thread nD τ).loc main_arg3)) := by rfl
theorem V_f : V m c main_v1 = broadcastInDim S1x2048 ![1] bcast_S2048_S1x2048_1 (m ((c : Thread nD τ).loc main_arg4)) := by rfl
theorem V_wg : V m c main_v2 = m ((c : Thread nD τ).loc main_arg5) := by rfl
theorem V_wp : V m c main_v3 = m ((c : Thread nD τ).loc main_arg6) := by rfl

/-- The weights of a norm, laid out as a row. -/
theorem row_apply (g : FVec Ideal S2048 .f32) (k : Fin 2048) : broadcastInDim S1x2048 ![1] bcast_S2048_S1x2048_1 g (ix2 (0 : Fin 1) k) = g (ix1 k) :=
  broadcastInDim_apply _ _ g _ (ix1 k) fun a => by
    match a with
    | ⟨0, _⟩ => rfl

theorem idx_0 : ∀ t : Fin cfg0.N, win0_0.index t 0 = t.val ∧ win0_0.index t 1 = 0 := by decide +kernel
theorem idx_1 : ∀ t : Fin cfg0.N, win0_1.index t 0 = t.val ∧ win0_1.index t 1 = 0 := by decide +kernel
theorem idx_2 : ∀ t : Fin cfg0.N, win0_2.index t 0 = t.val ∧ win0_2.index t 1 = 0 := by decide +kernel
theorem idx_3 : ∀ t : Fin cfg0.N, win0_3.index t 0 = 0 ∧ win0_3.index t 1 = 0 := by decide +kernel
theorem idx_4 : ∀ t : Fin cfg0.N, win0_4.index t 0 = 0 ∧ win0_4.index t 1 = 0 := by decide +kernel
theorem idx_5 : ∀ t : Fin cfg0.N, win0_5.index t 0 = 0 ∧ win0_5.index t 1 = 0 := by decide +kernel
theorem idx_6 : ∀ t : Fin cfg0.N, win0_6.index t 0 = 0 ∧ win0_6.index t 1 = 0 := by decide +kernel
theorem idx_7 : ∀ t : Fin cfg0.N, win0_7.index t 0 = t.val ∧ win0_7.index t 1 = 0 := by decide +kernel

theorem blk_0 (t : Fin cfg0.N) (a : Fin 512) (k : Fin 2048) (i : Fin 8192) (hi : i.val = t.val * 512 + a.val) :
    iblk m c 0 t (ix2 a k) = V m c main_arg0 (ix2 i k) := by
  unfold iblk
  refine congrArg (V m c main_arg0) (funext fun b => Fin.ext ?_)
  match b with
  | ⟨0, _⟩ =>
    show win0_0.index t 0 * 512 + 1 * a.val = i.val
    rw [(idx_0 t).1]; omega
  | ⟨1, _⟩ =>
    show win0_0.index t 1 * 2048 + 1 * k.val = k.val
    rw [(idx_0 t).2]; omega

theorem blk_1 (t : Fin cfg0.N) (a : Fin 512) (k : Fin 2048) (i : Fin 8192) (hi : i.val = t.val * 512 + a.val) :
    iblk m c 1 t (ix2 a k) = V m c main_arg1 (ix2 i k) := by
  unfold iblk
  refine congrArg (V m c main_arg1) (funext fun b => Fin.ext ?_)
  match b with
  | ⟨0, _⟩ =>
    show win0_1.index t 0 * 512 + 1 * a.val = i.val
    rw [(idx_1 t).1]; omega
  | ⟨1, _⟩ =>
    show win0_1.index t 1 * 2048 + 1 * k.val = k.val
    rw [(idx_1 t).2]; omega

theorem blk_2 (t : Fin cfg0.N) (a : Fin 512) (k : Fin 256) (i : Fin 8192) (hi : i.val = t.val * 512 + a.val) :
    iblk m c 2 t (ix2 a k) = V m c main_arg2 (ix2 i k) := by
  unfold iblk
  refine congrArg (V m c main_arg2) (funext fun b => Fin.ext ?_)
  match b with
  | ⟨0, _⟩ =>
    show win0_2.index t 0 * 512 + 1 * a.val = i.val
    rw [(idx_2 t).1]; omega
  | ⟨1, _⟩ =>
    show win0_2.index t 1 * 256 + 1 * k.val = k.val
    rw [(idx_2 t).2]; omega

theorem blk_3 (t : Fin cfg0.N) (z : Fin 1) (k : Fin 2048) : iblk m c 3 t (ix2 z k) = V m c main_v0 (ix2 z k) := by
  unfold iblk
  refine congrArg (V m c main_v0) (funext fun b => Fin.ext ?_)
  match b with
  | ⟨0, _⟩ =>
    show win0_3.index t 0 * 1 + 1 * z.val = z.val
    rw [(idx_3 t).1]; omega
  | ⟨1, _⟩ =>
    show win0_3.index t 1 * 2048 + 1 * k.val = k.val
    rw [(idx_3 t).2]; omega

theorem blk_4 (t : Fin cfg0.N) (z : Fin 1) (k : Fin 2048) : iblk m c 4 t (ix2 z k) = V m c main_v1 (ix2 z k) := by
  unfold iblk
  refine congrArg (V m c main_v1) (funext fun b => Fin.ext ?_)
  match b with
  | ⟨0, _⟩ =>
    show win0_4.index t 0 * 1 + 1 * z.val = z.val
    rw [(idx_4 t).1]; omega
  | ⟨1, _⟩ =>
    show win0_4.index t 1 * 2048 + 1 * k.val = k.val
    rw [(idx_4 t).2]; omega

theorem blk_5 (t : Fin cfg0.N) (d k : Fin 2048) : iblk m c 5 t (ix2 d k) = V m c main_v2 (ix2 d k) := by
  unfold iblk
  refine congrArg (V m c main_v2) (funext fun b => Fin.ext ?_)
  match b with
  | ⟨0, _⟩ =>
    show win0_5.index t 0 * 2048 + 1 * d.val = d.val
    rw [(idx_5 t).1]; omega
  | ⟨1, _⟩ =>
    show win0_5.index t 1 * 2048 + 1 * k.val = k.val
    rw [(idx_5 t).2]; omega

theorem blk_6 (t : Fin cfg0.N) (d : Fin 256) (k : Fin 2048) : iblk m c 6 t (ix2 d k) = V m c main_v3 (ix2 d k) := by
  unfold iblk
  refine congrArg (V m c main_v3) (funext fun b => Fin.ext ?_)
  match b with
  | ⟨0, _⟩ =>
    show win0_6.index t 0 * 256 + 1 * d.val = d.val
    rw [(idx_6 t).1]; omega
  | ⟨1, _⟩ =>
    show win0_6.index t 1 * 2048 + 1 * k.val = k.val
    rw [(idx_6 t).2]; omega

/-- The layer at the launch's arguments. -/
def whole : FVec Ideal S8192x2048 .f32 :=
  ple (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- A point's block is a block of the layer. -/
theorem block (t : Fin cfg0.N) (a : Fin 512) (j : Fin 2048) (i : Fin 8192) (hi : i.val = t.val * 512 + a.val) :
    out0_7 (iblk m c 0 t) (iblk m c 1 t) (iblk m c 2 t) (iblk m c 3 t) (iblk m c 4 t) (iblk m c 5 t) (iblk m c 6 t) (ix2 a j) = whole m c (ix2 i j) := by
  refine (out_apply _ _ _ _ _ _ _ a j).trans ?_
  have e0 : ∀ k, iblk m c 0 t (ix2 a k) = m ((c : Thread nD τ).loc main_arg0) (ix2 i k) := fun k => (blk_0 m c t a k i hi).trans (congrFun (V_main_arg0 m c) _)
  have e1 : ∀ k, iblk m c 1 t (ix2 a k) = m ((c : Thread nD τ).loc main_arg1) (ix2 i k) := fun k => (blk_1 m c t a k i hi).trans (congrFun (V_main_arg1 m c) _)
  have e2 : ∀ k, iblk m c 2 t (ix2 a k) = m ((c : Thread nD τ).loc main_arg2) (ix2 i k) := fun k => (blk_2 m c t a k i hi).trans (congrFun (V_main_arg2 m c) _)
  have e3 : ∀ k, iblk m c 3 t (ix2 (0 : Fin 1) k) = m ((c : Thread nD τ).loc main_arg3) (ix1 k) := fun k =>
    (blk_3 m c t 0 k).trans ((congrFun (V_g m c) _).trans (row_apply _ k))
  have e4 : ∀ k, iblk m c 4 t (ix2 (0 : Fin 1) k) = m ((c : Thread nD τ).loc main_arg4) (ix1 k) := fun k =>
    (blk_4 m c t 0 k).trans ((congrFun (V_f m c) _).trans (row_apply _ k))
  have e5 : ∀ d k, iblk m c 5 t (ix2 d k) = m ((c : Thread nD τ).loc main_arg5) (ix2 d k) := fun d k => (blk_5 m c t d k).trans (congrFun (V_wg m c) _)
  have e6 : ∀ d k, iblk m c 6 t (ix2 d k) = m ((c : Thread nD τ).loc main_arg6) (ix2 d k) := fun d k => (blk_6 m c t d k).trans (congrFun (V_wp m c) _)
  unfold whole ple
  refine congrFun (congrArg₂ norm ?_ (funext e4)) j
  funext j
  unfold stream
  have es := funext fun k => congrArg₂ (fun u v : EReal => u + v) (e0 k) (e1 k)
  refine congrArg₂ (· + ·) (congrFun es j) (congrArg₂ (· * ·) (congrArg Ideal.logistic ?_) ?_)
  · exact Finset.sum_congr rfl fun k _ => congrArg₂ (· * ·) (congrFun (congrArg₂ norm es (funext e3)) k) (e5 k j)
  · exact Finset.sum_congr rfl fun d _ => congrArg₂ (· * ·) (e2 d) (e6 d j)

theorem covers7 : (cfg0.win 7).Covers := by decide +kernel

/-- The array the call leaves is the layer. -/
theorem result : (dats m 0 c).arrAt 7 cfg0.N = whole m c := by
  refine (dats m 0 c).arrAt_eq_of_covers (7 : Fin 8) (whole m c) covers7 fun t hf y => ?_
  have h0 : (y 0).val < 512 := (y 0 : Fin 512).isLt
  have h1 : (y 1).val < 2048 := (y 1 : Fin 2048).isLt
  have ht : t.val < 16 := lt_of_lt_of_eq t.isLt (by decide)
  show (dats m 0 c).after 7 t ((cfg0.win 7).xinj (grid0.coords t) y) = _
  rw [after0_7]
  refine Eq.trans ?_ ((block m c t (y 0 : Fin 512) (y 1 : Fin 2048) ⟨t.val * 512 + (y 0).val, by omega⟩ rfl).trans ?_)
  · refine congrArg _ (funext fun a => ?_)
    match a with
    | ⟨0, _⟩ => rfl
    | ⟨1, _⟩ => rfl
  · refine congrArg (whole m c) (funext fun a => Fin.ext ?_)
    match a with
    | ⟨0, _⟩ =>
      show t.val * 512 + (y 0).val = win0_7.index t 0 * 512 + 1 * (y 0).val
      rw [(idx_7 t).1]; omega
    | ⟨1, _⟩ =>
      show (y 1).val = win0_7.index t 1 * 2048 + 1 * (y 1).val
      rw [(idx_7 t).2]; omega

end Cert.KernelPleIdeal.Ple

end
-- ==== Proof.PleClaim.lean ====
/-
  The claim on the per-layer embedding's call: the kernel and the reference leave the same array.
-/
module

public import proofs.«01_k».proof.Defs
public import proofs.«01_k».proof.Proof.Gen.ReferencePleIdeal.Run
public import proofs.«01_k».proof.Proof.PleBlock

@[expose] public section

set_option maxRecDepth 8192

noncomputable section

namespace Cert.Ple

open Idealize.ShloMosaic
open Idealize.ShloMosaic.TcCoe
open Idealize.SL.Sem
open Idealize.ShloMosaic.ValueIdx (ix1 ix2)
open Cert.Products
open Cert.KernelPleIdeal.Ple (ple whole result)

section

open Cert.ReferencePleIdeal Cert.ReferencePleIdeal.Gen

/-- The norm of the rows, as the reference computes it. -/
def normArr (x : FVec Ideal S8192x2048 .f32) (g : FVec Ideal S2048 .f32) : FVec Ideal S8192x2048 .f32 :=
  mulf (mulf x (broadcastInDim S8192x2048 ![0, 1] bcast_S8192x1_S8192x2048_0_1 (Host.rsqrt (addf (Host.divf
    (broadcastInDim S8192x1 ![0] bcast_S8192_S8192x1_0 (Host.reduceAdd (mulf x x) (constant S_ .f32 0x00000000#32) reducesTo_S8192x2048_S8192_d1 h_S_))
    (broadcastInDim S8192x1 ![] bcast_S_S8192x1 (constant S_ .f32 0x45000000#32))) (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))

theorem normArr_apply (x : FVec Ideal S8192x2048 .f32) (g : FVec Ideal S2048 .f32) (i : Fin 8192) (j : Fin 2048) :
    normArr x g (ix2 i j) = norm (fun k => x (ix2 i k)) (fun k => g (ix1 k)) j := by
  unfold normArr
  exact host_norm x g _ _ _ _ _ _ _ i j

/-- The sigmoid, as the reference computes it. -/
def sigArr (g : FVec Ideal S8192x2048 .f32) : FVec Ideal S8192x2048 .f32 :=
  Host.divf (broadcastInDim S8192x2048 ![] bcast_S_S8192x2048 (constant S_ .f32 0x3F800000#32))
    (addf (broadcastInDim S8192x2048 ![] bcast_S_S8192x2048 (constant S_ .f32 0x3F800000#32)) (Host.exp (Host.negf g)))

/-- The stream with the gated embedding added, as the reference computes it. -/
def streamArr (s : FVec Ideal S8192x2048 .f32) (p : FVec Ideal S8192x256 .f32) (g : FVec Ideal S2048 .f32) (wg : FVec Ideal S2048x2048 .f32)
    (wp : FVec Ideal S256x2048 .f32) : FVec Ideal S8192x2048 .f32 :=
  addf s (mulf (sigArr (Host.dotGeneral dot_S8192x2048_S2048x2048_S8192x2048_1_0_0_1_n_n none (normArr s g) wg))
    (Host.dotGeneral dot_S8192x256_S256x2048_S8192x2048_1_0_0_1_n_n none p wp))

theorem streamArr_apply (s : FVec Ideal S8192x2048 .f32) (p : FVec Ideal S8192x256 .f32) (g : FVec Ideal S2048 .f32) (wg : FVec Ideal S2048x2048 .f32)
    (wp : FVec Ideal S256x2048 .f32) (i : Fin 8192) (j : Fin 2048) :
    streamArr s p g wg wp (ix2 i j) = stream (fun k => s (ix2 i k)) (fun d => p (ix2 i d)) (fun k => g (ix1 k)) (fun k j => wg (ix2 k j)) (fun d j => wp (ix2 d j)) j := by
  unfold streamArr stream
  refine congrArg (fun z : EReal => (s (ix2 i j) : EReal) + z) (congrArg₂ (· * ·) ?_ ?_)
  · refine (host_sigmoid _ _ _).trans (congrArg Ideal.logistic ?_)
    refine (host_apply (φ₁ := .f32) (φ₂ := .f32) _ rfl _ _ i j).trans ?_
    exact Finset.sum_congr rfl fun k _ => congrArg (fun z : EReal => z * (wg (ix2 k j) : EReal)) (normArr_apply s g i k)
  · exact host_apply (φ₁ := .f32) (φ₂ := .f32) _ rfl _ _ i j

theorem ref_eq (x y : FVec Ideal S8192x2048 .f32) (p : FVec Ideal S8192x256 .f32) (g f : FVec Ideal S2048 .f32) (wg : FVec Ideal S2048x2048 .f32)
    (wp : FVec Ideal S256x2048 .f32) : normArr (streamArr (addf x y) p g wg wp) f = ple x y p g f wg wp := by
  funext z
  obtain ⟨i, j, rfl⟩ : ∃ (i : Fin 8192) (j : Fin 2048), z = ix2 i j := ⟨z 0, z 1, idx_eq z⟩
  refine (normArr_apply _ f i j).trans ?_
  exact congrArg (fun r => norm r _ j) (funext fun k => streamArr_apply (addf x y) p g wg wp i k)

theorem res_eq (m : (ℓ : Loc nD τ sig) → Buf (Elt Ideal) ℓ) (c : Dev nD) : Cert.ReferencePleIdeal.Value.res_main_v36 m c
    = normArr (streamArr (addf (m ((c.tc : Thread nD τ).loc main_arg0)) (m ((c.tc : Thread nD τ).loc main_arg1))) (m ((c.tc : Thread nD τ).loc main_arg2))
      (m ((c.tc : Thread nD τ).loc main_arg3)) (m ((c.tc : Thread nD τ).loc main_arg5)) (m ((c.tc : Thread nD τ).loc main_arg6))) (m ((c.tc : Thread nD τ).loc main_arg4)) := by
  rfl

end

theorem algebraic : Cert.algebraic_KernelPleIdeal_ReferencePleIdeal := by
  intro m g m' g' _ hm
  refine ⟨fun c => whole m c, ?_, ?_⟩
  · exact (θ_run Cert.KernelPleIdeal.defs _ _).mono (fun r h c => ⟨(h c).1.trans (result m c), (h c).2⟩) (Cert.KernelPleIdeal.Value.run_blocks (F := Ideal) m g)
  · refine (θ_run Cert.ReferencePleIdeal.defs _ _).mono (fun r h c => ⟨(h c).1.trans ?_, (h c).2⟩) (Cert.ReferencePleIdeal.Value.run (F := Ideal) m' g')
    rw [res_eq, (hm c).1, (hm c).2.1, (hm c).2.2.1, (hm c).2.2.2.1, (hm c).2.2.2.2.1, (hm c).2.2.2.2.2.1, (hm c).2.2.2.2.2.2]
    exact ref_eq _ _ _ _ _ _ _

end Cert.Ple

end
-- ==== Proof.TailMerge.lean ====
/-
  The joined calls, the merge: the two arrays that its points leave.
-/
module

public import proofs.«01_k».proof.Proof.Gen.KernelTailIdeal.Frame
public import proofs.«01_k».proof.Proof.MergeBlock

@[expose] public section

set_option maxRecDepth 8192

noncomputable section

namespace Cert.KernelTailIdeal.TailMerge

open Cert.KernelTailIdeal Cert.KernelTailIdeal.Gen Cert.Products
open Idealize.ShloMosaic
open Idealize.ShloMosaic.TcCoe
open Idealize.ShloMosaic.ValueIdx (ix1 ix2)
open Cert.Merge
open Cert.KernelMergeIdeal.Merge (merged normed packed packed_a packed_b row_apply)

section

variable (x0 : Vec Ideal S512x2048 .f32) (x1 x2 : Vec Ideal S512x1024 .bf16) (x3 x4 : Vec Ideal S512x2048 .bf16) (x5 x6 : Vec Ideal S1024x2048 .bf16)
  (x7 : Vec Ideal S2048x2048 .bf16) (x8 : Vec Ideal S1x2048 .f32) (a : Fin 512) (j : Fin 2048)

theorem out9_apply : out0_9 x0 x1 x2 x3 x4 x5 x6 x7 x8 (ix2 a j) = row (fun k => x0 (ix2 a k)) (fun d => x1 (ix2 a d)) (fun d => x2 (ix2 a d)) (fun k => x3 (ix2 a k))
      (fun k => x4 (ix2 a k)) (fun d k => x5 (ix2 d k)) (fun d k => x6 (ix2 d k)) (fun k j => x7 (ix2 k j)) j :=
  Cert.KernelMergeIdeal.Merge.out9_apply x0 x1 x2 x3 x4 x5 x6 x7 x8 a j

theorem out10_apply : out0_10 x0 x1 x2 x3 x4 x5 x6 x7 x8 (ix2 a j) = norm (row (fun k => x0 (ix2 a k)) (fun d => x1 (ix2 a d)) (fun d => x2 (ix2 a d)) (fun k => x3 (ix2 a k))
      (fun k => x4 (ix2 a k)) (fun d k => x5 (ix2 d k)) (fun d k => x6 (ix2 d k)) (fun k j => x7 (ix2 k j))) (fun k => x8 (ix2 (0 : Fin 1) k)) j :=
  Cert.KernelMergeIdeal.Merge.out10_apply x0 x1 x2 x3 x4 x5 x6 x7 x8 a j

end

/-! ## The blocks -/

theorem idx_0 : ∀ t : Fin cfg0.N, win0_0.index t 0 = t.val ∧ win0_0.index t 1 = 0 := by decide +kernel
theorem idx_1 : ∀ t : Fin cfg0.N, win0_1.index t 0 = t.val ∧ win0_1.index t 1 = 0 := by decide +kernel
theorem idx_2 : ∀ t : Fin cfg0.N, win0_2.index t 0 = t.val ∧ win0_2.index t 1 = 0 := by decide +kernel
theorem idx_3 : ∀ t : Fin cfg0.N, win0_3.index t 0 = t.val ∧ win0_3.index t 1 = 0 := by decide +kernel
theorem idx_4 : ∀ t : Fin cfg0.N, win0_4.index t 0 = t.val ∧ win0_4.index t 1 = 1 := by decide +kernel
theorem idx_5 : ∀ t : Fin cfg0.N, win0_5.index t 0 = 0 ∧ win0_5.index t 1 = 0 := by decide +kernel
theorem idx_6 : ∀ t : Fin cfg0.N, win0_6.index t 0 = 0 ∧ win0_6.index t 1 = 0 := by decide +kernel
theorem idx_7 : ∀ t : Fin cfg0.N, win0_7.index t 0 = 0 ∧ win0_7.index t 1 = 0 := by decide +kernel
theorem idx_8 : ∀ t : Fin cfg0.N, win0_8.index t 0 = 0 ∧ win0_8.index t 1 = 0 := by decide +kernel
theorem idx_9 : ∀ t : Fin cfg0.N, win0_9.index t 0 = t.val ∧ win0_9.index t 1 = 0 := by decide +kernel
theorem idx_10 : ∀ t : Fin cfg0.N, win0_10.index t 0 = t.val ∧ win0_10.index t 1 = 0 := by decide +kernel

section

variable (V : (c : Dev nD) → (b : Ref sig .tc) → Buf (Elt Ideal) ((c : Thread nD τ).loc b)) (c : Dev nD)

theorem blk_0 (t : Fin cfg0.N) (a : Fin 512) (k : Fin 2048) (i : Fin 8192) (hi : i.val = t.val * 512 + a.val) :
    iblk0 V c 0 t (ix2 a k) = V c main_arg0 (ix2 i k) := by
  unfold iblk0
  refine congrArg (V c main_arg0) (funext fun b => Fin.ext ?_)
  match b with
  | ⟨0, _⟩ =>
    show win0_0.index t 0 * 512 + 1 * a.val = i.val
    rw [(idx_0 t).1]; omega
  | ⟨1, _⟩ =>
    show win0_0.index t 1 * 2048 + 1 * k.val = k.val
    rw [(idx_0 t).2]; omega

theorem blk_1 (t : Fin cfg0.N) (a : Fin 512) (k : Fin 1024) (i : Fin 8192) (hi : i.val = t.val * 512 + a.val) :
    iblk0 V c 1 t (ix2 a k) = V c main_arg1 (ix2 i k) := by
  unfold iblk0
  refine congrArg (V c main_arg1) (funext fun b => Fin.ext ?_)
  match b with
  | ⟨0, _⟩ =>
    show win0_1.index t 0 * 512 + 1 * a.val = i.val
    rw [(idx_1 t).1]; omega
  | ⟨1, _⟩ =>
    show win0_1.index t 1 * 1024 + 1 * k.val = k.val
    rw [(idx_1 t).2]; omega

theorem blk_2 (t : Fin cfg0.N) (a : Fin 512) (k : Fin 1024) (i : Fin 8192) (hi : i.val = t.val * 512 + a.val) :
    iblk0 V c 2 t (ix2 a k) = V c main_arg2 (ix2 i k) := by
  unfold iblk0
  refine congrArg (V c main_arg2) (funext fun b => Fin.ext ?_)
  match b with
  | ⟨0, _⟩ =>
    show win0_2.index t 0 * 512 + 1 * a.val = i.val
    rw [(idx_2 t).1]; omega
  | ⟨1, _⟩ =>
    show win0_2.index t 1 * 1024 + 1 * k.val = k.val
    rw [(idx_2 t).2]; omega

theorem blk_3 (t : Fin cfg0.N) (a : Fin 512) (k : Fin 2048) (i : Fin 8192) (hi : i.val = t.val * 512 + a.val) (x : Fin 10240) (hx : x.val = k.val) :
    iblk0 V c 3 t (ix2 a k) = V c main_v15 (ix2 i x) := by
  unfold iblk0
  refine congrArg (V c main_v15) (funext fun b => Fin.ext ?_)
  match b with
  | ⟨0, _⟩ =>
    show win0_3.index t 0 * 512 + 1 * a.val = i.val
    rw [(idx_3 t).1]; omega
  | ⟨1, _⟩ =>
    show win0_3.index t 1 * 2048 + 1 * k.val = x.val
    rw [(idx_3 t).2]; omega

theorem blk_4 (t : Fin cfg0.N) (a : Fin 512) (k : Fin 2048) (i : Fin 8192) (hi : i.val = t.val * 512 + a.val) (x : Fin 10240) (hx : x.val = 2048 + k.val) :
    iblk0 V c 4 t (ix2 a k) = V c main_v15 (ix2 i x) := by
  unfold iblk0
  refine congrArg (V c main_v15) (funext fun b => Fin.ext ?_)
  match b with
  | ⟨0, _⟩ =>
    show win0_4.index t 0 * 512 + 1 * a.val = i.val
    rw [(idx_4 t).1]; omega
  | ⟨1, _⟩ =>
    show win0_4.index t 1 * 2048 + 1 * k.val = x.val
    rw [(idx_4 t).2]; omega

theorem blk_5 (t : Fin cfg0.N) (d : Fin 1024) (k : Fin 2048) : iblk0 V c 5 t (ix2 d k) = V c main_v16 (ix2 d k) := by
  unfold iblk0
  refine congrArg (V c main_v16) (funext fun b => Fin.ext ?_)
  match b with
  | ⟨0, _⟩ =>
    show win0_5.index t 0 * 1024 + 1 * d.val = d.val
    rw [(idx_5 t).1]; omega
  | ⟨1, _⟩ =>
    show win0_5.index t 1 * 2048 + 1 * k.val = k.val
    rw [(idx_5 t).2]; omega

theorem blk_6 (t : Fin cfg0.N) (d : Fin 1024) (k : Fin 2048) : iblk0 V c 6 t (ix2 d k) = V c main_v17 (ix2 d k) := by
  unfold iblk0
  refine congrArg (V c main_v17) (funext fun b => Fin.ext ?_)
  match b with
  | ⟨0, _⟩ =>
    show win0_6.index t 0 * 1024 + 1 * d.val = d.val
    rw [(idx_6 t).1]; omega
  | ⟨1, _⟩ =>
    show win0_6.index t 1 * 2048 + 1 * k.val = k.val
    rw [(idx_6 t).2]; omega

theorem blk_7 (t : Fin cfg0.N) (d : Fin 2048) (k : Fin 2048) : iblk0 V c 7 t (ix2 d k) = V c main_v18 (ix2 d k) := by
  unfold iblk0
  refine congrArg (V c main_v18) (funext fun b => Fin.ext ?_)
  match b with
  | ⟨0, _⟩ =>
    show win0_7.index t 0 * 2048 + 1 * d.val = d.val
    rw [(idx_7 t).1]; omega
  | ⟨1, _⟩ =>
    show win0_7.index t 1 * 2048 + 1 * k.val = k.val
    rw [(idx_7 t).2]; omega

theorem blk_8 (t : Fin cfg0.N) (d : Fin 1) (k : Fin 2048) : iblk0 V c 8 t (ix2 d k) = V c main_v19 (ix2 d k) := by
  unfold iblk0
  refine congrArg (V c main_v19) (funext fun b => Fin.ext ?_)
  match b with
  | ⟨0, _⟩ =>
    show win0_8.index t 0 * 1 + 1 * d.val = d.val
    rw [(idx_8 t).1]; omega
  | ⟨1, _⟩ =>
    show win0_8.index t 1 * 2048 + 1 * k.val = k.val
    rw [(idx_8 t).2]; omega

end

variable (m : (ℓ : Loc nD τ sig) → Buf (Elt Ideal) ℓ) (ρ : Dev nD → PrngReg) (c : Dev nD)

theorem V1_packed : V1 m ρ c main_v15 = packed (m ((c : Thread nD τ).loc main_arg3)) (m ((c : Thread nD τ).loc main_arg4)) := by rfl
theorem V1_wa : V1 m ρ c main_v16 = m ((c : Thread nD τ).loc main_arg6) := by rfl
theorem V1_wb : V1 m ρ c main_v17 = m ((c : Thread nD τ).loc main_arg7) := by rfl
theorem V1_wo : V1 m ρ c main_v18 = m ((c : Thread nD τ).loc main_arg8) := by rfl
theorem V1_g : V1 m ρ c main_v19 = broadcastInDim S1x2048 ![1] bcast_S2048_S1x2048_1 (m ((c : Thread nD τ).loc main_arg9)) := by rfl
theorem V1_arg0 : V1 m ρ c main_arg0 = m ((c : Thread nD τ).loc main_arg0) := by rfl
theorem V1_arg1 : V1 m ρ c main_arg1 = m ((c : Thread nD τ).loc main_arg1) := by rfl
theorem V1_arg2 : V1 m ρ c main_arg2 = m ((c : Thread nD τ).loc main_arg2) := by rfl

/-- The merged stream at the launch's arguments. -/
def stream : FVec Ideal S8192x2048 .f32 :=
  merged (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg6)) (m ((c : Thread nD τ).loc main_arg7)) (m ((c : Thread nD τ).loc main_arg8))

/-- Its norm at the launch's arguments. -/
def normStream : FVec Ideal S8192x2048 .bf16 := normed (stream m c) (m ((c : Thread nD τ).loc main_arg9))

/-- A point's row, written by the launch's arguments. -/
theorem point (t : Fin cfg0.N) (a : Fin 512) (i : Fin 8192) (hi : i.val = t.val * 512 + a.val) :
    row (fun k => iblk0 (V1 m ρ) c 0 t (ix2 a k)) (fun d => iblk0 (V1 m ρ) c 1 t (ix2 a d)) (fun d => iblk0 (V1 m ρ) c 2 t (ix2 a d)) (fun k => iblk0 (V1 m ρ) c 3 t (ix2 a k))
      (fun k => iblk0 (V1 m ρ) c 4 t (ix2 a k)) (fun d k => iblk0 (V1 m ρ) c 5 t (ix2 d k)) (fun d k => iblk0 (V1 m ρ) c 6 t (ix2 d k)) (fun k j => iblk0 (V1 m ρ) c 7 t (ix2 k j))
      = fun j => stream m c (ix2 i j) := by
  have e0 : ∀ k, iblk0 (V1 m ρ) c 0 t (ix2 a k) = m ((c : Thread nD τ).loc main_arg0) (ix2 i k) := fun k => (blk_0 (V1 m ρ) c t a k i hi).trans (congrFun (V1_arg0 m ρ c) _)
  have e1 : ∀ k, iblk0 (V1 m ρ) c 1 t (ix2 a k) = m ((c : Thread nD τ).loc main_arg1) (ix2 i k) := fun k => (blk_1 (V1 m ρ) c t a k i hi).trans (congrFun (V1_arg1 m ρ c) _)
  have e2 : ∀ k, iblk0 (V1 m ρ) c 2 t (ix2 a k) = m ((c : Thread nD τ).loc main_arg2) (ix2 i k) := fun k => (blk_2 (V1 m ρ) c t a k i hi).trans (congrFun (V1_arg2 m ρ c) _)
  have e3 : ∀ k : Fin 2048, iblk0 (V1 m ρ) c 3 t (ix2 a k) = Ideal.logistic (m ((c : Thread nD τ).loc main_arg3) (ix2 i k)) := fun k =>
    (blk_3 (V1 m ρ) c t a k i hi ⟨k.val, by omega⟩ rfl).trans ((congrFun (V1_packed m ρ c) _).trans (packed_a _ _ i k _ rfl))
  have e4 : ∀ k : Fin 2048, iblk0 (V1 m ρ) c 4 t (ix2 a k) = Ideal.logistic (m ((c : Thread nD τ).loc main_arg4) (ix2 i k)) := fun k =>
    (blk_4 (V1 m ρ) c t a k i hi ⟨2048 + k.val, by omega⟩ rfl).trans ((congrFun (V1_packed m ρ c) _).trans (packed_b _ _ i k _ rfl))
  have e5 : ∀ d k, iblk0 (V1 m ρ) c 5 t (ix2 d k) = m ((c : Thread nD τ).loc main_arg6) (ix2 d k) := fun d k => (blk_5 (V1 m ρ) c t d k).trans (congrFun (V1_wa m ρ c) _)
  have e6 : ∀ d k, iblk0 (V1 m ρ) c 6 t (ix2 d k) = m ((c : Thread nD τ).loc main_arg7) (ix2 d k) := fun d k => (blk_6 (V1 m ρ) c t d k).trans (congrFun (V1_wb m ρ c) _)
  have e7 : ∀ d k, iblk0 (V1 m ρ) c 7 t (ix2 d k) = m ((c : Thread nD τ).loc main_arg8) (ix2 d k) := fun d k => (blk_7 (V1 m ρ) c t d k).trans (congrFun (V1_wo m ρ c) _)
  funext j
  unfold stream merged row
  refine congrArg₂ (fun u v : EReal => u + v) (e0 j) (Finset.sum_congr rfl fun k _ => congrArg₂ (fun u v : EReal => u * v) ?_ (e7 k j))
  refine congrArg₂ (fun u v : EReal => u + v) (congrArg₂ (fun u v : EReal => u * v) (e3 k) ?_) (congrArg₂ (fun u v : EReal => u * v) (e4 k) ?_)
  · exact Finset.sum_congr rfl fun d _ => congrArg₂ (fun u v : EReal => u * v) (e1 d) (e5 d k)
  · exact Finset.sum_congr rfl fun d _ => congrArg₂ (fun u v : EReal => u * v) (e2 d) (e6 d k)

/-- A point's block of the stream. -/
theorem block9 (t : Fin cfg0.N) (a : Fin 512) (j : Fin 2048) (i : Fin 8192) (hi : i.val = t.val * 512 + a.val) :
    out0_9 (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (ix2 a j) = stream m c (ix2 i j) :=
  (out9_apply _ _ _ _ _ _ _ _ _ a j).trans (congrFun (point m ρ c t a i hi) j)

/-- A point's block of the norm. -/
theorem block10 (t : Fin cfg0.N) (a : Fin 512) (j : Fin 2048) (i : Fin 8192) (hi : i.val = t.val * 512 + a.val) :
    out0_10 (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (ix2 a j) = normStream m c (ix2 i j) := by
  refine (out10_apply _ _ _ _ _ _ _ _ _ a j).trans ?_
  have e8 : ∀ k, iblk0 (V1 m ρ) c 8 t (ix2 (0 : Fin 1) k) = m ((c : Thread nD τ).loc main_arg9) (ix1 k) := fun k =>
    (blk_8 (V1 m ρ) c t 0 k).trans ((congrFun (V1_g m ρ c) _).trans (row_apply _ k))
  exact congrFun (congrArg₂ norm (point m ρ c t a i hi) (funext e8)) j

theorem covers9 : (cfg0.win 9).Covers := by decide +kernel

theorem result9 : (dat0 (V1 m ρ) c).arrAt 9 cfg0.N = stream m c := by
  refine (dat0 (V1 m ρ) c).arrAt_eq_of_covers (9 : Fin 11) (stream m c) covers9 fun t hf y => ?_
  have h0 : (y 0).val < 512 := (y 0 : Fin 512).isLt
  have h1 : (y 1).val < 2048 := (y 1 : Fin 2048).isLt
  have ht : t.val < 16 := lt_of_lt_of_eq t.isLt (by decide)
  show (dat0 (V1 m ρ) c).after 9 t ((cfg0.win 9).xinj (grid0.coords t) y) = _
  rw [after0_9]
  refine Eq.trans ?_ ((block9 m ρ c t (y 0 : Fin 512) (y 1 : Fin 2048) ⟨t.val * 512 + (y 0).val, by omega⟩ rfl).trans ?_)
  · refine congrArg _ (funext fun a => ?_)
    match a with
    | ⟨0, _⟩ => rfl
    | ⟨1, _⟩ => rfl
  · refine congrArg (stream m c) (funext fun a => Fin.ext ?_)
    match a with
    | ⟨0, _⟩ =>
      show t.val * 512 + (y 0).val = win0_9.index t 0 * 512 + 1 * (y 0).val
      rw [(idx_9 t).1]; omega
    | ⟨1, _⟩ =>
      show (y 1).val = win0_9.index t 1 * 2048 + 1 * (y 1).val
      rw [(idx_9 t).2]; omega

theorem covers10 : (cfg0.win 10).Covers := by decide +kernel

theorem result10 : (dat0 (V1 m ρ) c).arrAt 10 cfg0.N = normStream m c := by
  refine (dat0 (V1 m ρ) c).arrAt_eq_of_covers (10 : Fin 11) (normStream m c) covers10 fun t hf y => ?_
  have h0 : (y 0).val < 512 := (y 0 : Fin 512).isLt
  have h1 : (y 1).val < 2048 := (y 1 : Fin 2048).isLt
  have ht : t.val < 16 := lt_of_lt_of_eq t.isLt (by decide)
  show (dat0 (V1 m ρ) c).after 10 t ((cfg0.win 10).xinj (grid0.coords t) y) = _
  rw [after0_10]
  refine Eq.trans ?_ ((block10 m ρ c t (y 0 : Fin 512) (y 1 : Fin 2048) ⟨t.val * 512 + (y 0).val, by omega⟩ rfl).trans ?_)
  · refine congrArg _ (funext fun a => ?_)
    match a with
    | ⟨0, _⟩ => rfl
    | ⟨1, _⟩ => rfl
  · refine congrArg (normStream m c) (funext fun a => Fin.ext ?_)
    match a with
    | ⟨0, _⟩ =>
      show t.val * 512 + (y 0).val = win0_10.index t 0 * 512 + 1 * (y 0).val
      rw [(idx_10 t).1]; omega
    | ⟨1, _⟩ =>
      show (y 1).val = win0_10.index t 1 * 2048 + 1 * (y 1).val
      rw [(idx_10 t).2]; omega

end Cert.KernelTailIdeal.TailMerge

end
-- ==== Proof.TailFfn.lean ====
/-
  The joined calls, the feed-forward part: the array that its runs of eleven points leave, from what they find.
-/
module

public import proofs.«01_k».proof.Proof.Gen.KernelTailIdeal.Frame
public import proofs.«01_k».proof.Proof.FfnBlock
public import Idealize.ShloMosaic.Lib.Pipeline.ValueKit.Geometry

@[expose] public section

set_option maxRecDepth 8192

noncomputable section

namespace Cert.KernelTailIdeal.TailFfn

open Cert.KernelTailIdeal Cert.KernelTailIdeal.Gen Cert.Products
open Idealize.ShloMosaic
open Idealize.ShloMosaic.TcCoe
open Idealize.ShloMosaic.ValueIdx (ix1 ix2)
open Cert.KernelFfnIdeal.Ffn (hid ffn)

theorem zeros : (![0, 0] : Fin 2 → ℕ) = fun _ => 0 := by decide

/-- The first point of a run leaves its own products over zeros. -/
theorem first_eq (c : Dev nD) (i : grid1.Coords) (arg2 : Memref sig .tc .vmem S1024x2048 .bf16) (harg2 : arg2.IsWhole) (arg3 : Memref sig .tc .vmem S2048x512 .f32) (harg3 : arg3.IsWhole) (arg4 : Memref sig .tc .vmem S2048x512 .f32) (harg4 : arg4.IsWhole)
    (arg5 : Memref sig .tc .vmem S512x2048 .f32) (harg5 : arg5.IsWhole) (arg6 : Memref sig .tc .vmem S1024x2048 .f32) (harg6 : arg6.IsWhole)
    (hc0 : cond1_0 i) (x0 : Vec Ideal S1024x2048 .bf16) (x1 x2 : Vec Ideal S2048x512 .f32) (x3 : Vec Ideal S512x2048 .f32) :
    out1_A_4 c i arg2 harg2 arg3 harg3 arg4 harg4 arg5 harg5 arg6 harg6 hc0 x0 x1 x2 x3 = k1_pay2 x0 x1 x2 (k1_pay1 (F := Ideal)) x3 := by
  unfold out1_A_4
  rw [View.read_writes_eq_canon _ _ _ (cover1_A_4 c i arg2 harg2 arg3 harg3 arg4 harg4 arg5 harg5 arg6 harg6 hc0 x0 x1 x2 x3)]
  unfold kernelRun1_A
  dsimp only
  try sl_unfold_words
  rw [View.canon_cons_unit_zero (S := S1024x2048) zeros, View.readCov_unit_zero (S := S1024x2048) _ zeros]
  simp only [View.readAt_eq_ld, harg2.read_unread, harg3.read_unread, harg4.read_unread, harg5.read_unread, harg6.read_unread, View.ld_unit_zero (S := S1024x2048) zeros,
    View.ld_unit_zero (S := S2048x512) zeros, View.ld_unit_zero (S := S512x2048) zeros, shapeCast_self]

/-- A later point adds its products to what the one before left. -/
theorem later_eq (c : Dev nD) (i : grid1.Coords) (arg2 : Memref sig .tc .vmem S1024x2048 .bf16) (harg2 : arg2.IsWhole) (arg3 : Memref sig .tc .vmem S2048x512 .f32) (harg3 : arg3.IsWhole) (arg4 : Memref sig .tc .vmem S2048x512 .f32) (harg4 : arg4.IsWhole)
    (arg5 : Memref sig .tc .vmem S512x2048 .f32) (harg5 : arg5.IsWhole) (arg6 : Memref sig .tc .vmem S1024x2048 .f32) (harg6 : arg6.IsWhole)
    (hc0 : ¬cond1_0 i) (x0 : Vec Ideal S1024x2048 .bf16) (x1 x2 : Vec Ideal S2048x512 .f32) (x3 : Vec Ideal S512x2048 .f32) (acc : Vec Ideal S1024x2048 .f32) :
    out1_B_4 c i arg2 harg2 arg3 harg3 arg4 harg4 arg5 harg5 arg6 harg6 hc0 x0 x1 x2 x3 acc = k1_pay2 x0 x1 x2 acc x3 := by
  unfold out1_B_4
  rw [View.read_writes_eq_canon _ _ _ (cover1_B_4 c i arg2 harg2 arg3 harg3 arg4 harg4 arg5 harg5 arg6 harg6 hc0 x0 x1 x2 x3 acc)]
  unfold kernelRun1_B
  dsimp only
  try sl_unfold_words
  rw [View.canon_unit_zero zeros]
  simp only [View.readAt_eq_ld, harg2.read_unread, harg3.read_unread, harg4.read_unread, harg5.read_unread, harg6.read_unread, View.ld_unit_zero (S := S1024x2048) zeros,
    View.ld_unit_zero (S := S2048x512) zeros, View.ld_unit_zero (S := S512x2048) zeros, shapeCast_self]

/-- A point's products are those of the call alone. -/
theorem pay_apply (v3 : Vec Ideal S1024x2048 .bf16) (v4 v7 : Vec Ideal S2048x512 .f32) (v14 : Vec Ideal S1024x2048 .f32)
    (v16 : Vec Ideal S512x2048 .f32) (p : Fin 1024) (q : Fin 2048) :
    k1_pay2 v3 v4 v7 v14 v16 (ix2 p q) = (v14 (ix2 p q) : EReal) + ∑ k : Fin 512, ((silu (∑ d : Fin 2048, (v3 (ix2 p d) * v4 (ix2 d k) : EReal))
      * ∑ d : Fin 2048, (v3 (ix2 p d) * v7 (ix2 d k) : EReal)) * v16 (ix2 k q) : EReal) := by
  have e : k1_pay2 v3 v4 v7 v14 v16 = Cert.KernelFfnIdeal.Gen.k0_pay2 v3 v4 v7 v14 v16 := by
    unfold k1_pay2
    rw [shapeCast_self v3]
    rfl
  rw [e]
  exact Cert.KernelFfnIdeal.Ffn.pay_apply v3 v4 v7 v14 v16 p q

theorem idx_0 : ∀ t : Fin cfg1.N, win1_0.index t 0 = t.val / 11 ∧ win1_0.index t 1 = 0 := by decide +kernel
theorem idx_1 : ∀ t : Fin cfg1.N, win1_1.index t 0 = 0 ∧ win1_1.index t 1 = t.val % 11 := by decide +kernel
theorem idx_2 : ∀ t : Fin cfg1.N, win1_2.index t 0 = 0 ∧ win1_2.index t 1 = t.val % 11 := by decide +kernel
theorem idx_3 : ∀ t : Fin cfg1.N, win1_3.index t 0 = t.val % 11 ∧ win1_3.index t 1 = 0 := by decide +kernel

variable (V : (c : Dev nD) → (b : Ref sig .tc) → Buf (Elt Ideal) ((c : Thread nD τ).loc b)) (c : Dev nD)

theorem blk_0 (t : Fin cfg1.N) (p : Fin 1024) (d : Fin 2048) (i : Fin 8192) (hi : i.val = t.val / 11 * 1024 + p.val) :
    iblk1 V c 0 t (ix2 p d) = V c main_v20_1 (ix2 i d) := by
  unfold iblk1
  refine congrArg (V c main_v20_1) (funext fun a => Fin.ext ?_)
  match a with
  | ⟨0, _⟩ =>
    show win1_0.index t 0 * 1024 + 1 * p.val = i.val
    rw [(idx_0 t).1]; omega
  | ⟨1, _⟩ =>
    show win1_0.index t 1 * 2048 + 1 * d.val = d.val
    rw [(idx_0 t).2]; omega

theorem blk_1 (t : Fin cfg1.N) (d : Fin 2048) (k : Fin 512) (x : Fin 5632) (hx : x.val = 512 * (t.val % 11) + k.val) :
    iblk1 V c 1 t (ix2 d k) = V c main_arg10 (ix2 d x) := by
  unfold iblk1
  refine congrArg (V c main_arg10) (funext fun a => Fin.ext ?_)
  match a with
  | ⟨0, _⟩ =>
    show win1_1.index t 0 * 2048 + 1 * d.val = d.val
    rw [(idx_1 t).1]; omega
  | ⟨1, _⟩ =>
    show win1_1.index t 1 * 512 + 1 * k.val = x.val
    rw [(idx_1 t).2]; omega

theorem blk_2 (t : Fin cfg1.N) (d : Fin 2048) (k : Fin 512) (x : Fin 5632) (hx : x.val = 512 * (t.val % 11) + k.val) :
    iblk1 V c 2 t (ix2 d k) = V c main_arg11 (ix2 d x) := by
  unfold iblk1
  refine congrArg (V c main_arg11) (funext fun a => Fin.ext ?_)
  match a with
  | ⟨0, _⟩ =>
    show win1_2.index t 0 * 2048 + 1 * d.val = d.val
    rw [(idx_2 t).1]; omega
  | ⟨1, _⟩ =>
    show win1_2.index t 1 * 512 + 1 * k.val = x.val
    rw [(idx_2 t).2]; omega

theorem blk_3 (t : Fin cfg1.N) (k : Fin 512) (q : Fin 2048) (x : Fin 5632) (hx : x.val = 512 * (t.val % 11) + k.val) :
    iblk1 V c 3 t (ix2 k q) = V c main_arg12 (ix2 x q) := by
  unfold iblk1
  refine congrArg (V c main_arg12) (funext fun a => Fin.ext ?_)
  match a with
  | ⟨0, _⟩ =>
    show win1_3.index t 0 * 512 + 1 * k.val = x.val
    rw [(idx_3 t).1]; omega
  | ⟨1, _⟩ =>
    show win1_3.index t 1 * 2048 + 1 * q.val = q.val
    rw [(idx_3 t).2]; omega

theorem point_lt {n : ℕ} (h : n < cfg1.N) : n < 88 := lt_of_lt_of_eq h N_1

/-- What point `n` adds at a place of its block. -/
def added (n : ℕ) (y : S1024x2048.Idx) : EReal :=
  if h : n < 88 then
    ∑ k : Fin 512, (hid (V c main_v20_1) (V c main_arg10) (V c main_arg11)
        ⟨n / 11 * 1024 + (y 0).val, by have : (y 0).val < 1024 := (y 0).isLt; omega⟩ ⟨512 * (n % 11) + k.val, by have := k.isLt; omega⟩
      * (V c main_arg12) (ix2 (⟨512 * (n % 11) + k.val, by have := k.isLt; omega⟩ : Fin 5632) (y 1)) : EReal)
  else 0

/-- A point's store is what was there plus what the point adds. -/
theorem pay_blocks (n : ℕ) (h : n < cfg1.N) (acc : Vec Ideal S1024x2048 .f32) (y : S1024x2048.Idx) :
    k1_pay2 (iblk1 V c 0 ⟨n, h⟩) (iblk1 V c 1 ⟨n, h⟩) (iblk1 V c 2 ⟨n, h⟩) acc (iblk1 V c 3 ⟨n, h⟩) y = (acc y : EReal) + added V c n y := by
  have hy0 : (y 0).val < 1024 := (y 0).isLt
  have hn := point_lt h
  obtain ⟨p, q, rfl⟩ : ∃ (p : Fin 1024) (q : Fin 2048), y = ix2 p q := ⟨y 0, y 1, idx_eq y⟩
  refine (pay_apply _ _ _ _ _ p q).trans (congrArg (fun z : EReal => (acc (ix2 p q) : EReal) + z) ?_)
  unfold added
  rw [dif_pos hn]
  refine Finset.sum_congr rfl fun k _ => congrArg₂ (· * ·) ?_ (blk_3 V c ⟨n, h⟩ k q _ rfl)
  unfold hid
  refine congrArg₂ (· * ·) (congrArg silu ?_) ?_
  · exact Finset.sum_congr rfl fun d _ => congrArg₂ (· * ·) (blk_0 V c ⟨n, h⟩ p d _ rfl) (blk_1 V c ⟨n, h⟩ d k _ rfl)
  · exact Finset.sum_congr rfl fun d _ => congrArg₂ (· * ·) (blk_0 V c ⟨n, h⟩ p d _ rfl) (blk_2 V c ⟨n, h⟩ d k _ rfl)

/-- What a run's first point leaves. -/
def start (n : ℕ) (h : n < cfg1.N) : Vec Ideal S1024x2048 .f32 :=
  k1_pay2 (iblk1 V c 0 ⟨n, h⟩) (iblk1 V c 1 ⟨n, h⟩) (iblk1 V c 2 ⟨n, h⟩) (k1_pay1 (F := Ideal)) (iblk1 V c 3 ⟨n, h⟩)

/-- What a later point leaves over `acc`. -/
def next (n : ℕ) (h : n < cfg1.N) (acc : Vec Ideal S1024x2048 .f32) : Vec Ideal S1024x2048 .f32 :=
  k1_pay2 (iblk1 V c 0 ⟨n, h⟩) (iblk1 V c 1 ⟨n, h⟩) (iblk1 V c 2 ⟨n, h⟩) acc (iblk1 V c 3 ⟨n, h⟩)

/-- What the block holds after point `t`: its run's points up to `t`, one after another. -/
theorem outs_eq (t : Fin cfg1.N) : outsAt1 V c t.val t.isLt = Pipeline.accAt (start V c) (next V c) (11 * (t.val / 11)) (t.val % 11)
    (by have h1 := t.isLt; have h2 := Nat.div_add_mod t.val 11; omega) := by
  refine Pipeline.eq_accAt_of_mod (fun n h => outsAt1 V c n h) 11 (start V c) (next V c) (fun n h hn => ?_) (fun n h hn => ?_) (by decide) t.val t.isLt _
  · have hN := point_lt h
    rw [outsAt1_A V c ⟨n, h⟩ (by (try dsimp only); omega)]
    exact first_eq ..
  · have hN := point_lt h
    rw [outsAt1_B V c ⟨n + 1, h⟩ (by (try dsimp only); omega)]
    exact later_eq ..

theorem idx_4 : ∀ t : Fin cfg1.N, win1_4.index t 0 = t.val / 11 ∧ win1_4.index t 1 = 0 := by decide +kernel

/-- A run's last block is a block of the layer. -/
theorem run_eq (b : ℕ) (hb : b < 8) (h : 11 * b + 10 < cfg1.N) (y : S1024x2048.Idx) (i : Fin 8192) (hi : i.val = b * 1024 + (y 0).val) :
    Pipeline.accAt (start V c) (next V c) (11 * b) 10 h y = ffn (V c main_v20_1) (V c main_arg10) (V c main_arg11) (V c main_arg12) (ix2 i (y 1 : Fin 2048)) := by
  have hy : (y 0).val < 1024 := (y 0).isLt
  refine (Pipeline.accAt_add_apply (start V c) (next V c) (fun _ => (0 : EReal)) (added V c) (11 * b) 10 ?_ ?_ 10 le_rfl h y).trans ?_
  · intro h i
    refine (pay_blocks V c _ h (k1_pay1 (F := Ideal)) i).trans (congrArg (fun z : EReal => z + added V c (11 * b) i) ?_)
    exact Ideal.ofBits_zero_f32
  · intro n h acc i _ _
    exact pay_blocks V c n h acc i
  · refine (zero_add _).trans ?_
    unfold ffn
    refine sum_blocks 11 512 5632 rfl _ _ fun s hs => ?_
    unfold added
    rw [dif_pos (by omega)]
    have hq : (11 * b + s) % 11 = s := by omega
    have hd : (11 * b + s) / 11 * 1024 + (y 0).val = i.val := by omega
    refine Finset.sum_congr rfl fun k _ => congrArg₂ (· * ·) (congrArg₂ (hid _ _ _) (Fin.ext hd) (Fin.ext ?_)) (congrArg _ (congrArg₂ ix2 (Fin.ext ?_) rfl))
    · show 512 * ((11 * b + s) % 11) + k.val = 512 * s + k.val
      rw [hq]
    · show 512 * ((11 * b + s) % 11) + k.val = 512 * s + k.val
      rw [hq]

theorem covers4 : (cfg1.win 4).Covers := by decide +kernel

/-- The array the call leaves is the feed-forward layer of what it finds. -/
theorem result : (dat1 V c).arrAt 4 cfg1.N = ffn (V c main_v20_1) (V c main_arg10) (V c main_arg11) (V c main_arg12) := by
  refine (dat1 V c).arrAt_eq_of_covers (4 : Fin 5) (ffn (V c main_v20_1) (V c main_arg10) (V c main_arg11) (V c main_arg12)) covers4 fun t hf y => ?_
  have h0 : (y 0).val < 1024 := (y 0 : Fin 1024).isLt
  have h1 : (y 1).val < 2048 := (y 1 : Fin 2048).isLt
  have ht := point_lt t.isLt
  have hm : t.val % 11 = 10 := (flush1_4 t).mp hf
  show (dat1 V c).after 4 t ((cfg1.win 4).xinj (grid1.coords t) y) = _
  rw [after1_4, outs_eq]
  have e : ∀ (j : ℕ) (h : 11 * (t.val / 11) + j < cfg1.N) (j' : ℕ) (h' : 11 * (t.val / 11) + j' < cfg1.N), j = j' →
      Pipeline.accAt (start V c) (next V c) (11 * (t.val / 11)) j h = Pipeline.accAt (start V c) (next V c) (11 * (t.val / 11)) j' h' := by
    intro j h j' h' hj; subst hj; rfl
  have hlt : 11 * (t.val / 11) + 10 < cfg1.N := lt_of_lt_of_eq (by omega : _ < 88) N_1.symm
  refine (congrFun (e _ _ 10 hlt hm) _).trans ?_
  refine (run_eq V c (t.val / 11) (by omega) hlt _ ⟨t.val / 11 * 1024 + (y 0).val, by omega⟩ rfl).trans ?_
  refine congrArg (ffn (V c main_v20_1) (V c main_arg10) (V c main_arg11) (V c main_arg12)) (funext fun a => Fin.ext ?_)
  match a with
  | ⟨0, _⟩ =>
    show t.val / 11 * 1024 + (y 0).val = win1_4.index t 0 * 1024 + 1 * (y 0).val
    rw [(idx_4 t).1]; omega
  | ⟨1, _⟩ =>
    show (y 1).val = win1_4.index t 1 * 2048 + 1 * (y 1).val
    rw [(idx_4 t).2]; omega

end Cert.KernelTailIdeal.TailFfn

end
-- ==== Proof.TailPle.lean ====
/-
  The joined calls, the embedding: the array that its points leave, from what they find.
-/
module

public import proofs.«01_k».proof.Proof.Gen.KernelTailIdeal.Frame
public import proofs.«01_k».proof.Proof.PleBlock

@[expose] public section

set_option maxRecDepth 8192

noncomputable section

namespace Cert.KernelTailIdeal.TailPle

open Cert.KernelTailIdeal Cert.KernelTailIdeal.Gen Cert.Products
open Idealize.ShloMosaic
open Idealize.ShloMosaic.TcCoe
open Idealize.ShloMosaic.ValueIdx (ix1 ix2)
open Cert.Ple
open Cert.KernelPleIdeal.Ple (ple row_apply)

theorem pay2_apply (v0 v1 : Vec Ideal S512x2048 .f32) (v3 : Vec Ideal S1x2048 .f32) (v18 : Vec Ideal S2048x2048 .bf16) (v22 : Vec Ideal S512x256 .f32)
    (v24 : Vec Ideal S256x2048 .bf16) (a : Fin 512) (j : Fin 2048) :
    k2_pay2 v0 v1 v3 v18 v22 v24 (ix2 a j) = stream (fun k => (v0 (ix2 a k) + v1 (ix2 a k) : EReal)) (fun d => v22 (ix2 a d)) (fun k => v3 (ix2 (0 : Fin 1) k))
      (fun k j => v18 (ix2 k j)) (fun d j => v24 (ix2 d j)) j := by
  unfold k2_pay2 stream
  dsimp only
  rw [shapeCast_self, shapeCast_self, shapeCast_self, shapeCast_self, shapeCast_self]
  refine congrArg (fun z : EReal => ((v0 (ix2 a j) : EReal) + v1 (ix2 a j)) + z) (congrArg₂ (· * ·) (congrArg Ideal.logistic ?_) ?_)
  · refine (kernel_apply (φ₁ := .bf16) (φ₂ := .bf16) _ rfl _ _ a j).trans ?_
    refine Finset.sum_congr rfl fun k _ => congrArg (fun z : EReal => z * (v18 (ix2 k j) : EReal)) ?_
    exact kernel_norm (addf v0 v1) v3 _ _ _ _ a k
  · exact kernel_apply (φ₁ := .bf16) (φ₂ := .bf16) _ rfl _ _ a j

theorem pay1_apply (v0 v1 : Vec Ideal S512x2048 .f32) (v3 : Vec Ideal S1x2048 .f32) (v18 : Vec Ideal S2048x2048 .bf16) (v22 : Vec Ideal S512x256 .f32)
    (v24 : Vec Ideal S256x2048 .bf16) (v29 : Vec Ideal S1x2048 .f32) (a : Fin 512) (j : Fin 2048) :
    k2_pay1 (k2_pay2 v0 v1 v3 v18 v22 v24) (k2_pay3 v29) (k2_pay4 v0 v1 v3 v18 v22 v24) (ix2 a j)
      = norm (stream (fun k => (v0 (ix2 a k) + v1 (ix2 a k) : EReal)) (fun d => v22 (ix2 a d)) (fun k => v3 (ix2 (0 : Fin 1) k))
      (fun k j => v18 (ix2 k j)) (fun d j => v24 (ix2 d j))) (fun k => v29 (ix2 (0 : Fin 1) k)) j := by
  have h3 : k2_pay3 v29 = v29 := shapeCast_self v29 _
  rw [h3]
  refine (kernel_norm (k2_pay2 v0 v1 v3 v18 v22 v24) v29 _ _ _ _ a j).trans ?_
  exact congrArg (fun r => norm r _ j) (funext fun k => pay2_apply v0 v1 v3 v18 v22 v24 a k)

theorem zeros : (![0, 0] : Fin 2 → ℕ) = fun _ => 0 := by decide

theorem out_apply (x0 x1 : Vec Ideal S512x2048 .f32) (x2 : Vec Ideal S512x256 .f32) (x3 x4 : Vec Ideal S1x2048 .f32) (x5 : Vec Ideal S2048x2048 .bf16)
    (x6 : Vec Ideal S256x2048 .bf16) (a : Fin 512) (j : Fin 2048) :
    out2_7 x0 x1 x2 x3 x4 x5 x6 (ix2 a j) = norm (stream (fun k => (x0 (ix2 a k) + x1 (ix2 a k) : EReal)) (fun d => x2 (ix2 a d)) (fun k => x3 (ix2 (0 : Fin 1) k))
      (fun k j => x5 (ix2 k j)) (fun d j => x6 (ix2 d j))) (fun k => x4 (ix2 (0 : Fin 1) k)) j := by
  unfold out2_7
  rw [View.canon_unit_zero zeros, View.ld_unit_zero zeros, View.ld_unit_zero zeros, View.ld_unit_zero zeros, View.ld_unit_zero zeros, View.ld_unit_zero zeros,
    View.ld_unit_zero zeros, View.ld_unit_zero zeros]
  exact pay1_apply x0 x1 x3 x5 x2 x6 x4 a j

theorem idx_0 : ∀ t : Fin cfg2.N, win2_0.index t 0 = t.val ∧ win2_0.index t 1 = 0 := by decide +kernel
theorem idx_1 : ∀ t : Fin cfg2.N, win2_1.index t 0 = t.val ∧ win2_1.index t 1 = 0 := by decide +kernel
theorem idx_2 : ∀ t : Fin cfg2.N, win2_2.index t 0 = t.val ∧ win2_2.index t 1 = 0 := by decide +kernel
theorem idx_3 : ∀ t : Fin cfg2.N, win2_3.index t 0 = 0 ∧ win2_3.index t 1 = 0 := by decide +kernel
theorem idx_4 : ∀ t : Fin cfg2.N, win2_4.index t 0 = 0 ∧ win2_4.index t 1 = 0 := by decide +kernel
theorem idx_5 : ∀ t : Fin cfg2.N, win2_5.index t 0 = 0 ∧ win2_5.index t 1 = 0 := by decide +kernel
theorem idx_6 : ∀ t : Fin cfg2.N, win2_6.index t 0 = 0 ∧ win2_6.index t 1 = 0 := by decide +kernel
theorem idx_7 : ∀ t : Fin cfg2.N, win2_7.index t 0 = t.val ∧ win2_7.index t 1 = 0 := by decide +kernel

theorem covers7 : (cfg2.win 7).Covers := by decide +kernel

variable (V : (c : Dev nD) → (b : Ref sig .tc) → Buf (Elt Ideal) ((c : Thread nD τ).loc b)) (c : Dev nD)

theorem blk_0 (t : Fin cfg2.N) (a : Fin 512) (k : Fin 2048) (i : Fin 8192) (hi : i.val = t.val * 512 + a.val) :
    iblk2 V c 0 t (ix2 a k) = V c main_v20_0 (ix2 i k) := by
  unfold iblk2
  refine congrArg (V c main_v20_0) (funext fun b => Fin.ext ?_)
  match b with
  | ⟨0, _⟩ =>
    show win2_0.index t 0 * 512 + 1 * a.val = i.val
    rw [(idx_0 t).1]; omega
  | ⟨1, _⟩ =>
    show win2_0.index t 1 * 2048 + 1 * k.val = k.val
    rw [(idx_0 t).2]; omega

theorem blk_1 (t : Fin cfg2.N) (a : Fin 512) (k : Fin 2048) (i : Fin 8192) (hi : i.val = t.val * 512 + a.val) :
    iblk2 V c 1 t (ix2 a k) = V c main_v21 (ix2 i k) := by
  unfold iblk2
  refine congrArg (V c main_v21) (funext fun b => Fin.ext ?_)
  match b with
  | ⟨0, _⟩ =>
    show win2_1.index t 0 * 512 + 1 * a.val = i.val
    rw [(idx_1 t).1]; omega
  | ⟨1, _⟩ =>
    show win2_1.index t 1 * 2048 + 1 * k.val = k.val
    rw [(idx_1 t).2]; omega

theorem blk_2 (t : Fin cfg2.N) (a : Fin 512) (k : Fin 256) (i : Fin 8192) (hi : i.val = t.val * 512 + a.val) :
    iblk2 V c 2 t (ix2 a k) = V c main_arg5 (ix2 i k) := by
  unfold iblk2
  refine congrArg (V c main_arg5) (funext fun b => Fin.ext ?_)
  match b with
  | ⟨0, _⟩ =>
    show win2_2.index t 0 * 512 + 1 * a.val = i.val
    rw [(idx_2 t).1]; omega
  | ⟨1, _⟩ =>
    show win2_2.index t 1 * 256 + 1 * k.val = k.val
    rw [(idx_2 t).2]; omega

theorem blk_3 (t : Fin cfg2.N) (z : Fin 1) (k : Fin 2048) : iblk2 V c 3 t (ix2 z k) = V c main_v22 (ix2 z k) := by
  unfold iblk2
  refine congrArg (V c main_v22) (funext fun b => Fin.ext ?_)
  match b with
  | ⟨0, _⟩ =>
    show win2_3.index t 0 * 1 + 1 * z.val = z.val
    rw [(idx_3 t).1]; omega
  | ⟨1, _⟩ =>
    show win2_3.index t 1 * 2048 + 1 * k.val = k.val
    rw [(idx_3 t).2]; omega

theorem blk_4 (t : Fin cfg2.N) (z : Fin 1) (k : Fin 2048) : iblk2 V c 4 t (ix2 z k) = V c main_v23 (ix2 z k) := by
  unfold iblk2
  refine congrArg (V c main_v23) (funext fun b => Fin.ext ?_)
  match b with
  | ⟨0, _⟩ =>
    show win2_4.index t 0 * 1 + 1 * z.val = z.val
    rw [(idx_4 t).1]; omega
  | ⟨1, _⟩ =>
    show win2_4.index t 1 * 2048 + 1 * k.val = k.val
    rw [(idx_4 t).2]; omega

theorem blk_5 (t : Fin cfg2.N) (d k : Fin 2048) : iblk2 V c 5 t (ix2 d k) = V c main_v24 (ix2 d k) := by
  unfold iblk2
  refine congrArg (V c main_v24) (funext fun b => Fin.ext ?_)
  match b with
  | ⟨0, _⟩ =>
    show win2_5.index t 0 * 2048 + 1 * d.val = d.val
    rw [(idx_5 t).1]; omega
  | ⟨1, _⟩ =>
    show win2_5.index t 1 * 2048 + 1 * k.val = k.val
    rw [(idx_5 t).2]; omega

theorem blk_6 (t : Fin cfg2.N) (d : Fin 256) (k : Fin 2048) : iblk2 V c 6 t (ix2 d k) = V c main_v25 (ix2 d k) := by
  unfold iblk2
  refine congrArg (V c main_v25) (funext fun b => Fin.ext ?_)
  match b with
  | ⟨0, _⟩ =>
    show win2_6.index t 0 * 256 + 1 * d.val = d.val
    rw [(idx_6 t).1]; omega
  | ⟨1, _⟩ =>
    show win2_6.index t 1 * 2048 + 1 * k.val = k.val
    rw [(idx_6 t).2]; omega

variable (x y : FVec Ideal S8192x2048 .f32) (p : FVec Ideal S8192x256 .f32) (g f : FVec Ideal S2048 .f32) (wg : FVec Ideal S2048x2048 .f32)
  (wp : FVec Ideal S256x2048 .f32) (hx : V c main_v20_0 = x) (hy : V c main_v21 = y) (hp : V c main_arg5 = p)
  (hg : V c main_v22 = broadcastInDim S1x2048 ![1] bcast_S2048_S1x2048_1 g) (hf : V c main_v23 = broadcastInDim S1x2048 ![1] bcast_S2048_S1x2048_1 f)
  (hwg : V c main_v24 = wg) (hwp : V c main_v25 = wp)

include hx hy hp hg hf hwg hwp

/-- A point's block is a block of the layer. -/
theorem block (t : Fin cfg2.N) (a : Fin 512) (j : Fin 2048) (i : Fin 8192) (hi : i.val = t.val * 512 + a.val) :
    out2_7 (iblk2 V c 0 t) (iblk2 V c 1 t) (iblk2 V c 2 t) (iblk2 V c 3 t) (iblk2 V c 4 t) (iblk2 V c 5 t) (iblk2 V c 6 t) (ix2 a j) = ple x y p g f wg wp (ix2 i j) := by
  refine (out_apply _ _ _ _ _ _ _ a j).trans ?_
  have e0 : ∀ k, iblk2 V c 0 t (ix2 a k) = x (ix2 i k) := fun k => (blk_0 V c t a k i hi).trans (congrFun hx _)
  have e1 : ∀ k, iblk2 V c 1 t (ix2 a k) = y (ix2 i k) := fun k => (blk_1 V c t a k i hi).trans (congrFun hy _)
  have e2 : ∀ k, iblk2 V c 2 t (ix2 a k) = p (ix2 i k) := fun k => (blk_2 V c t a k i hi).trans (congrFun hp _)
  have e3 : ∀ k, iblk2 V c 3 t (ix2 (0 : Fin 1) k) = g (ix1 k) := fun k =>
    (blk_3 V c t 0 k).trans ((congrFun hg _).trans (row_apply _ k))
  have e4 : ∀ k, iblk2 V c 4 t (ix2 (0 : Fin 1) k) = f (ix1 k) := fun k =>
    (blk_4 V c t 0 k).trans ((congrFun hf _).trans (row_apply _ k))
  have e5 : ∀ d k, iblk2 V c 5 t (ix2 d k) = wg (ix2 d k) := fun d k => (blk_5 V c t d k).trans (congrFun hwg _)
  have e6 : ∀ d k, iblk2 V c 6 t (ix2 d k) = wp (ix2 d k) := fun d k => (blk_6 V c t d k).trans (congrFun hwp _)
  unfold ple
  refine congrFun (congrArg₂ norm ?_ (funext e4)) j
  funext j
  unfold stream
  have es := funext fun k => congrArg₂ (fun u v : EReal => u + v) (e0 k) (e1 k)
  refine congrArg₂ (· + ·) (congrFun es j) (congrArg₂ (· * ·) (congrArg Ideal.logistic ?_) ?_)
  · exact Finset.sum_congr rfl fun k _ => congrArg₂ (· * ·) (congrFun (congrArg₂ norm es (funext e3)) k) (e5 k j)
  · exact Finset.sum_congr rfl fun d _ => congrArg₂ (· * ·) (e2 d) (e6 d j)

/-- The array the call leaves is the layer. -/
theorem result : (dat2 V c).arrAt 7 cfg2.N = ple x y p g f wg wp := by
  refine (dat2 V c).arrAt_eq_of_covers (7 : Fin 8) (ple x y p g f wg wp) covers7 fun t _ z => ?_
  have h0 : (z 0).val < 512 := (z 0 : Fin 512).isLt
  have h1 : (z 1).val < 2048 := (z 1 : Fin 2048).isLt
  have ht : t.val < 16 := lt_of_lt_of_eq t.isLt (by decide)
  show (dat2 V c).after 7 t ((cfg2.win 7).xinj (grid2.coords t) z) = _
  rw [after2_7]
  refine Eq.trans ?_ ((block V c x y p g f wg wp hx hy hp hg hf hwg hwp t (z 0 : Fin 512) (z 1 : Fin 2048) ⟨t.val * 512 + (z 0).val, by omega⟩ rfl).trans ?_)
  · refine congrArg _ (funext fun a => ?_)
    match a with
    | ⟨0, _⟩ => rfl
    | ⟨1, _⟩ => rfl
  · refine congrArg (ple x y p g f wg wp) (funext fun a => Fin.ext ?_)
    match a with
    | ⟨0, _⟩ =>
      show t.val * 512 + (z 0).val = win2_7.index t 0 * 512 + 1 * (z 0).val
      rw [(idx_7 t).1]; omega
    | ⟨1, _⟩ =>
      show (z 1).val = win2_7.index t 1 * 2048 + 1 * (z 1).val
      rw [(idx_7 t).2]; omega

end Cert.KernelTailIdeal.TailPle

end
-- ==== Proof.TailRun.lean ====
/-
  The joined calls' launch: what it leaves in the result, as the contents after the last call.
-/
module

public import proofs.«01_k».proof.Proof.Gen.KernelTailIdeal.Frame
public import proofs.«01_k».proof.Proof.Products

@[expose] public section

set_option maxRecDepth 16384

noncomputable section

namespace Cert.KernelTailIdeal.TailRun

open Cert.KernelTailIdeal Cert.KernelTailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The result ends at the contents after the last call, and the arguments end as they were. -/
theorem run : θ_run defs (onTc (τ := τ) (main (F := Ideal))) ⟨m, fun _ => 0, ρ⟩ (fun r => ∀ c : Dev nD,
      r.2.mem ((c.tc : Thread nD τ).loc main_v26) = W5 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v26 (by decide)),
        (h c _ (mem_uc main_arg0 (by decide))).trans (W5_main_arg0 m ρ c),
        (h c _ (mem_uc main_arg1 (by decide))).trans (W5_main_arg1 m ρ c),
        (h c _ (mem_uc main_arg2 (by decide))).trans (W5_main_arg2 m ρ c),
        (h c _ (mem_uc main_arg3 (by decide))).trans (W5_main_arg3 m ρ c),
        (h c _ (mem_uc main_arg4 (by decide))).trans (W5_main_arg4 m ρ c),
        (h c _ (mem_uc main_arg5 (by decide))).trans (W5_main_arg5 m ρ c),
        (h c _ (mem_uc main_arg6 (by decide))).trans (W5_main_arg6 m ρ c),
        (h c _ (mem_uc main_arg7 (by decide))).trans (W5_main_arg7 m ρ c),
        (h c _ (mem_uc main_arg8 (by decide))).trans (W5_main_arg8 m ρ c),
        (h c _ (mem_uc main_arg9 (by decide))).trans (W5_main_arg9 m ρ c),
        (h c _ (mem_uc main_arg10 (by decide))).trans (W5_main_arg10 m ρ c),
        (h c _ (mem_uc main_arg11 (by decide))).trans (W5_main_arg11 m ρ c),
        (h c _ (mem_uc main_arg12 (by decide))).trans (W5_main_arg12 m ρ c),
        (h c _ (mem_uc main_arg13 (by decide))).trans (W5_main_arg13 m ρ c),
        (h c _ (mem_uc main_arg14 (by decide))).trans (W5_main_arg14 m ρ c),
        (h c _ (mem_uc main_arg15 (by decide))).trans (W5_main_arg15 m ρ c),
        (h c _ (mem_uc main_arg16 (by decide))).trans (W5_main_arg16 m ρ c)⟩)

end Cert.KernelTailIdeal.TailRun

end
-- ==== Proof.TailClaim.lean ====
/-
  The claim on the joined calls: merge, feed-forward part and embedding, one after another, leave the reference's array.
-/
module

public import proofs.«01_k».proof.Defs
public import proofs.«01_k».proof.Proof.Gen.ReferenceTailIdeal.Run
public import proofs.«01_k».proof.Proof.MergeClaim
public import proofs.«01_k».proof.Proof.FfnClaim
public import proofs.«01_k».proof.Proof.PleClaim
public import proofs.«01_k».proof.Proof.TailMerge
public import proofs.«01_k».proof.Proof.TailFfn
public import proofs.«01_k».proof.Proof.TailPle
public import proofs.«01_k».proof.Proof.TailRun

@[expose] public section

set_option maxRecDepth 8192

noncomputable section

namespace Cert.Tail

open Idealize.ShloMosaic
open Idealize.ShloMosaic.TcCoe
open Idealize.SL.Sem
open Cert.KernelMergeIdeal.Merge (merged normed)
open Cert.KernelFfnIdeal.Ffn (ffn)
open Cert.KernelPleIdeal.Ple (ple)

section

open Cert.KernelTailIdeal Cert.KernelTailIdeal.Gen

variable (m : (ℓ : Loc nD τ sig) → Buf (Elt Ideal) ℓ) (ρ : Dev nD → PrngReg) (c : Dev nD)

/-- The layer from its branches' outputs on, at the launch's arguments. -/
def whole : FVec Ideal S8192x2048 .f32 :=
  ple (TailMerge.stream m c) (ffn (TailMerge.normStream m c) (m ((c.tc : Thread nD τ).loc main_arg10)) (m ((c.tc : Thread nD τ).loc main_arg11)) (m ((c.tc : Thread nD τ).loc main_arg12))) (m ((c.tc : Thread nD τ).loc main_arg5)) (m ((c.tc : Thread nD τ).loc main_arg13)) (m ((c.tc : Thread nD τ).loc main_arg16)) (m ((c.tc : Thread nD τ).loc main_arg14)) (m ((c.tc : Thread nD τ).loc main_arg15))

theorem norm_found : V2 m ρ c main_v20_1 = TailMerge.normStream m c :=
  (W2_arr m ρ c 10).trans (TailMerge.result10 m ρ c)

theorem stream_found : V4 m ρ c main_v20_0 = TailMerge.stream m c :=
  (W4_of m ρ c main_v20_0 (by decide)).trans ((W3_of m ρ c main_v20_0 (by decide)).trans ((W2_arr m ρ c 9).trans (TailMerge.result9 m ρ c)))

theorem added_found : V4 m ρ c main_v21 = ffn (TailMerge.normStream m c) (m ((c.tc : Thread nD τ).loc main_arg10)) (m ((c.tc : Thread nD τ).loc main_arg11)) (m ((c.tc : Thread nD τ).loc main_arg12)) := by
  refine (W4_of m ρ c main_v21 (by decide)).trans ((W3_arr m ρ c 4).trans ((TailFfn.result (V2 m ρ) c).trans ?_))
  rw [norm_found, show V2 m ρ c main_arg10 = (m ((c.tc : Thread nD τ).loc main_arg10)) from W2_args m ρ c main_arg10 (by decide),
    show V2 m ρ c main_arg11 = (m ((c.tc : Thread nD τ).loc main_arg11)) from W2_args m ρ c main_arg11 (by decide),
    show V2 m ρ c main_arg12 = (m ((c.tc : Thread nD τ).loc main_arg12)) from W2_args m ρ c main_arg12 (by decide)]

theorem g_found : V4 m ρ c main_v22 = broadcastInDim S1x2048 ![1] bcast_S2048_S1x2048_1 (m ((c.tc : Thread nD τ).loc main_arg13)) := by
  have e : V4 m ρ c main_v22 = broadcastInDim S1x2048 ![1] bcast_S2048_S1x2048_1 (W3 m ρ c (Proc.devRef .tc main_arg13)) := by rfl
  rw [e, W3_args m ρ c main_arg13 (by decide)]

theorem f_found : V4 m ρ c main_v23 = broadcastInDim S1x2048 ![1] bcast_S2048_S1x2048_1 (m ((c.tc : Thread nD τ).loc main_arg16)) := by
  have e : V4 m ρ c main_v23 = broadcastInDim S1x2048 ![1] bcast_S2048_S1x2048_1 (W3 m ρ c (Proc.devRef .tc main_arg16)) := by rfl
  rw [e, W3_args m ρ c main_arg16 (by decide)]

theorem wg_found : V4 m ρ c main_v24 = (m ((c.tc : Thread nD τ).loc main_arg14)) := W3_args m ρ c main_arg14 (by decide)

theorem wp_found : V4 m ρ c main_v25 = (m ((c.tc : Thread nD τ).loc main_arg15)) := W3_args m ρ c main_arg15 (by decide)

/-- What the three calls leave in the result. -/
theorem left : W5 m ρ c (Proc.devRef .tc main_v26) = whole m c :=
  (W5_arr m ρ c 7).trans (TailPle.result (V4 m ρ) c _ _ _ _ _ _ _ (stream_found m ρ c) (added_found m ρ c) (W4_args m ρ c main_arg5 (by decide)) (g_found m ρ c)
    (f_found m ρ c) (wg_found m ρ c) (wp_found m ρ c))

end

section

open Cert.ReferenceTailIdeal Cert.ReferenceTailIdeal.Gen Cert.ReferenceTailIdeal.Value

variable (m : (ℓ : Loc nD τ sig) → Buf (Elt Ideal) ℓ) (ρ : Dev nD → PrngReg) (c : Dev nD)

/-- The reference's lines on arrays. -/
def refArr (x : FVec Ideal S8192x2048 .f32) (a b : FVec Ideal S8192x1024 .bf16) (ga gb : FVec Ideal S8192x2048 .f32) (p : FVec Ideal S8192x256 .f32)
    (wa wb : FVec Ideal S1024x2048 .f32) (wo : FVec Ideal S2048x2048 .f32) (gf : FVec Ideal S2048 .f32) (wg wu : FVec Ideal S2048x5632 .f32)
    (wd : FVec Ideal S5632x2048 .f32) (gp : FVec Ideal S2048 .f32) (vg : FVec Ideal S2048x2048 .f32) (vp : FVec Ideal S256x2048 .f32) (f : FVec Ideal S2048 .f32) :
    FVec Ideal S8192x2048 .f32 :=
  Cert.Ple.normArr (Cert.Ple.streamArr (addf (Cert.Merge.streamArr x a b ga gb wa wb wo)
    (Cert.Ffn.refArr (Cert.Merge.normArr (Cert.Merge.streamArr x a b ga gb wa wb wo) gf) wg wu wd)) p gp vg vp) f

theorem refArr_eq (x : FVec Ideal S8192x2048 .f32) (a b : FVec Ideal S8192x1024 .bf16) (ga gb : FVec Ideal S8192x2048 .f32) (p : FVec Ideal S8192x256 .f32)
    (wa wb : FVec Ideal S1024x2048 .f32) (wo : FVec Ideal S2048x2048 .f32) (gf : FVec Ideal S2048 .f32) (wg wu : FVec Ideal S2048x5632 .f32)
    (wd : FVec Ideal S5632x2048 .f32) (gp : FVec Ideal S2048 .f32) (vg : FVec Ideal S2048x2048 .f32) (vp : FVec Ideal S256x2048 .f32) (f : FVec Ideal S2048 .f32) :
    refArr x a b ga gb p wa wb wo gf wg wu wd gp vg vp f
      = ple (merged x a b ga gb wa wb wo) (ffn (normed (merged x a b ga gb wa wb wo) gf) wg wu wd) p gp f vg vp := by
  unfold refArr
  rw [Cert.Merge.streamArr_eq, Cert.Merge.normArr_eq, Cert.Ffn.refArr_eq]
  exact Cert.Ple.ref_eq _ _ _ _ _ _ _

/-- The reference's result is its lines on the launch's arguments. -/
theorem ref_run : θ_run defs (onTc (τ := τ) (main (F := Ideal))) ⟨m, fun _ => 0, ρ⟩ fun r => ∀ c : Dev nD,
      r.2.mem ((c.tc : Thread nD τ).loc main_v75) = refArr (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11))
        (m ((c.tc : Thread nD τ).loc main_arg12)) (m ((c.tc : Thread nD τ).loc main_arg13)) (m ((c.tc : Thread nD τ).loc main_arg14))
        (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  Cert.ReferenceTailIdeal.Value.run (F := Ideal) m ρ

end

theorem algebraic : Cert.algebraic_KernelTailIdeal_ReferenceTailIdeal := by
  intro m g m' g' _ hm
  refine ⟨fun c => whole m c, ?_, ?_⟩
  · exact (θ_run Cert.KernelTailIdeal.defs _ _).mono (fun r h c => ⟨(h c).1.trans (left m g c), (h c).2⟩) (Cert.KernelTailIdeal.TailRun.run m g)
  · refine (θ_run Cert.ReferenceTailIdeal.defs _ _).mono (fun r h c => ⟨(h c).1.trans ?_, (h c).2⟩) (ref_run m' g')
    rw [(hm c).1, (hm c).2.1, (hm c).2.2.1, (hm c).2.2.2.1, (hm c).2.2.2.2.1, (hm c).2.2.2.2.2.1, (hm c).2.2.2.2.2.2.1, (hm c).2.2.2.2.2.2.2.1, (hm c).2.2.2.2.2.2.2.2.1, (hm c).2.2.2.2.2.2.2.2.2.1, (hm c).2.2.2.2.2.2.2.2.2.2.1, (hm c).2.2.2.2.2.2.2.2.2.2.2.1, (hm c).2.2.2.2.2.2.2.2.2.2.2.2.1, (hm c).2.2.2.2.2.2.2.2.2.2.2.2.2.1, (hm c).2.2.2.2.2.2.2.2.2.2.2.2.2.2.1, (hm c).2.2.2.2.2.2.2.2.2.2.2.2.2.2.2.1, (hm c).2.2.2.2.2.2.2.2.2.2.2.2.2.2.2.2]
    exact refArr_eq _ _ _ _ _ _ _ _ _ _ _ _ _ _ _ _ _

end Cert.Tail

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.KernelFrame
public import proofs.«01_k».proof.Proof.KernelIdealFrame
public import proofs.«01_k».proof.Proof.AttnClaim
public import proofs.«01_k».proof.Proof.Gen.Pre_finite
public import proofs.«01_k».proof.Proof.Gen.KernelFfn.Frame
public import proofs.«01_k».proof.Proof.Gen.KernelFfnIdeal.Frame
public import proofs.«01_k».proof.Proof.Gen.KernelFfnIdeal.Value
public import proofs.«01_k».proof.Proof.Gen.ReferenceFfnIdeal.Run
public import proofs.«01_k».proof.Proof.Gen.KernelMerge.Frame
public import proofs.«01_k».proof.Proof.Gen.KernelMergeIdeal.Frame
public import proofs.«01_k».proof.Proof.Gen.KernelMergeIdeal.Value
public import proofs.«01_k».proof.Proof.Gen.ReferenceMergeIdeal.Run
public import proofs.«01_k».proof.Proof.Gen.KernelPle.Frame
public import proofs.«01_k».proof.Proof.Gen.KernelPleIdeal.Frame
public import proofs.«01_k».proof.Proof.Gen.KernelPleIdeal.Value
public import proofs.«01_k».proof.Proof.Gen.ReferencePleIdeal.Run
public import proofs.«01_k».proof.Proof.Gen.KernelTail.Frame
public import proofs.«01_k».proof.Proof.Gen.KernelTailIdeal.Frame
public import proofs.«01_k».proof.Proof.Gen.ReferenceTailIdeal.Run
public import proofs.«01_k».proof.Proof.FfnClaim
public import proofs.«01_k».proof.Proof.MergeClaim
public import proofs.«01_k».proof.Proof.PleClaim
public import proofs.«01_k».proof.Proof.TailClaim
public import Idealize.ShloMosaic.Adequacy
public import Idealize.ShloMosaic.Init

@[expose] public section

noncomputable section

namespace Cert.Proof

open Idealize.ShloMosaic Idealize.SL.Sem Cert.Kernel

theorem frame_p : Cert.quiescent_Kernel := fun _ _ _ => Cert.Kernel.Attn.frame_main
theorem frame_pi : Cert.quiescent_KernelIdeal := fun _ _ _ => Cert.KernelIdeal.Attn.frame_main
theorem frame_pi_finite : Cert.quiescent_KernelIdeal_pre_finite := fun _ _ _ => Cert.KernelIdeal.Attn.frame_main
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)
theorem frame_ri_finite : Cert.quiescent_ReferenceIdeal_pre_finite := fun m ρ _ => frame_ri m ρ trivial
theorem frame_r : Cert.quiescent_Reference := fun m ρ _ =>
  (θ_run Cert.Reference.defs _ _).mono (fun r h => ⟨fun c => (h c).2, Idealize.ShloMosaic.sem_eq_zero_of_no_sems (by decide) r.2⟩)
    (Cert.Reference.Value.run (F := Bits) m ρ)
/-- The two named constants denote what the table says. -/
theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "mask" .f32 0xF149F2CA#32 ⊥ rfl⟩

theorem frame_p_ffn : Cert.quiescent_KernelFfn := fun m ρ _ => Cert.KernelFfn.Gen.frame m ρ
theorem frame_pi_ffn : Cert.quiescent_KernelFfnIdeal := fun m ρ _ => Cert.KernelFfnIdeal.Gen.frame m ρ
theorem frame_ri_ffn : Cert.quiescent_ReferenceFfnIdeal := fun m ρ _ =>
  (θ_run Cert.ReferenceFfnIdeal.defs _ _).mono (fun r h => ⟨fun c => (h c).2, Idealize.ShloMosaic.sem_eq_zero_of_no_sems (by decide) r.2⟩)
    (Cert.ReferenceFfnIdeal.Value.run (F := Ideal) m ρ)

theorem frame_p_merge : Cert.quiescent_KernelMerge := fun m ρ _ => Cert.KernelMerge.Gen.frame m ρ
theorem frame_pi_merge : Cert.quiescent_KernelMergeIdeal := fun m ρ _ => Cert.KernelMergeIdeal.Gen.frame m ρ
theorem frame_ri_merge : Cert.quiescent_ReferenceMergeIdeal := fun m ρ _ =>
  (θ_run Cert.ReferenceMergeIdeal.defs _ _).mono (fun r h => ⟨fun c => (h c).2.2, Idealize.ShloMosaic.sem_eq_zero_of_no_sems (by decide) r.2⟩)
    (Cert.ReferenceMergeIdeal.Value.run (F := Ideal) m ρ)

theorem frame_p_ple : Cert.quiescent_KernelPle := fun m ρ _ => Cert.KernelPle.Gen.frame m ρ
theorem frame_pi_ple : Cert.quiescent_KernelPleIdeal := fun m ρ _ => Cert.KernelPleIdeal.Gen.frame m ρ
theorem frame_ri_ple : Cert.quiescent_ReferencePleIdeal := fun m ρ _ =>
  (θ_run Cert.ReferencePleIdeal.defs _ _).mono (fun r h => ⟨fun c => (h c).2, Idealize.ShloMosaic.sem_eq_zero_of_no_sems (by decide) r.2⟩)
    (Cert.ReferencePleIdeal.Value.run (F := Ideal) m ρ)

theorem frame_p_tail : Cert.quiescent_KernelTail := fun m ρ _ => Cert.KernelTail.Gen.frame m ρ
theorem frame_pi_tail : Cert.quiescent_KernelTailIdeal := fun m ρ _ => Cert.KernelTailIdeal.Gen.frame m ρ
theorem frame_ri_tail : Cert.quiescent_ReferenceTailIdeal := fun m ρ _ =>
  (θ_run Cert.ReferenceTailIdeal.defs _ _).mono (fun r h => ⟨fun c => (h c).2, Idealize.ShloMosaic.sem_eq_zero_of_no_sems (by decide) r.2⟩)
    (Cert.ReferenceTailIdeal.Value.run (F := Ideal) m ρ)

theorem claim : Cert.Claim :=
  ⟨Cert.Kernel.Gen.facts, Cert.KernelIdeal.Gen.facts, Cert.ReferenceIdeal.Gen.facts, Cert.Reference.Gen.facts, Cert.KernelFfn.Gen.facts, Cert.KernelFfnIdeal.Gen.facts, Cert.ReferenceFfnIdeal.Gen.facts, Cert.KernelMerge.Gen.facts, Cert.KernelMergeIdeal.Gen.facts, Cert.ReferenceMergeIdeal.Gen.facts, Cert.KernelPle.Gen.facts, Cert.KernelPleIdeal.Gen.facts, Cert.ReferencePleIdeal.Gen.facts, Cert.KernelTail.Gen.facts, Cert.KernelTailIdeal.Gen.facts, Cert.ReferenceTailIdeal.Gen.facts, Cert.Pre_finite.Gen.facts,
    frame_p, frame_pi, frame_pi_finite, frame_ri, frame_ri_finite, frame_r, frame_p_ffn, frame_pi_ffn, frame_ri_ffn, frame_p_merge, frame_pi_merge, frame_ri_merge, frame_p_ple, frame_pi_ple, frame_ri_ple, frame_p_tail, frame_pi_tail, frame_ri_tail,
    preserves, trivial, Cert.Attn.algebraic, trivial, Cert.Ffn.algebraic, trivial, Cert.Merge.algebraic, trivial, Cert.Ple.algebraic, trivial, Cert.Tail.algebraic⟩

end Cert.Proof

end
